-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.2.2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.2.2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.2.2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.2.2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v579) = v0 c
          ∧ r.2.mem ((c.tc : Thread Cert.ReferenceIdeal.nD Cert.ReferenceIdeal.τ).loc Cert.ReferenceIdeal.main_v580) = v1 c
          ∧ r.2.mem ((c.tc : Thread Cert.ReferenceIdeal.nD Cert.ReferenceIdeal.τ).loc Cert.ReferenceIdeal.main_v582) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_v9) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_v20) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_v18) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v54) = v0 c
          ∧ r.2.mem ((c.tc : Thread Cert.Reference17Ideal.nD Cert.Reference17Ideal.τ).loc Cert.Reference17Ideal.main_v56) = v1 c
          ∧ r.2.mem ((c.tc : Thread Cert.Reference17Ideal.nD Cert.Reference17Ideal.τ).loc Cert.Reference17Ideal.main_v57) = v2 c
          ∧ r.2.mem ((c.tc : Thread Cert.Reference17Ideal.nD Cert.Reference17Ideal.τ).loc Cert.Reference17Ideal.main_v38) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v53) = v0 c
          ∧ r.2.mem ((c.tc : Thread Cert.Reference18Ideal.nD Cert.Reference18Ideal.τ).loc Cert.Reference18Ideal.main_v49) = v1 c
          ∧ r.2.mem ((c.tc : Thread Cert.Reference18Ideal.nD Cert.Reference18Ideal.τ).loc Cert.Reference18Ideal.main_v31) = v2 c
          ∧ r.2.mem ((c.tc : Thread Cert.Reference18Ideal.nD Cert.Reference18Ideal.τ).loc Cert.Reference18Ideal.main_v52) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "gelu_c" .f32 0x3D372713#32 ((8943 / 200000 : ℝ) : EReal)
  ∧ IdealRules.named_const.Statement Cert.Kernel19Ideal.κ "gelu_3c" .f32 0x3E095D4F#32 ((26829 / 200000 : ℝ) : EReal)

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_v42) = v1 c
          ∧ r.2.mem ((c.tc : Thread Cert.Reference19Ideal.nD Cert.Reference19Ideal.τ).loc Cert.Reference19Ideal.main_v45) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v88) = v0 c
          ∧ r.2.mem ((c.tc : Thread Cert.Reference20Ideal.nD Cert.Reference20Ideal.τ).loc Cert.Reference20Ideal.main_v42) = v1 c
          ∧ r.2.mem ((c.tc : Thread Cert.Reference20Ideal.nD Cert.Reference20Ideal.τ).loc Cert.Reference20Ideal.main_v64) = v2 c
          ∧ r.2.mem ((c.tc : Thread Cert.Reference20Ideal.nD Cert.Reference20Ideal.τ).loc Cert.Reference20Ideal.main_v61) = v3 c
          ∧ r.2.mem ((c.tc : Thread Cert.Reference20Ideal.nD Cert.Reference20Ideal.τ).loc Cert.Reference20Ideal.main_v93) = v4 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_v14) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v22) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v2_0)) (v1 : (c : Dev Cert.Kernel32Ideal.nD) → Buf (Elt Ideal) ((c.tc : Thread Cert.Kernel32Ideal.nD Cert.Kernel32Ideal.τ).loc Cert.Kernel32Ideal.main_v2_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2_0) = v0 c
          ∧ r.2.mem ((c.tc : Thread Cert.Kernel32Ideal.nD Cert.Kernel32Ideal.τ).loc Cert.Kernel32Ideal.main_v2_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v232) = v0 c
          ∧ r.2.mem ((c.tc : Thread Cert.Reference32Ideal.nD Cert.Reference32Ideal.τ).loc Cert.Reference32Ideal.main_v266) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite2 : Cert.Pre_finite2.Facts) (hPre_finite3 : Cert.Pre_finite3.Facts) (hPre_finite6 : Cert.Pre_finite6.Facts) (hPre_finite17 : Cert.Pre_finite17.Facts) (hPre_finite18 : Cert.Pre_finite18.Facts) (hPre_finite19 : Cert.Pre_finite19.Facts) (hPre_finite20 : Cert.Pre_finite20.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite17.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S3072x1024 : S_.BroadcastsInDim S3072x1024 (![] : Fin 0 → Fin S3072x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x3072 .bf16) (main_arg1 : FVec F S3072x1024 .bf16) (main_arg2 : FVec F S8192x1024 .f32) (main_arg3 : FVec F S1x1024 .f32) (main_arg4 : FVec F S8192x1024 .f32) : IVec S8192x3072 1 × IVec S3072x1024 1 × IVec S8192x1024 1 × IVec S1x1024 1 × IVec S8192x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v7, main_v10, main_v13, main_v16)
-- ==== Pre_finite18.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩

class Facts : Prop where
  slices_S8192x1024_S8192x512_0_512 : S8192x1024.Slices ![0, 512] S8192x512
  bcast_S_S8192x512 : S_.BroadcastsInDim S8192x512 (![] : Fin 0 → Fin S8192x512.rank)
  bitsLt_bf16_f32 : FTy.bits .bf16 < FTy.bits .f32
  bcast_S_S1x512 : S_.BroadcastsInDim S1x512 (![] : Fin 0 → Fin S1x512.rank)

variable [Facts]

def fn {F : FTy → Type} [FloatOps F] (main_arg0 : FVec F S8192x1024 .f32) (main_arg1 : FVec F S8192x512 .bf16) (main_arg2 : FVec F S8192x512 .f32) (main_arg3 : FVec F S1x512 .f32) (main_arg4 : FVec F S1x512 .f32) : IVec S8192x512 1 × IVec S8192x512 1 × IVec S1x512 1 :=
  let main_v0 : FVec F S8192x512 .f32 := (extractStridedSlice S8192x512 ![0, 512] · slices_S8192x1024_S8192x512_0_512) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S1x512 .f32 := Host.absf main_arg4
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  (main_v3, main_v7, main_v10)
-- ==== Pre_finite19.lean ====
abbrev S8192x512 : Shape := ⟨2, ![8192, 512]⟩
abbrev S8192x1536 : Shape := ⟨2, ![8192, 1536]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x1536 .f32) (main_arg4 : FVec F S1x512 .f32) : IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Pre_finite2.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S3072x1024 : S_.BroadcastsInDim S3072x1024 (![] : Fin 0 → Fin S3072x1024.rank)
  bcast_S_S8192x3072 : S_.BroadcastsInDim S8192x3072 (![] : Fin 0 → Fin S8192x3072.rank)

variable [Facts]

def fn {F : FTy → Type} [FloatOps F] (main_arg0 : FVec F S8192x1024 .f32) (main_arg1 : FVec F S3072x1024 .bf16) (main_arg2 : FVec F S8192x3072 .bf16) (main_arg3 : FVec F S8192x3072 .bf16) : IVec S8192x1024 1 × IVec S3072x1024 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S3072x1024 .f32 := (extf .f32 · bitsLt_bf16_f32) main_arg1
  let main_v4 : FVec F S3072x1024 .f32 := Host.absf main_v3
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_v7 : FVec F S8192x3072 .f32 := (extf .f32 · bitsLt_bf16_f32) main_arg3
  let main_v8 : FVec F S8192x3072 .f32 := Host.absf main_v7
  let main_cst_1 : FVec F S_ .f32 := constant S_ .f32 0x7F800000#32
  let main_v9 : FVec F S8192x3072 .f32 := broadcastInDim S8192x3072 ![] bcast_S_S8192x3072 main_cst_1
  let main_v10 : IVec S8192x3072 1 := cmpf .olt main_v8 main_v9
  (main_v2, main_v6, main_v10)
-- ==== Pre_finite20.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩

class Facts : Prop where
  slices_S8192x1024_S8192x512_0_0 : S8192x1024.Slices ![0, 0] S8192x512
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x1024 .f32) (main_arg1 : FVec F S8192x512 .f32) (main_arg2 : FVec F S1x512 .f32) (main_arg3 : FVec F S1x512 .f32) (main_arg4 : FVec F S1x512 .f32) : IVec S8192x512 1 × IVec S8192x512 1 × IVec S1x512 1 × IVec S1x512 1 × IVec S1x512 1 :=
  let main_v0 : FVec F S8192x512 .f32 := (extractStridedSlice S8192x512 ![0, 0] · slices_S8192x1024_S8192x512_0_0) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S1x512 .f32 := Host.absf main_arg2
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S1x512 .f32 := Host.absf main_arg4
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  (main_v3, main_v6, main_v9, main_v12, main_v15)
-- ==== Pre_finite3.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S3072x1024 : S_.BroadcastsInDim S3072x1024 (![] : Fin 0 → Fin S3072x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg5 : FVec F S1x1024 .f32) (main_v3 : IVec S8192x3072 1) (main_v7 : IVec S8192x3072 1) (main_v11 : IVec S3072x1024 1) (main_v15 : IVec S3072x1024 1) (main_v18 : IVec S8192x1024 1) : IVec S8192x3072 1 × IVec S8192x3072 1 × IVec S3072x1024 1 × IVec S3072x1024 1 × IVec S8192x1024 1 × IVec S1x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  (main_v3, main_v7, main_v11, main_v15, main_v18, main_v21)

def fn {F : FTy → Type} [FloatOps F] (main_arg0 : FVec F S8192x3072 .bf16) (main_arg1 : FVec F S8192x3072 .bf16) (main_arg2 : FVec F S3072x1024 .bf16) (main_arg3 : FVec F S3072x1024 .bf16) (main_arg4 : FVec F S8192x1024 .f32) (main_arg5 : FVec F S1x1024 .f32) (main_arg6 : FVec F S8192x1024 .f32) : IVec S8192x3072 1 × IVec S8192x3072 1 × IVec S3072x1024 1 × IVec S3072x1024 1 × IVec S8192x1024 1 × IVec S1x1024 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x3072 .f32 := (extf .f32 · bitsLt_bf16_f32) main_arg1
  let main_v5 : FVec F S8192x3072 .f32 := Host.absf main_v4
  let main_cst_0 : FVec F S_ .f32 := constant S_ .f32 0x7F800000#32
  let main_v6 : FVec F S8192x3072 .f32 := broadcastInDim S8192x3072 ![] bcast_S_S8192x3072 main_cst_0
  let main_v7 : IVec S8192x3072 1 := cmpf .olt main_v5 main_v6
  let main_v8 : FVec F S3072x1024 .f32 := (extf .f32 · bitsLt_bf16_f32) main_arg2
  let main_v9 : FVec F S3072x1024 .f32 := Host.absf main_v8
  let main_cst_1 : FVec F S_ .f32 := constant S_ .f32 0x7F800000#32
  let main_v10 : FVec F S3072x1024 .f32 := broadcastInDim S3072x1024 ![] bcast_S_S3072x1024 main_cst_1
  let main_v11 : IVec S3072x1024 1 := cmpf .olt main_v9 main_v10
  let main_v12 : FVec F S3072x1024 .f32 := (extf .f32 · bitsLt_bf16_f32) main_arg3
  let main_v13 : FVec F S3072x1024 .f32 := Host.absf main_v12
  let main_cst_2 : FVec F S_ .f32 := constant S_ .f32 0x7F800000#32
  let main_v14 : FVec F S3072x1024 .f32 := broadcastInDim S3072x1024 ![] bcast_S_S3072x1024 main_cst_2
  let main_v15 : IVec S3072x1024 1 := cmpf .olt main_v13 main_v14
  let main_v16 : FVec F S8192x1024 .f32 := Host.absf main_arg4
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg5 main_v3 main_v7 main_v11 main_v15 main_v18
-- ==== Pre_finite6.lean ====
abbrev S8192x1536 : Shape := ⟨2, ![8192, 1536]⟩
abbrev S1024x1536 : Shape := ⟨2, ![1024, 1536]⟩
abbrev S8192x1024 : Shape := ⟨2, ![8192, 1024]⟩
abbrev S1x1024 : Shape := ⟨2, ![1, 1024]⟩
abbrev S_ : Shape := ⟨0, ![]⟩

class Facts : Prop where
  bcast_S_S8192x1536 : S_.BroadcastsInDim S8192x1536 (![] : Fin 0 → Fin S8192x1536.rank)
  bitsLt_bf16_f32 : FTy.bits .bf16 < FTy.bits .f32
  bcast_S_S1024x1536 : S_.BroadcastsInDim S1024x1536 (![] : Fin 0 → Fin S1024x1536.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1536 .f32) (main_arg1 : FVec F S1024x1536 .bf16) (main_arg2 : FVec F S8192x1024 .f32) (main_arg3 : FVec F S1x1024 .f32) (main_arg4 : FVec F S8192x1024 .f32) : IVec S8192x1536 1 × IVec S1024x1536 1 × IVec S8192x1024 1 × IVec S1x1024 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S1024x1536 .f32 := (extf .f32 · bitsLt_bf16_f32) main_arg1
  let main_v4 : FVec F S1024x1536 .f32 := Host.absf main_v3
  let main_cst_0 : FVec F S_ .f32 := constant S_ .f32 0x7F800000#32
  let main_v5 : FVec F S1024x1536 .f32 := broadcastInDim S1024x1536 ![] bcast_S_S1024x1536 main_cst_0
  let main_v6 : IVec S1024x1536 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  (main_v2, main_v6, main_v9, main_v12)
-- ==== Kernel.lean ====
abbrev S8192x1536 : Shape := ⟨2, ![8192, 1536]⟩
abbrev S8192x512 : Shape := ⟨2, ![8192, 512]⟩
abbrev S1x31x512 : Shape := ⟨3, ![1, 31, 512]⟩
abbrev S31x512 : Shape := ⟨2, ![31, 512]⟩
abbrev S_ : Shape := ⟨0, ![]⟩
abbrev S32x512 : Shape := ⟨2, ![32, 512]⟩
abbrev S256x512 : Shape := ⟨2, ![256, 512]⟩
abbrev S288x512 : Shape := ⟨2, ![288, 512]⟩
abbrev S8x288x512 : Shape := ⟨3, ![8, 288, 512]⟩
abbrev S280x512 : Shape := ⟨2, ![280, 512]⟩
abbrev S1x280x512 : Shape := ⟨3, ![1, 280, 512]⟩
abbrev S8x512 : Shape := ⟨2, ![8, 512]⟩
abbrev S1x8x512 : Shape := ⟨3, ![1, 8, 512]⟩
abbrev S1x512 : Shape := ⟨2, ![1, 512]⟩
abbrev S512 : Shape := ⟨1, ![512]⟩
abbrev S1x32x512 : Shape := ⟨3, ![1, 32, 512]⟩

abbrev nBuf : Space → Nat
  | .hbm => 10
  | .vmem => 22
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S1x31x512, .f32⟩
  | .hbm, ⟨3, _⟩ => ⟨S31x512, .f32⟩
  | .hbm, ⟨4, _⟩ => ⟨S_, .i32⟩
  | .hbm, ⟨5, _⟩ => ⟨S_, .f32⟩
  | .hbm, ⟨6, _⟩ => ⟨S32x512, .f32⟩
  | .hbm, ⟨7, _⟩ => ⟨S8192x512, .f32⟩
  | .hbm, ⟨8, _⟩ => ⟨S8192x512, .f32⟩
  | .hbm, ⟨9, _⟩ => ⟨S32x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S256x512, .f32⟩
  | .local _ .vmem, ⟨9, _⟩ => ⟨S256x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S32x512, .f32⟩
  | .local _ .vmem, ⟨18, _⟩ => ⟨S288x512, .f32⟩
  | .local _ .vmem, ⟨19, _⟩ => ⟨S288x512, .f32⟩
  | .local _ .vmem, ⟨20, _⟩ => ⟨S8x288x512, .f32⟩
  | .local _ .vmem, ⟨21, _⟩ => ⟨S8x288x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1536 : Shape := ⟨2, ![8192, 1536]⟩
abbrev S8192x512 : Shape := ⟨2, ![8192, 512]⟩
abbrev S1x31x512 : Shape := ⟨3, ![1, 31, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x1x512 : Shape := ⟨3, ![1, 1, 512]⟩
abbrev S512 : Shape := ⟨1, ![512]⟩
abbrev S31x512 : Shape := ⟨2, ![31, 512]⟩
abbrev S32x512 : Shape := ⟨2, ![32, 512]⟩

abbrev nBuf : Space → Nat
  | .hbm => 718
  | .vmem => 0
  | .smem => 0
  | _ => 0

abbrev hbmTy0_0 (i : Nat) : BufTy := match i % 128 with
  | 0 => ⟨S8192x1536, .f32⟩
  | 1 => ⟨S8192x512, .f32⟩
  | 2 => ⟨S1x31x512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S2x4096x512, .f32⟩
  | 19 => ⟨S_, .f32⟩
  | 20 => ⟨S2x30x512, .f32⟩
  | 21 => ⟨S2x4126x512, .f32⟩
  | 22 => ⟨S_, .f32⟩
  | 23 => ⟨S2x30x512, .f32⟩
  | 24 => ⟨S1x1x512, .f32⟩
  | 25 => ⟨S512, .f32⟩
  | 26 => ⟨S2x4096x512, .f32⟩
  | 27 => ⟨S1x1x512, .f32⟩
  | 28 => ⟨S2x4096x512, .f32⟩
  | 29 => ⟨S2x4096x512, .f32⟩
  | 30 => ⟨S_, .f32⟩
  | 31 => ⟨S2x4096x512, .f32⟩
  | 32 => ⟨S2x4096x512, .f32⟩
  | 33 => ⟨S1x1x512, .f32⟩
  | 34 => ⟨S512, .f32⟩
  | 35 => ⟨S2x4096x512, .f32⟩
  | 36 => ⟨S1x1x512, .f32⟩
  | 37 => ⟨S2x4096x512, .f32⟩
  | 38 => ⟨S2x4096x512, .f32⟩
  | 39 => ⟨S2x4096x512, .f32⟩
  | 40 => ⟨S1x1x512, .f32⟩
  | 41 => ⟨S512, .f32⟩
  | 42 => ⟨S2x4096x512, .f32⟩
  | 43 => ⟨S1x1x512, .f32⟩
  | 44 => ⟨S2x4096x512, .f32⟩
  | 45 => ⟨S2x4096x512, .f32⟩
  | 46 => ⟨S2x4096x512, .f32⟩
  | 47 => ⟨S1x1x512, .f32⟩
  | 48 => ⟨S512, .f32⟩
  | 49 => ⟨S2x4096x512, .f32⟩
  | 50 => ⟨S1x1x512, .f32⟩
  | 51 => ⟨S2x4096x512, .f32⟩
  | 52 => ⟨S2x4096x512, .f32⟩
  | 53 => ⟨S2x4096x512, .f32⟩
  | 54 => ⟨S1x1x512, .f32⟩
  | 55 => ⟨S512, .f32⟩
  | 56 => ⟨S2x4096x512, .f32⟩
  | 57 => ⟨S1x1x512, .f32⟩
  | 58 => ⟨S2x4096x512, .f32⟩
  | 59 => ⟨S2x4096x512, .f32⟩
  | 60 => ⟨S2x4096x512, .f32⟩
  | 61 => ⟨S1x1x512, .f32⟩
  | 62 => ⟨S512, .f32⟩
  | 63 => ⟨S2x4096x512, .f32⟩
  | 64 => ⟨S1x1x512, .f32⟩
  | 65 => ⟨S2x4096x512, .f32⟩
  | 66 => ⟨S2x4096x512, .f32⟩
  | 67 => ⟨S2x4096x512, .f32⟩
  | 68 => ⟨S1x1x512, .f32⟩
  | 69 => ⟨S512, .f32⟩
  | 70 => ⟨S2x4096x512, .f32⟩
  | 71 => ⟨S1x1x512, .f32⟩
  | 72 => ⟨S2x4096x512, .f32⟩
  | 73 => ⟨S2x4096x512, .f32⟩
  | 74 => ⟨S2x4096x512, .f32⟩
  | 75 => ⟨S1x1x512, .f32⟩
  | 76 => ⟨S512, .f32⟩
  | 77 => ⟨S2x4096x512, .f32⟩
  | 78 => ⟨S1x1x512, .f32⟩
  | 79 => ⟨S2x4096x512, .f32⟩
  | 80 => ⟨S2x4096x512, .f32⟩
  | 81 => ⟨S2x4096x512, .f32⟩
  | 82 => ⟨S1x1x512, .f32⟩
  | 83 => ⟨S512, .f32⟩
  | 84 => ⟨S2x4096x512, .f32⟩
  | 85 => ⟨S1x1x512, .f32⟩
  | 86 => ⟨S2x4096x512, .f32⟩
  | 87 => ⟨S2x4096x512, .f32⟩
  | 88 => ⟨S2x4096x512, .f32⟩
  | 89 => ⟨S1x1x512, .f32⟩
  | 90 => ⟨S512, .f32⟩
  | 91 => ⟨S2x4096x512, .f32⟩
  | 92 => ⟨S1x1x512, .f32⟩
  | 93 => ⟨S2x4096x512, .f32⟩
  | 94 => ⟨S2x4096x512, .f32⟩
  | 95 => ⟨S2x4096x512, .f32⟩
  | 96 => ⟨S1x1x512, .f32⟩
  | 97 => ⟨S512, .f32⟩
  | 98 => ⟨S2x4096x512, .f32⟩
  | 99 => ⟨S1x1x512, .f32⟩
  | 100 => ⟨S2x4096x512, .f32⟩
  | 101 => ⟨S2x4096x512, .f32⟩
  | 102 => ⟨S2x4096x512, .f32⟩
  | 103 => ⟨S1x1x512, .f32⟩
  | 104 => ⟨S512, .f32⟩
  | 105 => ⟨S2x4096x512, .f32⟩
  | 106 => ⟨S1x1x512, .f32⟩
  | 107 => ⟨S2x4096x512, .f32⟩
  | 108 => ⟨S2x4096x512, .f32⟩
  | 109 => ⟨S2x4096x512, .f32⟩
  | 110 => ⟨S1x1x512, .f32⟩
  | 111 => ⟨S512, .f32⟩
  | 112 => ⟨S2x4096x512, .f32⟩
  | 113 => ⟨S1x1x512, .f32⟩
  | 114 => ⟨S2x4096x512, .f32⟩
  | 115 => ⟨S2x4096x512, .f32⟩
  | 116 => ⟨S2x4096x512, .f32⟩
  | 117 => ⟨S1x1x512, .f32⟩
  | 118 => ⟨S512, .f32⟩
  | 119 => ⟨S2x4096x512, .f32⟩
  | 120 => ⟨S1x1x512, .f32⟩
  | 121 => ⟨S2x4096x512, .f32⟩
  | 122 => ⟨S2x4096x512, .f32⟩
  | 123 => ⟨S2x4096x512, .f32⟩
  | 124 => ⟨S1x1x512, .f32⟩
  | 125 => ⟨S512, .f32⟩
  | 126 => ⟨S2x4096x512, .f32⟩
  | 127 => ⟨S1x1x512, .f32⟩
  | _ => ⟨S8192x1536, .f32⟩

abbrev hbmTy0_1 (i : Nat) : BufTy := match i % 128 with
  | 0 => ⟨S2x4096x512, .f32⟩
  | 1 => ⟨S2x4096x512, .f32⟩
  | 2 => ⟨S2x4096x512, .f32⟩
  | 3 => ⟨S1x1x512, .f32⟩
  | 4 => ⟨S512, .f32⟩
  | 5 => ⟨S2x4096x512, .f32⟩
  | 6 => ⟨S1x1x512, .f32⟩
  | 7 => ⟨S2x4096x512, .f32⟩
  | 8 => ⟨S2x4096x512, .f32⟩
  | 9 => ⟨S2x4096x512, .f32⟩
  | 10 => ⟨S1x1x512, .f32⟩
  | 11 => ⟨S512, .f32⟩
  | 12 => ⟨S2x4096x512, .f32⟩
  | 13 => ⟨S1x1x512, .f32⟩
  | 14 => ⟨S2x4096x512, .f32⟩
  | 15 => ⟨S2x4096x512, .f32⟩
  | 16 => ⟨S2x4096x512, .f32⟩
  | 17 => ⟨S1x1x512, .f32⟩
  | 18 => ⟨S512, .f32⟩
  | 19 => ⟨S2x4096x512, .f32⟩
  | 20 => ⟨S1x1x512, .f32⟩
  | 21 => ⟨S2x4096x512, .f32⟩
  | 22 => ⟨S2x4096x512, .f32⟩
  | 23 => ⟨S2x4096x512, .f32⟩
  | 24 => ⟨S1x1x512, .f32⟩
  | 25 => ⟨S512, .f32⟩
  | 26 => ⟨S2x4096x512, .f32⟩
  | 27 => ⟨S1x1x512, .f32⟩
  | 28 => ⟨S2x4096x512, .f32⟩
  | 29 => ⟨S2x4096x512, .f32⟩
  | 30 => ⟨S2x4096x512, .f32⟩
  | 31 => ⟨S1x1x512, .f32⟩
  | 32 => ⟨S512, .f32⟩
  | 33 => ⟨S2x4096x512, .f32⟩
  | 34 => ⟨S1x1x512, .f32⟩
  | 35 => ⟨S2x4096x512, .f32⟩
  | 36 => ⟨S2x4096x512, .f32⟩
  | 37 => ⟨S2x4096x512, .f32⟩
  | 38 => ⟨S1x1x512, .f32⟩
  | 39 => ⟨S512, .f32⟩
  | 40 => ⟨S2x4096x512, .f32⟩
  | 41 => ⟨S1x1x512, .f32⟩
  | 42 => ⟨S2x4096x512, .f32⟩
  | 43 => ⟨S2x4096x512, .f32⟩
  | 44 => ⟨S2x4096x512, .f32⟩
  | 45 => ⟨S1x1x512, .f32⟩
  | 46 => ⟨S512, .f32⟩
  | 47 => ⟨S2x4096x512, .f32⟩
  | 48 => ⟨S1x1x512, .f32⟩
  | 49 => ⟨S2x4096x512, .f32⟩
  | 50 => ⟨S2x4096x512, .f32⟩
  | 51 => ⟨S2x4096x512, .f32⟩
  | 52 => ⟨S1x1x512, .f32⟩
  | 53 => ⟨S512, .f32⟩
  | 54 => ⟨S2x4096x512, .f32⟩
  | 55 => ⟨S1x1x512, .f32⟩
  | 56 => ⟨S2x4096x512, .f32⟩
  | 57 => ⟨S2x4096x512, .f32⟩
  | 58 => ⟨S2x4096x512, .f32⟩
  | 59 => ⟨S1x1x512, .f32⟩
  | 60 => ⟨S512, .f32⟩
  | 61 => ⟨S2x4096x512, .f32⟩
  | 62 => ⟨S1x1x512, .f32⟩
  | 63 => ⟨S2x4096x512, .f32⟩
  | 64 => ⟨S2x4096x512, .f32⟩
  | 65 => ⟨S2x4096x512, .f32⟩
  | 66 => ⟨S1x1x512, .f32⟩
  | 67 => ⟨S512, .f32⟩
  | 68 => ⟨S2x4096x512, .f32⟩
  | 69 => ⟨S1x1x512, .f32⟩
  | 70 => ⟨S2x4096x512, .f32⟩
  | 71 => ⟨S2x4096x512, .f32⟩
  | 72 => ⟨S2x4096x512, .f32⟩
  | 73 => ⟨S1x1x512, .f32⟩
  | 74 => ⟨S512, .f32⟩
  | 75 => ⟨S2x4096x512, .f32⟩
  | 76 => ⟨S1x1x512, .f32⟩
  | 77 => ⟨S2x4096x512, .f32⟩
  | 78 => ⟨S2x4096x512, .f32⟩
  | 79 => ⟨S2x4096x512, .f32⟩
  | 80 => ⟨S1x1x512, .f32⟩
  | 81 => ⟨S512, .f32⟩
  | 82 => ⟨S2x4096x512, .f32⟩
  | 83 => ⟨S1x1x512, .f32⟩
  | 84 => ⟨S2x4096x512, .f32⟩
  | 85 => ⟨S2x4096x512, .f32⟩
  | 86 => ⟨S2x4096x512, .f32⟩
  | 87 => ⟨S1x1x512, .f32⟩
  | 88 => ⟨S512, .f32⟩
  | 89 => ⟨S2x4096x512, .f32⟩
  | 90 => ⟨S1x1x512, .f32⟩
  | 91 => ⟨S2x4096x512, .f32⟩
  | 92 => ⟨S2x4096x512, .f32⟩
  | 93 => ⟨S2x4096x512, .f32⟩
  | 94 => ⟨S1x1x512, .f32⟩
  | 95 => ⟨S512, .f32⟩
  | 96 => ⟨S2x4096x512, .f32⟩
  | 97 => ⟨S1x1x512, .f32⟩
  | 98 => ⟨S2x4096x512, .f32⟩
  | 99 => ⟨S2x4096x512, .f32⟩
  | 100 => ⟨S2x4096x512, .f32⟩
  | 101 => ⟨S1x1x512, .f32⟩
  | 102 => ⟨S512, .f32⟩
  | 103 => ⟨S2x4096x512, .f32⟩
  | 104 => ⟨S1x1x512, .f32⟩
  | 105 => ⟨S2x4096x512, .f32⟩
  | 106 => ⟨S2x4096x512, .f32⟩
  | 107 => ⟨S2x4096x512, .f32⟩
  | 108 => ⟨S1x1x512, .f32⟩
  | 109 => ⟨S512, .f32⟩
  | 110 => ⟨S2x4096x512, .f32⟩
  | 111 => ⟨S1x1x512, .f32⟩
  | 112 => ⟨S2x4096x512, .f32⟩
  | 113 => ⟨S2x4096x512, .f32⟩
  | 114 => ⟨S2x4096x512, .f32⟩
  | 115 => ⟨S8192x512, .f32⟩
  | 116 => ⟨S2x4096x512, .f32⟩
  | 117 => ⟨S2x4096x512, .f32⟩
  | 118 => ⟨S2x4096x512, .f32⟩
  | 119 => ⟨S2x4096x512, .f32⟩
  | 120 => ⟨S_, .f32⟩
  | 121 => ⟨S512, .f32⟩
  | 122 => ⟨S1x1x512, .f32⟩
  | 123 => ⟨S_, .f32⟩
  | 124 => ⟨S512, .f32⟩
  | 125 => ⟨S_, .f32⟩
  | 126 => ⟨S2x4126x512, .f32⟩
  | 127 => ⟨S1x1x512, .f32⟩
  | _ => ⟨S8192x1536, .f32⟩

abbrev hbmTy0_2 (i : Nat) : BufTy := match i % 128 with
  | 0 => ⟨S_, .f32⟩
  | 1 => ⟨S1x31x512, .f32⟩
  | 2 => ⟨S2x4096x512, .f32⟩
  | 3 => ⟨S2x4096x512, .f32⟩
  | 4 => ⟨S2x4096x512, .f32⟩
  | 5 => ⟨S_, .f32⟩
  | 6 => ⟨S512, .f32⟩
  | 7 => ⟨S1x1x512, .f32⟩
  | 8 => ⟨S_, .f32⟩
  | 9 => ⟨S512, .f32⟩
  | 10 => ⟨S_, .f32⟩
  | 11 => ⟨S2x4126x512, .f32⟩
  | 12 => ⟨S2x4126x512, .f32⟩
  | 13 => ⟨S1x1x512, .f32⟩
  | 14 => ⟨S_, .f32⟩
  | 15 => ⟨S1x31x512, .f32⟩
  | 16 => ⟨S1x31x512, .f32⟩
  | 17 => ⟨S2x4096x512, .f32⟩
  | 18 => ⟨S2x4096x512, .f32⟩
  | 19 => ⟨S2x4096x512, .f32⟩
  | 20 => ⟨S_, .f32⟩
  | 21 => ⟨S512, .f32⟩
  | 22 => ⟨S1x1x512, .f32⟩
  | 23 => ⟨S_, .f32⟩
  | 24 => ⟨S512, .f32⟩
  | 25 => ⟨S_, .f32⟩
  | 26 => ⟨S2x4126x512, .f32⟩
  | 27 => ⟨S2x4126x512, .f32⟩
  | 28 => ⟨S1x1x512, .f32⟩
  | 29 => ⟨S_, .f32⟩
  | 30 => ⟨S1x31x512, .f32⟩
  | 31 => ⟨S1x31x512, .f32⟩
  | 32 => ⟨S2x4096x512, .f32⟩
  | 33 => ⟨S2x4096x512, .f32⟩
  | 34 => ⟨S2x4096x512, .f32⟩
  | 35 => ⟨S_, .f32⟩
  | 36 => ⟨S512, .f32⟩
  | 37 => ⟨S1x1x512, .f32⟩
  | 38 => ⟨S_, .f32⟩
  | 39 => ⟨S512, .f32⟩
  | 40 => ⟨S_, .f32⟩
  | 41 => ⟨S2x4126x512, .f32⟩
  | 42 => ⟨S2x4126x512, .f32⟩
  | 43 => ⟨S1x1x512, .f32⟩
  | 44 => ⟨S_, .f32⟩
  | 45 => ⟨S1x31x512, .f32⟩
  | 46 => ⟨S1x31x512, .f32⟩
  | 47 => ⟨S2x4096x512, .f32⟩
  | 48 => ⟨S2x4096x512, .f32⟩
  | 49 => ⟨S2x4096x512, .f32⟩
  | 50 => ⟨S_, .f32⟩
  | 51 => ⟨S512, .f32⟩
  | 52 => ⟨S1x1x512, .f32⟩
  | 53 => ⟨S_, .f32⟩
  | 54 => ⟨S512, .f32⟩
  | 55 => ⟨S_, .f32⟩
  | 56 => ⟨S2x4126x512, .f32⟩
  | 57 => ⟨S2x4126x512, .f32⟩
  | 58 => ⟨S1x1x512, .f32⟩
  | 59 => ⟨S_, .f32⟩
  | 60 => ⟨S1x31x512, .f32⟩
  | 61 => ⟨S1x31x512, .f32⟩
  | 62 => ⟨S2x4096x512, .f32⟩
  | 63 => ⟨S2x4096x512, .f32⟩
  | 64 => ⟨S2x4096x512, .f32⟩
  | 65 => ⟨S_, .f32⟩
  | 66 => ⟨S512, .f32⟩
  | 67 => ⟨S1x1x512, .f32⟩
  | 68 => ⟨S_, .f32⟩
  | 69 => ⟨S512, .f32⟩
  | 70 => ⟨S_, .f32⟩
  | 71 => ⟨S2x4126x512, .f32⟩
  | 72 => ⟨S2x4126x512, .f32⟩
  | 73 => ⟨S1x1x512, .f32⟩
  | 74 => ⟨S_, .f32⟩
  | 75 => ⟨S1x31x512, .f32⟩
  | 76 => ⟨S1x31x512, .f32⟩
  | 77 => ⟨S2x4096x512, .f32⟩
  | 78 => ⟨S2x4096x512, .f32⟩
  | 79 => ⟨S2x4096x512, .f32⟩
  | 80 => ⟨S_, .f32⟩
  | 81 => ⟨S512, .f32⟩
  | 82 => ⟨S1x1x512, .f32⟩
  | 83 => ⟨S_, .f32⟩
  | 84 => ⟨S512, .f32⟩
  | 85 => ⟨S_, .f32⟩
  | 86 => ⟨S2x4126x512, .f32⟩
  | 87 => ⟨S2x4126x512, .f32⟩
  | 88 => ⟨S1x1x512, .f32⟩
  | 89 => ⟨S_, .f32⟩
  | 90 => ⟨S1x31x512, .f32⟩
  | 91 => ⟨S1x31x512, .f32⟩
  | 92 => ⟨S2x4096x512, .f32⟩
  | 93 => ⟨S2x4096x512, .f32⟩
  | 94 => ⟨S2x4096x512, .f32⟩
  | 95 => ⟨S_, .f32⟩
  | 96 => ⟨S512, .f32⟩
  | 97 => ⟨S1x1x512, .f32⟩
  | 98 => ⟨S_, .f32⟩
  | 99 => ⟨S512, .f32⟩
  | 100 => ⟨S_, .f32⟩
  | 101 => ⟨S2x4126x512, .f32⟩
  | 102 => ⟨S2x4126x512, .f32⟩
  | 103 => ⟨S1x1x512, .f32⟩
  | 104 => ⟨S_, .f32⟩
  | 105 => ⟨S1x31x512, .f32⟩
  | 106 => ⟨S1x31x512, .f32⟩
  | 107 => ⟨S2x4096x512, .f32⟩
  | 108 => ⟨S2x4096x512, .f32⟩
  | 109 => ⟨S2x4096x512, .f32⟩
  | 110 => ⟨S_, .f32⟩
  | 111 => ⟨S512, .f32⟩
  | 112 => ⟨S1x1x512, .f32⟩
  | 113 => ⟨S_, .f32⟩
  | 114 => ⟨S512, .f32⟩
  | 115 => ⟨S_, .f32⟩
  | 116 => ⟨S2x4126x512, .f32⟩
  | 117 => ⟨S2x4126x512, .f32⟩
  | 118 => ⟨S1x1x512, .f32⟩
  | 119 => ⟨S_, .f32⟩
  | 120 => ⟨S1x31x512, .f32⟩
  | 121 => ⟨S1x31x512, .f32⟩
  | 122 => ⟨S2x4096x512, .f32⟩
  | 123 => ⟨S2x4096x512, .f32⟩
  | 124 => ⟨S2x4096x512, .f32⟩
  | 125 => ⟨S_, .f32⟩
  | 126 => ⟨S512, .f32⟩
  | 127 => ⟨S1x1x512, .f32⟩
  | _ => ⟨S8192x1536, .f32⟩

abbrev hbmTy0_3 (i : Nat) : BufTy := match i % 128 with
  | 0 => ⟨S_, .f32⟩
  | 1 => ⟨S512, .f32⟩
  | 2 => ⟨S_, .f32⟩
  | 3 => ⟨S2x4126x512, .f32⟩
  | 4 => ⟨S2x4126x512, .f32⟩
  | 5 => ⟨S1x1x512, .f32⟩
  | 6 => ⟨S_, .f32⟩
  | 7 => ⟨S1x31x512, .f32⟩
  | 8 => ⟨S1x31x512, .f32⟩
  | 9 => ⟨S2x4096x512, .f32⟩
  | 10 => ⟨S2x4096x512, .f32⟩
  | 11 => ⟨S2x4096x512, .f32⟩
  | 12 => ⟨S_, .f32⟩
  | 13 => ⟨S512, .f32⟩
  | 14 => ⟨S1x1x512, .f32⟩
  | 15 => ⟨S_, .f32⟩
  | 16 => ⟨S512, .f32⟩
  | 17 => ⟨S_, .f32⟩
  | 18 => ⟨S2x4126x512, .f32⟩
  | 19 => ⟨S2x4126x512, .f32⟩
  | 20 => ⟨S1x1x512, .f32⟩
  | 21 => ⟨S_, .f32⟩
  | 22 => ⟨S1x31x512, .f32⟩
  | 23 => ⟨S1x31x512, .f32⟩
  | 24 => ⟨S2x4096x512, .f32⟩
  | 25 => ⟨S2x4096x512, .f32⟩
  | 26 => ⟨S2x4096x512, .f32⟩
  | 27 => ⟨S_, .f32⟩
  | 28 => ⟨S512, .f32⟩
  | 29 => ⟨S1x1x512, .f32⟩
  | 30 => ⟨S_, .f32⟩
  | 31 => ⟨S512, .f32⟩
  | 32 => ⟨S_, .f32⟩
  | 33 => ⟨S2x4126x512, .f32⟩
  | 34 => ⟨S2x4126x512, .f32⟩
  | 35 => ⟨S1x1x512, .f32⟩
  | 36 => ⟨S_, .f32⟩
  | 37 => ⟨S1x31x512, .f32⟩
  | 38 => ⟨S1x31x512, .f32⟩
  | 39 => ⟨S2x4096x512, .f32⟩
  | 40 => ⟨S2x4096x512, .f32⟩
  | 41 => ⟨S2x4096x512, .f32⟩
  | 42 => ⟨S_, .f32⟩
  | 43 => ⟨S512, .f32⟩
  | 44 => ⟨S1x1x512, .f32⟩
  | 45 => ⟨S_, .f32⟩
  | 46 => ⟨S512, .f32⟩
  | 47 => ⟨S_, .f32⟩
  | 48 => ⟨S2x4126x512, .f32⟩
  | 49 => ⟨S2x4126x512, .f32⟩
  | 50 => ⟨S1x1x512, .f32⟩
  | 51 => ⟨S_, .f32⟩
  | 52 => ⟨S1x31x512, .f32⟩
  | 53 => ⟨S1x31x512, .f32⟩
  | 54 => ⟨S2x4096x512, .f32⟩
  | 55 => ⟨S2x4096x512, .f32⟩
  | 56 => ⟨S2x4096x512, .f32⟩
  | 57 => ⟨S_, .f32⟩
  | 58 => ⟨S512, .f32⟩
  | 59 => ⟨S1x1x512, .f32⟩
  | 60 => ⟨S_, .f32⟩
  | 61 => ⟨S512, .f32⟩
  | 62 => ⟨S_, .f32⟩
  | 63 => ⟨S2x4126x512, .f32⟩
  | 64 => ⟨S2x4126x512, .f32⟩
  | 65 => ⟨S1x1x512, .f32⟩
  | 66 => ⟨S_, .f32⟩
  | 67 => ⟨S1x31x512, .f32⟩
  | 68 => ⟨S1x31x512, .f32⟩
  | 69 => ⟨S2x4096x512, .f32⟩
  | 70 => ⟨S2x4096x512, .f32⟩
  | 71 => ⟨S2x4096x512, .f32⟩
  | 72 => ⟨S_, .f32⟩
  | 73 => ⟨S512, .f32⟩
  | 74 => ⟨S1x1x512, .f32⟩
  | 75 => ⟨S_, .f32⟩
  | 76 => ⟨S512, .f32⟩
  | 77 => ⟨S_, .f32⟩
  | 78 => ⟨S2x4126x512, .f32⟩
  | 79 => ⟨S2x4126x512, .f32⟩
  | 80 => ⟨S1x1x512, .f32⟩
  | 81 => ⟨S_, .f32⟩
  | 82 => ⟨S1x31x512, .f32⟩
  | 83 => ⟨S1x31x512, .f32⟩
  | 84 => ⟨S2x4096x512, .f32⟩
  | 85 => ⟨S2x4096x512, .f32⟩
  | 86 => ⟨S2x4096x512, .f32⟩
  | 87 => ⟨S_, .f32⟩
  | 88 => ⟨S512, .f32⟩
  | 89 => ⟨S1x1x512, .f32⟩
  | 90 => ⟨S_, .f32⟩
  | 91 => ⟨S512, .f32⟩
  | 92 => ⟨S_, .f32⟩
  | 93 => ⟨S2x4126x512, .f32⟩
  | 94 => ⟨S2x4126x512, .f32⟩
  | 95 => ⟨S1x1x512, .f32⟩
  | 96 => ⟨S_, .f32⟩
  | 97 => ⟨S1x31x512, .f32⟩
  | 98 => ⟨S1x31x512, .f32⟩
  | 99 => ⟨S2x4096x512, .f32⟩
  | 100 => ⟨S2x4096x512, .f32⟩
  | 101 => ⟨S2x4096x512, .f32⟩
  | 102 => ⟨S_, .f32⟩
  | 103 => ⟨S512, .f32⟩
  | 104 => ⟨S1x1x512, .f32⟩
  | 105 => ⟨S_, .f32⟩
  | 106 => ⟨S512, .f32⟩
  | 107 => ⟨S_, .f32⟩
  | 108 => ⟨S2x4126x512, .f32⟩
  | 109 => ⟨S2x4126x512, .f32⟩
  | 110 => ⟨S1x1x512, .f32⟩
  | 111 => ⟨S_, .f32⟩
  | 112 => ⟨S1x31x512, .f32⟩
  | 113 => ⟨S1x31x512, .f32⟩
  | 114 => ⟨S2x4096x512, .f32⟩
  | 115 => ⟨S2x4096x512, .f32⟩
  | 116 => ⟨S2x4096x512, .f32⟩
  | 117 => ⟨S_, .f32⟩
  | 118 => ⟨S512, .f32⟩
  | 119 => ⟨S1x1x512, .f32⟩
  | 120 => ⟨S_, .f32⟩
  | 121 => ⟨S512, .f32⟩
  | 122 => ⟨S_, .f32⟩
  | 123 => ⟨S2x4126x512, .f32⟩
  | 124 => ⟨S2x4126x512, .f32⟩
  | 125 => ⟨S1x1x512, .f32⟩
  | 126 => ⟨S_, .f32⟩
  | 127 => ⟨S1x31x512, .f32⟩
  | _ => ⟨S8192x1536, .f32⟩

abbrev hbmTy0_4 (i : Nat) : BufTy := match i % 128 with
  | 0 => ⟨S1x31x512, .f32⟩
  | 1 => ⟨S2x4096x512, .f32⟩
  | 2 => ⟨S2x4096x512, .f32⟩
  | 3 => ⟨S2x4096x512, .f32⟩
  | 4 => ⟨S_, .f32⟩
  | 5 => ⟨S512, .f32⟩
  | 6 => ⟨S1x1x512, .f32⟩
  | 7 => ⟨S_, .f32⟩
  | 8 => ⟨S512, .f32⟩
  | 9 => ⟨S_, .f32⟩
  | 10 => ⟨S2x4126x512, .f32⟩
  | 11 => ⟨S2x4126x512, .f32⟩
  | 12 => ⟨S1x1x512, .f32⟩
  | 13 => ⟨S_, .f32⟩
  | 14 => ⟨S1x31x512, .f32⟩
  | 15 => ⟨S1x31x512, .f32⟩
  | 16 => ⟨S2x4096x512, .f32⟩
  | 17 => ⟨S2x4096x512, .f32⟩
  | 18 => ⟨S2x4096x512, .f32⟩
  | 19 => ⟨S_, .f32⟩
  | 20 => ⟨S512, .f32⟩
  | 21 => ⟨S1x1x512, .f32⟩
  | 22 => ⟨S_, .f32⟩
  | 23 => ⟨S512, .f32⟩
  | 24 => ⟨S_, .f32⟩
  | 25 => ⟨S2x4126x512, .f32⟩
  | 26 => ⟨S2x4126x512, .f32⟩
  | 27 => ⟨S1x1x512, .f32⟩
  | 28 => ⟨S_, .f32⟩
  | 29 => ⟨S1x31x512, .f32⟩
  | 30 => ⟨S1x31x512, .f32⟩
  | 31 => ⟨S2x4096x512, .f32⟩
  | 32 => ⟨S2x4096x512, .f32⟩
  | 33 => ⟨S2x4096x512, .f32⟩
  | 34 => ⟨S_, .f32⟩
  | 35 => ⟨S512, .f32⟩
  | 36 => ⟨S1x1x512, .f32⟩
  | 37 => ⟨S_, .f32⟩
  | 38 => ⟨S512, .f32⟩
  | 39 => ⟨S_, .f32⟩
  | 40 => ⟨S2x4126x512, .f32⟩
  | 41 => ⟨S2x4126x512, .f32⟩
  | 42 => ⟨S1x1x512, .f32⟩
  | 43 => ⟨S_, .f32⟩
  | 44 => ⟨S1x31x512, .f32⟩
  | 45 => ⟨S1x31x512, .f32⟩
  | 46 => ⟨S2x4096x512, .f32⟩
  | 47 => ⟨S2x4096x512, .f32⟩
  | 48 => ⟨S2x4096x512, .f32⟩
  | 49 => ⟨S_, .f32⟩
  | 50 => ⟨S512, .f32⟩
  | 51 => ⟨S1x1x512, .f32⟩
  | 52 => ⟨S_, .f32⟩
  | 53 => ⟨S512, .f32⟩
  | 54 => ⟨S_, .f32⟩
  | 55 => ⟨S2x4126x512, .f32⟩
  | 56 => ⟨S2x4126x512, .f32⟩
  | 57 => ⟨S1x1x512, .f32⟩
  | 58 => ⟨S_, .f32⟩
  | 59 => ⟨S1x31x512, .f32⟩
  | 60 => ⟨S1x31x512, .f32⟩
  | 61 => ⟨S2x4096x512, .f32⟩
  | 62 => ⟨S2x4096x512, .f32⟩
  | 63 => ⟨S2x4096x512, .f32⟩
  | 64 => ⟨S_, .f32⟩
  | 65 => ⟨S512, .f32⟩
  | 66 => ⟨S1x1x512, .f32⟩
  | 67 => ⟨S_, .f32⟩
  | 68 => ⟨S512, .f32⟩
  | 69 => ⟨S_, .f32⟩
  | 70 => ⟨S2x4126x512, .f32⟩
  | 71 => ⟨S2x4126x512, .f32⟩
  | 72 => ⟨S1x1x512, .f32⟩
  | 73 => ⟨S_, .f32⟩
  | 74 => ⟨S1x31x512, .f32⟩
  | 75 => ⟨S1x31x512, .f32⟩
  | 76 => ⟨S2x4096x512, .f32⟩
  | 77 => ⟨S2x4096x512, .f32⟩
  | 78 => ⟨S2x4096x512, .f32⟩
  | 79 => ⟨S_, .f32⟩
  | 80 => ⟨S512, .f32⟩
  | 81 => ⟨S1x1x512, .f32⟩
  | 82 => ⟨S_, .f32⟩
  | 83 => ⟨S512, .f32⟩
  | 84 => ⟨S_, .f32⟩
  | 85 => ⟨S2x4126x512, .f32⟩
  | 86 => ⟨S2x4126x512, .f32⟩
  | 87 => ⟨S1x1x512, .f32⟩
  | 88 => ⟨S_, .f32⟩
  | 89 => ⟨S1x31x512, .f32⟩
  | 90 => ⟨S1x31x512, .f32⟩
  | 91 => ⟨S2x4096x512, .f32⟩
  | 92 => ⟨S2x4096x512, .f32⟩
  | 93 => ⟨S2x4096x512, .f32⟩
  | 94 => ⟨S_, .f32⟩
  | 95 => ⟨S512, .f32⟩
  | 96 => ⟨S1x1x512, .f32⟩
  | 97 => ⟨S_, .f32⟩
  | 98 => ⟨S512, .f32⟩
  | 99 => ⟨S_, .f32⟩
  | 100 => ⟨S2x4126x512, .f32⟩
  | 101 => ⟨S2x4126x512, .f32⟩
  | 102 => ⟨S1x1x512, .f32⟩
  | 103 => ⟨S_, .f32⟩
  | 104 => ⟨S1x31x512, .f32⟩
  | 105 => ⟨S1x31x512, .f32⟩
  | 106 => ⟨S2x4096x512, .f32⟩
  | 107 => ⟨S2x4096x512, .f32⟩
  | 108 => ⟨S2x4096x512, .f32⟩
  | 109 => ⟨S_, .f32⟩
  | 110 => ⟨S512, .f32⟩
  | 111 => ⟨S1x1x512, .f32⟩
  | 112 => ⟨S_, .f32⟩
  | 113 => ⟨S512, .f32⟩
  | 114 => ⟨S_, .f32⟩
  | 115 => ⟨S2x4126x512, .f32⟩
  | 116 => ⟨S2x4126x512, .f32⟩
  | 117 => ⟨S1x1x512, .f32⟩
  | 118 => ⟨S_, .f32⟩
  | 119 => ⟨S1x31x512, .f32⟩
  | 120 => ⟨S1x31x512, .f32⟩
  | 121 => ⟨S2x4096x512, .f32⟩
  | 122 => ⟨S2x4096x512, .f32⟩
  | 123 => ⟨S2x4096x512, .f32⟩
  | 124 => ⟨S_, .f32⟩
  | 125 => ⟨S512, .f32⟩
  | 126 => ⟨S1x1x512, .f32⟩
  | 127 => ⟨S_, .f32⟩
  | _ => ⟨S8192x1536, .f32⟩

abbrev hbmTy0_5 (i : Nat) : BufTy := match i % 128 with
  | 0 => ⟨S512, .f32⟩
  | 1 => ⟨S_, .f32⟩
  | 2 => ⟨S2x4126x512, .f32⟩
  | 3 => ⟨S2x4126x512, .f32⟩
  | 4 => ⟨S1x1x512, .f32⟩
  | 5 => ⟨S_, .f32⟩
  | 6 => ⟨S1x31x512, .f32⟩
  | 7 => ⟨S1x31x512, .f32⟩
  | 8 => ⟨S2x4096x512, .f32⟩
  | 9 => ⟨S2x4096x512, .f32⟩
  | 10 => ⟨S2x4096x512, .f32⟩
  | 11 => ⟨S_, .f32⟩
  | 12 => ⟨S512, .f32⟩
  | 13 => ⟨S1x1x512, .f32⟩
  | 14 => ⟨S_, .f32⟩
  | 15 => ⟨S512, .f32⟩
  | 16 => ⟨S_, .f32⟩
  | 17 => ⟨S2x4126x512, .f32⟩
  | 18 => ⟨S2x4126x512, .f32⟩
  | 19 => ⟨S1x1x512, .f32⟩
  | 20 => ⟨S_, .f32⟩
  | 21 => ⟨S1x31x512, .f32⟩
  | 22 => ⟨S1x31x512, .f32⟩
  | 23 => ⟨S2x4096x512, .f32⟩
  | 24 => ⟨S2x4096x512, .f32⟩
  | 25 => ⟨S2x4096x512, .f32⟩
  | 26 => ⟨S_, .f32⟩
  | 27 => ⟨S512, .f32⟩
  | 28 => ⟨S1x1x512, .f32⟩
  | 29 => ⟨S_, .f32⟩
  | 30 => ⟨S512, .f32⟩
  | 31 => ⟨S_, .f32⟩
  | 32 => ⟨S2x4126x512, .f32⟩
  | 33 => ⟨S2x4126x512, .f32⟩
  | 34 => ⟨S1x1x512, .f32⟩
  | 35 => ⟨S_, .f32⟩
  | 36 => ⟨S1x31x512, .f32⟩
  | 37 => ⟨S1x31x512, .f32⟩
  | 38 => ⟨S2x4096x512, .f32⟩
  | 39 => ⟨S2x4096x512, .f32⟩
  | 40 => ⟨S2x4096x512, .f32⟩
  | 41 => ⟨S_, .f32⟩
  | 42 => ⟨S512, .f32⟩
  | 43 => ⟨S1x1x512, .f32⟩
  | 44 => ⟨S_, .f32⟩
  | 45 => ⟨S512, .f32⟩
  | 46 => ⟨S_, .f32⟩
  | 47 => ⟨S2x4126x512, .f32⟩
  | 48 => ⟨S2x4126x512, .f32⟩
  | 49 => ⟨S1x1x512, .f32⟩
  | 50 => ⟨S_, .f32⟩
  | 51 => ⟨S1x31x512, .f32⟩
  | 52 => ⟨S1x31x512, .f32⟩
  | 53 => ⟨S2x4096x512, .f32⟩
  | 54 => ⟨S2x4096x512, .f32⟩
  | 55 => ⟨S2x4096x512, .f32⟩
  | 56 => ⟨S_, .f32⟩
  | 57 => ⟨S512, .f32⟩
  | 58 => ⟨S1x1x512, .f32⟩
  | 59 => ⟨S_, .f32⟩
  | 60 => ⟨S512, .f32⟩
  | 61 => ⟨S_, .f32⟩
  | 62 => ⟨S2x4126x512, .f32⟩
  | 63 => ⟨S2x4126x512, .f32⟩
  | 64 => ⟨S1x1x512, .f32⟩
  | 65 => ⟨S_, .f32⟩
  | 66 => ⟨S1x31x512, .f32⟩
  | 67 => ⟨S1x31x512, .f32⟩
  | 68 => ⟨S2x30x512, .f32⟩
  | 69 => ⟨S2x4096x512, .f32⟩
  | 70 => ⟨S8192x512, .f32⟩
  | 71 => ⟨S8192x512, .f32⟩
  | 72 => ⟨S8192x512, .f32⟩
  | 73 => ⟨S8192x512, .f32⟩
  | 74 => ⟨S31x512, .f32⟩
  | 75 => ⟨S_, .i32⟩
  | 76 => ⟨S_, .f32⟩
  | 77 => ⟨S32x512, .f32⟩
  | _ => ⟨S8192x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_cst_5 : Ref sig .tc := ⟨.hbm, 248, rfl⟩
abbrev main_v239 : Ref sig .tc := ⟨.hbm, 249, rfl⟩
abbrev main_v240 : Ref sig .tc := ⟨.hbm, 250, rfl⟩
abbrev main_cst_6 : Ref sig .tc := ⟨.hbm, 251, rfl⟩
abbrev main_v241 : Ref sig .tc := ⟨.hbm, 252, rfl⟩
abbrev main_cst_7 : Ref sig .tc := ⟨.hbm, 253, rfl⟩
abbrev main_v242 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_cst_9 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_cst_13 : Ref sig .tc := ⟨.hbm, 276, rfl⟩
abbrev main_v259 : Ref sig .tc := ⟨.hbm, 277, rfl⟩
abbrev main_v260 : Ref sig .tc := ⟨.hbm, 278, rfl⟩
abbrev main_cst_14 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_17 : Ref sig .tc := ⟨.hbm, 291, rfl⟩
abbrev main_v270 : Ref sig .tc := ⟨.hbm, 292, rfl⟩
abbrev main_v271 : Ref sig .tc := ⟨.hbm, 293, rfl⟩
abbrev main_cst_18 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_cst_21 : Ref sig .tc := ⟨.hbm, 306, rfl⟩
abbrev main_v281 : Ref sig .tc := ⟨.hbm, 307, rfl⟩
abbrev main_v282 : Ref sig .tc := ⟨.hbm, 308, rfl⟩
abbrev main_cst_22 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_cst_25 : Ref sig .tc := ⟨.hbm, 321, rfl⟩
abbrev main_v292 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_cst_29 : Ref sig .tc := ⟨.hbm, 336, rfl⟩
abbrev main_v303 : Ref sig .tc := ⟨.hbm, 337, rfl⟩
abbrev main_v304 : Ref sig .tc := ⟨.hbm, 338, rfl⟩
abbrev main_cst_30 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_cst_33 : Ref sig .tc := ⟨.hbm, 351, rfl⟩
abbrev main_v314 : Ref sig .tc := ⟨.hbm, 352, rfl⟩
abbrev main_v315 : Ref sig .tc := ⟨.hbm, 353, rfl⟩
abbrev main_cst_34 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_cst_37 : Ref sig .tc := ⟨.hbm, 366, rfl⟩
abbrev main_v325 : Ref sig .tc := ⟨.hbm, 367, rfl⟩
abbrev main_v326 : Ref sig .tc := ⟨.hbm, 368, rfl⟩
abbrev main_cst_38 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_cst_41 : Ref sig .tc := ⟨.hbm, 381, rfl⟩
abbrev main_v336 : Ref sig .tc := ⟨.hbm, 382, rfl⟩
abbrev main_v337 : Ref sig .tc := ⟨.hbm, 383, rfl⟩
abbrev main_cst_42 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_cst_45 : Ref sig .tc := ⟨.hbm, 396, rfl⟩
abbrev main_v347 : Ref sig .tc := ⟨.hbm, 397, rfl⟩
abbrev main_v348 : Ref sig .tc := ⟨.hbm, 398, rfl⟩
abbrev main_cst_46 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_cst_49 : Ref sig .tc := ⟨.hbm, 411, rfl⟩
abbrev main_v358 : Ref sig .tc := ⟨.hbm, 412, rfl⟩
abbrev main_v359 : Ref sig .tc := ⟨.hbm, 413, rfl⟩
abbrev main_cst_50 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_cst_53 : Ref sig .tc := ⟨.hbm, 426, rfl⟩
abbrev main_v369 : Ref sig .tc := ⟨.hbm, 427, rfl⟩
abbrev main_v370 : Ref sig .tc := ⟨.hbm, 428, rfl⟩
abbrev main_cst_54 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_cst_57 : Ref sig .tc := ⟨.hbm, 441, rfl⟩
abbrev main_v380 : Ref sig .tc := ⟨.hbm, 442, rfl⟩
abbrev main_v381 : Ref sig .tc := ⟨.hbm, 443, rfl⟩
abbrev main_cst_58 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_cst_61 : Ref sig .tc := ⟨.hbm, 456, rfl⟩
abbrev main_v391 : Ref sig .tc := ⟨.hbm, 457, rfl⟩
abbrev main_v392 : Ref sig .tc := ⟨.hbm, 458, rfl⟩
abbrev main_cst_62 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_cst_65 : Ref sig .tc := ⟨.hbm, 471, rfl⟩
abbrev main_v402 : Ref sig .tc := ⟨.hbm, 472, rfl⟩
abbrev main_v403 : Ref sig .tc := ⟨.hbm, 473, rfl⟩
abbrev main_cst_66 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_cst_69 : Ref sig .tc := ⟨.hbm, 486, rfl⟩
abbrev main_v413 : Ref sig .tc := ⟨.hbm, 487, rfl⟩
abbrev main_v414 : Ref sig .tc := ⟨.hbm, 488, rfl⟩
abbrev main_cst_70 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_cst_73 : Ref sig .tc := ⟨.hbm, 501, rfl⟩
abbrev main_v424 : Ref sig .tc := ⟨.hbm, 502, rfl⟩
abbrev main_v425 : Ref sig .tc := ⟨.hbm, 503, rfl⟩
abbrev main_cst_74 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_cst_77 : Ref sig .tc := ⟨.hbm, 516, rfl⟩
abbrev main_v435 : Ref sig .tc := ⟨.hbm, 517, rfl⟩
abbrev main_v436 : Ref sig .tc := ⟨.hbm, 518, rfl⟩
abbrev main_cst_78 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_cst_81 : Ref sig .tc := ⟨.hbm, 531, rfl⟩
abbrev main_v446 : Ref sig .tc := ⟨.hbm, 532, rfl⟩
abbrev main_v447 : Ref sig .tc := ⟨.hbm, 533, rfl⟩
abbrev main_cst_82 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_cst_85 : Ref sig .tc := ⟨.hbm, 546, rfl⟩
abbrev main_v457 : Ref sig .tc := ⟨.hbm, 547, rfl⟩
abbrev main_v458 : Ref sig .tc := ⟨.hbm, 548, rfl⟩
abbrev main_cst_86 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_cst_89 : Ref sig .tc := ⟨.hbm, 561, rfl⟩
abbrev main_v468 : Ref sig .tc := ⟨.hbm, 562, rfl⟩
abbrev main_v469 : Ref sig .tc := ⟨.hbm, 563, rfl⟩
abbrev main_cst_90 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_cst_93 : Ref sig .tc := ⟨.hbm, 576, rfl⟩
abbrev main_v479 : Ref sig .tc := ⟨.hbm, 577, rfl⟩
abbrev main_v480 : Ref sig .tc := ⟨.hbm, 578, rfl⟩
abbrev main_cst_94 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_v489 : Ref sig .tc := ⟨.hbm, 590, rfl⟩
abbrev main_cst_97 : Ref sig .tc := ⟨.hbm, 591, rfl⟩
abbrev main_v490 : Ref sig .tc := ⟨.hbm, 592, rfl⟩
abbrev main_v491 : Ref sig .tc := ⟨.hbm, 593, rfl⟩
abbrev main_cst_98 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_cst_101 : Ref sig .tc := ⟨.hbm, 606, rfl⟩
abbrev main_v501 : Ref sig .tc := ⟨.hbm, 607, rfl⟩
abbrev main_v502 : Ref sig .tc := ⟨.hbm, 608, rfl⟩
abbrev main_cst_102 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_v511 : Ref sig .tc := ⟨.hbm, 620, rfl⟩
abbrev main_cst_105 : Ref sig .tc := ⟨.hbm, 621, rfl⟩
abbrev main_v512 : Ref sig .tc := ⟨.hbm, 622, rfl⟩
abbrev main_v513 : Ref sig .tc := ⟨.hbm, 623, rfl⟩
abbrev main_cst_106 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_v522 : Ref sig .tc := ⟨.hbm, 635, rfl⟩
abbrev main_cst_109 : Ref sig .tc := ⟨.hbm, 636, rfl⟩
abbrev main_v523 : Ref sig .tc := ⟨.hbm, 637, rfl⟩
abbrev main_v524 : Ref sig .tc := ⟨.hbm, 638, rfl⟩
abbrev main_cst_110 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_cst_113 : Ref sig .tc := ⟨.hbm, 651, rfl⟩
abbrev main_v534 : Ref sig .tc := ⟨.hbm, 652, rfl⟩
abbrev main_v535 : Ref sig .tc := ⟨.hbm, 653, rfl⟩
abbrev main_cst_114 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_cst_117 : Ref sig .tc := ⟨.hbm, 666, rfl⟩
abbrev main_v545 : Ref sig .tc := ⟨.hbm, 667, rfl⟩
abbrev main_v546 : Ref sig .tc := ⟨.hbm, 668, rfl⟩
abbrev main_cst_118 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_cst_121 : Ref sig .tc := ⟨.hbm, 681, rfl⟩
abbrev main_v556 : Ref sig .tc := ⟨.hbm, 682, rfl⟩
abbrev main_v557 : Ref sig .tc := ⟨.hbm, 683, rfl⟩
abbrev main_cst_122 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_v566 : Ref sig .tc := ⟨.hbm, 695, rfl⟩
abbrev main_cst_125 : Ref sig .tc := ⟨.hbm, 696, rfl⟩
abbrev main_v567 : Ref sig .tc := ⟨.hbm, 697, rfl⟩
abbrev main_v568 : Ref sig .tc := ⟨.hbm, 698, rfl⟩
abbrev main_cst_126 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_v572 : Ref sig .tc := ⟨.hbm, 704, rfl⟩
abbrev main_cst_128 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_c : Ref sig .tc := ⟨.hbm, 715, rfl⟩
abbrev main_call0_v0 : Ref sig .tc := ⟨.hbm, 716, rfl⟩
abbrev main_v582 : Ref sig .tc := ⟨.hbm, 717, rfl⟩

abbrev nD : Nat := 1
abbrev τ : Topo := Topo.v7x

variable {F : FTy → Type} [FloatOps F]
-- ==== Kernel2.lean ====
abbrev S8192x1024 : Shape := ⟨2, ![8192, 1024]⟩
abbrev S3072x1024 : Shape := ⟨2, ![3072, 1024]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S3072x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S8192x3072, .bf16⟩
  | .hbm, ⟨36, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel3.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S3072x1024, .bf16⟩
  | .hbm, ⟨3, _⟩ => ⟨S3072x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S3072x1024, .bf16⟩
  | .local _ .vmem, ⟨5, _⟩ => ⟨S3072x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S3072x1024, .bf16⟩
  | .hbm, ⟨3, _⟩ => ⟨S3072x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S3072x1024, .f32⟩
  | .hbm, ⟨27, _⟩ => ⟨S1024x3072, .f32⟩
  | .hbm, ⟨28, _⟩ => ⟨S8192x3072, .f32⟩
  | .hbm, ⟨29, _⟩ => ⟨S3072x1024, .f32⟩
  | .hbm, ⟨30, _⟩ => ⟨S1024x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel4.lean ====
abbrev S1024x8192 : Shape := ⟨2, ![1024, 8192]⟩
abbrev S8192x3072 : Shape := ⟨2, ![8192, 3072]⟩
abbrev S3072x1024 : Shape := ⟨2, ![3072, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S3072x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x8192 : Shape := ⟨2, ![1024, 8192]⟩
abbrev S8192x3072 : Shape := ⟨2, ![8192, 3072]⟩
abbrev S_ : Shape := ⟨0, ![]⟩
abbrev S3072x1024 : Shape := ⟨2, ![3072, 1024]⟩
abbrev S8192x1024 : Shape := ⟨2, ![8192, 1024]⟩
abbrev S1024x3072 : Shape := ⟨2, ![1024, 3072]⟩

abbrev nBuf : Space → Nat
  | .hbm => 13
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S_, .f32⟩
  | .hbm, ⟨3, _⟩ => ⟨S3072x1024, .f32⟩
  | .hbm, ⟨4, _⟩ => ⟨S8192x1024, .bf16⟩
  | .hbm, ⟨5, _⟩ => ⟨S8192x1024, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S3072x1024, .f32⟩
  | .hbm, ⟨10, _⟩ => ⟨S1024x3072, .f32⟩
  | .hbm, ⟨11, _⟩ => ⟨S3072x1024, .f32⟩
  | .hbm, ⟨12, _⟩ => ⟨S3072x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S1024x8192 : Shape := ⟨2, ![1024, 8192]⟩
abbrev S8192x3072 : Shape := ⟨2, ![8192, 3072]⟩
abbrev S3072x1024 : Shape := ⟨2, ![3072, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S3072x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x8192 : Shape := ⟨2, ![1024, 8192]⟩
abbrev S8192x3072 : Shape := ⟨2, ![8192, 3072]⟩
abbrev S_ : Shape := ⟨0, ![]⟩
abbrev S3072x1024 : Shape := ⟨2, ![3072, 1024]⟩
abbrev S8192x1024 : Shape := ⟨2, ![8192, 1024]⟩
abbrev S1024x3072 : Shape := ⟨2, ![1024, 3072]⟩

abbrev nBuf : Space → Nat
  | .hbm => 17
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S1024x3072, .f32⟩
  | .hbm, ⟨15, _⟩ => ⟨S3072x1024, .f32⟩
  | .hbm, ⟨16, _⟩ => ⟨S3072x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S8192x1536 : Shape := ⟨2, ![8192, 1536]⟩
abbrev S1024x1536 : Shape := ⟨2, ![1024, 1536]⟩
abbrev S8192x1024 : Shape := ⟨2, ![8192, 1024]⟩
abbrev S1x1024 : Shape := ⟨2, ![1, 1024]⟩
abbrev S1024x8192 : Shape := ⟨2, ![1024, 8192]⟩
abbrev S512x1536 : Shape := ⟨2, ![512, 1536]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1536, .f32⟩
  | .hbm, ⟨1, _⟩ => ⟨S1024x1536, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x8192, .bf16⟩
  | .hbm, ⟨7, _⟩ => ⟨S1x1024, .f32⟩
  | .local _ .vmem, ⟨0, _⟩ => ⟨S512x1536, .f32⟩
  | .local _ .vmem, ⟨1, _⟩ => ⟨S512x1536, .f32⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference6Ideal.lean ====
abbrev S8192x1536 : Shape := ⟨2, ![8192, 1536]⟩
abbrev S1024x1536 : Shape := ⟨2, ![1024, 1536]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x8192 : Shape := ⟨2, ![1024, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1536, .f32⟩
  | .hbm, ⟨25, _⟩ => ⟨S8192x1536, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1024x8192, .f32⟩
  | .hbm, ⟨52, _⟩ => ⟨S1024x8192, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S1024x8192 : Shape := ⟨2, ![1024, 8192]⟩
abbrev S8192x1536 : Shape := ⟨2, ![8192, 1536]⟩
abbrev S1024x1536 : Shape := ⟨2, ![1024, 1536]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .f32⟩
  | .hbm, ⟨2, _⟩ => ⟨S1024x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .f32⟩
  | .local _ .vmem, ⟨3, _⟩ => ⟨S2048x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x8192 : Shape := ⟨2, ![1024, 8192]⟩
abbrev S8192x1536 : Shape := ⟨2, ![8192, 1536]⟩
abbrev S_ : Shape := ⟨0, ![]⟩
abbrev S1024x1536 : Shape := ⟨2, ![1024, 1536]⟩
abbrev S8192x1024 : Shape := ⟨2, ![8192, 1024]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1024, .bf16⟩
  | .hbm, ⟨5, _⟩ => ⟨S8192x1024, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S512x512 : Shape := ⟨2, ![512, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S_, .f32⟩
  | .hbm, ⟨3, _⟩ => ⟨S8192x512, .f32⟩
  | .hbm, ⟨4, _⟩ => ⟨S512x512, .f32⟩
  | .hbm, ⟨5, _⟩ => ⟨S8192x512, .f32⟩
  | .hbm, ⟨6, _⟩ => ⟨S8192x512, .f32⟩
  | .hbm, ⟨7, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x512 : Shape := ⟨2, ![8192, 512]⟩
abbrev S512x512 : Shape := ⟨2, ![512, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S3072x1024, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S3072x1024, .bf16⟩
  | .hbm, ⟨3, _⟩ => ⟨S8192x1024, .f32⟩
  | .hbm, ⟨4, _⟩ => ⟨S1024x3072, .bf16⟩
  | .hbm, ⟨5, _⟩ => ⟨S1024x3072, .f32⟩
  | .hbm, ⟨6, _⟩ => ⟨S8192x3072, .f32⟩
  | .hbm, ⟨7, _⟩ => ⟨S8192x1024, .f32⟩
  | .hbm, ⟨8, _⟩ => ⟨S1024x3072, .bf16⟩
  | .hbm, ⟨9, _⟩ => ⟨S1024x3072, .f32⟩
  | .hbm, ⟨10, _⟩ => ⟨S8192x3072, .f32⟩
  | .hbm, ⟨11, _⟩ => ⟨S8192x3072, .bf16⟩
  | .hbm, ⟨12, _⟩ => ⟨S8192x3072, .bf16⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel13.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S1024x8192 : Shape := ⟨2, ![1024, 8192]⟩
abbrev S512x3072 : Shape := ⟨2, ![512, 3072]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1024x8192, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference13Ideal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1x1024, .f32⟩
  | .hbm, ⟨4, _⟩ => ⟨S8192x3072, .f32⟩
  | .hbm, ⟨5, _⟩ => ⟨S3072x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1024x8192, .f32⟩
  | .hbm, ⟨28, _⟩ => ⟨S1024x8192, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel14.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .hbm, ⟨3, _⟩ => ⟨S512x512, .f32⟩
  | .hbm, ⟨4, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1024x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference16Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1024x8192, .f32⟩
  | .hbm, ⟨25, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel17.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S1024x8192 : Shape := ⟨2, ![1024, 8192]⟩
abbrev S1x128 : Shape := ⟨2, ![1, 128]⟩
abbrev S512x3072 : Shape := ⟨2, ![512, 3072]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x8192, .bf16⟩
  | .hbm, ⟨7, _⟩ => ⟨S1x128, .f32⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1x128, .f32⟩
  | .local _ .vmem, ⟨13, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference17Ideal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x8192 : Shape := ⟨2, ![1024, 8192]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x3072, .f32⟩
  | .hbm, ⟨6, _⟩ => ⟨S3072x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1024x8192, .f32⟩
  | .hbm, ⟨78, _⟩ => ⟨S1024x8192, .bf16⟩
  | .hbm, ⟨79, _⟩ => ⟨S1x128, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel18.lean ====
abbrev S8192x1024 : Shape := ⟨2, ![8192, 1024]⟩
abbrev S8192x512 : Shape := ⟨2, ![8192, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S1x512, .f32⟩
  | .hbm, ⟨4, _⟩ => ⟨S1x512, .f32⟩
  | .hbm, ⟨5, _⟩ => ⟨S8192x512, .bf16⟩
  | .hbm, ⟨6, _⟩ => ⟨S8192x512, .f32⟩
  | .hbm, ⟨7, _⟩ => ⟨S1x512, .f32⟩
  | .hbm, ⟨8, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S1x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x512, .f32⟩
  | .hbm, ⟨52, _⟩ => ⟨S8192x512, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel19.lean ====
abbrev S8192x512 : Shape := ⟨2, ![8192, 512]⟩
abbrev S8192x1536 : Shape := ⟨2, ![8192, 1536]⟩
abbrev S1x512 : Shape := ⟨2, ![1, 512]⟩
abbrev S1024x512 : Shape := ⟨2, ![1024, 512]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel19Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference19Ideal.lean ====
abbrev S8192x512 : Shape := ⟨2, ![8192, 512]⟩
abbrev S8192x1536 : Shape := ⟨2, ![8192, 1536]⟩
abbrev S1x512 : Shape := ⟨2, ![1, 512]⟩
abbrev S_ : Shape := ⟨0, ![]⟩
abbrev S512 : Shape := ⟨1, ![512]⟩

abbrev nBuf : Space → Nat
  | .hbm => 64
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S1x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S512, .f32⟩
  | .hbm, ⟨63, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel20.lean ====
abbrev S8192x1024 : Shape := ⟨2, ![8192, 1024]⟩
abbrev S8192x512 : Shape := ⟨2, ![8192, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8192x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference20Ideal.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x512, .f32⟩
  | 2 => ⟨S1x512, .f32⟩
  | 3 => ⟨S1x512, .f32⟩
  | 4 => ⟨S1x512, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S8192x512, .f32⟩
  | 12 => ⟨S8192x512, .f32⟩
  | 13 => ⟨S8192x512, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S512, .f32⟩
  | 70 => ⟨S1x512, .f32⟩
  | 71 => ⟨S8192x512, .f32⟩
  | 72 => ⟨S8192x512, .f32⟩
  | 73 => ⟨S8192x512, .f32⟩
  | 74 => ⟨S_, .f32⟩
  | 75 => ⟨S8192, .f32⟩
  | 76 => ⟨S8192x1, .f32⟩
  | 77 => ⟨S8192x512, .f32⟩
  | 78 => ⟨S8192x512, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S512, .f32⟩
  | 96 => ⟨S1x512, .f32⟩
  | 97 => ⟨S8192x512, .f32⟩
  | 98 => ⟨S_, .f32⟩
  | 99 => ⟨S512, .f32⟩
  | 100 => ⟨S1x512, .f32⟩
  | 101 => ⟨S8192x512, .f32⟩
  | 102 => ⟨S8192x512, .f32⟩
  | 103 => ⟨S8192x512, .f32⟩
  | 104 => ⟨S_, .f32⟩
  | 105 => ⟨S8192, .f32⟩
  | 106 => ⟨S8192x1, .f32⟩
  | 107 => ⟨S8192x512, .f32⟩
  | 108 => ⟨S8192x512, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x512, .f32⟩
  | 2 => ⟨S8192x512, .f32⟩
  | 3 => ⟨S_, .f32⟩
  | 4 => ⟨S1x512, .f32⟩
  | 5 => ⟨S8192x512, .f32⟩
  | 6 => ⟨S8192x512, .f32⟩
  | 7 => ⟨S_, .f32⟩
  | 8 => ⟨S512, .f32⟩
  | 9 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_cst_20 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_21 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_22 : Ref sig .tc := ⟨.hbm, 135, rfl⟩
abbrev main_v92 : Ref sig .tc := ⟨.hbm, 136, rfl⟩
abbrev main_v93 : Ref sig .tc := ⟨.hbm, 137, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S1024x8192 : Shape := ⟨2, ![1024, 8192]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x256, .bf16⟩
  | .local _ .vmem, ⟨6, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x8192, .f32⟩
  | .hbm, ⟨19, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel22.lean ====
abbrev S8192x512 : Shape := ⟨2, ![8192, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel23.lean ====
abbrev S768x1024 : Shape := ⟨2, ![768, 1024]⟩
abbrev S704x1024 : Shape := ⟨2, ![704, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S768x1024 : Shape := ⟨2, ![768, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S768x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S1024x384 : Shape := ⟨2, ![1024, 384]⟩

abbrev nBuf : Space → Nat
  | .hbm => 9
  | .vmem => 9
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference24Ideal.lean ====
abbrev S1024x384 : Shape := ⟨2, ![1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S_, .f32⟩
  | .hbm, ⟨7, _⟩ => ⟨S1024x384, .f32⟩
  | .hbm, ⟨8, _⟩ => ⟨S1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S128x512 : Shape := ⟨2, ![128, 512]⟩

abbrev nBuf : Space → Nat
  | .hbm => 9
  | .vmem => 9
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference25Ideal.lean ====
abbrev S128x512 : Shape := ⟨2, ![128, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S_, .f32⟩
  | .hbm, ⟨7, _⟩ => ⟨S128x512, .f32⟩
  | .hbm, ⟨8, _⟩ => ⟨S128x512, .f32⟩
  | .hbm, ⟨9, _⟩ => ⟨S_, .f32⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S_, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S_, .f32⟩
  | .hbm, ⟨37, _⟩ => ⟨S128x512, .f32⟩
  | .hbm, ⟨38, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference26Ideal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S4x768x1024 : Shape := ⟨3, ![4, 768, 1024]⟩
abbrev S768x1024 : Shape := ⟨2, ![768, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x768x1024, .bf16⟩
  | .hbm, ⟨1, _⟩ => ⟨S768x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S4x768x1024 : Shape := ⟨3, ![4, 768, 1024]⟩
abbrev S_ : Shape := ⟨0, ![]⟩
abbrev S768x1024 : Shape := ⟨2, ![768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x768x1024, .bf16⟩
  | .hbm, ⟨1, _⟩ => ⟨S4x768x1024, .f32⟩
  | .hbm, ⟨2, _⟩ => ⟨S_, .f32⟩
  | .hbm, ⟨3, _⟩ => ⟨S768x1024, .f32⟩
  | _, _ => ⟨S4x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S4x1024x384 : Shape := ⟨3, ![4, 1024, 384]⟩
abbrev S1024x384 : Shape := ⟨2, ![1024, 384]⟩
abbrev S4x256x384 : Shape := ⟨3, ![4, 256, 384]⟩
abbrev S256x384 : Shape := ⟨2, ![256, 384]⟩
abbrev S1x256x384 : Shape := ⟨3, ![1, 256, 384]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x384, .bf16⟩
  | .hbm, ⟨1, _⟩ => ⟨S1024x384, .f32⟩
  | .local _ .vmem, ⟨0, _⟩ => ⟨S4x256x384, .bf16⟩
  | .local _ .vmem, ⟨1, _⟩ => ⟨S4x256x384, .bf16⟩
  | .local _ .vmem, ⟨2, _⟩ => ⟨S256x384, .f32⟩
  | .local _ .vmem, ⟨3, _⟩ => ⟨S256x384, .f32⟩
  | _, _ => ⟨S4x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference28Ideal.lean ====
abbrev S4x1024x384 : Shape := ⟨3, ![4, 1024, 384]⟩
abbrev S_ : Shape := ⟨0, ![]⟩
abbrev S1024x384 : Shape := ⟨2, ![1024, 384]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x384, .bf16⟩
  | .hbm, ⟨1, _⟩ => ⟨S4x1024x384, .f32⟩
  | .hbm, ⟨2, _⟩ => ⟨S_, .f32⟩
  | .hbm, ⟨3, _⟩ => ⟨S1024x384, .f32⟩
  | _, _ => ⟨S4x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel29.lean ====
abbrev S4x128x512 : Shape := ⟨3, ![4, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x128x512, .bf16⟩
  | .hbm, ⟨1, _⟩ => ⟨S128x512, .f32⟩
  | .local _ .vmem, ⟨0, _⟩ => ⟨S4x128x512, .bf16⟩
  | .local _ .vmem, ⟨1, _⟩ => ⟨S128x512, .f32⟩
  | _, _ => ⟨S4x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference29Ideal.lean ====
abbrev S4x128x512 : Shape := ⟨3, ![4, 128, 512]⟩
abbrev S_ : Shape := ⟨0, ![]⟩
abbrev S128x512 : Shape := ⟨2, ![128, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x128x512, .bf16⟩
  | .hbm, ⟨1, _⟩ => ⟨S4x128x512, .f32⟩
  | .hbm, ⟨2, _⟩ => ⟨S_, .f32⟩
  | .hbm, ⟨3, _⟩ => ⟨S128x512, .f32⟩
  | _, _ => ⟨S4x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference30Ideal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S8x1288x128 : Shape := ⟨3, ![8, 1288, 128]⟩
abbrev S1288x128 : Shape := ⟨2, ![1288, 128]⟩
abbrev S1x1288x128 : Shape := ⟨3, ![1, 1288, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1288x128, .f32⟩
  | .hbm, ⟨1, _⟩ => ⟨S1288x128, .f32⟩
  | .local _ .vmem, ⟨0, _⟩ => ⟨S8x1288x128, .f32⟩
  | .local _ .vmem, ⟨1, _⟩ => ⟨S1288x128, .f32⟩
  | _, _ => ⟨S8x1288x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference31Ideal.lean ====
abbrev S8x1288x128 : Shape := ⟨3, ![8, 1288, 128]⟩
abbrev S_ : Shape := ⟨0, ![]⟩
abbrev S1288x128 : Shape := ⟨2, ![1288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1288x128, .f32⟩
  | .hbm, ⟨1, _⟩ => ⟨S_, .f32⟩
  | .hbm, ⟨2, _⟩ => ⟨S1288x128, .f32⟩
  | _, _ => ⟨S8x1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel32.lean ====
abbrev S8192x1536 : Shape := ⟨2, ![8192, 1536]⟩
abbrev S1x31x512 : Shape := ⟨3, ![1, 31, 512]⟩
abbrev S1x512 : Shape := ⟨2, ![1, 512]⟩
abbrev S31x512 : Shape := ⟨2, ![31, 512]⟩
abbrev S_ : Shape := ⟨0, ![]⟩
abbrev S32x512 : Shape := ⟨2, ![32, 512]⟩
abbrev S8192x512 : Shape := ⟨2, ![8192, 512]⟩
abbrev S256x512 : Shape := ⟨2, ![256, 512]⟩
abbrev S288x512 : Shape := ⟨2, ![288, 512]⟩
abbrev S8x288x512 : Shape := ⟨3, ![8, 288, 512]⟩
abbrev S280x512 : Shape := ⟨2, ![280, 512]⟩
abbrev S1x280x512 : Shape := ⟨3, ![1, 280, 512]⟩
abbrev S1x32x512 : Shape := ⟨3, ![1, 32, 512]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x1536, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S8192x512, .f32⟩
  | .hbm, ⟨11, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S288x512, .f32⟩
  | .local _ .vmem, ⟨18, _⟩ => ⟨S8x288x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference32Ideal.lean ====
abbrev S8192x1536 : Shape := ⟨2, ![8192, 1536]⟩
abbrev S1x31x512 : Shape := ⟨3, ![1, 31, 512]⟩
abbrev S1x512 : Shape := ⟨2, ![1, 512]⟩
abbrev S8192x512 : Shape := ⟨2, ![8192, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x1x512 : Shape := ⟨3, ![1, 1, 512]⟩
abbrev S512 : Shape := ⟨1, ![512]⟩
abbrev S8192 : Shape := ⟨1, ![8192]⟩
abbrev S8192x1 : Shape := ⟨2, ![8192, 1]⟩

abbrev nBuf : Space → Nat
  | .hbm => 293
  | .vmem => 0
  | .smem => 0
  | _ => 0

abbrev hbmTy0_0 (i : Nat) : BufTy := match i % 128 with
  | 0 => ⟨S8192x1536, .f32⟩
  | 1 => ⟨S1x31x512, .f32⟩
  | 2 => ⟨S1x512, .f32⟩
  | 3 => ⟨S1x512, .f32⟩
  | 4 => ⟨S1x512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S2x4096x512, .f32⟩
  | 18 => ⟨S_, .f32⟩
  | 19 => ⟨S2x30x512, .f32⟩
  | 20 => ⟨S2x4126x512, .f32⟩
  | 21 => ⟨S1x1x512, .f32⟩
  | 22 => ⟨S512, .f32⟩
  | 23 => ⟨S2x4096x512, .f32⟩
  | 24 => ⟨S1x1x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S1x1x512, .f32⟩
  | 31 => ⟨S512, .f32⟩
  | 32 => ⟨S2x4096x512, .f32⟩
  | 33 => ⟨S1x1x512, .f32⟩
  | 34 => ⟨S2x4096x512, .f32⟩
  | 35 => ⟨S2x4096x512, .f32⟩
  | 36 => ⟨S2x4096x512, .f32⟩
  | 37 => ⟨S1x1x512, .f32⟩
  | 38 => ⟨S512, .f32⟩
  | 39 => ⟨S2x4096x512, .f32⟩
  | 40 => ⟨S1x1x512, .f32⟩
  | 41 => ⟨S2x4096x512, .f32⟩
  | 42 => ⟨S2x4096x512, .f32⟩
  | 43 => ⟨S2x4096x512, .f32⟩
  | 44 => ⟨S1x1x512, .f32⟩
  | 45 => ⟨S512, .f32⟩
  | 46 => ⟨S2x4096x512, .f32⟩
  | 47 => ⟨S1x1x512, .f32⟩
  | 48 => ⟨S2x4096x512, .f32⟩
  | 49 => ⟨S2x4096x512, .f32⟩
  | 50 => ⟨S2x4096x512, .f32⟩
  | 51 => ⟨S1x1x512, .f32⟩
  | 52 => ⟨S512, .f32⟩
  | 53 => ⟨S2x4096x512, .f32⟩
  | 54 => ⟨S1x1x512, .f32⟩
  | 55 => ⟨S2x4096x512, .f32⟩
  | 56 => ⟨S2x4096x512, .f32⟩
  | 57 => ⟨S2x4096x512, .f32⟩
  | 58 => ⟨S1x1x512, .f32⟩
  | 59 => ⟨S512, .f32⟩
  | 60 => ⟨S2x4096x512, .f32⟩
  | 61 => ⟨S1x1x512, .f32⟩
  | 62 => ⟨S2x4096x512, .f32⟩
  | 63 => ⟨S2x4096x512, .f32⟩
  | 64 => ⟨S2x4096x512, .f32⟩
  | 65 => ⟨S1x1x512, .f32⟩
  | 66 => ⟨S512, .f32⟩
  | 67 => ⟨S2x4096x512, .f32⟩
  | 68 => ⟨S1x1x512, .f32⟩
  | 69 => ⟨S2x4096x512, .f32⟩
  | 70 => ⟨S2x4096x512, .f32⟩
  | 71 => ⟨S2x4096x512, .f32⟩
  | 72 => ⟨S1x1x512, .f32⟩
  | 73 => ⟨S512, .f32⟩
  | 74 => ⟨S2x4096x512, .f32⟩
  | 75 => ⟨S1x1x512, .f32⟩
  | 76 => ⟨S2x4096x512, .f32⟩
  | 77 => ⟨S2x4096x512, .f32⟩
  | 78 => ⟨S2x4096x512, .f32⟩
  | 79 => ⟨S1x1x512, .f32⟩
  | 80 => ⟨S512, .f32⟩
  | 81 => ⟨S2x4096x512, .f32⟩
  | 82 => ⟨S1x1x512, .f32⟩
  | 83 => ⟨S2x4096x512, .f32⟩
  | 84 => ⟨S2x4096x512, .f32⟩
  | 85 => ⟨S2x4096x512, .f32⟩
  | 86 => ⟨S1x1x512, .f32⟩
  | 87 => ⟨S512, .f32⟩
  | 88 => ⟨S2x4096x512, .f32⟩
  | 89 => ⟨S1x1x512, .f32⟩
  | 90 => ⟨S2x4096x512, .f32⟩
  | 91 => ⟨S2x4096x512, .f32⟩
  | 92 => ⟨S2x4096x512, .f32⟩
  | 93 => ⟨S1x1x512, .f32⟩
  | 94 => ⟨S512, .f32⟩
  | 95 => ⟨S2x4096x512, .f32⟩
  | 96 => ⟨S1x1x512, .f32⟩
  | 97 => ⟨S2x4096x512, .f32⟩
  | 98 => ⟨S2x4096x512, .f32⟩
  | 99 => ⟨S2x4096x512, .f32⟩
  | 100 => ⟨S1x1x512, .f32⟩
  | 101 => ⟨S512, .f32⟩
  | 102 => ⟨S2x4096x512, .f32⟩
  | 103 => ⟨S1x1x512, .f32⟩
  | 104 => ⟨S2x4096x512, .f32⟩
  | 105 => ⟨S2x4096x512, .f32⟩
  | 106 => ⟨S2x4096x512, .f32⟩
  | 107 => ⟨S1x1x512, .f32⟩
  | 108 => ⟨S512, .f32⟩
  | 109 => ⟨S2x4096x512, .f32⟩
  | 110 => ⟨S1x1x512, .f32⟩
  | 111 => ⟨S2x4096x512, .f32⟩
  | 112 => ⟨S2x4096x512, .f32⟩
  | 113 => ⟨S2x4096x512, .f32⟩
  | 114 => ⟨S1x1x512, .f32⟩
  | 115 => ⟨S512, .f32⟩
  | 116 => ⟨S2x4096x512, .f32⟩
  | 117 => ⟨S1x1x512, .f32⟩
  | 118 => ⟨S2x4096x512, .f32⟩
  | 119 => ⟨S2x4096x512, .f32⟩
  | 120 => ⟨S2x4096x512, .f32⟩
  | 121 => ⟨S1x1x512, .f32⟩
  | 122 => ⟨S512, .f32⟩
  | 123 => ⟨S2x4096x512, .f32⟩
  | 124 => ⟨S1x1x512, .f32⟩
  | 125 => ⟨S2x4096x512, .f32⟩
  | 126 => ⟨S2x4096x512, .f32⟩
  | 127 => ⟨S2x4096x512, .f32⟩
  | _ => ⟨S8192x1536, .f32⟩

abbrev hbmTy0_1 (i : Nat) : BufTy := match i % 128 with
  | 0 => ⟨S1x1x512, .f32⟩
  | 1 => ⟨S512, .f32⟩
  | 2 => ⟨S2x4096x512, .f32⟩
  | 3 => ⟨S1x1x512, .f32⟩
  | 4 => ⟨S2x4096x512, .f32⟩
  | 5 => ⟨S2x4096x512, .f32⟩
  | 6 => ⟨S2x4096x512, .f32⟩
  | 7 => ⟨S1x1x512, .f32⟩
  | 8 => ⟨S512, .f32⟩
  | 9 => ⟨S2x4096x512, .f32⟩
  | 10 => ⟨S1x1x512, .f32⟩
  | 11 => ⟨S2x4096x512, .f32⟩
  | 12 => ⟨S2x4096x512, .f32⟩
  | 13 => ⟨S2x4096x512, .f32⟩
  | 14 => ⟨S1x1x512, .f32⟩
  | 15 => ⟨S512, .f32⟩
  | 16 => ⟨S2x4096x512, .f32⟩
  | 17 => ⟨S1x1x512, .f32⟩
  | 18 => ⟨S2x4096x512, .f32⟩
  | 19 => ⟨S2x4096x512, .f32⟩
  | 20 => ⟨S2x4096x512, .f32⟩
  | 21 => ⟨S1x1x512, .f32⟩
  | 22 => ⟨S512, .f32⟩
  | 23 => ⟨S2x4096x512, .f32⟩
  | 24 => ⟨S1x1x512, .f32⟩
  | 25 => ⟨S2x4096x512, .f32⟩
  | 26 => ⟨S2x4096x512, .f32⟩
  | 27 => ⟨S2x4096x512, .f32⟩
  | 28 => ⟨S1x1x512, .f32⟩
  | 29 => ⟨S512, .f32⟩
  | 30 => ⟨S2x4096x512, .f32⟩
  | 31 => ⟨S1x1x512, .f32⟩
  | 32 => ⟨S2x4096x512, .f32⟩
  | 33 => ⟨S2x4096x512, .f32⟩
  | 34 => ⟨S2x4096x512, .f32⟩
  | 35 => ⟨S1x1x512, .f32⟩
  | 36 => ⟨S512, .f32⟩
  | 37 => ⟨S2x4096x512, .f32⟩
  | 38 => ⟨S1x1x512, .f32⟩
  | 39 => ⟨S2x4096x512, .f32⟩
  | 40 => ⟨S2x4096x512, .f32⟩
  | 41 => ⟨S2x4096x512, .f32⟩
  | 42 => ⟨S1x1x512, .f32⟩
  | 43 => ⟨S512, .f32⟩
  | 44 => ⟨S2x4096x512, .f32⟩
  | 45 => ⟨S1x1x512, .f32⟩
  | 46 => ⟨S2x4096x512, .f32⟩
  | 47 => ⟨S2x4096x512, .f32⟩
  | 48 => ⟨S2x4096x512, .f32⟩
  | 49 => ⟨S1x1x512, .f32⟩
  | 50 => ⟨S512, .f32⟩
  | 51 => ⟨S2x4096x512, .f32⟩
  | 52 => ⟨S1x1x512, .f32⟩
  | 53 => ⟨S2x4096x512, .f32⟩
  | 54 => ⟨S2x4096x512, .f32⟩
  | 55 => ⟨S2x4096x512, .f32⟩
  | 56 => ⟨S1x1x512, .f32⟩
  | 57 => ⟨S512, .f32⟩
  | 58 => ⟨S2x4096x512, .f32⟩
  | 59 => ⟨S1x1x512, .f32⟩
  | 60 => ⟨S2x4096x512, .f32⟩
  | 61 => ⟨S2x4096x512, .f32⟩
  | 62 => ⟨S2x4096x512, .f32⟩
  | 63 => ⟨S1x1x512, .f32⟩
  | 64 => ⟨S512, .f32⟩
  | 65 => ⟨S2x4096x512, .f32⟩
  | 66 => ⟨S1x1x512, .f32⟩
  | 67 => ⟨S2x4096x512, .f32⟩
  | 68 => ⟨S2x4096x512, .f32⟩
  | 69 => ⟨S2x4096x512, .f32⟩
  | 70 => ⟨S1x1x512, .f32⟩
  | 71 => ⟨S512, .f32⟩
  | 72 => ⟨S2x4096x512, .f32⟩
  | 73 => ⟨S1x1x512, .f32⟩
  | 74 => ⟨S2x4096x512, .f32⟩
  | 75 => ⟨S2x4096x512, .f32⟩
  | 76 => ⟨S2x4096x512, .f32⟩
  | 77 => ⟨S1x1x512, .f32⟩
  | 78 => ⟨S512, .f32⟩
  | 79 => ⟨S2x4096x512, .f32⟩
  | 80 => ⟨S1x1x512, .f32⟩
  | 81 => ⟨S2x4096x512, .f32⟩
  | 82 => ⟨S2x4096x512, .f32⟩
  | 83 => ⟨S2x4096x512, .f32⟩
  | 84 => ⟨S1x1x512, .f32⟩
  | 85 => ⟨S512, .f32⟩
  | 86 => ⟨S2x4096x512, .f32⟩
  | 87 => ⟨S1x1x512, .f32⟩
  | 88 => ⟨S2x4096x512, .f32⟩
  | 89 => ⟨S2x4096x512, .f32⟩
  | 90 => ⟨S2x4096x512, .f32⟩
  | 91 => ⟨S1x1x512, .f32⟩
  | 92 => ⟨S512, .f32⟩
  | 93 => ⟨S2x4096x512, .f32⟩
  | 94 => ⟨S1x1x512, .f32⟩
  | 95 => ⟨S2x4096x512, .f32⟩
  | 96 => ⟨S2x4096x512, .f32⟩
  | 97 => ⟨S2x4096x512, .f32⟩
  | 98 => ⟨S1x1x512, .f32⟩
  | 99 => ⟨S512, .f32⟩
  | 100 => ⟨S2x4096x512, .f32⟩
  | 101 => ⟨S1x1x512, .f32⟩
  | 102 => ⟨S2x4096x512, .f32⟩
  | 103 => ⟨S2x4096x512, .f32⟩
  | 104 => ⟨S2x4096x512, .f32⟩
  | 105 => ⟨S1x1x512, .f32⟩
  | 106 => ⟨S512, .f32⟩
  | 107 => ⟨S2x4096x512, .f32⟩
  | 108 => ⟨S1x1x512, .f32⟩
  | 109 => ⟨S2x4096x512, .f32⟩
  | 110 => ⟨S2x4096x512, .f32⟩
  | 111 => ⟨S2x4096x512, .f32⟩
  | 112 => ⟨S8192x512, .f32⟩
  | 113 => ⟨S8192x512, .f32⟩
  | 114 => ⟨S8192x512, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S8192x512, .f32⟩
  | 122 => ⟨S8192x512, .f32⟩
  | 123 => ⟨S8192x512, .f32⟩
  | 124 => ⟨S_, .f32⟩
  | 125 => ⟨S8192, .f32⟩
  | 126 => ⟨S8192x1, .f32⟩
  | 127 => ⟨S_, .f32⟩
  | _ => ⟨S8192x1536, .f32⟩

abbrev hbmTy0_2 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x512, .f32⟩
  | 33 => ⟨S8192x512, .f32⟩
  | 34 => ⟨S8192x512, .f32⟩
  | 35 => ⟨S8192x512, .f32⟩
  | 36 => ⟨S8192x512, .bf16⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_cst_4 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_cst_6 : Ref sig .tc := ⟨.hbm, 255, rfl⟩
abbrev main_v242 : Ref sig .tc := ⟨.hbm, 256, rfl⟩
abbrev main_v243 : Ref sig .tc := ⟨.hbm, 257, rfl⟩
abbrev main_cst_7 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v253 : Ref sig .tc := ⟨.hbm, 276, rfl⟩
abbrev main_v254 : Ref sig .tc := ⟨.hbm, 277, rfl⟩
abbrev main_cst_8 : Ref sig .tc := ⟨.hbm, 278, rfl⟩
abbrev main_v255 : Ref sig .tc := ⟨.hbm, 279, rfl⟩
abbrev main_v256 : Ref sig .tc := ⟨.hbm, 280, rfl⟩
abbrev main_cst_9 : Ref sig .tc := ⟨.hbm, 281, rfl⟩
abbrev main_v257 : Ref sig .tc := ⟨.hbm, 282, rfl⟩
abbrev main_v258 : Ref sig .tc := ⟨.hbm, 283, rfl⟩
abbrev main_cst_10 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩

abbrev nD : Nat := 1
abbrev τ : Topo := Topo.v7x

variable {F : FTy → Type} [FloatOps F]
-- ==== Proof.RefFrames.lean ====
/- The frames of the references: each is a host program that declares no semaphore. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Gen.Reference31Ideal.Run
public import proofs.«01_k».proof.Proof.Gen.Reference32Ideal.Run
public import Idealize.ShloMosaic.Adequacy
public import Idealize.ShloMosaic.Init

@[expose] public section

set_option maxRecDepth 16384

noncomputable section

namespace Cert.RefFrames

open Idealize.ShloMosaic Idealize.SL.Sem

/-- Reference 1 ends with its arguments as they were and every counter at zero. -/
theorem frame1 : Cert.quiescent_ReferenceIdeal := fun m g _ =>
  (θ_run Cert.ReferenceIdeal.defs _ _).mono (fun r h => ⟨fun c => (h c).2.2.2,
      sem_eq_zero_of_no_sems (by decide) r.2⟩) (Cert.ReferenceIdeal.Value.run (F := Ideal) m g)

/-- Reference 2 ends with its arguments as they were and every counter at zero. -/
theorem frame2 : Cert.quiescent_Reference2Ideal := fun m g _ =>
  (θ_run Cert.Reference2Ideal.defs _ _).mono (fun r h => ⟨fun c => (h c).2.2,
      sem_eq_zero_of_no_sems (by decide) r.2⟩) (Cert.Reference2Ideal.Value.run (F := Ideal) m g)

/-- Reference 3 ends with its arguments as they were and every counter at zero. -/
theorem frame3 : Cert.quiescent_Reference3Ideal := fun m g _ =>
  (θ_run Cert.Reference3Ideal.defs _ _).mono (fun r h => ⟨fun c => (h c).2.2,
      sem_eq_zero_of_no_sems (by decide) r.2⟩) (Cert.Reference3Ideal.Value.run (F := Ideal) m g)

/-- Reference 4 ends with its arguments as they were and every counter at zero. -/
theorem frame4 : Cert.quiescent_Reference4Ideal := fun m g _ =>
  (θ_run Cert.Reference4Ideal.defs _ _).mono (fun r h => ⟨fun c => (h c).2,
      sem_eq_zero_of_no_sems (by decide) r.2⟩) (Cert.Reference4Ideal.Value.run (F := Ideal) m g)

/-- Reference 5 ends with its arguments as they were and every counter at zero. -/
theorem frame5 : Cert.quiescent_Reference5Ideal := fun m g _ =>
  (θ_run Cert.Reference5Ideal.defs _ _).mono (fun r h => ⟨fun c => (h c).2,
      sem_eq_zero_of_no_sems (by decide) r.2⟩) (Cert.Reference5Ideal.Value.run (F := Ideal) m g)

/-- Reference 6 ends with its arguments as they were and every counter at zero. -/
theorem frame6 : Cert.quiescent_Reference6Ideal := fun m g _ =>
  (θ_run Cert.Reference6Ideal.defs _ _).mono (fun r h => ⟨fun c => (h c).2.2.2,
      sem_eq_zero_of_no_sems (by decide) r.2⟩) (Cert.Reference6Ideal.Value.run (F := Ideal) m g)

/-- Reference 7 ends with its arguments as they were and every counter at zero. -/
theorem frame7 : Cert.quiescent_Reference7Ideal := fun m g _ =>
  (θ_run Cert.Reference7Ideal.defs _ _).mono (fun r h => ⟨fun c => (h c).2,
      sem_eq_zero_of_no_sems (by decide) r.2⟩) (Cert.Reference7Ideal.Value.run (F := Ideal) m g)

/-- Reference 8 ends with its arguments as they were and every counter at zero. -/
theorem frame8 : Cert.quiescent_Reference8Ideal := fun m g _ =>
  (θ_run Cert.Reference8Ideal.defs _ _).mono (fun r h => ⟨fun c => (h c).2,
      sem_eq_zero_of_no_sems (by decide) r.2⟩) (Cert.Reference8Ideal.Value.run (F := Ideal) m g)

/-- Reference 9 ends with its arguments as they were and every counter at zero. -/
theorem frame9 : Cert.quiescent_Reference9Ideal := fun m g _ =>
  (θ_run Cert.Reference9Ideal.defs _ _).mono (fun r h => ⟨fun c => (h c).2,
      sem_eq_zero_of_no_sems (by decide) r.2⟩) (Cert.Reference9Ideal.Value.run (F := Ideal) m g)

/-- Reference 10 ends with its arguments as they were and every counter at zero. -/
theorem frame10 : Cert.quiescent_Reference10Ideal := fun m g _ =>
  (θ_run Cert.Reference10Ideal.defs _ _).mono (fun r h => ⟨fun c => (h c).2,
      sem_eq_zero_of_no_sems (by decide) r.2⟩) (Cert.Reference10Ideal.Value.run (F := Ideal) m g)

/-- Reference 11 ends with its arguments as they were and every counter at zero. -/
theorem frame11 : Cert.quiescent_Reference11Ideal := fun m g _ =>
  (θ_run Cert.Reference11Ideal.defs _ _).mono (fun r h => ⟨fun c => (h c).2,
      sem_eq_zero_of_no_sems (by decide) r.2⟩) (Cert.Reference11Ideal.Value.run (F := Ideal) m g)

/-- Reference 12 ends with its arguments as they were and every counter at zero. -/
theorem frame12 : Cert.quiescent_Reference12Ideal := fun m g _ =>
  (θ_run Cert.Reference12Ideal.defs _ _).mono (fun r h => ⟨fun c => (h c).2.2.2,
      sem_eq_zero_of_no_sems (by decide) r.2⟩) (Cert.Reference12Ideal.Value.run (F := Ideal) m g)

/-- Reference 13 ends with its arguments as they were and every counter at zero. -/
theorem frame13 : Cert.quiescent_Reference13Ideal := fun m g _ =>
  (θ_run Cert.Reference13Ideal.defs _ _).mono (fun r h => ⟨fun c => (h c).2.2.2,
      sem_eq_zero_of_no_sems (by decide) r.2⟩) (Cert.Reference13Ideal.Value.run (F := Ideal) m g)

/-- Reference 14 ends with its arguments as they were and every counter at zero. -/
theorem frame14 : Cert.quiescent_Reference14Ideal := fun m g _ =>
  (θ_run Cert.Reference14Ideal.defs _ _).mono (fun r h => ⟨fun c => (h c).2,
      sem_eq_zero_of_no_sems (by decide) r.2⟩) (Cert.Reference14Ideal.Value.run (F := Ideal) m g)

/-- Reference 15 ends with its arguments as they were and every counter at zero. -/
theorem frame15 : Cert.quiescent_Reference15Ideal := fun m g _ =>
  (θ_run Cert.Reference15Ideal.defs _ _).mono (fun r h => ⟨fun c => (h c).2,
      sem_eq_zero_of_no_sems (by decide) r.2⟩) (Cert.Reference15Ideal.Value.run (F := Ideal) m g)

/-- Reference 16 ends with its arguments as they were and every counter at zero. -/
theorem frame16 : Cert.quiescent_Reference16Ideal := fun m g _ =>
  (θ_run Cert.Reference16Ideal.defs _ _).mono (fun r h => ⟨fun c => (h c).2.2.2,
      sem_eq_zero_of_no_sems (by decide) r.2⟩) (Cert.Reference16Ideal.Value.run (F := Ideal) m g)

/-- Reference 17 ends with its arguments as they were and every counter at zero. -/
theorem frame17 : Cert.quiescent_Reference17Ideal := fun m g _ =>
  (θ_run Cert.Reference17Ideal.defs _ _).mono (fun r h => ⟨fun c => (h c).2.2.2.2,
      sem_eq_zero_of_no_sems (by decide) r.2⟩) (Cert.Reference17Ideal.Value.run (F := Ideal) m g)

/-- Reference 18 ends with its arguments as they were and every counter at zero. -/
theorem frame18 : Cert.quiescent_Reference18Ideal := fun m g _ =>
  (θ_run Cert.Reference18Ideal.defs _ _).mono (fun r h => ⟨fun c => (h c).2.2.2.2,
      sem_eq_zero_of_no_sems (by decide) r.2⟩) (Cert.Reference18Ideal.Value.run (F := Ideal) m g)

/-- Reference 19 ends with its arguments as they were and every counter at zero. -/
theorem frame19 : Cert.quiescent_Reference19Ideal := fun m g _ =>
  (θ_run Cert.Reference19Ideal.defs _ _).mono (fun r h => ⟨fun c => (h c).2.2.2,
      sem_eq_zero_of_no_sems (by decide) r.2⟩) (Cert.Reference19Ideal.Value.run (F := Ideal) m g)

/-- Reference 20 ends with its arguments as they were and every counter at zero. -/
theorem frame20 : Cert.quiescent_Reference20Ideal := fun m g _ =>
  (θ_run Cert.Reference20Ideal.defs _ _).mono (fun r h => ⟨fun c => (h c).2.2.2.2.2,
      sem_eq_zero_of_no_sems (by decide) r.2⟩) (Cert.Reference20Ideal.Value.run (F := Ideal) m g)

/-- Reference 21 ends with its arguments as they were and every counter at zero. -/
theorem frame21 : Cert.quiescent_Reference21Ideal := fun m g _ =>
  (θ_run Cert.Reference21Ideal.defs _ _).mono (fun r h => ⟨fun c => (h c).2.2,
      sem_eq_zero_of_no_sems (by decide) r.2⟩) (Cert.Reference21Ideal.Value.run (F := Ideal) m g)

/-- Reference 22 ends with its arguments as they were and every counter at zero. -/
theorem frame22 : Cert.quiescent_Reference22Ideal := fun m g _ =>
  (θ_run Cert.Reference22Ideal.defs _ _).mono (fun r h => ⟨fun c => (h c).2,
      sem_eq_zero_of_no_sems (by decide) r.2⟩) (Cert.Reference22Ideal.Value.run (F := Ideal) m g)

/-- Reference 23 ends with its arguments as they were and every counter at zero. -/
theorem frame23 : Cert.quiescent_Reference23Ideal := fun m g _ =>
  (θ_run Cert.Reference23Ideal.defs _ _).mono (fun r h => ⟨fun c => (h c).2.2.2.2,
      sem_eq_zero_of_no_sems (by decide) r.2⟩) (Cert.Reference23Ideal.Value.run (F := Ideal) m g)

/-- Reference 24 ends with its arguments as they were and every counter at zero. -/
theorem frame24 : Cert.quiescent_Reference24Ideal := fun m g _ =>
  (θ_run Cert.Reference24Ideal.defs _ _).mono (fun r h => ⟨fun c => (h c).2.2.2.2,
      sem_eq_zero_of_no_sems (by decide) r.2⟩) (Cert.Reference24Ideal.Value.run (F := Ideal) m g)

/-- Reference 25 ends with its arguments as they were and every counter at zero. -/
theorem frame25 : Cert.quiescent_Reference25Ideal := fun m g _ =>
  (θ_run Cert.Reference25Ideal.defs _ _).mono (fun r h => ⟨fun c => (h c).2.2.2.2,
      sem_eq_zero_of_no_sems (by decide) r.2⟩) (Cert.Reference25Ideal.Value.run (F := Ideal) m g)

/-- Reference 26 ends with its arguments as they were and every counter at zero. -/
theorem frame26 : Cert.quiescent_Reference26Ideal := fun m g _ =>
  (θ_run Cert.Reference26Ideal.defs _ _).mono (fun r h => ⟨fun c => (h c).2.2.2.2,
      sem_eq_zero_of_no_sems (by decide) r.2⟩) (Cert.Reference26Ideal.Value.run (F := Ideal) m g)

/-- Reference 27 ends with its arguments as they were and every counter at zero. -/
theorem frame27 : Cert.quiescent_Reference27Ideal := fun m g _ =>
  (θ_run Cert.Reference27Ideal.defs _ _).mono (fun r h => ⟨fun c => (h c).2,
      sem_eq_zero_of_no_sems (by decide) r.2⟩) (Cert.Reference27Ideal.Value.run (F := Ideal) m g)

/-- Reference 28 ends with its arguments as they were and every counter at zero. -/
theorem frame28 : Cert.quiescent_Reference28Ideal := fun m g _ =>
  (θ_run Cert.Reference28Ideal.defs _ _).mono (fun r h => ⟨fun c => (h c).2,
      sem_eq_zero_of_no_sems (by decide) r.2⟩) (Cert.Reference28Ideal.Value.run (F := Ideal) m g)

/-- Reference 29 ends with its arguments as they were and every counter at zero. -/
theorem frame29 : Cert.quiescent_Reference29Ideal := fun m g _ =>
  (θ_run Cert.Reference29Ideal.defs _ _).mono (fun r h => ⟨fun c => (h c).2,
      sem_eq_zero_of_no_sems (by decide) r.2⟩) (Cert.Reference29Ideal.Value.run (F := Ideal) m g)

/-- Reference 30 ends with its arguments as they were and every counter at zero. -/
theorem frame30 : Cert.quiescent_Reference30Ideal := fun m g _ =>
  (θ_run Cert.Reference30Ideal.defs _ _).mono (fun r h => ⟨fun c => (h c).2,
      sem_eq_zero_of_no_sems (by decide) r.2⟩) (Cert.Reference30Ideal.Value.run (F := Ideal) m g)

/-- Reference 31 ends with its arguments as they were and every counter at zero. -/
theorem frame31 : Cert.quiescent_Reference31Ideal := fun m g _ =>
  (θ_run Cert.Reference31Ideal.defs _ _).mono (fun r h => ⟨fun c => (h c).2,
      sem_eq_zero_of_no_sems (by decide) r.2⟩) (Cert.Reference31Ideal.Value.run (F := Ideal) m g)

/-- Reference 32 ends with its arguments as they were and every counter at zero. -/
theorem frame32 : Cert.quiescent_Reference32Ideal := fun m g _ =>
  (θ_run Cert.Reference32Ideal.defs _ _).mono (fun r h => ⟨fun c => (h c).2.2,
      sem_eq_zero_of_no_sems (by decide) r.2⟩) (Cert.Reference32Ideal.Value.run (F := Ideal) m g)

end Cert.RefFrames

end
-- ==== Proof.Scalar.lean ====
/- Laws of the extended reals the value proofs share: a positive real factor distributes over a sum, finite factors
   make finite sums, the logistic function's values are reals, and the gradient of `x · logistic x` in two spellings. -/
module

public import Idealize.ShloMosaic.Lib.Pointwise
public import Idealize.ShloMosaic.Lib.IdealHost

@[expose] public section

set_option maxRecDepth 16384

noncomputable section

namespace Cert.Scalar

open Idealize.ShloMosaic

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, by push_cast; rfl⟩

theorem IsReal.mul {x y : EReal} : IsReal x → IsReal y → IsReal (x * y) := by
  rintro ⟨a, rfl⟩ ⟨b, rfl⟩; exact ⟨a * b, by push_cast; rfl⟩

theorem IsReal.sum {ι : Type} (s : Finset ι) (f : ι → EReal) (h : ∀ i ∈ s, IsReal (f i)) : IsReal (∑ i ∈ s, f i) :=
  Finset.sum_induction f IsReal (fun _ _ => IsReal.add) ⟨0, rfl⟩ h

/-- A value whose absolute value compares below `+∞` is a real. -/
theorem real_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The word of one half is the real one half. -/
theorem half : Ideal.ofBits .f32 0x3F000000#32 = (((1 : ℝ) / 2 : ℝ) : EReal) := by
  simp [Ideal.ofBits, Ideal.ieee, -EReal.coe_mul]; norm_num

/-- A positive real factor distributes over a sum. -/
theorem sum_mul_pos {ι : Type} (s : Finset ι) (f : ι → EReal) {h : ℝ} (hh : 0 ≤ h) :
    (∑ i ∈ s, f i) * (h : EReal) = ∑ i ∈ s, f i * (h : EReal) := by
  classical
  induction s using Finset.induction_on with
  | empty => simp
  | insert a s ha ih =>
    rw [Finset.sum_insert ha, Finset.sum_insert ha, ← ih, mul_comm,
      EReal.left_distrib_of_nonneg_of_ne_top (EReal.coe_nonneg.mpr hh) (EReal.coe_ne_top h), mul_comm, mul_comm (h : EReal)]

/-- Halving a sum of products halves the left factors. -/
theorem half_sum {ι : Type} (s : Finset ι) (f g : ι → EReal) :
    (∑ i ∈ s, f i * g i) * Ideal.ofBits .f32 0x3F000000#32 = ∑ i ∈ s, f i * Ideal.ofBits .f32 0x3F000000#32 * g i := by
  rw [half, sum_mul_pos s _ (by norm_num)]
  exact Finset.sum_congr rfl fun i _ => mul_right_comm _ _ _

/-- The logistic function as the host writes it. -/
def sig (x : EReal) : EReal := Ideal.div 1 (1 + Ideal.exp (-x))

theorem exp_bot : Ideal.exp ⊥ = 0 := rfl

theorem exp_top : Ideal.exp ⊤ = ⊤ := rfl

theorem exp_coe (r : ℝ) : Ideal.exp (r : EReal) = (Real.exp r : EReal) := rfl

theorem sig_bot : sig ⊥ = 0 := by
  have e : (1 : EReal) + ⊤ = ⊤ := EReal.coe_add_top 1
  simp [sig, Ideal.div, exp_top, e]

theorem sig_top : sig ⊤ = 1 := by simp [sig, Ideal.div, exp_bot]

theorem sig_coe (r : ℝ) : sig (r : EReal) = (((1 + Real.exp (-r))⁻¹ : ℝ) : EReal) := by
  have h0 : (1 + Real.exp (-r)) ≠ 0 := by positivity
  have e : (1 : EReal) + Ideal.exp (-(r : EReal)) = ((1 + Real.exp (-r) : ℝ) : EReal) := by
    rw [← EReal.coe_neg, exp_coe]; norm_cast
  unfold sig
  rw [e, Ideal.div, if_neg (by exact_mod_cast h0), one_mul, ← EReal.coe_inv]

/-- The gradient of `x · sig x` against a real cotangent `d`: the factored form is the product rule's. -/
theorem silu_grad {d : EReal} (hd : IsReal d) (a : EReal) :
    d * (sig a * (1 + a * (1 - sig a))) = d * sig a + a * d * (sig a * (1 - sig a)) := by
  obtain ⟨d, rfl⟩ := hd
  induction a with
  | bot => simp [sig_bot]
  | top =>
    have e : (1 : EReal) - 1 = 0 := EReal.sub_self (by decide) (by decide)
    simp [sig_top, e]
  | coe r =>
    rw [sig_coe]
    norm_cast
    ring_nf

/-! ## The backward of the root-mean-square norm -/

/-- The mean of a row of 1024 entries. -/
def mean (f : Fin 1024 → EReal) : EReal := Ideal.div (∑ e : Fin 1024, f e) (Ideal.ofBits .f32 0x44800000#32)

/-- The reciprocal root of a row's mean square, the small constant added. -/
def rmsInv (x : Fin 1024 → EReal) : EReal := Ideal.rsqrt (mean (fun e => x e * x e) + Ideal.ofBits .f32 0x358637BD#32)

/-- The cotangent of a row at one place, for the cotangent `v` of the row over its root mean square. -/
def rmsBwd (x v : Fin 1024 → EReal) (d : Fin 1024) : EReal :=
  rmsInv x * v d - x d * (rmsInv x * rmsInv x * rmsInv x) * mean fun e => x e * v e

/-- The word of 1024 is the real 1024. -/
theorem ofBits_1024 : Ideal.ofBits .f32 0x44800000#32 = ((1024 : ℝ) : EReal) := by
  simp [Ideal.ofBits, Ideal.ieee, -EReal.coe_mul]; norm_num

/-- The small constant is a positive real. -/
theorem ofBits_eps : ∃ ε : ℝ, 0 < ε ∧ Ideal.ofBits .f32 0x358637BD#32 = (ε : EReal) := by
  refine ⟨_, ?_, by simp [Ideal.ofBits, Ideal.ieee, -EReal.coe_mul]; rfl⟩
  norm_num

/-- The word of minus one half is the real minus one half. -/
theorem neg_half : Ideal.ofBits .f32 0xBF000000#32 = ((-(1 / 2) : ℝ) : EReal) := by
  simp [Ideal.ofBits, Ideal.ieee, -EReal.coe_mul]; norm_num

theorem div_coe (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem rsqrt_pos {s : ℝ} (hs : 0 < s) : Ideal.rsqrt (s : EReal) = (((Real.sqrt s)⁻¹ : ℝ) : EReal) := by
  rw [Ideal.rsqrt_coe, if_neg (not_lt.mpr hs.le), if_neg hs.ne']

/-- The norm's backward in the order the derivative of the square and of the reciprocal root give it: the row's own
    term, then the mean square's twice. Every entry finite but the carried cotangent `z`. -/
theorem rms_bwd {x v : Fin 1024 → EReal} (hx : ∀ e, IsReal (x e)) (hv : ∀ e, IsReal (v e)) (z : EReal) (d : Fin 1024) :
    z + rmsBwd x v d
      = z + v d * rmsInv x
        + x d * Ideal.div ((∑ e, x e * v e) * (Ideal.ofBits .f32 0xBF000000#32
            * Ideal.div (rmsInv x) (mean (fun e => x e * x e) + Ideal.ofBits .f32 0x358637BD#32))) (Ideal.ofBits .f32 0x44800000#32)
        + Ideal.div ((∑ e, x e * v e) * (Ideal.ofBits .f32 0xBF000000#32
            * Ideal.div (rmsInv x) (mean (fun e => x e * x e) + Ideal.ofBits .f32 0x358637BD#32))) (Ideal.ofBits .f32 0x44800000#32) * x d := by
  choose xr hxr using hx
  choose vr hvr using hv
  obtain ⟨ε, hε, he⟩ := ofBits_eps
  have hsum (f g : Fin 1024 → ℝ) : (∑ e, (f e : EReal) * (g e : EReal)) = ((∑ e, f e * g e : ℝ) : EReal) := by
    push_cast; rfl
  have hq : 0 < (∑ e, xr e * xr e) / 1024 + ε :=
    add_pos_of_nonneg_of_pos (div_nonneg (Finset.sum_nonneg fun e _ => mul_self_nonneg _) (by norm_num)) hε
  obtain rfl : x = fun e => (xr e : EReal) := funext hxr
  obtain rfl : v = fun e => (vr e : EReal) := funext hvr
  simp only [rmsBwd, rmsInv, mean, he, neg_half, ofBits_1024, hsum, div_coe _ (show (1024 : ℝ) ≠ 0 by norm_num), ← EReal.coe_add]
  simp only [rsqrt_pos hq, div_coe _ hq.ne', ← EReal.coe_mul, ← EReal.coe_sub, div_coe _ (show (1024 : ℝ) ≠ 0 by norm_num)]
  rw [add_assoc, add_assoc, ← EReal.coe_add, ← EReal.coe_add]
  congr 2
  generalize hs : (∑ e, xr e * xr e) / 1024 + ε = s at hq
  have h1 : (Real.sqrt s)⁻¹ / s = (Real.sqrt s)⁻¹ * (Real.sqrt s)⁻¹ * (Real.sqrt s)⁻¹ := by
    have := Real.sq_sqrt hq.le
    have h0 := (Real.sqrt_pos.mpr hq).ne'
    field_simp
    nlinarith
  rw [h1]
  ring

end Cert.Scalar

end
-- ==== Proof.TapsBuf.lean ====
/- Loads of the convolution's scratch buffers: two blocks of rows stored one over the other, and the eight
   row-shifted copies of them, read back at a row and a channel. -/
module

public import proofs.«01_k».proof.Proof.Gen.KernelIdeal.Value
public import proofs.«01_k».proof.Proof.Scalar
public import Idealize.ShloMosaic.Lib.Tactic
public import Idealize.ShloMosaic.Lib.Pipeline.ValueKit
public import Idealize.ShloMosaic.Lib.Pipeline.ReadBack

@[expose] public section

set_option maxRecDepth 16384

noncomputable section

namespace Cert.Taps

open Cert.KernelIdeal Cert.KernelIdeal.Gen Idealize.ShloMosaic Idealize.ShloMosaic.TcCoe Idealize.SL.Sem

/-- Row `n` of 256 rows followed by 32 rows. -/
def tailed (p : Vec Ideal S256x512 .f32) (q : Vec Ideal S32x512 .f32) (n : ℕ) (d : Fin 512) : EReal :=
  if h : n < 256 then p (ix2 ⟨n, h⟩ d) else if h : n - 256 < 32 then q (ix2 ⟨n - 256, h⟩ d) else 0

/-- Row `n` of 32 rows followed by 256 rows. -/
def headed (p : Vec Ideal S32x512 .f32) (q : Vec Ideal S256x512 .f32) (n : ℕ) (d : Fin 512) : EReal :=
  if h : n < 32 then p (ix2 ⟨n, h⟩ d) else if h : n - 32 < 256 then q (ix2 ⟨n - 32, h⟩ d) else 0

/-- Rows `o … o + n` of `E`. -/
def rows (E : ℕ → Fin 512 → EReal) (o n : ℕ) : Vec Ideal ⟨2, ![n, 512]⟩ .f32 := fun j => E ((j 0).val + o) (j 1)

/-- The same as one slab. -/
def slab (E : ℕ → Fin 512 → EReal) (o n : ℕ) : Vec Ideal ⟨3, ![1, n, 512]⟩ .f32 := fun j => E ((j 1).val + o) (j 2)

theorem rows_apply (E : ℕ → Fin 512 → EReal) (o n : ℕ) (a : Fin n) (d : Fin 512) :
    rows E o n (ix2 a d) = E (a.val + o) d := rfl

theorem slab_apply (E : ℕ → Fin 512 → EReal) (o n : ℕ) (u : Fin 1) (a : Fin n) (d : Fin 512) :
    slab E o n (ix3 u a d) = E (a.val + o) d := rfl

theorem tailed_lt (p : Vec Ideal S256x512 .f32) (q : Vec Ideal S32x512 .f32) {n : ℕ} (h : n < 256) (d : Fin 512) :
    tailed p q n d = p (ix2 ⟨n, h⟩ d) := dif_pos h

theorem tailed_ge (p : Vec Ideal S256x512 .f32) (q : Vec Ideal S32x512 .f32) {n : ℕ} (h : ¬ n < 256)
    (h' : n - 256 < 32) (d : Fin 512) : tailed p q n d = q (ix2 ⟨n - 256, h'⟩ d) :=
  (dif_neg h).trans (dif_pos h')

theorem headed_lt (p : Vec Ideal S32x512 .f32) (q : Vec Ideal S256x512 .f32) {n : ℕ} (h : n < 32) (d : Fin 512) :
    headed p q n d = p (ix2 ⟨n, h⟩ d) := dif_pos h

theorem headed_ge (p : Vec Ideal S32x512 .f32) (q : Vec Ideal S256x512 .f32) {n : ℕ} (h : ¬ n < 32)
    (h' : n - 32 < 256) (d : Fin 512) : headed p q n d = q (ix2 ⟨n - 32, h'⟩ d) :=
  (dif_neg h).trans (dif_pos h')

variable {κ : Kind} {sp : Space}

section Two

variable {L : List (View.Piece (Elt Ideal) S288x512 .f32)} {k n : ℕ}

theorem canon_low {inb} {w : (Rect.unit (s := S288x512) ![k, 0] ![n, 512] inb).shape.Idx → Elt Ideal .f32}
    (y : S288x512.Idx) (h : (y 0).val < k ∨ k + n ≤ (y 0).val) :
    View.canon (⟨Rect.unit (s := S288x512) ![k, 0] ![n, 512] inb, w⟩ :: L) y = View.canon L y := by
  refine View.canon_cons_of_not_mem _ _ fun hm => ?_
  have h0 := (Rect.mem_set_unit (off := ![k, 0]) (size := ![n, 512]) (inb := inb) (i := y)).mp hm 0
  have h1 : k ≤ (y 0).val ∧ (y 0).val < k + n := h0
  omega

theorem canon_in {inb} {w : (Rect.unit (s := S288x512) ![k, 0] ![n, 512] inb).shape.Idx → Elt Ideal .f32}
    (y : S288x512.Idx) (h : k ≤ (y 0).val) (h' : (y 0).val - k < n) :
    View.canon (⟨Rect.unit (s := S288x512) ![k, 0] ![n, 512] inb, w⟩ :: L) y
      = w (ix2 (n0 := n) (n1 := 512) ⟨(y 0).val - k, h'⟩ (y 1)) := by
  have e : y = (Rect.unit (s := S288x512) ![k, 0] ![n, 512] inb).emb
      (ix2 (n0 := n) (n1 := 512) ⟨(y 0).val - k, h'⟩ (y 1)) := by
    funext a
    match a with
    | ⟨0, _⟩ => exact Fin.ext (show (y 0).val = k + 1 * ((y 0).val - k) by omega)
    | ⟨1, _⟩ => exact Fin.ext (show (y 1).val = 0 + 1 * (y 1).val by omega)
  conv_lhs => rw [e]
  exact View.canon_cons_emb _ _ _ _

/-- A load of rows `o … o + n` reads the stored pieces at the row it names. -/
theorem ld_of (v : View sig κ sp S288x512 .f32) {o : ℕ} {inb} (E : ℕ → Fin 512 → EReal)
    (h : ∀ y : S288x512.Idx, o ≤ (y 0).val → (y 0).val < o + n → View.canon L y = E (y 0).val (y 1)) :
    v.readCov L (Rect.unit (s := S288x512) ![o, 0] ![n, 512] inb).toLoadRect
      = rows E o n := by
  rw [View.readCov_eq_canon']
  funext j
  have hn : (j 0).val < n := (j 0).isLt
  have h0 : (((Rect.unit (s := S288x512) ![o, 0] ![n, 512] inb).toLoadRect.idx j) 0).val = (j 0).val + o :=
    show o + 1 * (j 0).val = _ by omega
  have h1 : ((Rect.unit (s := S288x512) ![o, 0] ![n, 512] inb).toLoadRect.idx j) 1 = (j 1 : Fin 512) :=
    Fin.ext (show 0 + 1 * (j 1).val = _ by omega)
  generalize (Rect.unit (s := S288x512) ![o, 0] ![n, 512] inb).toLoadRect.idx j = y at h0 h1
  refine (h y (by omega) (by omega)).trans ?_
  rw [h0, h1]
  rfl

end Two

variable {p : Vec Ideal S256x512 .f32} {q : Vec Ideal S32x512 .f32} {o n : ℕ} {i i' inb}

/-- Rows of a buffer whose tail was stored last. -/
theorem ld_tailed (v : View sig κ sp S288x512 .f32) :
    v.readCov [⟨Rect.unit (s := S288x512) ![256, 0] ![32, 512] i, q⟩,
        ⟨Rect.unit (s := S288x512) ![0, 0] ![256, 512] i', p⟩]
        (Rect.unit (s := S288x512) ![o, 0] ![n, 512] inb).toLoadRect
      = rows (tailed p q) o n := by
  refine ld_of v (tailed p q) fun y _ _ => ?_
  have hy : (y 0).val < 288 := (y 0).isLt
  by_cases h : (y 0).val < 256
  · rw [canon_low y (by omega), canon_in y (by omega) (by omega)]
    exact (tailed_lt p q h _).symm
  · rw [canon_in y (by omega) (by omega)]
    exact (tailed_ge p q h (by omega) _).symm

/-- Rows of such a buffer before its tail. -/
theorem ld_tailed_fst (v : View sig κ sp S288x512 .f32) (h : o + n ≤ 256) :
    v.readCov [⟨Rect.unit (s := S288x512) ![0, 0] ![256, 512] i', p⟩]
        (Rect.unit (s := S288x512) ![o, 0] ![n, 512] inb).toLoadRect
      = rows (tailed p q) o n := by
  refine ld_of v (tailed p q) fun y _ hn => ?_
  have hy : (y 0).val < 256 := by omega
  rw [canon_in y (by omega) (by omega)]
  exact (tailed_lt p q hy _).symm

/-- Rows of a buffer whose head was stored last. -/
theorem ld_headed (v : View sig κ sp S288x512 .f32) :
    v.readCov [⟨Rect.unit (s := S288x512) ![0, 0] ![32, 512] i, q⟩,
        ⟨Rect.unit (s := S288x512) ![32, 0] ![256, 512] i', p⟩]
        (Rect.unit (s := S288x512) ![o, 0] ![n, 512] inb).toLoadRect
      = rows (headed q p) o n := by
  refine ld_of v (headed q p) fun y _ _ => ?_
  have hy : (y 0).val < 288 := (y 0).isLt
  by_cases h : (y 0).val < 32
  · rw [canon_in y (by omega) (by omega)]
    exact (headed_lt q p h _).symm
  · rw [canon_low y (by omega), canon_in y (by omega) (by omega)]
    exact (headed_ge q p h (by omega) _).symm

/-- Rows of such a buffer after its head. -/
theorem ld_headed_snd (v : View sig κ sp S288x512 .f32) (h : 32 ≤ o) :
    v.readCov [⟨Rect.unit (s := S288x512) ![32, 0] ![256, 512] i', p⟩]
        (Rect.unit (s := S288x512) ![o, 0] ![n, 512] inb).toLoadRect
      = rows (headed q p) o n := by
  refine ld_of v (headed q p) fun y ho _ => ?_
  have hy : (y 0).val < 288 := (y 0).isLt
  rw [canon_in y (by omega) (by omega)]
  exact (headed_ge q p (by omega) (by omega) _).symm

/-- Rows of one row-shifted copy. -/
theorem ld_copy (v : View sig κ sp S8x288x512 .f32) {r s : ℕ} {L : List (View.Piece (Elt Ideal) S8x288x512 .f32)}
    {i inb e} (E : ℕ → Fin 512 → EReal) (h : o + n ≤ 280) :
    v.readCov (⟨Rect.unit (s := S8x288x512) ![r, 0, 0] ![1, 280, 512] i,
          shapeCast (α := Ideal .f32) (s := S280x512) S1x280x512 (rows E s 280) e⟩ :: L)
        (Rect.unit (s := S8x288x512) ![r, o, 0] ![1, n, 512] inb).toLoadRect
      = slab E (o + s) n := by
  rw [View.readCov_eq_canon']
  funext j
  have hn : (j 1).val < n := (j 1).isLt
  have h0 : (j 0).val < 1 := (j 0).isLt
  have e' : (Rect.unit (s := S8x288x512) ![r, o, 0] ![1, n, 512] inb).toLoadRect.idx j
      = (Rect.unit (s := S8x288x512) ![r, 0, 0] ![1, 280, 512] i).emb
        (ix3 (n0 := 1) (n1 := 280) (n2 := 512) 0 ⟨o + (j 1).val, by omega⟩ (j 2)) := by
    funext a
    match a with
    | ⟨0, _⟩ => exact Fin.ext (show r + 1 * (j 0).val = r + 1 * 0 by omega)
    | ⟨1, _⟩ => exact Fin.ext (show o + 1 * (j 1).val = 0 + 1 * (o + (j 1).val) by omega)
    | ⟨2, _⟩ => exact Fin.ext (show 0 + 1 * (j 2).val = 0 + 1 * (j 2).val by omega)
  rw [e', View.canon_cons_emb]
  pointwise [rows_apply]
  rw [show o + (j 1).val + s = (j 1).val + (o + s) by omega]
  rfl

end Cert.Taps

end
-- ==== Proof.TapsDv.lean ====
/- What one point of the convolution's gradient leaves in the value's and the gate's gradient. -/
module

public import proofs.«01_k».proof.Proof.TapsBuf

@[expose] public section

set_option maxRecDepth 16384
set_option maxHeartbeats 0

noncomputable section

namespace Cert.Taps

open Cert.KernelIdeal Cert.KernelIdeal.Gen Idealize.ShloMosaic Idealize.ShloMosaic.TcCoe Idealize.SL.Sem

/-- The convolution's transpose: the input gradient of row `n` from the rows of `E` it reaches. -/
def da (w : Vec Ideal S32x512 .f32) (E : ℕ → Fin 512 → EReal) (n : ℕ) (d : Fin 512) : EReal :=
  ∑ k : Fin 31, w (ix2 (n0 := 32) ⟨k.val, by omega⟩ d) * E (n + (30 - k.val)) d

theorem da_eq (w : Vec Ideal S32x512 .f32) (E : ℕ → Fin 512 → EReal) (n : ℕ) (d : Fin 512) :
    da w E n d =
    w (ix2 0 d) * E (n + 30) d + w (ix2 1 d) * E (n + 29) d + w (ix2 2 d) * E (n + 28) d + w (ix2 3 d) * E (n + 27) d
      + w (ix2 4 d) * E (n + 26) d + w (ix2 5 d) * E (n + 25) d + w (ix2 6 d) * E (n + 24) d
      + w (ix2 7 d) * E (n + 23) d + w (ix2 8 d) * E (n + 22) d + w (ix2 9 d) * E (n + 21) d
      + w (ix2 10 d) * E (n + 20) d + w (ix2 11 d) * E (n + 19) d + w (ix2 12 d) * E (n + 18) d
      + w (ix2 13 d) * E (n + 17) d + w (ix2 14 d) * E (n + 16) d + w (ix2 15 d) * E (n + 15) d
      + w (ix2 16 d) * E (n + 14) d + w (ix2 17 d) * E (n + 13) d + w (ix2 18 d) * E (n + 12) d
      + w (ix2 19 d) * E (n + 11) d + w (ix2 20 d) * E (n + 10) d + w (ix2 21 d) * E (n + 9) d
      + w (ix2 22 d) * E (n + 8) d + w (ix2 23 d) * E (n + 7) d + w (ix2 24 d) * E (n + 6) d
      + w (ix2 25 d) * E (n + 5) d + w (ix2 26 d) * E (n + 4) d + w (ix2 27 d) * E (n + 3) d
      + w (ix2 28 d) * E (n + 2) d + w (ix2 29 d) * E (n + 1) d + w (ix2 30 d) * E (n + 0) d := by
  simp only [da, Fin.sum_univ_castSucc, Finset.univ_eq_empty, Finset.sum_empty, zero_add]
  rfl

variable (m : (ℓ : Loc nD τ sig) → Buf (Elt Ideal) ℓ)

/-- Whether a point's following rows are those of another sequence, as the kernel computes it. -/
def lastBit (t : Fin cfg0.N) : BitVec 1 :=
  Scalar.cmpi CmpIPredicate.eq
    (Scalar.select
      (Scalar.andi
        (Scalar.xori
          (Scalar.cmpi CmpIPredicate.slt
            (Scalar.remsi (Scalar.muli (Scalar.addi (BitVec.ofNat 32 (grid0.coords t 0).val) 1#32) 256#32) 4096#32)
            0#32)
          0#1)
        (Scalar.cmpi CmpIPredicate.ne
          (Scalar.remsi (Scalar.muli (Scalar.addi (BitVec.ofNat 32 (grid0.coords t 0).val) 1#32) 256#32) 4096#32)
          0#32))
      (Scalar.addi
        (Scalar.remsi (Scalar.muli (Scalar.addi (BitVec.ofNat 32 (grid0.coords t 0).val) 1#32) 256#32) 4096#32)
        4096#32)
      (Scalar.remsi (Scalar.muli (Scalar.addi (BitVec.ofNat 32 (grid0.coords t 0).val) 1#32) 256#32) 4096#32))
    0#32

/-- The output gradient's rows a point reads: its own, then those that follow. -/
def extd (c : Dev nD) (t : Fin cfg0.N) : ℕ → Fin 512 → EReal :=
  tailed (k0_pay10 (iblk m c 4 t)) (k0_pay11 (lastBit t) (iblk m c 5 t))

/-- The input gradient of a point's row. -/
def daAt (c : Dev nD) (t : Fin cfg0.N) (r : Fin 256) (d : Fin 512) : EReal :=
  da (iblk m c 6 t) (extd m c t) r.val d

theorem dvdg_A (c : Dev nD) (t : Fin cfg0.N) (h : t.val % 32 = 0) (r : Fin 256) (d : Fin 512) :
    (outsAt0 m c t.val t.isLt).1 (ix2 r d) = daAt m c t r d * Ideal.logistic (iblk m c 1 t (ix2 (n0 := 256) (n1 := 512) r d))
      ∧ (outsAt0 m c t.val t.isLt).2.1 (ix2 r d)
        = daAt m c t r d * iblk m c 0 t (ix2 (n0 := 256) (n1 := 512) r d)
            * Ideal.logistic (iblk m c 1 t (ix2 (n0 := 256) (n1 := 512) r d))
          * (1 - Ideal.logistic (iblk m c 1 t (ix2 (n0 := 256) (n1 := 512) r d))) := by
  rw [outsAt0_A m c t h]
  frame_open
  simp (disch := decide) only [↓ View.readCov_skip, ↓ View.readCov_cons_toLoadRect]
  frame_out
  rw [daAt, extd, lastBit]
  generalize iblk m c 0 t = x0
  generalize iblk m c 1 t = x1
  generalize iblk m c 4 t = x4
  generalize iblk m c 5 t = x5
  generalize iblk m c 6 t = x6
  generalize k0_pay11 (F := Ideal) _ _ = p11
  generalize k0_pay10 (F := Ideal) _ = p10
  simp only [k0_pay19, k0_pay20, k0_pay21, k0_pay22, k0_pay23, k0_pay24, k0_pay25]
  simp (disch := omega) only [ld_tailed, ld_tailed_fst (q := p11)]
  simp (disch := omega) only [ld_copy, Nat.reduceAdd]
  rw [View.readCov_eq_canon_ld]
  · generalize tailed p10 p11 = E
    generalize hC : View.canon (Val := Elt Ideal) _ = C
    have hC' : C = fun y => da x6 E (y 0).val (y 1) := by
      rw [← hC]
      funext y
      canon_tiles x h
      all_goals
        open_payloads
        rw [eq_ix2 x]
        pointwise [rows_apply, slab_apply]
        rw [show y 1 = x 1 from Fin.ext h1, h0]
        try rw [Nat.add_comm _ (x 0).val]
        refine Eq.trans ?_ (da_eq _ _ _ _).symm
        try simp only [Nat.add_assoc, Nat.reduceAdd]
        rfl
    rw [hC']
    clear hC
    refine ⟨?_, ?_⟩
    · pointwise [k0_pay3, k0_pay2, k0_pay6]
    · pointwise [k0_pay4, k0_pay2, k0_pay6]
  · exact View.cover_of_tiledL _ ![32, 512] (by rfl)

theorem dvdg_B (c : Dev nD) (t : Fin cfg0.N) (h : t.val % 32 ≠ 0) (r : Fin 256) (d : Fin 512) :
    (outsAt0 m c t.val t.isLt).1 (ix2 r d) = daAt m c t r d * Ideal.logistic (iblk m c 1 t (ix2 (n0 := 256) (n1 := 512) r d))
      ∧ (outsAt0 m c t.val t.isLt).2.1 (ix2 r d)
        = daAt m c t r d * iblk m c 0 t (ix2 (n0 := 256) (n1 := 512) r d)
            * Ideal.logistic (iblk m c 1 t (ix2 (n0 := 256) (n1 := 512) r d))
          * (1 - Ideal.logistic (iblk m c 1 t (ix2 (n0 := 256) (n1 := 512) r d))) := by
  rw [outsAt0_B m c t h]
  frame_open
  simp (disch := decide) only [↓ View.readCov_skip, ↓ View.readCov_cons_toLoadRect]
  frame_out
  rw [daAt, extd, lastBit]
  generalize iblk m c 0 t = x0
  generalize iblk m c 1 t = x1
  generalize iblk m c 4 t = x4
  generalize iblk m c 5 t = x5
  generalize iblk m c 6 t = x6
  generalize k0_pay11 (F := Ideal) _ _ = p11
  generalize k0_pay10 (F := Ideal) _ = p10
  simp only [k0_pay19, k0_pay20, k0_pay21, k0_pay22, k0_pay23, k0_pay24, k0_pay25]
  simp (disch := omega) only [ld_tailed, ld_tailed_fst (q := p11)]
  simp (disch := omega) only [ld_copy, Nat.reduceAdd]
  rw [View.readCov_eq_canon_ld]
  · generalize tailed p10 p11 = E
    generalize hC : View.canon (Val := Elt Ideal) _ = C
    have hC' : C = fun y => da x6 E (y 0).val (y 1) := by
      rw [← hC]
      funext y
      canon_tiles x h
      all_goals
        open_payloads
        rw [eq_ix2 x]
        pointwise [rows_apply, slab_apply]
        rw [show y 1 = x 1 from Fin.ext h1, h0]
        try rw [Nat.add_comm _ (x 0).val]
        refine Eq.trans ?_ (da_eq _ _ _ _).symm
        try simp only [Nat.add_assoc, Nat.reduceAdd]
        rfl
    rw [hC']
    clear hC
    refine ⟨?_, ?_⟩
    · pointwise [k0_pay3, k0_pay2, k0_pay6]
    · pointwise [k0_pay4, k0_pay2, k0_pay6]
  · exact View.cover_of_tiledL _ ![32, 512] (by rfl)

end Cert.Taps

end
-- ==== Proof.TapsRows.lean ====
/- The sums behind one point's addition to the taps' gradient, and the reading of stored rows. -/
module

public import proofs.«01_k».proof.Proof.TapsBuf
public import Idealize.ShloMosaic.Lib.WritesUnit

@[expose] public section

set_option maxRecDepth 16384
set_option maxHeartbeats 0

noncomputable section

namespace Cert.Taps

open Cert.KernelIdeal Cert.KernelIdeal.Gen Idealize.ShloMosaic Idealize.ShloMosaic.TcCoe Idealize.SL.Sem

/-- A point's gradient of tap `k`: its rows of the output gradient against the input's rows the tap reaches. -/
def dw (E : ℕ → Fin 512 → EReal) (x : Vec Ideal S256x512 .f32) (k : ℕ) (d : Fin 512) : EReal :=
  ∑ a : Fin 256, E (a.val + (k + 2)) d * x (ix2 (n0 := 256) a d)

/-- The same as the kernel sums it: eight partial sums over the blocks of eight rows. -/
theorem dw_eq (E : ℕ → Fin 512 → EReal) (x : Vec Ideal S256x512 .f32) (k : ℕ) (d : Fin 512) :
    ∑ s : Fin 8, (
        E (s.val + (k + 2)) d * x (ix2 (n0 := 256) ⟨s.val, by omega⟩ d)
        + E (s.val + (k + 10)) d * x (ix2 (n0 := 256) ⟨8 + s.val, by omega⟩ d)
        + E (s.val + (k + 18)) d * x (ix2 (n0 := 256) ⟨16 + s.val, by omega⟩ d)
        + E (s.val + (k + 26)) d * x (ix2 (n0 := 256) ⟨24 + s.val, by omega⟩ d)
        + E (s.val + (k + 34)) d * x (ix2 (n0 := 256) ⟨32 + s.val, by omega⟩ d)
        + E (s.val + (k + 42)) d * x (ix2 (n0 := 256) ⟨40 + s.val, by omega⟩ d)
        + E (s.val + (k + 50)) d * x (ix2 (n0 := 256) ⟨48 + s.val, by omega⟩ d)
        + E (s.val + (k + 58)) d * x (ix2 (n0 := 256) ⟨56 + s.val, by omega⟩ d)
        + E (s.val + (k + 66)) d * x (ix2 (n0 := 256) ⟨64 + s.val, by omega⟩ d)
        + E (s.val + (k + 74)) d * x (ix2 (n0 := 256) ⟨72 + s.val, by omega⟩ d)
        + E (s.val + (k + 82)) d * x (ix2 (n0 := 256) ⟨80 + s.val, by omega⟩ d)
        + E (s.val + (k + 90)) d * x (ix2 (n0 := 256) ⟨88 + s.val, by omega⟩ d)
        + E (s.val + (k + 98)) d * x (ix2 (n0 := 256) ⟨96 + s.val, by omega⟩ d)
        + E (s.val + (k + 106)) d * x (ix2 (n0 := 256) ⟨104 + s.val, by omega⟩ d)
        + E (s.val + (k + 114)) d * x (ix2 (n0 := 256) ⟨112 + s.val, by omega⟩ d)
        + E (s.val + (k + 122)) d * x (ix2 (n0 := 256) ⟨120 + s.val, by omega⟩ d)
        + E (s.val + (k + 130)) d * x (ix2 (n0 := 256) ⟨128 + s.val, by omega⟩ d)
        + E (s.val + (k + 138)) d * x (ix2 (n0 := 256) ⟨136 + s.val, by omega⟩ d)
        + E (s.val + (k + 146)) d * x (ix2 (n0 := 256) ⟨144 + s.val, by omega⟩ d)
        + E (s.val + (k + 154)) d * x (ix2 (n0 := 256) ⟨152 + s.val, by omega⟩ d)
        + E (s.val + (k + 162)) d * x (ix2 (n0 := 256) ⟨160 + s.val, by omega⟩ d)
        + E (s.val + (k + 170)) d * x (ix2 (n0 := 256) ⟨168 + s.val, by omega⟩ d)
        + E (s.val + (k + 178)) d * x (ix2 (n0 := 256) ⟨176 + s.val, by omega⟩ d)
        + E (s.val + (k + 186)) d * x (ix2 (n0 := 256) ⟨184 + s.val, by omega⟩ d)
        + E (s.val + (k + 194)) d * x (ix2 (n0 := 256) ⟨192 + s.val, by omega⟩ d)
        + E (s.val + (k + 202)) d * x (ix2 (n0 := 256) ⟨200 + s.val, by omega⟩ d)
        + E (s.val + (k + 210)) d * x (ix2 (n0 := 256) ⟨208 + s.val, by omega⟩ d)
        + E (s.val + (k + 218)) d * x (ix2 (n0 := 256) ⟨216 + s.val, by omega⟩ d)
        + E (s.val + (k + 226)) d * x (ix2 (n0 := 256) ⟨224 + s.val, by omega⟩ d)
        + E (s.val + (k + 234)) d * x (ix2 (n0 := 256) ⟨232 + s.val, by omega⟩ d)
        + E (s.val + (k + 242)) d * x (ix2 (n0 := 256) ⟨240 + s.val, by omega⟩ d)
        + E (s.val + (k + 250)) d * x (ix2 (n0 := 256) ⟨248 + s.val, by omega⟩ d))
      = dw E x k d := by
  refine Eq.trans ?_ (Fin.sum_mul_add_congr (S := 32) (n := 8)
    (F := fun b s => E (s.val + (k + (b.val * 8 + 2))) d * x (ix2 (n0 := 256) ⟨b.val * 8 + s.val, by omega⟩ d)) ?_)
  · rw [Finset.sum_comm]
    refine Finset.sum_congr rfl fun s _ => ?_
    simp only [Fin.sum_univ_castSucc, Finset.univ_eq_empty, Finset.sum_empty, zero_add, Fin.val_castSucc, Fin.val_last,
      Nat.reduceMul, Nat.reduceAdd, Nat.zero_add, Nat.zero_mul]
  · intro b s hl
    rw [show s.val + (k + (b.val * 8 + 2)) = b.val * 8 + s.val + (k + 2) by omega]

/-- A point's addition to row `k` of the taps' gradient: nothing for the row past the last tap. -/
def dwRow (E : ℕ → Fin 512 → EReal) (x : Vec Ideal S256x512 .f32) (k : ℕ) (d : Fin 512) : EReal :=
  if k < 31 then dw E x k d else 0

theorem emb_row {k : ℕ} {inb} (x : S1x512.Idx) (h : k < 32) :
    (Rect.unit (s := S32x512) ![k, 0] ![1, 512] inb).emb x = ix2 (n0 := 32) (n1 := 512) ⟨k, h⟩ (x 1) := by
  funext a
  match a with
  | ⟨0, _⟩ => exact Fin.ext (show k + 1 * (x 0).val = k by have : (x 0).val < 1 := (x 0).isLt; omega)
  | ⟨1, _⟩ => exact Fin.ext (show 0 + 1 * (x 1).val = (x 1).val by omega)

theorem row_mem {k : ℕ} {inb} {y : S32x512.Idx} (h : y ∉ (Rect.unit (s := S32x512) ![k, 0] ![1, 512] inb).set) :
    (y 0).val ≠ k := fun e => h <| Rect.mem_set_unit.mpr fun a => by
  match a with
  | ⟨0, _⟩ => exact (show k ≤ (y 0).val ∧ (y 0).val < k + 1 by omega)
  | ⟨1, _⟩ => exact (show 0 ≤ (y 1).val ∧ (y 1).val < 0 + 512 from ⟨Nat.zero_le _, by have : (y 1).val < 512 := (y 1).isLt; omega⟩)

/-- One stored row over earlier stores, read at an index: the row, or what was there. -/
theorem canon_row {k : ℕ} {inb} {w : S1x512.Idx → Elt Ideal .f32} {L : List (View.Piece (Elt Ideal) S32x512 .f32)}
    {y : S32x512.Idx} {G : Vec Ideal S32x512 .f32} (hk : k < 32)
    (hw : ∀ x, w x = G (ix2 (n0 := 32) (n1 := 512) ⟨k, hk⟩ (x 1))) (hL : (y 0).val ≠ k → View.canon L y = G y) :
    View.canon (⟨Rect.unit (s := S32x512) ![k, 0] ![1, 512] inb, w⟩ :: L) y = G y := by
  by_cases h : y ∈ (Rect.unit (s := S32x512) ![k, 0] ![1, 512] inb).set
  · obtain ⟨x, rfl⟩ : ∃ x, (Rect.unit (s := S32x512) ![k, 0] ![1, 512] inb).emb x = y := (Rect.unit (s := S32x512) ![k, 0] ![1, 512] inb).exists_idx_of_mem h
    exact (View.canon_cons_emb _ _ _ _).trans ((hw x).trans (by rw [emb_row x hk]))
  · exact (View.canon_cons_of_not_mem _ _ h).trans (hL (row_mem h))

/-- The same over contents carried from before. -/
theorem read_row {κ : Kind} {sp : Space} {v : View sig κ sp S32x512 .f32} {f : v.ty.Contents (Elt Ideal)} {k : ℕ} {inb}
    {w : S1x512.Idx → Elt Ideal .f32} {L : List (View.Piece (Elt Ideal) S32x512 .f32)}
    {y : S32x512.Idx} {G : Vec Ideal S32x512 .f32} (hk : k < 32)
    (hw : ∀ x, w x = G (ix2 (n0 := 32) (n1 := 512) ⟨k, hk⟩ (x 1)))
    (hL : (y 0).val ≠ k → v.read (Elt Ideal) (v.writes (Elt Ideal) f L) y = G y) :
    v.read (Elt Ideal) (v.writes (Elt Ideal) f (⟨Rect.unit (s := S32x512) ![k, 0] ![1, 512] inb, w⟩ :: L)) y = G y := by
  by_cases h : y ∈ (Rect.unit (s := S32x512) ![k, 0] ![1, 512] inb).set
  · rw [View.read_writes_apply_eq_canon v f y _ ⟨_, List.mem_cons_self, h⟩]
    exact canon_row hk hw fun hn => absurd h fun hm => by
      have := (Rect.mem_set_unit.mp hm) 0
      have h0 : k ≤ (y 0).val ∧ (y 0).val < k + 1 := this
      omega
  · exact (View.read_writes_cons_rows_of_not_mem v f inb w L y rfl rfl (by have := row_mem h; show (y 0).val < k ∨ k + 1 ≤ (y 0).val; omega)).trans (hL (row_mem h))

end Cert.Taps

end
-- ==== Proof.TapsDw.lean ====
/- What one point of the convolution's gradient adds to the taps' gradient. -/
module

public import proofs.«01_k».proof.Proof.TapsRows

@[expose] public section

set_option maxRecDepth 16384
set_option maxHeartbeats 0

noncomputable section

namespace Cert.Taps

open Cert.KernelIdeal Cert.KernelIdeal.Gen Idealize.ShloMosaic Idealize.ShloMosaic.TcCoe Idealize.SL.Sem

variable (m : (ℓ : Loc nD τ sig) → Buf (Elt Ideal) ℓ)

/-- Whether a point's preceding rows are those of another sequence, as the kernel computes it. -/
def firstBit (t : Fin cfg0.N) : BitVec 1 :=
  Scalar.cmpi CmpIPredicate.eq
    (Scalar.select
      (Scalar.andi
        (Scalar.xori
          (Scalar.cmpi CmpIPredicate.slt
            (Scalar.remsi (Scalar.muli (BitVec.ofNat 32 (grid0.coords t 0).val) 256#32) 4096#32) 0#32)
          0#1)
        (Scalar.cmpi CmpIPredicate.ne
          (Scalar.remsi (Scalar.muli (BitVec.ofNat 32 (grid0.coords t 0).val) 256#32) 4096#32) 0#32))
      (Scalar.addi (Scalar.remsi (Scalar.muli (BitVec.ofNat 32 (grid0.coords t 0).val) 256#32) 4096#32) 4096#32)
      (Scalar.remsi (Scalar.muli (BitVec.ofNat 32 (grid0.coords t 0).val) 256#32) 4096#32))
    0#32

/-- The convolution's input rows a point reads: those that precede, then its own. -/
def exta (c : Dev nD) (t : Fin cfg0.N) : ℕ → Fin 512 → EReal :=
  headed (k0_pay9 (firstBit t) (iblk m c 2 t) (iblk m c 3 t)) (k0_pay8 (k0_pay7 (iblk m c 1 t) (iblk m c 0 t)))

set_option pp.maxSteps 150
theorem dw_A (c : Dev nD) (t : Fin cfg0.N) (h : t.val % 32 = 0) (r : Fin 32) (d : Fin 512) :
    (outsAt0 m c t.val t.isLt).2.2 (ix2 r d) = dwRow (exta m c t) (iblk m c 4 t) r.val d := by
  rw [outsAt0_A m c t h]
  frame_open
  simp (disch := decide) only [↓ View.readCov_skip, ↓ View.readCov_cons_toLoadRect, ↓ View.readCov_fill]
  frame_out
  rw [exta, firstBit]
  generalize iblk m c 0 t = x0
  generalize iblk m c 1 t = x1
  generalize iblk m c 2 t = x2
  generalize iblk m c 3 t = x3
  generalize iblk m c 4 t = x4
  generalize k0_pay9 (F := Ideal) _ _ _ = p9
  generalize k0_pay8 (F := Ideal) _ = p8
  simp only [k0_pay12, k0_pay13, k0_pay14, k0_pay15, k0_pay16, k0_pay17, k0_pay18]
  simp (disch := omega) only [ld_headed, ld_headed_snd (q := p9)]
  simp (disch := omega) only [ld_copy, Nat.reduceAdd]
  generalize headed p9 p8 = E
  iterate 31
    refine canon_row (G := fun y => dwRow E x4 (y 0).val (y 1)) (by decide) ?_ fun _ => ?_
    rotate_left
  · have hr : r.val < 32 := r.isLt
    have hd : dwRow E x4 r.val d = 0 := if_neg fun hlt => by
      have : r.val ≠ 30 ∧ r.val ≠ 29 ∧ r.val ≠ 28 ∧ r.val ≠ 27 ∧ r.val ≠ 26 ∧ r.val ≠ 25 ∧ r.val ≠ 24 ∧ r.val ≠ 23
          ∧ r.val ≠ 22 ∧ r.val ≠ 21 ∧ r.val ≠ 20 ∧ r.val ≠ 19 ∧ r.val ≠ 18 ∧ r.val ≠ 17 ∧ r.val ≠ 16 ∧ r.val ≠ 15
          ∧ r.val ≠ 14 ∧ r.val ≠ 13 ∧ r.val ≠ 12 ∧ r.val ≠ 11 ∧ r.val ≠ 10 ∧ r.val ≠ 9 ∧ r.val ≠ 8 ∧ r.val ≠ 7
          ∧ r.val ≠ 6 ∧ r.val ≠ 5 ∧ r.val ≠ 4 ∧ r.val ≠ 3 ∧ r.val ≠ 2 ∧ r.val ≠ 1 ∧ r.val ≠ 0 := by
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> assumption
      omega
    have e : (ix2 r d : S32x512.Idx) = (Rect.unit (s := S32x512) ![0, 0] ![32, 512] inb_S32x512_S32x512_0_0).emb (ix2 r d) := by
      funext a
      match a with
      | ⟨0, _⟩ => exact Fin.ext (show r.val = 0 + 1 * r.val by omega)
      | ⟨1, _⟩ => exact Fin.ext (show d.val = 0 + 1 * d.val by omega)
    refine Eq.trans ?_ hd.symm
    rw [e, View.canon_cons_emb]
    pointwise [k0_pay5]
  all_goals
    intro x
    rw [eq_ix2 x]
    open_payloads
    pointwise [rows_apply, slab_apply]
    exact (dw_eq E x4 _ (x 1)).trans (if_pos (by decide)).symm

theorem dw_B (c : Dev nD) (t : Fin cfg0.N) (h : t.val % 32 ≠ 0) (r : Fin 32) (d : Fin 512) :
    (outsAt0 m c t.val t.isLt).2.2 (ix2 r d) = (outsAt0 m c (t.val - 1) (Nat.lt_of_le_of_lt (Nat.sub_le _ _) t.isLt)).2.2 (ix2 r d)
      + dwRow (exta m c t) (iblk m c 4 t) r.val d := by
  rw [outsAt0_B m c t h]
  frame_open
  simp (disch := decide) only [↓ View.readCov_skip, ↓ View.readCov_cons_toLoadRect, ↓ View.readCov_fill]
  frame_out
  rw [exta, firstBit]
  generalize iblk m c 0 t = x0
  generalize iblk m c 1 t = x1
  generalize iblk m c 2 t = x2
  generalize iblk m c 3 t = x3
  generalize iblk m c 4 t = x4
  generalize k0_pay9 (F := Ideal) _ _ _ = p9
  generalize k0_pay8 (F := Ideal) _ = p8
  simp only [k0_pay12, k0_pay13, k0_pay14, k0_pay15, k0_pay16, k0_pay17, k0_pay18]
  simp (disch := omega) only [ld_headed, ld_headed_snd (q := p9)]
  simp (disch := omega) only [ld_copy, Nat.reduceAdd]
  generalize headed p9 p8 = E
  generalize (outsAt0 m c (t.val - 1) _).2.2 = X
  iterate 31
    refine read_row (G := fun y => X y + dwRow E x4 (y 0).val (y 1)) (by decide) ?_ fun _ => ?_
    rotate_left
  · have hr : r.val < 32 := r.isLt
    have hd : dwRow E x4 r.val d = 0 := if_neg fun hlt => by
      have : r.val ≠ 30 ∧ r.val ≠ 29 ∧ r.val ≠ 28 ∧ r.val ≠ 27 ∧ r.val ≠ 26 ∧ r.val ≠ 25 ∧ r.val ≠ 24 ∧ r.val ≠ 23
          ∧ r.val ≠ 22 ∧ r.val ≠ 21 ∧ r.val ≠ 20 ∧ r.val ≠ 19 ∧ r.val ≠ 18 ∧ r.val ≠ 17 ∧ r.val ≠ 16 ∧ r.val ≠ 15
          ∧ r.val ≠ 14 ∧ r.val ≠ 13 ∧ r.val ≠ 12 ∧ r.val ≠ 11 ∧ r.val ≠ 10 ∧ r.val ≠ 9 ∧ r.val ≠ 8 ∧ r.val ≠ 7
          ∧ r.val ≠ 6 ∧ r.val ≠ 5 ∧ r.val ≠ 4 ∧ r.val ≠ 3 ∧ r.val ≠ 2 ∧ r.val ≠ 1 ∧ r.val ≠ 0 := by
        refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> assumption
      omega
    refine Eq.trans ?_ (congrArg (X (ix2 r d) + ·) hd.symm)
    rw [View.writes_nil, Memref.IsWhole.read_unread]
    exact (add_zero _).symm
  all_goals
    intro x
    rw [eq_ix2 x]
    open_payloads
    pointwise [rows_apply, slab_apply]
    exact congrArg (_ + ·) ((dw_eq E x4 _ (x 1)).trans (if_pos (by decide)).symm)

end Cert.Taps

end
-- ==== Proof.TapsKernel.lean ====
/- What the convolution's gradient leaves in its three result arrays: the value's and the gate's gradient row by row,
   and the taps' gradient summed over the rows. A row's neighbours past its sequence's ends count as zero. -/
module

public import proofs.«01_k».proof.Proof.TapsDv
public import proofs.«01_k».proof.Proof.TapsDw
public import Idealize.ShloMosaic.Lib.Claim

@[expose] public section

set_option maxRecDepth 16384
set_option maxHeartbeats 0

noncomputable section

namespace Cert.Taps

open Cert.KernelIdeal Cert.KernelIdeal.Gen Idealize.ShloMosaic Idealize.ShloMosaic.TcCoe Idealize.SL.Sem

/-! ## The mathematics, over any arrays -/

section Math

variable (proj : S8192x1536.Idx → EReal) (dc : S8192x512.Idx → EReal) (w : S1x31x512.Idx → EReal)

/-- The value half of a row. -/
def val (R : Fin 8192) (d : Fin 512) : EReal := proj (ix2 (n1 := 1536) R ⟨d.val, by omega⟩)

/-- The logistic function of a row's gate half. -/
def gate (R : Fin 8192) (d : Fin 512) : EReal := Ideal.logistic (proj (ix2 (n1 := 1536) R ⟨512 + d.val, by omega⟩))

/-- The convolution's input. -/
def inp (R : Fin 8192) (d : Fin 512) : EReal := val proj R d * gate proj R d

/-- The output gradient `j` rows after row `R`, zero past the end of its sequence. -/
def after (R : Fin 8192) (j : ℕ) (d : Fin 512) : EReal :=
  if h : R.val % 4096 + j < 4096 then dc (ix2 (n0 := 8192) ⟨R.val + j, by omega⟩ d) else 0

/-- The convolution's input `j` rows before row `R`, zero before the start of its sequence. -/
def before (R : Fin 8192) (j : ℕ) (d : Fin 512) : EReal :=
  if j ≤ R.val % 4096 then inp proj ⟨R.val - j, by omega⟩ d else 0

/-- The gradient of the convolution's input. -/
def dinp (R : Fin 8192) (d : Fin 512) : EReal :=
  ∑ k : Fin 31, w (ix3 (n0 := 1) (n1 := 31) 0 k d) * after dc R (30 - k.val) d

/-- The value's gradient. -/
def dval : S8192x512.Idx → EReal := fun i => dinp dc w (i 0) (i 1) * gate proj (i 0) (i 1)

/-- The gate's gradient. -/
def dgate : S8192x512.Idx → EReal := fun i =>
  dinp dc w (i 0) (i 1) * val proj (i 0) (i 1) * gate proj (i 0) (i 1) * (1 - gate proj (i 0) (i 1))

/-- The taps' gradient, with a last row of zeros. -/
def dtap : S32x512.Idx → EReal := fun i =>
  if (i 0).val < 31 then ∑ R : Fin 8192, before proj R (30 - (i 0).val) (i 1) * dc (ix2 R (i 1)) else 0

end Math

/-! ## The blocks a point reads -/

variable (m : (ℓ : Loc nD τ sig) → Buf (Elt Ideal) ℓ)

abbrev proj (c : Dev nD) : S8192x1536.Idx → EReal := m ((c : Thread nD τ).loc main_arg0)
abbrev dc (c : Dev nD) : S8192x512.Idx → EReal := m ((c : Thread nD τ).loc main_arg1)
abbrev wt (c : Dev nD) : S1x31x512.Idx → EReal := m ((c : Thread nD τ).loc main_arg2)

theorem idx : ∀ t : Fin cfg0.N, win0_0.index t = ![t.val, 0] ∧ win0_1.index t = ![t.val, 1]
    ∧ win0_2.index t = ![t.val * 8 - 1, 0] ∧ win0_3.index t = ![t.val * 8 - 1, 1] ∧ win0_4.index t = ![t.val, 0]
    ∧ win0_5.index t = ![min ((t.val + 1) * 8) 255, 0] ∧ win0_6.index t = ![0, 0] ∧ win0_7.index t = ![t.val, 0]
    ∧ win0_8.index t = ![t.val, 0] ∧ win0_9.index t = ![0, 0] := by decide +kernel

theorem lastBit_eq : ∀ t : Fin cfg0.N, lastBit t = if t.val % 16 = 15 then 1#1 else 0#1 := by decide +kernel

theorem firstBit_eq : ∀ t : Fin cfg0.N, firstBit t = if t.val % 16 = 0 then 1#1 else 0#1 := by decide +kernel

theorem lt_N (t : Fin cfg0.N) : t.val < 32 := lt_of_lt_of_eq t.isLt N_0

/-- Row `r` of the row block of point `t`. -/
abbrev row (t : Fin cfg0.N) (r : Fin 256) : Fin 8192 := ⟨t.val * 256 + r.val, by have := lt_N t; omega⟩

theorem block0 (c : Dev nD) (t : Fin cfg0.N) (r : Fin 256) (d : Fin 512) :
    (iblk m c 0 t : Vec Ideal S256x512 .f32) (ix2 r d) = val (proj m c) (row t r) d := by
  rw [val]; blk_ext [iblk, V_main_arg0, idx t]
theorem block1 (c : Dev nD) (t : Fin cfg0.N) (r : Fin 256) (d : Fin 512) :
    (iblk m c 1 t : Vec Ideal S256x512 .f32) (ix2 r d) = proj m c (ix2 (n1 := 1536) (row t r) ⟨512 + d.val, by omega⟩) := by
  blk_ext [iblk, V_main_arg0, idx t]
theorem block2 (c : Dev nD) (t : Fin cfg0.N) (h : t.val ≠ 0) (n : Fin 32) (d : Fin 512) :
    (iblk m c 2 t : Vec Ideal S32x512 .f32) (ix2 n d)
      = val (proj m c) ⟨t.val * 256 + n.val - 32, by have := lt_N t; omega⟩ d := by
  rw [val]; blk_ext [iblk, V_main_arg0, idx t]
theorem block3 (c : Dev nD) (t : Fin cfg0.N) (h : t.val ≠ 0) (n : Fin 32) (d : Fin 512) :
    (iblk m c 3 t : Vec Ideal S32x512 .f32) (ix2 n d)
      = proj m c (ix2 (n0 := 8192) (n1 := 1536) ⟨t.val * 256 + n.val - 32, by have := lt_N t; omega⟩ ⟨512 + d.val, by omega⟩) := by
  blk_ext [iblk, V_main_arg0, idx t]
theorem block4 (c : Dev nD) (t : Fin cfg0.N) (r : Fin 256) (d : Fin 512) :
    (iblk m c 4 t : Vec Ideal S256x512 .f32) (ix2 r d) = dc m c (ix2 (row t r) d) := by
  blk_ext [iblk, V_main_arg1, idx t]
theorem block5 (c : Dev nD) (t : Fin cfg0.N) (h : t.val ≠ 31) (n : Fin 32) (d : Fin 512) :
    (iblk m c 5 t : Vec Ideal S32x512 .f32) (ix2 n d)
      = dc m c (ix2 (n0 := 8192) ⟨(t.val + 1) * 256 + n.val, by have := lt_N t; omega⟩ d) := by
  have := lt_N t
  blk_ext [iblk, V_main_arg1, idx t]
theorem block6 (c : Dev nD) (t : Fin cfg0.N) (k : Fin 31) (d : Fin 512) :
    (iblk m c 6 t : Vec Ideal S32x512 .f32) (ix2 (n0 := 32) ⟨k.val, by omega⟩ d) = wt m c (ix3 0 k d) := by
  have e : (iblk m c 6 t : Vec Ideal S32x512 .f32) (ix2 (n0 := 32) ⟨k.val, by omega⟩ d)
      = V m c main_v1 (ix2 (n0 := 32) ⟨k.val, by omega⟩ d) := by
    blk_ext [iblk, idx t]
  rw [e]
  have e2 : V m c main_v1 = pad S32x512 ![0, 0] ![1, 0] ![0, 0] (shapeCast S31x512 (wt m c) shapeCasts_S1x31x512_S31x512)
      (sitofp (F := Ideal) .f32 (constantI S_ 32 0#32)) pads_S31x512_S32x512_010_000 h_S_ := by
    unfold_abbrev_sides
    simp only [List.flatten_cons, List.flatten_nil, List.append_nil, List.cons_append, List.nil_append]
    after_results
    rfl
  rw [e2]
  pointwise

/-! ## What the rows of a point's two buffers hold -/

theorem pay11_apply (b : BitVec 1) (x : Vec Ideal S32x512 .f32) (n : Fin 32) (d : Fin 512) :
    k0_pay11 (F := Ideal) b x (ix2 n d) = x (ix2 n d) * Scalar.select b 0 1 := by
  pointwise [k0_pay11]

theorem pay9_apply (b : BitVec 1) (x y : Vec Ideal S32x512 .f32) (n : Fin 32) (d : Fin 512) :
    k0_pay9 (F := Ideal) b x y (ix2 n d) = x (ix2 n d) * Ideal.logistic (y (ix2 n d)) * Scalar.select b 0 1 := by
  pointwise [k0_pay9]

theorem pay10_apply (x : Vec Ideal S256x512 .f32) (r : Fin 256) (d : Fin 512) :
    k0_pay10 (F := Ideal) x (ix2 r d) = x (ix2 r d) := by
  pointwise [k0_pay10]

theorem pay8_apply (x y : Vec Ideal S256x512 .f32) (r : Fin 256) (d : Fin 512) :
    k0_pay8 (F := Ideal) (k0_pay7 x y) (ix2 r d) = y (ix2 r d) * Ideal.logistic (x (ix2 r d)) := by
  pointwise [k0_pay8, k0_pay7, k0_pay6]

theorem extd_eq (c : Dev nD) (t : Fin cfg0.N) (r : Fin 256) {j : ℕ} (hj : j ≤ 30) (d : Fin 512) :
    extd m c t (r.val + j) d = after (dc m c) (row t r) j d := by
  have ht := lt_N t
  rw [extd, after]
  by_cases h : r.val + j < 256
  · rw [tailed_lt _ _ h, pay10_apply, block4, dif_pos (by show (t.val * 256 + r.val) % 4096 + j < 4096; omega)]
    congr 2
    exact Fin.ext (show t.val * 256 + (r.val + j) = t.val * 256 + r.val + j by omega)
  · rw [tailed_ge _ _ h (by omega), pay11_apply, lastBit_eq]
    by_cases hl : t.val % 16 = 15
    · rw [if_pos hl, dif_neg (by show ¬ (t.val * 256 + r.val) % 4096 + j < 4096; omega)]
      exact mul_zero _
    · rw [if_neg hl, block5 m c t (by omega), dif_pos (by show (t.val * 256 + r.val) % 4096 + j < 4096; omega)]
      refine (mul_one _).trans ?_
      congr 2
      exact Fin.ext (show (t.val + 1) * 256 + (r.val + j - 256) = t.val * 256 + r.val + j by omega)

theorem exta_eq (c : Dev nD) (t : Fin cfg0.N) (r : Fin 256) {k : ℕ} (hk : k < 31) (d : Fin 512) :
    exta m c t (r.val + (k + 2)) d = before (proj m c) (row t r) (30 - k) d := by
  have ht := lt_N t
  rw [exta, before]
  by_cases h : r.val + (k + 2) < 32
  · rw [headed_lt _ _ h, pay9_apply, firstBit_eq]
    by_cases hl : t.val % 16 = 0
    · rw [if_pos hl, if_neg (by show ¬ 30 - k ≤ (t.val * 256 + r.val) % 4096; omega)]
      exact mul_zero _
    · rw [if_neg hl, block2 m c t (by omega), block3 m c t (by omega),
        if_pos (by show 30 - k ≤ (t.val * 256 + r.val) % 4096; omega)]
      refine (mul_one _).trans ?_
      have e : (⟨t.val * 256 + (r.val + (k + 2)) - 32, by omega⟩ : Fin 8192) = ⟨(row t r).val - (30 - k), by omega⟩ :=
        Fin.ext (show t.val * 256 + (r.val + (k + 2)) - 32 = t.val * 256 + r.val - (30 - k) by omega)
      rw [inp, ← e]
      rfl
  · rw [headed_ge _ _ h (by omega), pay8_apply, block0, block1, if_pos (by show 30 - k ≤ (t.val * 256 + r.val) % 4096; omega)]
    have e : row t ⟨r.val + (k + 2) - 32, by omega⟩ = (⟨(row t r).val - (30 - k), by omega⟩ : Fin 8192) :=
      Fin.ext (show t.val * 256 + (r.val + (k + 2) - 32) = t.val * 256 + r.val - (30 - k) by omega)
    rw [inp, ← e]
    rfl

theorem daAt_eq (c : Dev nD) (t : Fin cfg0.N) (r : Fin 256) (d : Fin 512) :
    daAt m c t r d = dinp (dc m c) (wt m c) (row t r) d := by
  rw [daAt, da, dinp]
  refine Finset.sum_congr rfl fun k _ => ?_
  rw [block6, extd_eq m c t r (by omega)]

theorem dwRow_eq (c : Dev nD) (t : Fin cfg0.N) (k : Fin 32) (d : Fin 512) :
    dwRow (exta m c t) (iblk m c 4 t) k.val d
      = if k.val < 31 then ∑ r : Fin 256, before (proj m c) (row t r) (30 - k.val) d * dc m c (ix2 (row t r) d) else 0 := by
  rw [dwRow]
  by_cases h : k.val < 31
  · rw [if_pos h, if_pos h, dw]
    refine Finset.sum_congr rfl fun r _ => ?_
    rw [exta_eq m c t r h, block4]
  · rw [if_neg h, if_neg h]

/-! ## The three result arrays -/

theorem emb7 (t : Fin cfg0.N) (r : Fin 256) (d : Fin 512) : ((cfg0.win 7).blk t).view.emb (ix2 r d) = ix2 (row t r) d := by
  blk_ext [idx t]
theorem emb8 (t : Fin cfg0.N) (r : Fin 256) (d : Fin 512) : ((cfg0.win 8).blk t).view.emb (ix2 r d) = ix2 (row t r) d := by
  blk_ext [idx t]

theorem dvdg (c : Dev nD) (t : Fin cfg0.N) (r : Fin 256) (d : Fin 512) :
    (outsAt0 m c t.val t.isLt).1 (ix2 r d) = dval (proj m c) (dc m c) (wt m c) (ix2 (row t r) d)
      ∧ (outsAt0 m c t.val t.isLt).2.1 (ix2 r d) = dgate (proj m c) (dc m c) (wt m c) (ix2 (row t r) d) := by
  by_cases h : t.val % 32 = 0
  · rw [(dvdg_A m c t h r d).1, (dvdg_A m c t h r d).2, daAt_eq, block0, block1]
    exact ⟨rfl, rfl⟩
  · rw [(dvdg_B m c t h r d).1, (dvdg_B m c t h r d).2, daAt_eq, block0, block1]
    exact ⟨rfl, rfl⟩

/-- The value's gradient after the run. -/
theorem final7 (c : Dev nD) : (dats m 0 c).arrAt 7 cfg0.N = dval (proj m c) (dc m c) (wt m c) := by
  refine (dats m 0 c).arrAt_eq_of_covers 7 _ (by decide +kernel) fun t hf y => ?_
  obtain ⟨r, d, rfl⟩ : ∃ (r : Fin 256) (d : Fin 512), y = ix2 r d := ⟨y 0, y 1, eq_ix2 y⟩
  rw [emb7, after0_7]
  exact (dvdg m c t r d).1

/-- The gate's gradient after the run. -/
theorem final8 (c : Dev nD) : (dats m 0 c).arrAt 8 cfg0.N = dgate (proj m c) (dc m c) (wt m c) := by
  refine (dats m 0 c).arrAt_eq_of_covers 8 _ (by decide +kernel) fun t hf y => ?_
  obtain ⟨r, d, rfl⟩ : ∃ (r : Fin 256) (d : Fin 512), y = ix2 r d := ⟨y 0, y 1, eq_ix2 y⟩
  rw [emb8, after0_8]
  exact (dvdg m c t r d).2

/-- What a point adds to the taps' gradient. -/
def part (c : Dev nD) (t : Fin cfg0.N) (i : S32x512.Idx) : EReal := dwRow (exta m c t) (iblk m c 4 t) (i 0).val (i 1)

/-- The taps' gradient after the run. -/
theorem final9 (c : Dev nD) : (dats m 0 c).arrAt 9 cfg0.N = dtap (proj m c) (dc m c) := by
  refine (dats m 0 c).arrAt_eq_of_covers 9 _ (by decide +kernel) fun t hf y => ?_
  have hN : cfg0.N = 32 := N_0
  have e : ((cfg0.win 9).blk t).view.emb y = y := by blk_ext [idx t]
  rw [e, after0_9, Pipeline.eq_sum_fin_of_reset_step_apply_of_flush (fun n h => (outsAt0 m c n h).2.2) 32 (fun _ => 0) (part m c)
    (fun t h i => by
      obtain ⟨k, d, rfl⟩ : ∃ (k : Fin 32) (d : Fin 512), i = ix2 k d := ⟨i 0, i 1, eq_ix2 i⟩
      rw [dw_A m c t h, zero_add]; rfl)
    (fun t h i => by
      obtain ⟨k, d, rfl⟩ : ∃ (k : Fin 32) (d : Fin 512), i = ix2 k d := ⟨i 0, i 1, eq_ix2 i⟩
      rw [dw_B m c t h]; rfl) t ((flush0_9 t).mp hf) y, zero_add]
  obtain ⟨k, d, rfl⟩ : ∃ (k : Fin 32) (d : Fin 512), y = ix2 k d := ⟨y 0, y 1, eq_ix2 y⟩
  have hlt : t.val < 32 := lt_N t
  have ht : t.val / 32 = 0 := by omega
  show ∑ s : Fin 32, dwRow (exta m c _) (iblk m c 4 _) k.val d
    = if k.val < 31 then ∑ R : Fin 8192, before (proj m c) R (30 - k.val) d * dc m c (ix2 R d) else 0
  simp only [dwRow_eq]
  by_cases h : k.val < 31
  · simp only [if_pos h]
    refine Fin.sum_mul_add_congr fun s r hl => ?_
    have hr : row ⟨32 * (t.val / 32) + s.val, lt_of_lt_of_eq (by omega) hN.symm⟩ r = ⟨s.val * 256 + r.val, hl⟩ :=
      Fin.ext (show (32 * (t.val / 32) + s.val) * 256 + r.val = s.val * 256 + r.val by omega)
    rw [hr]
  · simp only [if_neg h, Finset.sum_const_zero]

end Cert.Taps

end
-- ==== Proof.TapsTerm.lean ====
/- One tap's share of the reference's gradients, read at an index: the tap times the shifted output gradient, and the
   sum over the rows of the output gradient against the shifted input. -/
module

public import proofs.«01_k».proof.Proof.TapsKernel
public import proofs.«01_k».proof.Proof.Gen.ReferenceIdeal.Run
public import proofs.«01_k».proof.Proof.Gen.ReferenceIdeal.Read

@[expose] public section

set_option maxRecDepth 16384

noncomputable section

namespace Cert.Taps

open Idealize.ShloMosaic Idealize.SL.Sem
open Cert.ReferenceIdeal Cert.ReferenceIdeal.Read

/-- A sum over two leading axes, read at an index. -/
theorem sum_lead {a b n : ℕ} (h : (⟨3, ![a, b, n]⟩ : Shape).ReducesTo [0, 1] ⟨1, ![n]⟩) (x : (⟨3, ![a, b, n]⟩ : Shape).Idx → EReal)
    (init : EReal) (d : Fin n) :
    Ideal.hostReduceAdd h x init (ix1 d) = init + ∑ s : Fin a, ∑ r : Fin b, x (ix3 s r d) := by
  have e (i : (⟨3, ![a, b, n]⟩ : Shape).Idx) : h.drop i = ix1 (i 2) := by
    funext q
    match q with
    | ⟨0, _⟩ => rfl
  unfold Ideal.hostReduceAdd
  rw [Finset.sum_filter, sum_idx3]
  refine congrArg (init + ·) (Finset.sum_congr rfl fun s _ => Finset.sum_congr rfl fun r _ => ?_)
  refine (Finset.sum_eq_single d (fun z _ hz => if_neg fun q => hz ?_) fun q => absurd (Finset.mem_univ _) q).trans (if_pos (e _))
  exact congrFun ((e _).symm.trans q) 0

section Term

variable (x1 : Vec Ideal S8192x512 .f32) (x2 : Vec Ideal S1x31x512 .f32) (x0 : Vec Ideal S8192x1536 .f32)

/-- Tap `k`'s share of the padded input's gradient, sequence `s`, padded row `p`. -/
def termA (k : ℕ) (s : Fin 2) (p : Fin 4126) (d : Fin 512) : EReal :=
  if h : k < 31 ∧ k ≤ p.val ∧ p.val - k < 4096 then
    x2 (ix3 (n1 := 31) 0 ⟨k, h.1⟩ d) * x1 (ix2 (n0 := 8192) ⟨s.val * 4096 + (p.val - k), by have := h.2.2; omega⟩ d)
  else 0

theorem tap_a {k hi : ℕ} (hk : k < 31) {sl sc b1 b2 sc' pd} {h : 0 < S_.numel} (s : Fin 2) (p : Fin 4126) (d : Fin 512) :
    pad S2x4126x512 ![0, k, 0] ![0, hi, 0] ![0, 0, 0]
      (mulf (F := Ideal) (φ := .f32) (broadcastInDim S2x4096x512 ![0, 1, 2] b1 (broadcastInDim S1x1x512 ![2] b2
          (shapeCast S512 (extractStridedSlice S1x1x512 ![0, k, 0] x2 sl) sc)))
        (shapeCast S2x4096x512 x1 sc')) (constant (F := Ideal) S_ .f32 0x00000000#32) pd h (ix3 s p d)
      = termA x1 x2 k s p d := by
  pointwise [termA]
  by_cases h : k ≤ p.val ∧ p.val - k < 4096
  · rw [dif_pos h, dif_pos ⟨hk, h⟩]
  · rw [dif_neg h, dif_neg fun q => h q.2]

/-- Tap `k`'s sum over the rows, from the output gradient and the padded input. -/
def termB (x : Vec Ideal S2x4096x512 .f32) (A : Vec Ideal S2x4126x512 .f32) (k : ℕ) (d : Fin 512) : EReal :=
  ∑ s : Fin 2, ∑ n : Fin 4096, if h : k + n.val < 4126 then x (ix3 s n d) * A (ix3 (n1 := 4126) s ⟨k + n.val, h⟩ d) else 0

theorem tap_b {k hi : ℕ} (hk : k < 31) {sl sc r1 r2 pd} {b : S512.BroadcastsInDim S1x1x512 ![2]} {h : 0 < S_.numel} (x : Vec Ideal S2x4096x512 .f32)
    (A : Vec Ideal S2x4126x512 .f32) (q : Fin 31) (d : Fin 512) :
    pad S1x31x512 ![0, k, 0] ![0, hi, 0] ![0, 0, 0]
      (broadcastInDim S1x1x512 ![2] b (Host.reduceAdd (F := Ideal) (φ := .f32) (axes := [0, 1]) (t := S512) (shapeCast (s := S512) S1x1x512 (Host.reduceAdd (F := Ideal) (φ := .f32) (axes := [0, 1]) (t := S512)
          (mulf (F := Ideal) (φ := .f32) x (extractStridedSlice S2x4096x512 ![0, k, 0] A sl))
          (constant (F := Ideal) S_ .f32 0x00000000#32) r1 h) sc) (constant (F := Ideal) S_ .f32 0x00000000#32) r2 h))
      (constant (F := Ideal) S_ .f32 0x00000000#32) pd h (ix3 0 q d)
      = if q.val = k then termB x A k d else 0 := by
  pointwise [sum_lead, termB]
  by_cases e : q.val = k
  · rw [if_pos e, dif_pos (by omega), Fin.sum_univ_one, Fin.sum_univ_one]
    refine Finset.sum_congr rfl fun s _ => Finset.sum_congr rfl fun n _ => ?_
    rw [dif_pos]
  · rw [if_neg e, dif_neg (by omega)]

end Term

end Cert.Taps

end
-- ==== Proof.TapsRef.lean ====
/- The reference's gradients of the convolution read at an index: the same sums the kernel leaves. -/
module

public import proofs.«01_k».proof.Proof.TapsTerm

@[expose] public section

set_option maxRecDepth 16384
set_option maxHeartbeats 0

noncomputable section

namespace Cert.Taps

open Idealize.ShloMosaic Idealize.SL.Sem
open Cert.ReferenceIdeal Cert.ReferenceIdeal.Read

variable (x0 : Vec Ideal S8192x1536 .f32) (x1 : Vec Ideal S8192x512 .f32) (x2 : Vec Ideal S1x31x512 .f32)

/-- The padded input's gradient: the taps' shares, last tap first. -/
theorem reference_acc (s : Fin 2) (p : Fin 4126) (d : Fin 512) :
    val_main_v571 (F := Ideal) x1 x2 (ix3 s p d) = ∑ j ∈ Finset.range 31, termA x1 x2 (30 - j) s p d := by
  rw [val_main_v571_apply, val_main_v560_apply, val_main_v549_apply, val_main_v538_apply, val_main_v527_apply,
    val_main_v516_apply, val_main_v505_apply, val_main_v494_apply, val_main_v483_apply, val_main_v472_apply,
    val_main_v461_apply, val_main_v450_apply, val_main_v439_apply, val_main_v428_apply, val_main_v417_apply,
    val_main_v406_apply, val_main_v395_apply, val_main_v384_apply, val_main_v373_apply, val_main_v362_apply,
    val_main_v351_apply, val_main_v340_apply, val_main_v329_apply, val_main_v318_apply, val_main_v307_apply,
    val_main_v296_apply, val_main_v285_apply, val_main_v274_apply, val_main_v263_apply, val_main_v252_apply]

  iterate 30
    refine Eq.trans ?_ (Finset.sum_range_succ _ _).symm
    refine congrArg₂ (fun a b : EReal => a + b) ?_ (tap_a x1 x2 (by decide) s p d)
  refine Eq.trans ?_ (Finset.sum_range_one _).symm
  exact tap_a x1 x2 (by decide) s p d

/-- The taps' gradient, a tap at a row. -/
theorem reference_taps (q : Fin 31) (d : Fin 512) :
    val_main_v574 (F := Ideal) x0 x1 (ix3 0 q d)
      = ∑ j ∈ Finset.range 31, if q.val = 30 - j then termB (val_main_v235 (F := Ideal) x1) (val_main_v14 (F := Ideal) x0) (30 - j) d else 0 := by
  rw [val_main_v574_apply, val_main_v563_apply, val_main_v552_apply, val_main_v541_apply, val_main_v530_apply,
    val_main_v519_apply, val_main_v508_apply, val_main_v497_apply, val_main_v486_apply, val_main_v475_apply,
    val_main_v464_apply, val_main_v453_apply, val_main_v442_apply, val_main_v431_apply, val_main_v420_apply,
    val_main_v409_apply, val_main_v398_apply, val_main_v387_apply, val_main_v376_apply, val_main_v365_apply,
    val_main_v354_apply, val_main_v343_apply, val_main_v332_apply, val_main_v321_apply, val_main_v310_apply,
    val_main_v299_apply, val_main_v288_apply, val_main_v277_apply, val_main_v266_apply, val_main_v255_apply]

  iterate 30
    refine Eq.trans ?_ (Finset.sum_range_succ _ _).symm
    refine congrArg₂ (fun a b : EReal => a + b) ?_ (tap_b (by decide) _ _ q d)
  refine Eq.trans ?_ (Finset.sum_range_one _).symm
  exact tap_b (by decide) _ _ q d

/-- The reversed sum is the sum over the taps. -/
theorem sum_taps (f : ℕ → EReal) : ∑ j ∈ Finset.range 31, f (30 - j) = ∑ k : Fin 31, f k.val :=
  (Finset.sum_range_reflect f 31).trans (Fin.sum_univ_eq_sum_range f 31).symm

/-- The gradient of the convolution's input. -/
theorem reference_dinp (R : Fin 8192) (d : Fin 512) : val_main_v577 (F := Ideal) x1 x2 (ix2 R d) = dinp x1 x2 R d := by
  pointwise [val_main_v577, val_main_v576]
  rw [reference_acc, sum_taps fun k => termA x1 x2 k _ _ _, dinp]
  refine Finset.sum_congr rfl fun k _ => ?_
  unfold termA after
  by_cases h : R.val % 4096 + (30 - k.val) < 4096
  · rw [dif_pos h, dif_pos ⟨k.isLt, by show k.val ≤ 30 + R.val % 4096; omega, by show 30 + R.val % 4096 - k.val < 4096; omega⟩]
    congr 3
    exact Fin.ext (show R.val / 4096 * 4096 + (30 + R.val % 4096 - k.val) = R.val + (30 - k.val) by omega)
  · rw [dif_neg h, dif_neg fun q => h (by have q2 : 30 + R.val % 4096 - k.val < 4096 := q.2.2; omega), mul_zero]

/-- The gate as the reference writes it. -/
theorem reference_gate (R : Fin 8192) (d : Fin 512) : val_main_v7 (F := Ideal) x0 (ix2 R d) = gate x0 R d := by
  pointwise [val_main_v7, val_main_v6, val_main_v5, val_main_v4, val_main_v3, val_main_v2, val_main_v1, val_main_cst, val_main_cst_0]
  rfl

/-- The value half as the reference writes it. -/
theorem reference_val (R : Fin 8192) (d : Fin 512) : val_main_v0 (F := Ideal) x0 (ix2 R d) = val x0 R d := by
  pointwise [val_main_v0, val]

/-- The padded input. -/
theorem reference_inp (s : Fin 2) (p : Fin 4126) (d : Fin 512) :
    val_main_v14 (F := Ideal) x0 (ix3 s p d) = if 30 ≤ p.val then inp x0 ⟨s.val * 4096 + (p.val - 30), by omega⟩ d else 0 := by
  pointwise [val_main_v14, val_main_v13, val_main_v12, val_main_v11, val_main_cst_2, reference_gate, reference_val]
  by_cases h : p.val < 30
  · rw [dif_pos h, if_neg (by omega)]
  · rw [dif_neg h]
    exact (if_pos (by omega)).symm

/-- The value's gradient. -/
theorem reference_dval : val_main_v579 (F := Ideal) x0 x1 x2 = dval x0 x1 x2 := by
  funext i
  obtain ⟨R, d, rfl⟩ : ∃ (R : Fin 8192) (d : Fin 512), i = ix2 R d := ⟨i 0, i 1, eq_ix2 i⟩
  rw [val_main_v579_apply, reference_dinp, reference_gate]
  rfl

/-- The gate's gradient. -/
theorem reference_dgate : val_main_v580 (F := Ideal) x0 x1 x2 = dgate x0 x1 x2 := by
  funext i
  obtain ⟨R, d, rfl⟩ : ∃ (R : Fin 8192) (d : Fin 512), i = ix2 R d := ⟨i 0, i 1, eq_ix2 i⟩
  rw [val_main_v580_apply, val_main_v578_apply, reference_dinp, reference_val]
  pointwise [val_main_v10, val_main_v9, val_main_v8, val_main_cst_1, reference_gate]
  show val x0 R d * dinp x1 x2 R d * (gate x0 R d * (1 - gate x0 R d))
    = dinp x1 x2 R d * val x0 R d * gate x0 R d * (1 - gate x0 R d)
  rw [mul_comm (val x0 R d), mul_assoc (dinp x1 x2 R d * val x0 R d)]

/-- A tap's sum over the rows of both sequences. -/
theorem term_rows {k : ℕ} (hk : k < 31) (d : Fin 512) :
    termB (val_main_v235 (F := Ideal) x1) (val_main_v14 (F := Ideal) x0) k d
      = ∑ R : Fin 8192, before x0 R (30 - k) d * x1 (ix2 R d) := by
  unfold termB
  refine Fin.sum_mul_add_congr fun s n hl => ?_
  rw [dif_pos (by omega), reference_inp, before]
  pointwise [val_main_v235]
  by_cases h : 30 ≤ k + n.val
  · rw [if_pos h, if_pos (by show 30 - k ≤ (s.val * 4096 + n.val) % 4096; omega), mul_comm]
    congr 2
    exact Fin.ext (show s.val * 4096 + (k + n.val - 30) = s.val * 4096 + n.val - (30 - k) by omega)
  · rw [if_neg h, if_neg (by show ¬ 30 - k ≤ (s.val * 4096 + n.val) % 4096; omega), mul_comm]

/-- The taps' gradient. -/
theorem reference_dtap : val_main_v582 (F := Ideal) x0 x1 = dtap x0 x1 := by
  funext i
  obtain ⟨q, d, rfl⟩ : ∃ (q : Fin 32) (d : Fin 512), i = ix2 q d := ⟨i 0, i 1, eq_ix2 i⟩
  show _ = if q.val < 31 then ∑ R : Fin 8192, before x0 R (30 - q.val) d * x1 (ix2 R d) else 0
  pointwise [val_main_v582, val_main_v581, val_main_call0_v0, val_main_c]
  by_cases h : q.val < 31
  · rw [dif_pos h, if_pos h, reference_taps,
      sum_taps fun k => if q.val = k then termB (val_main_v235 (F := Ideal) x1) (val_main_v14 (F := Ideal) x0) k d else 0,
      ← term_rows x0 x1 h]
    refine (Finset.sum_eq_single (⟨q.val, h⟩ : Fin 31) (fun k _ hk => if_neg fun e => hk (Fin.ext e.symm))
      fun e => absurd (Finset.mem_univ _) e).trans (if_pos rfl)
  · rw [dif_neg h, if_neg h]
    show ((((0#32 : BitVec 32).toInt : ℤ) : ℝ) : EReal) = 0
    simp only [BitVec.toInt_zero, Int.cast_zero, EReal.coe_zero]

end Cert.Taps

end
-- ==== Proof.Taps.lean ====
/- The gradients of the gated causal convolution: the kernel and the reference leave the same three arrays. -/
module

public import proofs.«01_k».proof.Defs
public import proofs.«01_k».proof.Proof.TapsRef

@[expose] public section

set_option maxRecDepth 16384

noncomputable section

namespace Cert.Taps

open Idealize.ShloMosaic Idealize.ShloMosaic.StableHlo Idealize.SL.Sem
open Cert.ReferenceIdeal.Read

/-- Both runs end with the same three arrays. -/
theorem value : Cert.algebraic_KernelIdeal_ReferenceIdeal := by
  intro m g m' g' _ hag
  refine ⟨fun c => dval (proj m c) (dc m c) (wt m c), fun c => dgate (proj m c) (dc m c) (wt m c),
    fun c => dtap (proj m c) (dc m c), ?_, ?_⟩
  · exact (θ_run _ _ _).mono (fun r h c => ⟨((h c).1).trans (final7 m c), ((h c).2.1).trans (final8 m c),
      ((h c).2.2.1).trans (final9 m c), (h c).2.2.2⟩) (Cert.KernelIdeal.Value.run_blocks (F := Ideal) m g)
  · refine (θ_run _ _ _).mono (fun r h c => ⟨((h c).1).trans ?_, ((h c).2.1).trans ?_, ((h c).2.2.1).trans ?_, (h c).2.2.2⟩)
      (Cert.ReferenceIdeal.Value.run (F := Ideal) m' g')
    · refine (val_main_v579_eq (F := Ideal) _).trans ?_
      rw [launchContents_devRef, launchContents_devRef, launchContents_devRef, (hag c).1, (hag c).2.1, (hag c).2.2]
      exact reference_dval _ _ _
    · refine (val_main_v580_eq (F := Ideal) _).trans ?_
      rw [launchContents_devRef, launchContents_devRef, launchContents_devRef, (hag c).1, (hag c).2.1, (hag c).2.2]
      exact reference_dgate _ _ _
    · refine (val_main_v582_eq (F := Ideal) _).trans ?_
      rw [launchContents_devRef, launchContents_devRef, (hag c).1, (hag c).2.1]
      exact reference_dtap _ _

end Cert.Taps

end
-- ==== Proof.DgluKernel.lean ====
/- What the backward of the gated product (`ffn_dglu`) leaves in its two result arrays, index by index. -/
module

public import proofs.«01_k».proof.Proof.Gen.Kernel2Ideal.Value
public import proofs.«01_k».proof.Proof.Scalar
public import Idealize.ShloMosaic.Lib.Tactic

@[expose] public section

set_option maxRecDepth 16384

noncomputable section

namespace Cert.Dglu

open Cert.Kernel2Ideal Cert.Kernel2Ideal.Gen Idealize.ShloMosaic Idealize.ShloMosaic.TcCoe Idealize.SL.Sem
open Cert.Scalar (sig)

theorem hz : (![0, 0] : Fin 2 → Nat) = fun _ => 0 := funext fun a => by fin_cases a <;> rfl

/-! ## The result as a function of the four operands' entries -/

/-- One half, as the kernel writes it. -/
abbrev h2 : EReal := Ideal.ofBits .f32 0x3F000000#32

/-- The cotangent of the gated product at a row of `dxo` and a row of `w2`: half their inner product. -/
def dz (dxo w2 : Fin 1024 → EReal) : EReal := (∑ k : Fin 1024, dxo k * w2 k) * h2

/-- The cotangent of the gate branch. -/
def daAt (z a b : EReal) : EReal := z * b * (sig a * (1 + a * (1 - sig a)))

/-- The cotangent of the linear branch. -/
def dbAt (z a : EReal) : EReal := z * a * sig a

theorem out4_apply (x0 : Vec Ideal S512x1024 .f32) (x1 : Vec Ideal S3072x1024 .bf16) (x2 x3 : Vec Ideal S512x3072 .bf16)
    (r : Fin 512) (n : Fin 3072) :
    out0_4 x0 x1 x2 x3 (ix2 r n)
      = daAt (dz (fun k => x0 (ix2 r k)) (fun k => x1 (ix2 n k))) (x2 (ix2 r n)) (x3 (ix2 r n)) := by
  unfold out0_4
  rw [View.canon_unit_zero hz]
  simp only [View.ld_unit_zero (S := S512x1024) hz, View.ld_unit_zero (S := S3072x1024) hz, View.ld_unit_zero (S := S512x3072) hz]
  pointwise [k0_pay4, k0_pay3, k0_pay2, k0_pay1, daAt, dz, Scalar.sig, h2, Ideal.logistic]

theorem out5_apply (x0 : Vec Ideal S512x1024 .f32) (x1 : Vec Ideal S3072x1024 .bf16) (x2 x3 : Vec Ideal S512x3072 .bf16)
    (r : Fin 512) (n : Fin 3072) :
    out0_5 x0 x1 x2 x3 (ix2 r n) = dbAt (dz (fun k => x0 (ix2 r k)) (fun k => x1 (ix2 n k))) (x2 (ix2 r n)) := by
  unfold out0_5
  rw [View.canon_unit_zero hz]
  simp only [View.ld_unit_zero (S := S512x1024) hz, View.ld_unit_zero (S := S3072x1024) hz, View.ld_unit_zero (S := S512x3072) hz]
  pointwise [k0_pay5, k0_pay3, k0_pay2, k0_pay1, dbAt, dz, Scalar.sig, h2, Ideal.logistic]

/-! ## The blocks -/

variable (m : (ℓ : Loc nD τ sig) → Buf (Elt Ideal) ℓ)

/-- The four operands. -/
abbrev dxo (c : Dev nD) : S8192x1024.Idx → EReal := m ((c : Thread nD τ).loc main_arg0)
abbrev w2 (c : Dev nD) : S3072x1024.Idx → EReal := m ((c : Thread nD τ).loc main_arg1)
abbrev a (c : Dev nD) : S8192x3072.Idx → EReal := m ((c : Thread nD τ).loc main_arg2)
abbrev b (c : Dev nD) : S8192x3072.Idx → EReal := m ((c : Thread nD τ).loc main_arg3)

/-- Row `r` of the row block of point `t`. -/
abbrev row (t : Fin cfg0.N) (r : Fin 512) : Fin 8192 := ⟨512 * t.val + r.val, by have := t.isLt; have : cfg0.N = 16 := N_0; omega⟩

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel

theorem block0 (c : Dev nD) (t : Fin cfg0.N) (r : Fin 512) (k : Fin 1024) :
    (iblk m c 0 t : Vec Ideal S512x1024 .f32) (ix2 r k) = dxo m c (ix2 (row t r) k) := by
  unfold iblk
  rw [View.read_apply]
  show m _ _ = m _ _
  congr 1
  funext x
  apply Fin.ext
  match x with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem block1 (c : Dev nD) (t : Fin cfg0.N) (n : Fin 3072) (k : Fin 1024) :
    (iblk m c 1 t : Vec Ideal S3072x1024 .bf16) (ix2 n k) = w2 m c (ix2 n k) := by
  unfold iblk
  rw [View.read_apply]
  show m _ _ = m _ _
  congr 1
  funext x
  apply Fin.ext
  match x with
  | ⟨0, _⟩ => show win0_1.index t 0 * 3072 + 1 * n.val = n.val; rw [(index1 t).1]; omega
  | ⟨1, _⟩ => show win0_1.index t 1 * 1024 + 1 * k.val = k.val; rw [(index1 t).2]; omega

theorem block2 (c : Dev nD) (t : Fin cfg0.N) (r : Fin 512) (n : Fin 3072) :
    (iblk m c 2 t : Vec Ideal S512x3072 .bf16) (ix2 r n) = a m c (ix2 (row t r) n) := by
  unfold iblk
  rw [View.read_apply]
  show m _ _ = m _ _
  congr 1
  funext x
  apply Fin.ext
  match x with
  | ⟨0, _⟩ => show win0_2.index t 0 * 512 + 1 * r.val = 512 * t.val + r.val; rw [(index2 t).1]; omega
  | ⟨1, _⟩ => show win0_2.index t 1 * 3072 + 1 * n.val = n.val; rw [(index2 t).2]; omega

theorem block3 (c : Dev nD) (t : Fin cfg0.N) (r : Fin 512) (n : Fin 3072) :
    (iblk m c 3 t : Vec Ideal S512x3072 .bf16) (ix2 r n) = b m c (ix2 (row t r) n) := by
  unfold iblk
  rw [View.read_apply]
  show m _ _ = m _ _
  congr 1
  funext x
  apply Fin.ext
  match x with
  | ⟨0, _⟩ => show win0_3.index t 0 * 512 + 1 * r.val = 512 * t.val + r.val; rw [(index3 t).1]; omega
  | ⟨1, _⟩ => show win0_3.index t 1 * 3072 + 1 * n.val = n.val; rw [(index3 t).2]; omega

/-! ## The two result arrays -/

/-- The cotangent of the gate branch, over the whole operands. -/
def da (c : Dev nD) : S8192x3072.Idx → EReal := fun i =>
  daAt (dz (fun k => dxo m c (ix2 (i 0) k)) (fun k => w2 m c (ix2 (i 1) k))) (a m c i) (b m c i)

/-- The cotangent of the linear branch, over the whole operands. -/
def db (c : Dev nD) : S8192x3072.Idx → EReal := fun i =>
  dbAt (dz (fun k => dxo m c (ix2 (i 0) k)) (fun k => w2 m c (ix2 (i 1) k))) (a m c i)

theorem emb4 (t : Fin cfg0.N) (r : Fin 512) (n : Fin 3072) : ((cfg0.win 4).blk t).view.emb (ix2 r n) = ix2 (row t r) n := by
  funext x
  apply Fin.ext
  match x with
  | ⟨0, _⟩ => show win0_4.index t 0 * 512 + 1 * r.val = 512 * t.val + r.val; rw [(index4 t).1]; omega
  | ⟨1, _⟩ => show win0_4.index t 1 * 3072 + 1 * n.val = n.val; rw [(index4 t).2]; omega

theorem emb5 (t : Fin cfg0.N) (r : Fin 512) (n : Fin 3072) : ((cfg0.win 5).blk t).view.emb (ix2 r n) = ix2 (row t r) n := by
  funext x
  apply Fin.ext
  match x with
  | ⟨0, _⟩ => show win0_5.index t 0 * 512 + 1 * r.val = 512 * t.val + r.val; rw [(index5 t).1]; omega
  | ⟨1, _⟩ => show win0_5.index t 1 * 3072 + 1 * n.val = n.val; rw [(index5 t).2]; omega

/-- The point whose block holds a row, and the row's place in it. -/
theorem row_of (i : Fin 8192) : ∃ (t : Fin cfg0.N) (r : Fin 512), row t r = i :=
  ⟨⟨i.val / 512, by have : cfg0.N = 16 := N_0; omega⟩, ⟨i.val % 512, by omega⟩, Fin.ext (by show 512 * (i.val / 512) + i.val % 512 = i.val; omega)⟩

theorem final4 (c : Dev nD) : (dats m 0 c).arrAt 4 cfg0.N = da m c := by
  refine (dats m 0 c).arrAt_eq_of_cover 4 (da m c) (fun t _ => ?_) fun i => ?_
  · rw [Value.flushed4]
    funext y
    obtain ⟨r, n, rfl⟩ : ∃ (r : Fin 512) (n : Fin 3072), y = ix2 r n := ⟨y 0, y 1, eq_ix2 y⟩
    rw [View.read_apply, emb4]
    refine (out4_apply (iblk m c 0 t) (iblk m c 1 t) (iblk m c 2 t) (iblk m c 3 t) r n).trans ?_
    simp only [block0, block1, block2, block3]
    rfl
  · obtain ⟨r0, n, rfl⟩ : ∃ (r0 : Fin 8192) (n : Fin 3072), i = ix2 r0 n := ⟨i 0, i 1, eq_ix2 i⟩
    obtain ⟨t, r, rfl⟩ := row_of r0
    exact ⟨t, flush0_4 t, by rw [← emb4]; exact View.emb_mem_set _ _⟩

theorem final5 (c : Dev nD) : (dats m 0 c).arrAt 5 cfg0.N = db m c := by
  refine (dats m 0 c).arrAt_eq_of_cover 5 (db m c) (fun t _ => ?_) fun i => ?_
  · rw [Value.flushed5]
    funext y
    obtain ⟨r, n, rfl⟩ : ∃ (r : Fin 512) (n : Fin 3072), y = ix2 r n := ⟨y 0, y 1, eq_ix2 y⟩
    rw [View.read_apply, emb5]
    refine (out5_apply (iblk m c 0 t) (iblk m c 1 t) (iblk m c 2 t) (iblk m c 3 t) r n).trans ?_
    simp only [block0, block1, block2, block3]
    rfl
  · obtain ⟨r0, n, rfl⟩ : ∃ (r0 : Fin 8192) (n : Fin 3072), i = ix2 r0 n := ⟨i 0, i 1, eq_ix2 i⟩
    obtain ⟨t, r, rfl⟩ := row_of r0
    exact ⟨t, flush0_5 t, by rw [← emb5]; exact View.emb_mem_set _ _⟩

end Cert.Dglu

end
-- ==== Proof.Dglu.lean ====
/- The backward of the gated product: the kernel's two arrays are the reference's, at the extended reals, where the
   cotangent, the second weight and the linear branch are finite. -/
module

public import proofs.«01_k».proof.Defs
public import proofs.«01_k».proof.Proof.DgluKernel
public import proofs.«01_k».proof.Proof.Gen.Reference2Ideal.Run
public import proofs.«01_k».proof.Proof.Gen.Reference2Ideal.Read

@[expose] public section

set_option maxRecDepth 16384

noncomputable section

/-- The shape relations the finiteness predicate's operations take. -/
instance Cert.Dglu.preFacts : Cert.Pre_finite2.Facts where
  bcast_S_S8192x1024 := by decide
  bitsLt_bf16_f32 := by decide
  bcast_S_S3072x1024 := by decide
  bcast_S_S8192x3072 := by decide

namespace Cert.Dglu

open Idealize.ShloMosaic Idealize.SL.Sem Cert.Scalar
open Cert.Reference2Ideal Cert.Reference2Ideal.Read

/-- The reference's cotangent of the gated product is the kernel's: halving the left factors halves the sum. -/
theorem reference_dz (x0 : Vec Ideal S8192x1024 .f32) (x1 : Vec Ideal S3072x1024 .bf16) (r : Fin 8192) (n : Fin 3072) :
    val_main_v10 (F := Ideal) x0 x1 (ix2 r n) = dz (fun k => x0 (ix2 r k)) (fun k => x1 (ix2 n k)) := by
  unfold dz
  rw [val_main_v10_apply, half_sum]
  refine Finset.sum_congr rfl fun k _ => ?_
  rw [val_main_v9_apply, val_main_v4_apply, val_main_v8_apply, Ideal.mulf_def, Ideal.extf_def]
  congr 1 <;> congr 1 <;> first | rfl | (congr 1 <;> funext a <;> fin_cases a <;> rfl) | (funext a; fin_cases a <;> rfl)

/-- The logistic factor as the reference writes it. -/
theorem reference_sig (x2 : Vec Ideal S8192x3072 .bf16) (r : Fin 8192) (n : Fin 3072) :
    val_main_v2_2 (F := Ideal) x2 (ix2 r n) = Scalar.sig (x2 (ix2 r n)) := by
  rw [val_main_v2_2_apply, val_main_call0_v4_apply, val_main_call0_v3_apply, val_main_call0_v2_apply, val_main_call0_v1_apply,
    val_main_call0_v0_apply, val_main_v0_apply]
  show Ideal.div (Ideal.ofBits .f32 0x3F800000#32) (Ideal.ofBits .f32 0x3F800000#32 + Ideal.exp (-(x2 (ix2 r n)))) = _
  rw [Ideal.ofBits_one_f32]
  rfl

/-- The derivative of the logistic factor as the reference writes it. -/
theorem reference_sig' (x2 : Vec Ideal S8192x3072 .bf16) (r : Fin 8192) (n : Fin 3072) :
    val_main_v2_1 (F := Ideal) x2 (ix2 r n) = Scalar.sig (x2 (ix2 r n)) * (1 - Scalar.sig (x2 (ix2 r n))) := by
  rw [val_main_v2_1_apply, val_main_call0_v7_apply, val_main_call0_v6_apply, reference_sig, Ideal.mulf_def]
  show _ * (Ideal.ofBits .f32 0x3F800000#32 - _) = _
  rw [Ideal.ofBits_one_f32]

/-- The reference's cotangent of the gate branch. -/
theorem reference_da (x0 : Vec Ideal S8192x1024 .f32) (x1 : Vec Ideal S3072x1024 .bf16) (x2 x3 : Vec Ideal S8192x3072 .bf16)
    (r : Fin 8192) (n : Fin 3072)
    (hd : ∀ k, IsReal (x0 (ix2 r k))) (hw : ∀ k, IsReal (x1 (ix2 n k))) (hb : IsReal (x3 (ix2 r n))) :
    val_main_v14 (F := Ideal) x0 x1 x2 x3 (ix2 r n)
      = daAt (dz (fun k => x0 (ix2 r k)) (fun k => x1 (ix2 n k))) (x2 (ix2 r n)) (x3 (ix2 r n)) := by
  have hz : IsReal (dz (fun k => x0 (ix2 r k)) (fun k => x1 (ix2 n k))) :=
    (IsReal.sum _ _ fun k _ => (hd k).mul (hw k)).mul ⟨_, half⟩
  rw [val_main_v14_apply, Ideal.truncf_def, val_main_v13_apply, val_main_call1_v1_apply, val_main_call1_v2_apply,
    val_main_call1_v0_apply, val_main_v12_apply, val_main_v0_apply, val_main_v1_apply, reference_sig, reference_sig',
    reference_dz, Ideal.extf_def, Ideal.extf_def]
  exact (silu_grad (hz.mul hb) _).symm

/-- The reference's cotangent of the linear branch. -/
theorem reference_db (x0 : Vec Ideal S8192x1024 .f32) (x1 : Vec Ideal S3072x1024 .bf16) (x2 : Vec Ideal S8192x3072 .bf16)
    (r : Fin 8192) (n : Fin 3072) :
    val_main_v15 (F := Ideal) x0 x1 x2 (ix2 r n)
      = dbAt (dz (fun k => x0 (ix2 r k)) (fun k => x1 (ix2 n k))) (x2 (ix2 r n)) := by
  rw [val_main_v15_apply, Ideal.truncf_def, val_main_v11_apply, val_main_v2_0_apply, val_main_v0_apply, reference_sig,
    reference_dz, Ideal.extf_def]
  show _ * _ * dz _ _ = dz _ _ * _ * _
  rw [mul_comm, mul_assoc]

/-- Both runs end with the same two arrays, where the cotangent, the second weight and the linear branch are finite. -/
theorem value : Cert.algebraic_Kernel2Ideal_Reference2Ideal_pre_finite2 := by
  intro m g m' g' hpre hag
  have hd (c) (i) : IsReal (dxo m c i) := real_of_lt (congrFun (hpre c).1 i)
  have hw (c) (i) : IsReal (w2 m c i) := real_of_lt (congrFun (hpre c).2.1 i)
  have hb (c) (i) : IsReal (b m c i) := real_of_lt (congrFun (hpre c).2.2 i)
  refine ⟨da m, db m, ?_, ?_⟩
  · exact (θ_run _ _ _).mono (fun r h c => ⟨((h c).1).trans (final4 m c), ((h c).2.1).trans (final5 m c), (h c).2.2⟩)
      (Cert.Kernel2Ideal.Value.run_blocks (F := Ideal) m g)
  · refine (θ_run _ _ _).mono (fun r h c => ⟨((h c).1).trans ?_, ((h c).2.1).trans ?_, (h c).2.2⟩)
      (Cert.Reference2Ideal.Value.run (F := Ideal) m' g')
    · rw [(hag c).1, (hag c).2.1, (hag c).2.2.1, (hag c).2.2.2]
      refine (val_main_v14_eq (F := Ideal) _ _ _ _).trans (funext fun i => ?_)
      obtain ⟨r, n, rfl⟩ : ∃ (r : Fin 8192) (n : Fin 3072), i = ix2 r n := ⟨i 0, i 1, eq_ix2 i⟩
      exact reference_da _ _ _ _ r n (fun k => hd c _) (fun k => hw c _) (hb c _)
    · rw [(hag c).1, (hag c).2.1, (hag c).2.2.1]
      refine (val_main_v15_eq (F := Ideal) _ _ _).trans (funext fun i => ?_)
      obtain ⟨r, n, rfl⟩ : ∃ (r : Fin 8192) (n : Fin 3072), i = ix2 r n := ⟨i 0, i 1, eq_ix2 i⟩
      exact reference_db _ _ _ r n

end Cert.Dglu

end
-- ==== Proof.DhKernel.lean ====
/- What the backward of the feed-forward's input (`ffn_dh`) leaves in its two result arrays: the cotangent of the
   residual stream, index by index, and the gradient of the norm's gain summed over the rows. -/
module

public import proofs.«01_k».proof.Proof.Gen.Kernel3Ideal.Value
public import proofs.«01_k».proof.Proof.Scalar
public import Idealize.ShloMosaic.Lib.Tactic
public import Idealize.ShloMosaic.Lib.Pipeline.ValueKit

@[expose] public section

set_option maxRecDepth 16384

noncomputable section

namespace Cert.Dh

open Cert.Kernel3Ideal Cert.Kernel3Ideal.Gen Idealize.ShloMosaic Idealize.ShloMosaic.TcCoe Idealize.SL.Sem
open Cert.Scalar (rmsInv rmsBwd mean)

/-- The cotangent of the normalised rows at one place: the two weight products. -/
def dhAt (da w1 db w3 : Fin 3072 → EReal) : EReal := (∑ k : Fin 3072, da k * w1 k) + ∑ k : Fin 3072, db k * w3 k

section Payloads

variable (x0 x1 : Vec Ideal S512x3072 .bf16) (x2 x3 : Vec Ideal S3072x1024 .bf16) (x4 : Vec Ideal S512x1024 .f32)
  (x5 : Vec Ideal S1x1024 .f32) (x6 : Vec Ideal S512x1024 .f32)

theorem pay4_apply (r : Fin 512) (d : Fin 1024) :
    k0_pay4 (F := Ideal) x0 x2 x1 x3 (ix2 r d)
      = dhAt (fun k => x0 (ix2 r k)) (fun k => x2 (ix2 k d)) (fun k => x1 (ix2 r k)) (fun k => x3 (ix2 k d)) := by
  pointwise [k0_pay4, dhAt]

theorem pay5_apply (r : Fin 512) (z : Fin 1) : k0_pay5 (F := Ideal) x4 (ix2 r z) = rmsInv fun e => x4 (ix2 r e) := by
  pointwise [k0_pay5, rmsInv, mean]

theorem pay6_apply (r : Fin 512) (d : Fin 1024) :
    k0_pay6 (F := Ideal) x0 x2 x1 x3 x5 (ix2 r d) = k0_pay4 (F := Ideal) x0 x2 x1 x3 (ix2 r d) * x5 (ix2 0 d) := by
  pointwise [k0_pay6]

theorem pay7_apply (r : Fin 512) (d : Fin 1024) :
    k0_pay7 (F := Ideal) x0 x2 x1 x3 x4 x5 (ix2 r d)
      = k0_pay5 (F := Ideal) x4 (ix2 r 0) * k0_pay6 (F := Ideal) x0 x2 x1 x3 x5 (ix2 r d) := by
  pointwise [k0_pay7]

theorem pay8_apply (r : Fin 512) (d : Fin 1024) :
    k0_pay8 (F := Ideal) x4 (ix2 r d)
      = x4 (ix2 r d) * (k0_pay5 (F := Ideal) x4 (ix2 r 0) * k0_pay5 (F := Ideal) x4 (ix2 r 0) * k0_pay5 (F := Ideal) x4 (ix2 r 0)) := by
  pointwise [k0_pay8]

theorem pay9_apply (r : Fin 512) (d : Fin 1024) :
    k0_pay9 (F := Ideal) x0 x2 x1 x3 x4 x5 (ix2 r d)
      = mean fun e => x4 (ix2 r e) * k0_pay6 (F := Ideal) x0 x2 x1 x3 x5 (ix2 r e) := by
  pointwise [k0_pay9, mean]

/-- What a point stores of the residual stream's cotangent. -/
theorem dx_apply (r : Fin 512) (d : Fin 1024) :
    k0_pay1 (F := Ideal) x6 (k0_pay7 x0 x2 x1 x3 x4 x5) (k0_pay8 x4) (k0_pay9 x0 x2 x1 x3 x4 x5) (ix2 r d)
      = x6 (ix2 r d) + rmsBwd (fun e => x4 (ix2 r e))
          (fun e => dhAt (fun k => x0 (ix2 r k)) (fun k => x2 (ix2 k e)) (fun k => x1 (ix2 r k)) (fun k => x3 (ix2 k e)) * x5 (ix2 0 e)) d := by
  pointwise [k0_pay1, rmsBwd, pay7_apply, pay8_apply, pay9_apply, pay6_apply, pay5_apply, pay4_apply]

/-- What a point adds to the gain's gradient. -/
theorem dg_apply (y : Vec Ideal S1x1024 .f32) (d : Fin 1024) :
    k0_pay2 (F := Ideal) (k0_pay4 x0 x2 x1 x3) x4 (k0_pay5 x4) y (ix2 0 d)
      = y (ix2 0 d) + ∑ r : Fin 512, dhAt (fun k => x0 (ix2 r k)) (fun k => x2 (ix2 k d)) (fun k => x1 (ix2 r k)) (fun k => x3 (ix2 k d))
          * x4 (ix2 r d) * rmsInv fun e => x4 (ix2 r e) := by
  pointwise [k0_pay2, pay5_apply, pay4_apply]

end Payloads

/-! ## The two result arrays -/

variable (m : (ℓ : Loc nD τ sig) → Buf (Elt Ideal) ℓ)

abbrev da (c : Dev nD) : S8192x3072.Idx → EReal := m ((c : Thread nD τ).loc main_arg0)
abbrev db (c : Dev nD) : S8192x3072.Idx → EReal := m ((c : Thread nD τ).loc main_arg1)
abbrev w1 (c : Dev nD) : S3072x1024.Idx → EReal := m ((c : Thread nD τ).loc main_arg2)
abbrev w3 (c : Dev nD) : S3072x1024.Idx → EReal := m ((c : Thread nD τ).loc main_arg3)
abbrev x (c : Dev nD) : S8192x1024.Idx → EReal := m ((c : Thread nD τ).loc main_arg4)
abbrev g (c : Dev nD) : S1x1024.Idx → EReal := m ((c : Thread nD τ).loc main_arg5)
abbrev dres (c : Dev nD) : S8192x1024.Idx → EReal := m ((c : Thread nD τ).loc main_arg6)

/-- The cotangent of the normalised rows. -/
def dh (c : Dev nD) (r : Fin 8192) (d : Fin 1024) : EReal :=
  dhAt (fun k => da m c (ix2 r k)) (fun k => w1 m c (ix2 k d)) (fun k => db m c (ix2 r k)) (fun k => w3 m c (ix2 k d))

/-- The cotangent of the residual stream. -/
def dx (c : Dev nD) : S8192x1024.Idx → EReal := fun i =>
  dres m c i + rmsBwd (fun e => x m c (ix2 (i 0) e)) (fun e => dh m c (i 0) e * g m c (ix2 0 e)) (i 1)

/-- The gradient of the gain. -/
def dg (c : Dev nD) : S1x1024.Idx → EReal := fun i =>
  ∑ r : Fin 8192, dh m c r (i 1) * x m c (ix2 r (i 1)) * rmsInv fun e => x m c (ix2 r e)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] := by decide +kernel

/-- Row `r` of the row block of point `t`. -/
abbrev row (t : Fin cfg0.N) (r : Fin 512) : Fin 8192 := ⟨t.val * 512 + r.val, by have := t.isLt; have : cfg0.N = 16 := N_0; omega⟩

theorem block0 (c : Dev nD) (t : Fin cfg0.N) (r : Fin 512) (k : Fin 3072) :
    (iblk m c 0 t : Vec Ideal S512x3072 .bf16) (ix2 r k) = da m c (ix2 (row t r) k) := by blk_ext [iblk, V, idx t]
theorem block1 (c : Dev nD) (t : Fin cfg0.N) (r : Fin 512) (k : Fin 3072) :
    (iblk m c 1 t : Vec Ideal S512x3072 .bf16) (ix2 r k) = db m c (ix2 (row t r) k) := by blk_ext [iblk, V, idx t]
theorem block2 (c : Dev nD) (t : Fin cfg0.N) (k : Fin 3072) (d : Fin 1024) :
    (iblk m c 2 t : Vec Ideal S3072x1024 .bf16) (ix2 k d) = w1 m c (ix2 k d) := by blk_ext [iblk, V, idx t]
theorem block3 (c : Dev nD) (t : Fin cfg0.N) (k : Fin 3072) (d : Fin 1024) :
    (iblk m c 3 t : Vec Ideal S3072x1024 .bf16) (ix2 k d) = w3 m c (ix2 k d) := by blk_ext [iblk, V, idx t]
theorem block4 (c : Dev nD) (t : Fin cfg0.N) (r : Fin 512) (d : Fin 1024) :
    (iblk m c 4 t : Vec Ideal S512x1024 .f32) (ix2 r d) = x m c (ix2 (row t r) d) := by blk_ext [iblk, V, idx t]
theorem block5 (c : Dev nD) (t : Fin cfg0.N) (d : Fin 1024) :
    (iblk m c 5 t : Vec Ideal S1x1024 .f32) (ix2 0 d) = g m c (ix2 0 d) := by blk_ext [iblk, V, idx t]
theorem block6 (c : Dev nD) (t : Fin cfg0.N) (r : Fin 512) (d : Fin 1024) :
    (iblk m c 6 t : Vec Ideal S512x1024 .f32) (ix2 r d) = dres m c (ix2 (row t r) d) := by blk_ext [iblk, V, idx t]

theorem emb7 (t : Fin cfg0.N) (r : Fin 512) (d : Fin 1024) : ((cfg0.win 7).blk t).view.emb (ix2 r d) = ix2 (row t r) d := by
  blk_ext [idx t]

/-- The first array after the run. -/
theorem final7 (c : Dev nD) : (dats m 0 c).arrAt 7 cfg0.N = dx m c := by
  refine (dats m 0 c).arrAt_eq_of_covers 7 _ (by decide +kernel) fun t hf y => ?_
  obtain ⟨r, d, rfl⟩ : ∃ (r : Fin 512) (d : Fin 1024), y = ix2 r d := ⟨y 0, y 1, eq_ix2 y⟩
  rw [emb7, after0_7]
  refine Eq.trans ?_ ((dx_apply (iblk m c 0 t) (iblk m c 1 t) (iblk m c 2 t) (iblk m c 3 t) (iblk m c 4 t) (iblk m c 5 t) (iblk m c 6 t) r d).trans ?_)
  · by_cases h : t.val % 16 = 0
    · rw [outsAt0_A m c t h]; frame_out; rfl
    · rw [outsAt0_B m c t h]; frame_out; rfl
  · simp only [block0, block1, block2, block3, block4, block5, block6]
    rfl

/-- What a point adds to the gain's gradient, over the whole operands. -/
def part (c : Dev nD) (t : Fin cfg0.N) (i : S1x1024.Idx) : EReal :=
  ∑ r : Fin 512, dh m c (row t r) (i 1) * x m c (ix2 (row t r) (i 1)) * rmsInv fun e => x m c (ix2 (row t r) e)

theorem step (c : Dev nD) (t : Fin cfg0.N) (y : Vec Ideal S1x1024 .f32) (i : S1x1024.Idx) :
    k0_pay2 (F := Ideal) (k0_pay4 (iblk m c 0 t) (iblk m c 2 t) (iblk m c 1 t) (iblk m c 3 t)) (iblk m c 4 t) (k0_pay5 (iblk m c 4 t)) y i
      = y i + part m c t i := by
  obtain ⟨d, rfl⟩ : ∃ d : Fin 1024, i = ix2 0 d := ⟨i 1, by rw [eq_ix2 i]; congr 1; exact Subsingleton.elim (α := Fin 1) _ _⟩
  refine (dg_apply (iblk m c 0 t) (iblk m c 1 t) (iblk m c 2 t) (iblk m c 3 t) (iblk m c 4 t) y d).trans ?_
  simp only [block0, block1, block2, block3, block4]
  rfl

theorem zero_apply (i : S1x1024.Idx) : k0_pay3 (F := Ideal) i = 0 := by
  pointwise [k0_pay3]

/-- The second array after the run. -/
theorem final8 (c : Dev nD) : (dats m 0 c).arrAt 8 cfg0.N = dg m c := by
  refine (dats m 0 c).arrAt_eq_of_covers 8 _ (by decide +kernel) fun t hf y => ?_
  have hN : cfg0.N = 16 := N_0
  have e : ((cfg0.win 8).blk t).view.emb y = y := by blk_ext [idx t]
  rw [e, after0_8, Pipeline.eq_sum_fin_of_reset_step_apply_of_flush (fun n h => (outsAt0 m c n h).2) 16 (fun _ => 0) (part m c)
    (fun t h i => by rw [outsAt0_A m c t h]; frame_out; rw [step, zero_apply])
    (fun t h i => by rw [outsAt0_B m c t h]; frame_out; rw [step]) t ((flush0_8 t).mp hf) y, zero_add]
  unfold part dg
  have hlt : t.val < 16 := lt_of_lt_of_eq t.isLt hN
  have ht : t.val / 16 = 0 := by omega
  refine Fin.sum_mul_add_congr fun s k hl => ?_
  have hr : row ⟨16 * (t.val / 16) + s.val, lt_of_lt_of_eq (by omega) hN.symm⟩ k = ⟨s.val * 512 + k.val, hl⟩ :=
    Fin.ext (show (16 * (t.val / 16) + s.val) * 512 + k.val = s.val * 512 + k.val by omega)
  rw [hr]

end Cert.Dh

end
-- ==== Proof.Dh.lean ====
/- The backward of the feed-forward's input: the kernel's two arrays are the reference's, at the extended reals, where
   the two branch cotangents, the two weights, the rows and the gain are finite. -/
module

public import proofs.«01_k».proof.Defs
public import proofs.«01_k».proof.Proof.DhKernel
public import proofs.«01_k».proof.Proof.Gen.Reference3Ideal.Run
public import proofs.«01_k».proof.Proof.Gen.Reference3Ideal.Read

@[expose] public section

set_option maxRecDepth 16384

noncomputable section

/-- The shape relations the finiteness predicate's operations take. -/
instance Cert.Dh.preFacts : Cert.Pre_finite3.Facts where
  bitsLt_bf16_f32 := by decide
  bcast_S_S8192x3072 := by decide
  bcast_S_S3072x1024 := by decide
  bcast_S_S8192x1024 := by decide
  bcast_S_S1x1024 := by decide

namespace Cert.Dh

open Idealize.ShloMosaic Idealize.SL.Sem Cert.Scalar
open Cert.Reference3Ideal Cert.Reference3Ideal.Read

section Reference

variable (x0 x1 : Vec Ideal S8192x3072 .bf16) (x2 x3 : Vec Ideal S3072x1024 .bf16) (x4 : Vec Ideal S8192x1024 .f32)
  (x5 : Vec Ideal S1x1024 .f32) (x6 : Vec Ideal S8192x1024 .f32)

/-- The mean square with the small constant added, as the reference writes it. -/
theorem reference_ms (r : Fin 8192) (z : Fin 1) :
    val_main_v6 (F := Ideal) x4 (ix2 r z)
      = mean (fun e => x4 (ix2 r e) * x4 (ix2 r e)) + Ideal.ofBits .f32 0x358637BD#32 := by
  rw [val_main_v6_apply, val_main_v4_apply, val_main_v2_apply, val_main_v1_apply, val_main_cst_apply, val_main_v3_apply,
    val_main_cst_0_apply, val_main_v5_apply, val_main_cst_1_apply]
  show Ideal.div (Ideal.ofBits .f32 0x00000000#32 + ∑ k : Fin 1024, val_main_v0 (F := Ideal) x4 _) (Ideal.ofBits .f32 0x44800000#32) + _ = _
  rw [Ideal.ofBits_zero_f32, zero_add]
  unfold mean
  congr 2
  refine Finset.sum_congr rfl fun k _ => ?_
  rw [val_main_v0_apply, Ideal.mulf_def]
  congr 1 <;> congr 1 <;> funext a <;> fin_cases a <;> rfl

theorem reference_rms (r : Fin 8192) (z : Fin 1) :
    val_main_v7 (F := Ideal) x4 (ix2 r z) = rmsInv fun e => x4 (ix2 r e) := by
  rw [val_main_v7_apply, reference_ms]
  rfl

/-- The reference's cotangent of the normalised rows: the same two products, added the other way round. -/
theorem reference_dh (r : Fin 8192) (d : Fin 1024) :
    val_main_v25 (F := Ideal) x0 x1 x2 x3 (ix2 r d)
      = dhAt (fun k => x0 (ix2 r k)) (fun k => x2 (ix2 k d)) (fun k => x1 (ix2 r k)) (fun k => x3 (ix2 k d)) := by
  rw [val_main_v25_apply, val_main_v23_apply, val_main_v24_apply]
  show _ + _ = _
  rw [add_comm]
  unfold dhAt
  congr 1 <;> refine Finset.sum_congr rfl fun k _ => ?_
  · rw [val_main_v21_apply, val_main_v16_apply, val_main_v15_apply, Ideal.extf_def, Ideal.extf_def]
    congr 1 <;> congr 1 <;> funext a <;> fin_cases a <;> rfl
  · rw [val_main_v22_apply, val_main_v19_apply, val_main_v18_apply, Ideal.extf_def, Ideal.extf_def]
    congr 1 <;> congr 1 <;> funext a <;> fin_cases a <;> rfl

theorem reference_v (r : Fin 8192) (d : Fin 1024) :
    val_main_v30 (F := Ideal) x0 x1 x2 x3 x5 (ix2 r d) = val_main_v25 (F := Ideal) x0 x1 x2 x3 (ix2 r d) * x5 (ix2 0 d) := by
  rw [val_main_v30_apply, val_main_v29_apply, Ideal.mulf_def]
  congr 1; congr 1; funext a; fin_cases a <;> rfl

/-- The mean square's term of the reference's cotangent. -/
theorem reference_y (r : Fin 8192) (d : Fin 1024) :
    val_main_v41 (F := Ideal) x0 x1 x2 x3 x4 x5 (ix2 r d)
      = Ideal.div ((∑ e : Fin 1024, x4 (ix2 r e) * val_main_v30 (F := Ideal) x0 x1 x2 x3 x5 (ix2 r e)) * (Ideal.ofBits .f32 0xBF000000#32
          * Ideal.div (val_main_v7 (F := Ideal) x4 (ix2 r 0)) (val_main_v6 (F := Ideal) x4 (ix2 r 0)))) (Ideal.ofBits .f32 0x44800000#32) := by
  have i40 : idx_main_v40 (idx_main_v41 (ix2 r d)) 0 = ix2 r 0 := by funext a; fin_cases a <;> rfl
  have i33 : idx_main_v33 (ix2 r (0 : Fin 1)) = ix1 r := by funext a; fin_cases a; apply Fin.ext; show r.val * 1 + 0 = r.val; omega
  rw [val_main_v41_apply, val_main_v40_apply, val_main_cst_6_apply, Fin.sum_univ_one, i40, val_main_v39_apply, val_main_v37_apply,
    val_main_v33_apply, i33, val_main_v32_apply, val_main_cst_4_apply, val_main_v10_apply, val_main_v9_apply, val_main_cst_2_apply,
    val_main_v8_apply, val_main_v38_apply, val_main_cst_5_apply]
  show Ideal.ofBits .f32 0x00000000#32 + Ideal.div ((Ideal.ofBits .f32 0x00000000#32 + _) * (_ * Ideal.div _ _)) _ = _
  rw [Ideal.ofBits_zero_f32, zero_add, zero_add]
  congr 2
  refine Finset.sum_congr rfl fun k _ => ?_
  rw [val_main_v31_apply, Ideal.mulf_def]
  congr 1 <;> congr 1 <;> funext a <;> fin_cases a <;> rfl

/-- The reference's cotangent of the residual stream. -/
theorem reference_dx (r : Fin 8192) (d : Fin 1024)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    val_main_v45 (F := Ideal) x0 x1 x2 x3 x4 x5 x6 (ix2 r d)
      = x6 (ix2 r d) + rmsBwd (fun e => x4 (ix2 r e))
          (fun e => dhAt (fun k => x0 (ix2 r k)) (fun k => x2 (ix2 k e)) (fun k => x1 (ix2 r k)) (fun k => x3 (ix2 k e)) * x5 (ix2 0 e)) d := by
  have i34 : idx_main_v34 (ix2 r d) = ix2 r 0 := by funext a; fin_cases a <;> rfl
  have hv (e : Fin 1024) : IsReal (dhAt (fun k => x0 (ix2 r k)) (fun k => x2 (ix2 k e)) (fun k => x1 (ix2 r k)) (fun k => x3 (ix2 k e)) * x5 (ix2 0 e)) :=
    ((IsReal.sum _ _ fun k _ => (h0 _).mul (h2 _)).add (IsReal.sum _ _ fun k _ => (h1 _).mul (h3 _))).mul (h5 _)
  rw [rms_bwd (fun e => h4 _) hv,
    val_main_v45_apply, val_main_v43_apply, val_main_v36_apply, val_main_v35_apply, val_main_v34_apply, val_main_v42_apply,
    val_main_v44_apply, reference_y, i34, reference_rms, reference_ms]
  simp only [reference_v, reference_dh]
  rfl

/-- The reference's gradient of the gain. -/
theorem reference_dg (d : Fin 1024) :
    val_main_v28 (F := Ideal) x0 x1 x2 x3 x4 (ix2 0 d)
      = ∑ r : Fin 8192, dhAt (fun k => x0 (ix2 r k)) (fun k => x2 (ix2 k d)) (fun k => x1 (ix2 r k)) (fun k => x3 (ix2 k d))
          * x4 (ix2 r d) * rmsInv fun e => x4 (ix2 r e) := by
  rw [val_main_v28_apply, val_main_v27_apply, val_main_cst_3_apply]
  show Ideal.ofBits .f32 0x00000000#32 + _ = _
  rw [Ideal.ofBits_zero_f32, zero_add]
  refine Finset.sum_congr rfl fun r _ => ?_
  have i27 : idx_main_v27 (idx_main_v28 (ix2 (0 : Fin 1) d)) r = ix2 r d := by
    funext a; fin_cases a
    · rfl
    · apply Fin.ext; show 0 * 1024 + d.val = d.val; omega
  have i11 : idx_main_v11 (ix2 r d) = ix2 r 0 := by funext a; fin_cases a <;> rfl
  rw [i27, val_main_v26_apply, val_main_v12_apply, val_main_v11_apply, i11, reference_rms, reference_dh]
  show _ * _ * _ = _
  rw [mul_comm, mul_assoc]

end Reference

/-- Both runs end with the same two arrays, where the operands but the carried cotangent are finite. -/
theorem value : Cert.algebraic_Kernel3Ideal_Reference3Ideal_pre_finite3 := by
  intro m g' m' g'' hpre hag
  have h0 (c) (i) : IsReal (da m c i) := real_of_lt (congrFun (hpre c).1 i)
  have h1 (c) (i) : IsReal (db m c i) := real_of_lt (congrFun (hpre c).2.1 i)
  have h2 (c) (i) : IsReal (w1 m c i) := real_of_lt (congrFun (hpre c).2.2.1 i)
  have h3 (c) (i) : IsReal (w3 m c i) := real_of_lt (congrFun (hpre c).2.2.2.1 i)
  have h4 (c) (i) : IsReal (x m c i) := real_of_lt (congrFun (hpre c).2.2.2.2.1 i)
  have h5 (c) (i) : IsReal (g m c i) := real_of_lt (congrFun (hpre c).2.2.2.2.2 i)
  refine ⟨dx m, dg m, ?_, ?_⟩
  · exact (θ_run _ _ _).mono (fun r h c => ⟨((h c).1).trans (final7 m c), ((h c).2.1).trans (final8 m c), (h c).2.2⟩)
      (Cert.Kernel3Ideal.Value.run_blocks (F := Ideal) m g')
  · refine (θ_run _ _ _).mono (fun r h c => ⟨((h c).1).trans ?_, ((h c).2.1).trans ?_, (h c).2.2⟩)
      (Cert.Reference3Ideal.Value.run (F := Ideal) m' g'')
    · refine (val_main_v45_eq (F := Ideal) m' c).trans ?_
      rw [(hag c).1, (hag c).2.1, (hag c).2.2.1, (hag c).2.2.2.1, (hag c).2.2.2.2.1, (hag c).2.2.2.2.2.1, (hag c).2.2.2.2.2.2]
      refine funext fun i => ?_
      obtain ⟨r, d, rfl⟩ : ∃ (r : Fin 8192) (d : Fin 1024), i = ix2 r d := ⟨i 0, i 1, eq_ix2 i⟩
      exact reference_dx _ _ _ _ _ _ _ r d (h0 c) (h1 c) (h2 c) (h3 c) (h4 c) (h5 c)
    · rw [(hag c).1, (hag c).2.1, (hag c).2.2.1, (hag c).2.2.2.1, (hag c).2.2.2.2.1]
      refine (val_main_v28_eq (F := Ideal) _ _ _ _ _).trans (funext fun i => ?_)
      obtain ⟨d, rfl⟩ : ∃ d : Fin 1024, i = ix2 0 d := ⟨i 1, by rw [eq_ix2 i]; congr 1; exact Subsingleton.elim (α := Fin 1) _ _⟩
      exact reference_dg _ _ _ _ _ d

end Cert.Dh

end
-- ==== Proof.Dw1Kernel.lean ====
/- What the weight gradient of the gate branch (`ffn_dw1`) leaves in its result array: a product summed over the
   8192 rows in two halves of 4096, the halves added in the carried scratch, the sum transposed on its way out. -/
module

public import proofs.«01_k».proof.Proof.Gen.Kernel4Ideal.Value
public import Idealize.ShloMosaic.Lib.Pointwise
public import Idealize.ShloMosaic.Lib.Tactic

@[expose] public section

set_option maxRecDepth 16384

noncomputable section

namespace Cert.Dw1

open Cert.Kernel4Ideal Cert.Kernel4Ideal.Gen Idealize.ShloMosaic Idealize.ShloMosaic.TcCoe Idealize.SL.Sem

section Pieces
variable {F : FTy → Type} [FloatOps F]

theorem hz : (![0, 0] : Fin 2 → Nat) = fun _ => 0 := funext fun a => by fin_cases a <;> rfl

/-- The first half's point leaves the product of the blocks, added to zero, in the scratch. -/
theorem scratch_A (c : Dev nD) (i : grid0.Coords) (a3 : Memref sig .tc .vmem S1024x4096 .bf16) (h3 : a3.IsWhole)
    (a4 : Memref sig .tc .vmem S4096x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x0 : Vec F S1024x4096 .bf16) (x1 : Vec F S4096x1024 .bf16) :
    sout0_A_0 c i a3 h3 a4 h4 a5 h5 a6 h6 hc0 hc1 x0 x1 = k0_pay2 (F := F) k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x4096) hz, View.ld_unit_zero (S := S4096x1024) hz]

/-- The second half's point writes out the transpose of the scratch with its own product added. -/
theorem out_B (c : Dev nD) (i : grid0.Coords) (a3 : Memref sig .tc .vmem S1024x4096 .bf16) (h3 : a3.IsWhole)
    (a4 : Memref sig .tc .vmem S4096x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 : Vec F S1024x4096 .bf16) (x1 : Vec F S4096x1024 .bf16) (xs : Vec F S1024x1024 .f32) :
    out0_B_2 c i a3 h3 a4 h4 a5 h5 a6 h6 hc0 hc1 x0 x1 xs = k0_pay3 (k0_pay2 (F := F) xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x4096) hz, View.ld_unit_zero (S := S4096x1024) hz, View.ld_unit_zero (S := S1024x1024) hz, View.readCov_unit_zero (S := S1024x1024) _ hz]

end Pieces

variable (m : (ℓ : Loc nD τ sig) → Buf (Elt Ideal) ℓ)

/-- The rows of the transposed activations, the left operand. -/
abbrev lhs (c : Dev nD) : S1024x8192.Idx → EReal := m ((c : Thread nD τ).loc main_arg0)
/-- The cotangent of the branch, the right operand. -/
abbrev rhs (c : Dev nD) : S8192x3072.Idx → EReal := m ((c : Thread nD τ).loc main_arg1)

theorem index0 : ∀ t : Fin cfg0.N, win0_0.index t 0 = 0 ∧ win0_0.index t 1 = t.val % 2 := by decide +kernel
theorem index1 : ∀ t : Fin cfg0.N, win0_1.index t 0 = t.val % 2 ∧ win0_1.index t 1 = t.val / 2 := by decide +kernel

/-- The left block at a point is a half of the columns of the left operand. -/
theorem block0 (c : Dev nD) (t : Fin cfg0.N) (r : Fin 1024) (k : Fin 4096) :
    (iblk m c 0 t : Vec Ideal S1024x4096 .bf16) (ix2 r k) = lhs m c (ix2 r ⟨4096 * (t.val % 2) + k.val, by omega⟩) := by
  unfold iblk
  rw [View.read_apply]
  show m _ _ = m _ _
  congr 1
  funext a
  apply Fin.ext
  match a with
  | ⟨0, _⟩ => show win0_0.index t 0 * 1024 + 1 * r.val = r.val; rw [(index0 t).1]; omega
  | ⟨1, _⟩ => show win0_0.index t 1 * 4096 + 1 * k.val = 4096 * (t.val % 2) + k.val; rw [(index0 t).2]; omega

/-- The right block at a point is a half of the rows and a third of the columns of the right operand. -/
theorem block1 (c : Dev nD) (t : Fin cfg0.N) (k : Fin 4096) (n : Fin 1024) :
    (iblk m c 1 t : Vec Ideal S4096x1024 .bf16) (ix2 k n)
      = rhs m c (ix2 ⟨4096 * (t.val % 2) + k.val, by omega⟩ ⟨1024 * (t.val / 2) + n.val, by have := t.isLt; have : cfg0.N = 6 := N_0; omega⟩) := by
  unfold iblk
  rw [View.read_apply]
  show m _ _ = m _ _
  congr 1
  funext a
  apply Fin.ext
  match a with
  | ⟨0, _⟩ => show win0_1.index t 0 * 4096 + 1 * k.val = 4096 * (t.val % 2) + k.val; rw [(index1 t).1]; omega
  | ⟨1, _⟩ => show win0_1.index t 1 * 1024 + 1 * n.val = 1024 * (t.val / 2) + n.val; rw [(index1 t).2]; omega

theorem pay_apply (x0 : Vec Ideal S1024x4096 .bf16) (x1 : Vec Ideal S4096x1024 .bf16) (y0 : Vec Ideal S1024x4096 .bf16)
    (y1 : Vec Ideal S4096x1024 .bf16) (n d : Fin 1024) :
    k0_pay3 (F := Ideal) (k0_pay2 (k0_pay2 k0_pay1 x0 x1) y0 y1) (ix2 n d)
      = (∑ k : Fin 4096, x0 (ix2 d k) * x1 (ix2 k n)) + ∑ k : Fin 4096, y0 (ix2 d k) * y1 (ix2 k n) := by
  pointwise [k0_pay3, k0_pay2, k0_pay1]

/-- The array after the run at row `n`, column `d`: the sum over the 8192 rows of the operands' products. -/
theorem result (c : Dev nD) (n : Fin 3072) (d : Fin 1024) :
    Value.G2 m c (ix2 n d) = ∑ k : Fin 8192, lhs m c (ix2 d k) * rhs m c (ix2 k n) := by
  have hN : cfg0.N = 6 := N_0
  have hr : Value.run2Of (ix2 n d) = n.val / 1024 := by
    show 1 * (n.val / 1024 - 0) + 1 * (d.val / 1024 - 0) = _
    omega
  have hp : Value.pt2Of (ix2 n d) = 2 * (n.val / 1024) + 1 := by show 2 * Value.run2Of (ix2 n d) + 1 = _; rw [hr]
  have hlt : 2 * (n.val / 1024) + 1 < cfg0.N := by omega
  have hl : Value.loc2Of (ix2 n d) = ix2 (⟨n.val % 1024, by omega⟩ : Fin 1024) d := by
    funext a
    apply Fin.ext
    match a with
    | ⟨0, _⟩ => rfl
    | ⟨1, _⟩ => show d.val % 1024 = d.val; omega
  unfold Value.G2
  rw [dif_pos (by rw [hp]; exact hlt), Value.fold0_congr m c _ _ _ (by omega) hp, ← Value.outsAt0_sweep m c _ hlt,
    outsAt0_B m c ⟨2 * (n.val / 1024) + 1, hlt⟩ (by dsimp only; omega) (by dsimp only; omega)]
  dsimp only
  rw [out_B, outsAt0_A m c ⟨2 * (n.val / 1024) + 1 - 1, by omega⟩ (by dsimp only; omega) (by dsimp only; omega)]
  dsimp only
  rw [scratch_A, hl, pay_apply, Fin.sum_univ_two_halves 4096 4096 rfl]
  congr 1 <;> refine Finset.sum_congr rfl fun k _ => ?_ <;> rw [block0, block1] <;> congr 1 <;> congr 1 <;> congr 1 <;> apply Fin.ext <;> dsimp only <;> omega

end Cert.Dw1

end
-- ==== Proof.Dw1.lean ====
/- The weight gradient of the gate branch: the kernel's array is the reference's, at the extended reals. -/
module

public import proofs.«01_k».proof.Defs
public import proofs.«01_k».proof.Proof.Dw1Kernel
public import proofs.«01_k».proof.Proof.Gen.Reference4Ideal.Run
public import proofs.«01_k».proof.Proof.Gen.Reference4Ideal.Read

@[expose] public section

set_option maxRecDepth 16384

noncomputable section

namespace Cert.Dw1

open Idealize.ShloMosaic Idealize.SL.Sem

/-- The reference's array at row `n`, column `d`, over the same operands. -/
theorem reference (x0 : Vec Ideal Cert.Reference4Ideal.S1024x8192 .bf16) (x1 : Vec Ideal Cert.Reference4Ideal.S8192x3072 .bf16)
    (n : Fin 3072) (d : Fin 1024) :
    Cert.Reference4Ideal.Read.val_main_v9 (F := Ideal) x0 x1 (ix2 n d) = ∑ k : Fin 8192, x0 (ix2 d k) * x1 (ix2 k n) := by
  rw [Cert.Reference4Ideal.Read.val_main_v9_apply, Cert.Reference4Ideal.Read.val_main_v8_apply,
    Cert.Reference4Ideal.Read.val_main_v7_apply, Ideal.truncf_def, Cert.Reference4Ideal.Read.val_main_v6_apply]
  refine Finset.sum_congr rfl fun k _ => ?_
  rw [mul_comm, Cert.Reference4Ideal.Read.val_main_v5_apply, Cert.Reference4Ideal.Read.val_main_v2_apply,
    Cert.Reference4Ideal.Read.val_main_v1_apply, Ideal.extf_def, Ideal.extf_def]
  congr 1 <;> congr 1 <;> funext a <;> fin_cases a <;> rfl

/-- Both runs end with the same array. -/
theorem value : Cert.algebraic_Kernel4Ideal_Reference4Ideal := by
  intro m g m' g' _ hag
  refine ⟨fun c => Cert.Kernel4Ideal.Value.G2 m c, Cert.Kernel4Ideal.Value.run m g, ?_⟩
  refine (θ_run _ _ _).mono (fun r h c => ⟨((h c).1).trans ?_, (h c).2⟩) (Cert.Reference4Ideal.Value.run (F := Ideal) m' g')
  rw [(hag c).1, (hag c).2]
  refine (Cert.Reference4Ideal.Read.val_main_v9_eq (F := Ideal) _ _).trans (funext fun i => ?_)
  obtain ⟨n, d, rfl⟩ : ∃ (n : Fin 3072) (d : Fin 1024), i = ix2 n d := ⟨i 0, i 1, eq_ix2 i⟩
  exact (reference _ _ n d).trans (result m c n d).symm

end Cert.Dw1

end
-- ==== Proof.Dw2Kernel.lean ====
/- What the weight gradient of the down projection (`ffn_dw2`) leaves in its result array: a product summed over the
   8192 rows in two halves of 4096, the halves added in the carried scratch, the sum halved and transposed on its way out. -/
module

public import proofs.«01_k».proof.Proof.Gen.Kernel5Ideal.Value
public import Idealize.ShloMosaic.Lib.Pointwise
public import Idealize.ShloMosaic.Lib.Tactic

@[expose] public section

set_option maxRecDepth 16384

noncomputable section

namespace Cert.Dw2

open Cert.Kernel5Ideal Cert.Kernel5Ideal.Gen Idealize.ShloMosaic Idealize.ShloMosaic.TcCoe Idealize.SL.Sem

section Pieces
variable {F : FTy → Type} [FloatOps F]

theorem hz : (![0, 0] : Fin 2 → Nat) = fun _ => 0 := funext fun a => by fin_cases a <;> rfl

/-- The first half's point leaves the product of the blocks, added to zero, in the scratch. -/
theorem scratch_A (c : Dev nD) (i : grid0.Coords) (a3 : Memref sig .tc .vmem S1024x4096 .bf16) (h3 : a3.IsWhole)
    (a4 : Memref sig .tc .vmem S4096x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x0 : Vec F S1024x4096 .bf16) (x1 : Vec F S4096x1024 .bf16) :
    sout0_A_0 c i a3 h3 a4 h4 a5 h5 a6 h6 hc0 hc1 x0 x1 = k0_pay2 (F := F) k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x4096) hz, View.ld_unit_zero (S := S4096x1024) hz]

/-- The second half's point writes out half the transpose of the scratch with its own product added. -/
theorem out_B (c : Dev nD) (i : grid0.Coords) (a3 : Memref sig .tc .vmem S1024x4096 .bf16) (h3 : a3.IsWhole)
    (a4 : Memref sig .tc .vmem S4096x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x0 : Vec F S1024x4096 .bf16) (x1 : Vec F S4096x1024 .bf16) (xs : Vec F S1024x1024 .f32) :
    out0_B_2 c i a3 h3 a4 h4 a5 h5 a6 h6 hc0 hc1 x0 x1 xs = k0_pay3 (k0_pay2 (F := F) xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x4096) hz, View.ld_unit_zero (S := S4096x1024) hz, View.ld_unit_zero (S := S1024x1024) hz, View.readCov_unit_zero (S := S1024x1024) _ hz]

end Pieces

variable (m : (ℓ : Loc nD τ sig) → Buf (Elt Ideal) ℓ)

/-- The transposed cotangent of the residual stream, the left operand. -/
abbrev lhs (c : Dev nD) : S1024x8192.Idx → EReal := m ((c : Thread nD τ).loc main_arg0)
/-- The gated activations, the right operand. -/
abbrev rhs (c : Dev nD) : S8192x3072.Idx → EReal := m ((c : Thread nD τ).loc main_arg1)

theorem index0 : ∀ t : Fin cfg0.N, win0_0.index t 0 = 0 ∧ win0_0.index t 1 = t.val % 2 := by decide +kernel
theorem index1 : ∀ t : Fin cfg0.N, win0_1.index t 0 = t.val % 2 ∧ win0_1.index t 1 = t.val / 2 := by decide +kernel

/-- The left block at a point is a half of the columns of the left operand. -/
theorem block0 (c : Dev nD) (t : Fin cfg0.N) (r : Fin 1024) (k : Fin 4096) :
    (iblk m c 0 t : Vec Ideal S1024x4096 .bf16) (ix2 r k) = lhs m c (ix2 r ⟨4096 * (t.val % 2) + k.val, by omega⟩) := by
  unfold iblk
  rw [View.read_apply]
  show m _ _ = m _ _
  congr 1
  funext a
  apply Fin.ext
  match a with
  | ⟨0, _⟩ => show win0_0.index t 0 * 1024 + 1 * r.val = r.val; rw [(index0 t).1]; omega
  | ⟨1, _⟩ => show win0_0.index t 1 * 4096 + 1 * k.val = 4096 * (t.val % 2) + k.val; rw [(index0 t).2]; omega

/-- The right block at a point is a half of the rows and a third of the columns of the right operand. -/
theorem block1 (c : Dev nD) (t : Fin cfg0.N) (k : Fin 4096) (n : Fin 1024) :
    (iblk m c 1 t : Vec Ideal S4096x1024 .bf16) (ix2 k n)
      = rhs m c (ix2 ⟨4096 * (t.val % 2) + k.val, by omega⟩ ⟨1024 * (t.val / 2) + n.val, by have := t.isLt; have : cfg0.N = 6 := N_0; omega⟩) := by
  unfold iblk
  rw [View.read_apply]
  show m _ _ = m _ _
  congr 1
  funext a
  apply Fin.ext
  match a with
  | ⟨0, _⟩ => show win0_1.index t 0 * 4096 + 1 * k.val = 4096 * (t.val % 2) + k.val; rw [(index1 t).1]; omega
  | ⟨1, _⟩ => show win0_1.index t 1 * 1024 + 1 * n.val = 1024 * (t.val / 2) + n.val; rw [(index1 t).2]; omega

theorem pay_apply (x0 : Vec Ideal S1024x4096 .bf16) (x1 : Vec Ideal S4096x1024 .bf16) (y0 : Vec Ideal S1024x4096 .bf16)
    (y1 : Vec Ideal S4096x1024 .bf16) (n d : Fin 1024) :
    k0_pay3 (F := Ideal) (k0_pay2 (k0_pay2 k0_pay1 x0 x1) y0 y1) (ix2 n d)
      = ((∑ k : Fin 4096, x0 (ix2 d k) * x1 (ix2 k n)) + ∑ k : Fin 4096, y0 (ix2 d k) * y1 (ix2 k n))
        * Ideal.ofBits .f32 0x3F000000#32 := by
  pointwise [k0_pay3, k0_pay2, k0_pay1]

/-- The array after the run at row `n`, column `d`: half the sum over the 8192 rows of the operands' products. -/
theorem result (c : Dev nD) (n : Fin 3072) (d : Fin 1024) :
    Value.G2 m c (ix2 n d) = (∑ k : Fin 8192, lhs m c (ix2 d k) * rhs m c (ix2 k n)) * Ideal.ofBits .f32 0x3F000000#32 := by
  have hN : cfg0.N = 6 := N_0
  have hr : Value.run2Of (ix2 n d) = n.val / 1024 := by
    show 1 * (n.val / 1024 - 0) + 1 * (d.val / 1024 - 0) = _
    omega
  have hp : Value.pt2Of (ix2 n d) = 2 * (n.val / 1024) + 1 := by show 2 * Value.run2Of (ix2 n d) + 1 = _; rw [hr]
  have hlt : 2 * (n.val / 1024) + 1 < cfg0.N := by omega
  have hl : Value.loc2Of (ix2 n d) = ix2 (⟨n.val % 1024, by omega⟩ : Fin 1024) d := by
    funext a
    apply Fin.ext
    match a with
    | ⟨0, _⟩ => rfl
    | ⟨1, _⟩ => show d.val % 1024 = d.val; omega
  unfold Value.G2
  rw [dif_pos (by rw [hp]; exact hlt), Value.fold0_congr m c _ _ _ (by omega) hp, ← Value.outsAt0_sweep m c _ hlt,
    outsAt0_B m c ⟨2 * (n.val / 1024) + 1, hlt⟩ (by dsimp only; omega) (by dsimp only; omega)]
  dsimp only
  rw [out_B, outsAt0_A m c ⟨2 * (n.val / 1024) + 1 - 1, by omega⟩ (by dsimp only; omega) (by dsimp only; omega)]
  dsimp only
  rw [scratch_A, hl, pay_apply, Fin.sum_univ_two_halves 4096 4096 rfl]
  congr 2 <;> refine Finset.sum_congr rfl fun k _ => ?_ <;> rw [block0, block1] <;> congr 1 <;> congr 1 <;> congr 1 <;> apply Fin.ext <;> dsimp only <;> omega

end Cert.Dw2

end
-- ==== Proof.Dw2.lean ====
/- The weight gradient of the down projection: the kernel's array is the reference's, at the extended reals. -/
module

public import proofs.«01_k».proof.Defs
public import proofs.«01_k».proof.Proof.Dw2Kernel
public import proofs.«01_k».proof.Proof.Scalar
public import proofs.«01_k».proof.Proof.Gen.Reference5Ideal.Run
public import proofs.«01_k».proof.Proof.Gen.Reference5Ideal.Read

@[expose] public section

set_option maxRecDepth 16384

noncomputable section

namespace Cert.Dw2

open Idealize.ShloMosaic Idealize.SL.Sem

/-- The reference's array at row `n`, column `d`, over the same operands: the cotangent is halved before the product. -/
theorem reference (x0 : Vec Ideal Cert.Reference5Ideal.S1024x8192 .bf16) (x1 : Vec Ideal Cert.Reference5Ideal.S8192x3072 .bf16)
    (n : Fin 3072) (d : Fin 1024) :
    Cert.Reference5Ideal.Read.val_main_v11 (F := Ideal) x0 x1 (ix2 n d)
      = ∑ k : Fin 8192, x0 (ix2 d k) * Ideal.ofBits .f32 0x3F000000#32 * x1 (ix2 k n) := by
  rw [Cert.Reference5Ideal.Read.val_main_v11_apply, Cert.Reference5Ideal.Read.val_main_v10_apply, Ideal.truncf_def,
    Cert.Reference5Ideal.Read.val_main_v9_apply]
  refine Finset.sum_congr rfl fun k _ => ?_
  rw [Cert.Reference5Ideal.Read.val_main_v8_apply, Cert.Reference5Ideal.Read.val_main_v7_apply, Cert.Reference5Ideal.Read.val_main_cst_1_apply,
    Cert.Reference5Ideal.Read.val_main_v6_apply, Cert.Reference5Ideal.Read.val_main_v5_apply, Cert.Reference5Ideal.Read.val_main_v1_apply,
    Ideal.extf_def, Ideal.extf_def, Ideal.mulf_def, Ideal.ofBits_def]
  congr 1 <;> congr 1 <;> (try congr 1) <;> funext a <;> fin_cases a <;> rfl

/-- Both runs end with the same array. -/
theorem value : Cert.algebraic_Kernel5Ideal_Reference5Ideal := by
  intro m g m' g' _ hag
  refine ⟨fun c => Cert.Kernel5Ideal.Value.G2 m c, Cert.Kernel5Ideal.Value.run m g, ?_⟩
  refine (θ_run _ _ _).mono (fun r h c => ⟨((h c).1).trans ?_, (h c).2⟩) (Cert.Reference5Ideal.Value.run (F := Ideal) m' g')
  rw [(hag c).1, (hag c).2]
  refine (Cert.Reference5Ideal.Read.val_main_v11_eq (F := Ideal) _ _).trans (funext fun i => ?_)
  obtain ⟨n, d, rfl⟩ : ∃ (n : Fin 3072) (d : Fin 1024), i = ix2 n d := ⟨i 0, i 1, eq_ix2 i⟩
  exact (reference _ _ n d).trans ((Cert.Scalar.half_sum _ _ _).symm.trans (result m c n d).symm)

end Cert.Dw2

end
-- ==== Proof.MixDh.lean ====
/- The backward of the mixer's input (`mix_dh`): the kernel's three arrays are the reference's, at the extended reals,
   where the projection's cotangent, the weight, the rows and the gain are finite. -/
module

public import proofs.«01_k».proof.Defs
public import proofs.«01_k».proof.Proof.Scalar
public import proofs.«01_k».proof.Proof.Gen.Kernel6Ideal.Value
public import proofs.«01_k».proof.Proof.Gen.Reference6Ideal.Run
public import proofs.«01_k».proof.Proof.Gen.Reference6Ideal.Read
public import Idealize.ShloMosaic.Lib.Tactic
public import Idealize.ShloMosaic.Lib.Pipeline.ValueKit
public import Idealize.ShloMosaic.Lib.Pointwise

@[expose] public section

set_option maxRecDepth 16384

noncomputable section

/-- The shape relations the finiteness predicate's operations take. -/
instance Cert.MixDh.preFacts : Cert.Pre_finite6.Facts where
  bcast_S_S8192x1536 := by decide
  bitsLt_bf16_f32 := by decide
  bcast_S_S1024x1536 := by decide
  bcast_S_S8192x1024 := by decide
  bcast_S_S1x1024 := by decide

namespace Cert.MixDh

open Idealize.ShloMosaic Idealize.ShloMosaic.TcCoe Idealize.SL.Sem

open Cert.Scalar

/-- The cotangent of the normalised rows at one place: the product with the weight's row. -/
def dhAt (dp w : Fin 1536 → EReal) : EReal := ∑ k : Fin 1536, dp k * w k

section Kernel

open Cert.Kernel6Ideal Cert.Kernel6Ideal.Gen

section Payloads

variable (x0 : Vec Ideal S512x1536 .f32) (x1 : Vec Ideal S1024x1536 .bf16) (x2 x3 : Vec Ideal S512x1024 .f32) (x4 : Vec Ideal S1x1024 .f32)
  (r : Fin 512) (d : Fin 1024)

theorem pay5_apply : k0_pay5 (F := Ideal) x0 x1 (ix2 r d) = dhAt (fun k => x0 (ix2 r k)) (fun k => x1 (ix2 d k)) := by
  pointwise [k0_pay5, dhAt]

theorem pay6_apply (z : Fin 1) : k0_pay6 (F := Ideal) x2 (ix2 r z) = rmsInv fun e => x2 (ix2 r e) := by
  pointwise [k0_pay6, rmsInv, mean]

theorem pay7_apply : k0_pay7 (F := Ideal) x0 x1 x4 (ix2 r d) = k0_pay5 (F := Ideal) x0 x1 (ix2 r d) * x4 (ix2 0 d) := by
  pointwise [k0_pay7]

theorem pay8_apply : k0_pay8 (F := Ideal) x0 x1 x2 x4 (ix2 r d)
    = k0_pay6 (F := Ideal) x2 (ix2 r 0) * k0_pay7 (F := Ideal) x0 x1 x4 (ix2 r d) := by
  pointwise [k0_pay8]

theorem pay9_apply : k0_pay9 (F := Ideal) x2 (ix2 r d)
    = x2 (ix2 r d) * (k0_pay6 (F := Ideal) x2 (ix2 r 0) * k0_pay6 (F := Ideal) x2 (ix2 r 0) * k0_pay6 (F := Ideal) x2 (ix2 r 0)) := by
  pointwise [k0_pay9]

theorem pay10_apply : k0_pay10 (F := Ideal) x0 x1 x2 x4 (ix2 r d)
    = mean fun e => x2 (ix2 r e) * k0_pay7 (F := Ideal) x0 x1 x4 (ix2 r e) := by
  pointwise [k0_pay10, mean]

/-- What a point stores of the residual stream's cotangent. -/
theorem dx_apply : k0_pay1 (F := Ideal) x3 (k0_pay8 x0 x1 x2 x4) (k0_pay9 x2) (k0_pay10 x0 x1 x2 x4) (ix2 r d)
    = x3 (ix2 r d) + rmsBwd (fun e => x2 (ix2 r e)) (fun e => dhAt (fun k => x0 (ix2 r k)) (fun k => x1 (ix2 e k)) * x4 (ix2 0 e)) d := by
  pointwise [k0_pay1, rmsBwd, pay8_apply, pay9_apply, pay10_apply, pay7_apply, pay6_apply, pay5_apply]

/-- The same, transposed. -/
theorem dxT_apply : k0_pay2 (F := Ideal) x3 (k0_pay8 x0 x1 x2 x4) (k0_pay9 x2) (k0_pay10 x0 x1 x2 x4) (ix2 d r)
    = x3 (ix2 r d) + rmsBwd (fun e => x2 (ix2 r e)) (fun e => dhAt (fun k => x0 (ix2 r k)) (fun k => x1 (ix2 e k)) * x4 (ix2 0 e)) d := by
  pointwise [k0_pay2, dx_apply]

/-- What a point adds to the gain's gradient. -/
theorem dg_apply (y : Vec Ideal S1x1024 .f32) :
    k0_pay3 (F := Ideal) (k0_pay5 x0 x1) x2 (k0_pay6 x2) y (ix2 0 d)
      = y (ix2 0 d) + ∑ r : Fin 512, dhAt (fun k => x0 (ix2 r k)) (fun k => x1 (ix2 d k))
          * x2 (ix2 r d) * rmsInv fun e => x2 (ix2 r e) := by
  pointwise [k0_pay3, pay6_apply, pay5_apply]

end Payloads

/-! ## The three result arrays -/

variable (m : (ℓ : Loc nD τ sig) → Buf (Elt Ideal) ℓ)

abbrev dp (c : Dev nD) : S8192x1536.Idx → EReal := m ((c : Thread nD τ).loc main_arg0)
abbrev w (c : Dev nD) : S1024x1536.Idx → EReal := m ((c : Thread nD τ).loc main_arg1)
abbrev x (c : Dev nD) : S8192x1024.Idx → EReal := m ((c : Thread nD τ).loc main_arg2)
abbrev g (c : Dev nD) : S1x1024.Idx → EReal := m ((c : Thread nD τ).loc main_arg3)
abbrev dres (c : Dev nD) : S8192x1024.Idx → EReal := m ((c : Thread nD τ).loc main_arg4)

/-- The cotangent of the normalised rows. -/
def dh (c : Dev nD) (r : Fin 8192) (d : Fin 1024) : EReal := dhAt (fun k => dp m c (ix2 r k)) (fun k => w m c (ix2 d k))

/-- The cotangent of the residual stream. -/
def dx (c : Dev nD) : S8192x1024.Idx → EReal := fun i =>
  dres m c (ix2 (i 0) (i 1)) + rmsBwd (fun e => x m c (ix2 (i 0) e)) (fun e => dh m c (i 0) e * g m c (ix2 0 e)) (i 1)

/-- The cotangent of the residual stream, transposed. -/
def dxT (c : Dev nD) : S1024x8192.Idx → EReal := fun i =>
  dres m c (ix2 (i 1) (i 0)) + rmsBwd (fun e => x m c (ix2 (i 1) e)) (fun e => dh m c (i 1) e * g m c (ix2 0 e)) (i 0)

/-- The gradient of the gain. -/
def dg (c : Dev nD) : S1x1024.Idx → EReal := fun i =>
  ∑ r : Fin 8192, dh m c r (i 1) * x m c (ix2 r (i 1)) * rmsInv fun e => x m c (ix2 r e)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, t.val]
    ∧ win0_7.index t = ![0, 0] := by decide +kernel

/-- Row `r` of the row block of point `t`. -/
abbrev row (t : Fin cfg0.N) (r : Fin 512) : Fin 8192 := ⟨t.val * 512 + r.val, by have := t.isLt; have : cfg0.N = 16 := N_0; omega⟩

theorem block0 (c : Dev nD) (t : Fin cfg0.N) (r : Fin 512) (k : Fin 1536) :
    (iblk m c 0 t : Vec Ideal S512x1536 .f32) (ix2 r k) = dp m c (ix2 (row t r) k) := by blk_ext [iblk, V, idx t]
theorem block1 (c : Dev nD) (t : Fin cfg0.N) (d : Fin 1024) (k : Fin 1536) :
    (iblk m c 1 t : Vec Ideal S1024x1536 .bf16) (ix2 d k) = w m c (ix2 d k) := by blk_ext [iblk, V, idx t]
theorem block2 (c : Dev nD) (t : Fin cfg0.N) (r : Fin 512) (d : Fin 1024) :
    (iblk m c 2 t : Vec Ideal S512x1024 .f32) (ix2 r d) = x m c (ix2 (row t r) d) := by blk_ext [iblk, V, idx t]
theorem block3 (c : Dev nD) (t : Fin cfg0.N) (r : Fin 512) (d : Fin 1024) :
    (iblk m c 3 t : Vec Ideal S512x1024 .f32) (ix2 r d) = dres m c (ix2 (row t r) d) := by blk_ext [iblk, V, idx t]
theorem block4 (c : Dev nD) (t : Fin cfg0.N) (d : Fin 1024) :
    (iblk m c 4 t : Vec Ideal S1x1024 .f32) (ix2 0 d) = g m c (ix2 0 d) := by blk_ext [iblk, V, idx t]

theorem emb5 (t : Fin cfg0.N) (r : Fin 512) (d : Fin 1024) : ((cfg0.win 5).blk t).view.emb (ix2 r d) = ix2 (row t r) d := by
  blk_ext [idx t]
theorem emb6 (t : Fin cfg0.N) (d : Fin 1024) (r : Fin 512) : ((cfg0.win 6).blk t).view.emb (ix2 d r) = ix2 d (row t r) := by
  blk_ext [idx t]

/-- The first array after the run. -/
theorem final5 (c : Dev nD) : (dats m 0 c).arrAt 5 cfg0.N = dx m c := by
  refine (dats m 0 c).arrAt_eq_of_covers 5 _ (by decide +kernel) fun t hf y => ?_
  obtain ⟨r, d, rfl⟩ : ∃ (r : Fin 512) (d : Fin 1024), y = ix2 r d := ⟨y 0, y 1, eq_ix2 y⟩
  rw [emb5, after0_5]
  refine Eq.trans ?_ ((dx_apply (iblk m c 0 t) (iblk m c 1 t) (iblk m c 2 t) (iblk m c 3 t) (iblk m c 4 t) r d).trans ?_)
  · by_cases h : t.val % 16 = 0
    · rw [outsAt0_A m c t h]; frame_out; rfl
    · rw [outsAt0_B m c t h]; frame_out; rfl
  · simp only [block0, block1, block2, block3, block4]
    rfl

/-- The second array after the run. -/
theorem final6 (c : Dev nD) : (dats m 0 c).arrAt 6 cfg0.N = dxT m c := by
  refine (dats m 0 c).arrAt_eq_of_covers 6 _ (by decide +kernel) fun t hf y => ?_
  obtain ⟨d, r, rfl⟩ : ∃ (d : Fin 1024) (r : Fin 512), y = ix2 d r := ⟨y 0, y 1, eq_ix2 y⟩
  rw [emb6, after0_6]
  refine Eq.trans ?_ ((dxT_apply (iblk m c 0 t) (iblk m c 1 t) (iblk m c 2 t) (iblk m c 3 t) (iblk m c 4 t) r d).trans ?_)
  · by_cases h : t.val % 16 = 0
    · rw [outsAt0_A m c t h]; frame_out; rfl
    · rw [outsAt0_B m c t h]; frame_out; rfl
  · simp only [block0, block1, block2, block3, block4]
    rfl

/-- What a point adds to the gain's gradient, over the whole operands. -/
def part (c : Dev nD) (t : Fin cfg0.N) (i : S1x1024.Idx) : EReal :=
  ∑ r : Fin 512, dh m c (row t r) (i 1) * x m c (ix2 (row t r) (i 1)) * rmsInv fun e => x m c (ix2 (row t r) e)

theorem step (c : Dev nD) (t : Fin cfg0.N) (y : Vec Ideal S1x1024 .f32) (i : S1x1024.Idx) :
    k0_pay3 (F := Ideal) (k0_pay5 (iblk m c 0 t) (iblk m c 1 t)) (iblk m c 2 t) (k0_pay6 (iblk m c 2 t)) y i
      = y i + part m c t i := by
  obtain ⟨d, rfl⟩ : ∃ d : Fin 1024, i = ix2 0 d := ⟨i 1, by rw [eq_ix2 i]; congr 1; exact Subsingleton.elim (α := Fin 1) _ _⟩
  refine (dg_apply (iblk m c 0 t) (iblk m c 1 t) (iblk m c 2 t) d y).trans ?_
  simp only [block0, block1, block2]
  rfl

theorem zero_apply (i : S1x1024.Idx) : k0_pay4 (F := Ideal) i = 0 := by
  pointwise [k0_pay4]

/-- The third array after the run. -/
theorem final7 (c : Dev nD) : (dats m 0 c).arrAt 7 cfg0.N = dg m c := by
  refine (dats m 0 c).arrAt_eq_of_covers 7 _ (by decide +kernel) fun t hf y => ?_
  have hN : cfg0.N = 16 := N_0
  have e : ((cfg0.win 7).blk t).view.emb y = y := by blk_ext [idx t]
  rw [e, after0_7, Pipeline.eq_sum_fin_of_reset_step_apply_of_flush (fun n h => (outsAt0 m c n h).2.2) 16 (fun _ => 0) (part m c)
    (fun t h i => by rw [outsAt0_A m c t h]; frame_out; rw [step, zero_apply])
    (fun t h i => by rw [outsAt0_B m c t h]; frame_out; rw [step]) t ((flush0_7 t).mp hf) y, zero_add]
  unfold part dg
  have hlt : t.val < 16 := lt_of_lt_of_eq t.isLt hN
  have ht : t.val / 16 = 0 := by omega
  refine Fin.sum_mul_add_congr fun s k hl => ?_
  have hr : row ⟨16 * (t.val / 16) + s.val, lt_of_lt_of_eq (by omega) hN.symm⟩ k = ⟨s.val * 512 + k.val, hl⟩ :=
    Fin.ext (show (16 * (t.val / 16) + s.val) * 512 + k.val = s.val * 512 + k.val by omega)
  rw [hr]

end Kernel

section Reference

open Cert.Reference6Ideal Cert.Reference6Ideal.Read

variable (x0 : Vec Ideal S8192x1536 .f32) (x1 : Vec Ideal S1024x1536 .bf16) (x2 : Vec Ideal S8192x1024 .f32) (x3 : Vec Ideal S1x1024 .f32)
  (x4 : Vec Ideal S8192x1024 .f32)

/-- The mean square with the small constant added. -/
theorem reference_ms (r : Fin 8192) (z : Fin 1) : val_main_v6 (F := Ideal) x2 (ix2 r z)
    = mean (fun e => x2 (ix2 r e) * x2 (ix2 r e)) + Ideal.ofBits .f32 0x358637BD#32 := by
  pointwise [val_main_v6, val_main_v5, val_main_v4, val_main_v3, val_main_v2, val_main_v1, val_main_v0, val_main_cst, val_main_cst_0, val_main_cst_1, mean]

theorem reference_rms (r : Fin 8192) (z : Fin 1) : val_main_v7 (F := Ideal) x2 (ix2 r z) = rmsInv fun e => x2 (ix2 r e) := by
  pointwise [val_main_v7, reference_ms, rmsInv]

theorem reference_dh (r : Fin 8192) (d : Fin 1024) :
    val_main_v17 (F := Ideal) x0 x1 (ix2 r d) = dhAt (fun k => x0 (ix2 r k)) (fun k => x1 (ix2 d k)) := by
  pointwise [val_main_v17, val_main_v15, dhAt]

theorem reference_v (r : Fin 8192) (d : Fin 1024) :
    val_main_v22 (F := Ideal) x0 x1 x3 (ix2 r d) = dhAt (fun k => x0 (ix2 r k)) (fun k => x1 (ix2 d k)) * x3 (ix2 0 d) := by
  pointwise [val_main_v22, val_main_v21, reference_dh]

theorem reference_xv (r : Fin 8192) (z : Fin 1) : val_main_v25 (F := Ideal) x0 x1 x2 x3 (ix2 r z)
    = ∑ e : Fin 1024, x2 (ix2 r e) * (dhAt (fun k => x0 (ix2 r k)) (fun k => x1 (ix2 e k)) * x3 (ix2 0 e)) := by
  pointwise [val_main_v25, val_main_v24, val_main_v23, val_main_cst_4, reference_v]

/-- The mean square's term of the reference's cotangent. -/
theorem reference_y (r : Fin 8192) (d : Fin 1024) : val_main_v33 (F := Ideal) x0 x1 x2 x3 (ix2 r d)
    = Ideal.div (val_main_v25 (F := Ideal) x0 x1 x2 x3 (ix2 r 0) * (Ideal.ofBits .f32 0xBF000000#32
        * Ideal.div (val_main_v7 (F := Ideal) x2 (ix2 r 0)) (val_main_v6 (F := Ideal) x2 (ix2 r 0)))) (Ideal.ofBits .f32 0x44800000#32) := by
  pointwise [val_main_v33, val_main_v32, val_main_v31, val_main_v30, val_main_v29, val_main_v10, val_main_v9, val_main_v8, val_main_cst_2, val_main_cst_5, val_main_cst_6]
  exact Fin.sum_univ_one _

/-- The reference's cotangent of the residual stream. -/
theorem reference_dx (r : Fin 8192) (d : Fin 1024)
    (h0 : ∀ i, IsReal (x0 i)) (h1 : ∀ i, IsReal (x1 i)) (h2 : ∀ i, IsReal (x2 i)) (h3 : ∀ i, IsReal (x3 i)) :
    val_main_v37 (F := Ideal) x0 x1 x2 x3 x4 (ix2 r d)
      = x4 (ix2 r d) + rmsBwd (fun e => x2 (ix2 r e))
          (fun e => dhAt (fun k => x0 (ix2 r k)) (fun k => x1 (ix2 e k)) * x3 (ix2 0 e)) d := by
  have hv (e : Fin 1024) : IsReal (dhAt (fun k => x0 (ix2 r k)) (fun k => x1 (ix2 e k)) * x3 (ix2 0 e)) :=
    (IsReal.sum _ _ fun k _ => (h0 _).mul (h1 _)).mul (h3 _)
  rw [rms_bwd (fun e => h2 _) hv]
  pointwise [val_main_v37, val_main_v36, val_main_v35, val_main_v34, val_main_v28, val_main_v27, val_main_v26,
    reference_y, reference_xv, reference_v, reference_rms, reference_ms]

/-- The same, transposed. -/
theorem reference_dxT (d : Fin 1024) (r : Fin 8192) :
    val_main_v39 (F := Ideal) x0 x1 x2 x3 x4 (ix2 d r) = val_main_v37 (F := Ideal) x0 x1 x2 x3 x4 (ix2 r d) := by
  pointwise [val_main_v39, val_main_v38]

/-- The reference's gradient of the gain. -/
theorem reference_dg (d : Fin 1024) :
    val_main_v20 (F := Ideal) x0 x1 x2 (ix2 0 d)
      = ∑ r : Fin 8192, dhAt (fun k => x0 (ix2 r k)) (fun k => x1 (ix2 d k)) * x2 (ix2 r d) * rmsInv fun e => x2 (ix2 r e) := by
  have h : val_main_v20 (F := Ideal) x0 x1 x2 (ix2 0 d)
      = ∑ r : Fin 8192, x2 (ix2 r d) * (rmsInv fun e => x2 (ix2 r e)) * dhAt (fun k => x0 (ix2 r k)) (fun k => x1 (ix2 d k)) := by
    pointwise [val_main_v20, val_main_v19, val_main_v18, val_main_v12, val_main_v11, val_main_cst_3, reference_rms, reference_dh]
  rw [h]
  exact Finset.sum_congr rfl fun r _ => by rw [mul_comm, mul_assoc]

end Reference

/-- Both runs end with the same three arrays, where the operands but the carried cotangent are finite. -/
theorem value : Cert.algebraic_Kernel6Ideal_Reference6Ideal_pre_finite6 := by
  intro m g0 m' g1 hpre hag
  have h0 (c) (i) : IsReal (dp m c i) := real_of_lt (congrFun (hpre c).1 i)
  have h1 (c) (i) : IsReal (w m c i) := real_of_lt (congrFun (hpre c).2.1 i)
  have h2 (c) (i) : IsReal (x m c i) := real_of_lt (congrFun (hpre c).2.2.1 i)
  have h3 (c) (i) : IsReal (g m c i) := real_of_lt (congrFun (hpre c).2.2.2 i)
  refine ⟨dx m, dxT m, dg m, ?_, ?_⟩
  · exact (θ_run _ _ _).mono (fun r h c => ⟨((h c).1).trans (final5 m c), ((h c).2.1).trans (final6 m c), ((h c).2.2.1).trans (final7 m c), (h c).2.2.2⟩)
      (Cert.Kernel6Ideal.Value.run_blocks (F := Ideal) m g0)
  · refine (θ_run _ _ _).mono (fun r h c => ⟨((h c).1).trans ?_, ((h c).2.1).trans ?_, ((h c).2.2.1).trans ?_, (h c).2.2.2⟩)
      (Cert.Reference6Ideal.Value.run (F := Ideal) m' g1)
    · refine (Cert.Reference6Ideal.Read.val_main_v37_eq (F := Ideal) m' c).trans ?_
      rw [(hag c).1, (hag c).2.1, (hag c).2.2.1, (hag c).2.2.2.1, (hag c).2.2.2.2]
      refine funext fun i => ?_
      obtain ⟨r, d, rfl⟩ : ∃ (r : Fin 8192) (d : Fin 1024), i = ix2 r d := ⟨i 0, i 1, eq_ix2 i⟩
      exact reference_dx _ _ _ _ _ r d (h0 c) (h1 c) (h2 c) (h3 c)
    · refine (Cert.Reference6Ideal.Read.val_main_v39_eq (F := Ideal) m' c).trans ?_
      rw [(hag c).1, (hag c).2.1, (hag c).2.2.1, (hag c).2.2.2.1, (hag c).2.2.2.2]
      refine funext fun i => ?_
      obtain ⟨d, r, rfl⟩ : ∃ (d : Fin 1024) (r : Fin 8192), i = ix2 d r := ⟨i 0, i 1, eq_ix2 i⟩
      exact (reference_dxT _ _ _ _ _ d r).trans (reference_dx _ _ _ _ _ r d (h0 c) (h1 c) (h2 c) (h3 c))
    · rw [(hag c).1, (hag c).2.1, (hag c).2.2.1]
      refine (Cert.Reference6Ideal.Read.val_main_v20_eq (F := Ideal) _ _ _).trans (funext fun i => ?_)
      obtain ⟨d, rfl⟩ : ∃ d : Fin 1024, i = ix2 0 d := ⟨i 1, by rw [eq_ix2 i]; congr 1; exact Subsingleton.elim (α := Fin 1) _ _⟩
      exact reference_dg _ _ _ d

end Cert.MixDh

end
-- ==== Proof.MixDwin.lean ====
/- The gradient of the mixer's input weight (`mix_dwin`): the kernel's array is the reference's, at the extended
   reals. The kernel sums the 8192 rows in four quarters, in a carried scratch. -/
module

public import proofs.«01_k».proof.Defs
public import proofs.«01_k».proof.Proof.Scalar
public import proofs.«01_k».proof.Proof.Gen.Kernel7Ideal.Value
public import proofs.«01_k».proof.Proof.Gen.Reference7Ideal.Run
public import proofs.«01_k».proof.Proof.Gen.Reference7Ideal.Read
public import Idealize.ShloMosaic.Lib.Tactic
public import Idealize.ShloMosaic.Lib.Pipeline.ValueKit
public import Idealize.ShloMosaic.Lib.Pointwise

@[expose] public section

set_option maxRecDepth 16384

noncomputable section

namespace Cert.MixDwin

open Idealize.ShloMosaic Idealize.ShloMosaic.TcCoe Idealize.SL.Sem

section Kernel

open Cert.Kernel7Ideal Cert.Kernel7Ideal.Gen

theorem zero_apply (r : Fin 1024) (d : Fin 768) : k0_pay1 (F := Ideal) (ix2 r d) = 0 := by
  pointwise [k0_pay1]

/-- What a point adds to the carried sum. -/
theorem add_apply (y : Vec Ideal S1024x768 .f32) (x0 : Vec Ideal S1024x2048 .bf16) (x1 : Vec Ideal S2048x768 .f32) (r : Fin 1024) (d : Fin 768) :
    k0_pay2 (F := Ideal) y x0 x1 (ix2 r d) = y (ix2 r d) + ∑ k : Fin 2048, x0 (ix2 r k) * x1 (ix2 k d) := by
  pointwise [k0_pay2]

theorem cast_apply (y : Vec Ideal S1024x768 .f32) (i : S1024x768.Idx) : k0_pay3 (F := Ideal) y i = y i := by
  pointwise [k0_pay3]

variable (m : (ℓ : Loc nD τ sig) → Buf (Elt Ideal) ℓ)

abbrev hT (c : Dev nD) : S1024x8192.Idx → EReal := m ((c : Thread nD τ).loc main_arg0)
abbrev dp (c : Dev nD) : S8192x1536.Idx → EReal := m ((c : Thread nD τ).loc main_arg1)

/-- The gradient of the input weight: the products of the rows' activations and cotangents summed over the rows. -/
def out (c : Dev nD) : S1024x1536.Idx → EReal := fun i => ∑ k : Fin 8192, hT m c (ix2 (i 0) k) * dp m c (ix2 k (i 1))

theorem idx : ∀ t : Fin cfg0.N, win0_0.index t = ![0, t.val % 4] ∧ win0_1.index t = ![t.val % 4, t.val / 4] ∧ win0_2.index t = ![0, t.val / 4] := by
  decide +kernel

/-- Row `k` of the operands' rows of point `t`. -/
abbrev kk (t : Fin cfg0.N) (k : Fin 2048) : Fin 8192 := ⟨t.val % 4 * 2048 + k.val, by omega⟩
/-- Column `d` of the column block of point `t`. -/
abbrev col (t : Fin cfg0.N) (d : Fin 768) : Fin 1536 := ⟨t.val / 4 * 768 + d.val, by have := t.isLt; have : cfg0.N = 8 := N_0; omega⟩

theorem block0 (c : Dev nD) (t : Fin cfg0.N) (r : Fin 1024) (k : Fin 2048) :
    (iblk m c 0 t : Vec Ideal S1024x2048 .bf16) (ix2 r k) = hT m c (ix2 r (kk t k)) := by blk_ext [iblk, V, idx t]
theorem block1 (c : Dev nD) (t : Fin cfg0.N) (k : Fin 2048) (d : Fin 768) :
    (iblk m c 1 t : Vec Ideal S2048x768 .f32) (ix2 k d) = dp m c (ix2 (kk t k) (col t d)) := by blk_ext [iblk, V, idx t]

theorem emb2 (t : Fin cfg0.N) (r : Fin 1024) (d : Fin 768) : ((cfg0.win 2).blk t).view.emb (ix2 r d) = ix2 r (col t d) := by
  blk_ext [idx t]

/-- What a point adds to the carried sum, over the whole operands. -/
def part (c : Dev nD) (t : Fin cfg0.N) (i : S1024x768.Idx) : EReal :=
  ∑ k : Fin 2048, hT m c (ix2 (i 0) (kk t k)) * dp m c (ix2 (kk t k) (col t (i 1)))

theorem step (c : Dev nD) (t : Fin cfg0.N) (y : Vec Ideal S1024x768 .f32) (i : S1024x768.Idx) :
    k0_pay2 (F := Ideal) y (iblk m c 0 t) (iblk m c 1 t) i = y i + part m c t i := by
  obtain ⟨r, d, rfl⟩ : ∃ (r : Fin 1024) (d : Fin 768), i = ix2 r d := ⟨i 0, i 1, eq_ix2 i⟩
  refine (add_apply y (iblk m c 0 t) (iblk m c 1 t) r d).trans ?_
  simp only [block0, block1]
  rfl

theorem zero (i : S1024x768.Idx) : k0_pay1 (F := Ideal) i = 0 := by
  obtain ⟨r, d, rfl⟩ : ∃ (r : Fin 1024) (d : Fin 768), i = ix2 r d := ⟨i 0, i 1, eq_ix2 i⟩
  exact zero_apply r d

/-- The carried sum at the last point of a run: all its points' terms. -/
theorem carried (c : Dev nD) (t : Fin cfg0.N) (ht : t.val % 4 = 3) (r : Fin 1024) (d : Fin 768) :
    (outsAt0 m c t.val t.isLt).2 (ix2 r d) = out m c (ix2 r (col t d)) := by
  have hN : cfg0.N = 8 := N_0
  rw [Pipeline.eq_sum_fin_of_reset_step_apply_of_flush (fun n h => (outsAt0 m c n h).2) 4 (fun _ => 0) (part m c)
    (fun t h i => by rw [outsAt0_A m c t h (by omega)]; frame_out; rw [step, zero])
    (fun t h i => by
      by_cases h1 : t.val % 4 = 3
      · rw [outsAt0_C m c t h h1]; frame_out; rw [step]; exact congrArg (· + part m c t i) (congrFun ((Memref.isWhole_whole cc0_scratch0).read_unread _) i)
      · rw [outsAt0_B m c t h h1]; frame_out; rw [step]; exact congrArg (· + part m c t i) (congrFun ((Memref.isWhole_whole cc0_scratch0).read_unread _) i)) t ht (ix2 r d), zero_add]
  unfold part out
  have hlt : t.val < 8 := lt_of_lt_of_eq t.isLt hN
  refine Fin.sum_mul_add_congr fun s k hl => ?_
  have hs : kk ⟨4 * (t.val / 4) + s.val, lt_of_lt_of_eq (by omega) hN.symm⟩ k = ⟨s.val * 2048 + k.val, hl⟩ :=
    Fin.ext (show (4 * (t.val / 4) + s.val) % 4 * 2048 + k.val = s.val * 2048 + k.val by omega)
  have hd : col ⟨4 * (t.val / 4) + s.val, lt_of_lt_of_eq (by omega) hN.symm⟩ d = col t d :=
    Fin.ext (show (4 * (t.val / 4) + s.val) / 4 * 768 + d.val = t.val / 4 * 768 + d.val by omega)
  show hT m c (ix2 r (kk _ k)) * dp m c (ix2 (kk _ k) (col _ d)) = _
  rw [hs, hd]
  rfl

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 1024) (d : Fin 768), y = ix2 r d := ⟨y 0, y 1, eq_ix2 y⟩
  have ht : t.val % 4 = 3 := (flush0_2 t).mp hf
  rw [emb2, after0_2, ← carried m c t ht r d, outsAt0_C m c t (by omega) ht]
  frame_out
  exact cast_apply _ _

end Kernel

section Reference

open Cert.Reference7Ideal Cert.Reference7Ideal.Read

theorem reference_apply (x0 : Vec Ideal S1024x8192 .bf16) (x1 : Vec Ideal S8192x1536 .f32) (r : Fin 1024) (d : Fin 1536) :
    val_main_v6 (F := Ideal) x0 x1 (ix2 r d) = ∑ k : Fin 8192, x0 (ix2 r k) * x1 (ix2 k d) := by
  pointwise [val_main_v6, val_main_v5, val_main_v4, val_main_v2, val_main_v1]
  exact Finset.sum_congr rfl fun k _ => mul_comm _ _

end Reference

/-- Both runs end with the same array. -/
theorem value : Cert.algebraic_Kernel7Ideal_Reference7Ideal := by
  intro m g m' g' _ hag
  refine ⟨out m, ?_, ?_⟩
  · exact (θ_run _ _ _).mono (fun r h c => ⟨((h c).1).trans (final2 m c), (h c).2⟩)
      (Cert.Kernel7Ideal.Value.run_blocks (F := Ideal) m g)
  · refine (θ_run _ _ _).mono (fun r h c => ⟨((h c).1).trans ?_, (h c).2⟩)
      (Cert.Reference7Ideal.Value.run (F := Ideal) m' g')
    rw [(hag c).1, (hag c).2]
    refine (Cert.Reference7Ideal.Read.val_main_v6_eq (F := Ideal) _ _).trans (funext fun i => ?_)
    obtain ⟨r, d, rfl⟩ : ∃ (r : Fin 1024) (d : Fin 1536), i = ix2 r d := ⟨i 0, i 1, eq_ix2 i⟩
    exact reference_apply _ _ r d

end Cert.MixDwin

end
-- ==== Proof.MixDmixed.lean ====
/- The cotangent of the mixed channels (`mix_dmixed`): the kernel's array is the reference's, at the extended reals. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Tactic
public import Idealize.ShloMosaic.Lib.Pipeline.ValueKit
public import Idealize.ShloMosaic.Lib.Pointwise

@[expose] public section

set_option maxRecDepth 16384

noncomputable section

namespace Cert.MixDmixed

open Idealize.ShloMosaic Idealize.ShloMosaic.TcCoe Idealize.SL.Sem

section Kernel

open Cert.Kernel8Ideal Cert.Kernel8Ideal.Gen

/-- What a point stores: the block product. -/
theorem pay_apply (x0 : Vec Ideal S1024x1024 .f32) (x1 : Vec Ideal S1024x1024 .bf16) (r : Fin 1024) (d : Fin 1024) :
    k0_pay1 (F := Ideal) x0 x1 (ix2 r d) = ∑ k : Fin 1024, x0 (ix2 r k) * x1 (ix2 d k) := by
  pointwise [k0_pay1]

variable (m : (ℓ : Loc nD τ sig) → Buf (Elt Ideal) ℓ)

abbrev dx (c : Dev nD) : S8192x1024.Idx → EReal := m ((c : Thread nD τ).loc main_arg0)
abbrev wo (c : Dev nD) : S1024x1024.Idx → EReal := m ((c : Thread nD τ).loc main_arg1)

/-- The cotangent of the mixed channels: the residual's cotangent times the transposed output weight. -/
def out (c : Dev nD) : S8192x1024.Idx → EReal := fun i => ∑ k : Fin 1024, dx m c (ix2 (i 0) k) * wo m c (ix2 (i 1) k)

theorem idx : ∀ t : Fin cfg0.N, win0_0.index t = ![t.val, 0] ∧ win0_1.index t = ![0, 0] ∧ win0_2.index t = ![t.val, 0] := by
  decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (k : Fin 1024) :
    (iblk m c 0 t : Vec Ideal S1024x1024 .f32) (ix2 r k) = dx m c (ix2 (row t r) k) := by blk_ext [iblk, V, idx t]
theorem block1 (c : Dev nD) (t : Fin cfg0.N) (d : Fin 1024) (k : Fin 1024) :
    (iblk m c 1 t : Vec Ideal S1024x1024 .bf16) (ix2 d k) = wo m c (ix2 d k) := by blk_ext [iblk, V, idx t]

theorem emb2 (t : Fin cfg0.N) (r : Fin 1024) (d : Fin 1024) :
    ((cfg0.win 2).blk t).view.emb (ix2 r d) = ix2 (row t r) d := by blk_ext [idx t]

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 1024) (d : Fin 1024), y = ix2 r d := ⟨y 0, y 1, eq_ix2 y⟩
  rw [emb2, after0_2]
  refine Eq.trans ?_ ((pay_apply (iblk m c 0 t) (iblk m c 1 t) r d).trans ?_)
  · frame_out; rfl
  · simp only [block0, block1]
    rfl

end Kernel

section Reference

open Cert.Reference8Ideal Cert.Reference8Ideal.Read

theorem reference_apply (x0 : Vec Ideal S8192x1024 .f32) (x1 : Vec Ideal S1024x1024 .bf16) (r : Fin 8192) (d : Fin 1024) :
    val_main_v3 (F := Ideal) x0 x1 (ix2 r d) = ∑ k : Fin 1024, x0 (ix2 r k) * x1 (ix2 d k) := by
  pointwise [val_main_v3, val_main_v1]

end Reference

/-- Both runs end with the same array. -/
theorem value : Cert.algebraic_Kernel8Ideal_Reference8Ideal := by
  intro m g m' g' _ hag
  refine ⟨out m, ?_, ?_⟩
  · exact (θ_run _ _ _).mono (fun r h c => ⟨((h c).1).trans (final2 m c), (h c).2⟩)
      (Cert.Kernel8Ideal.Value.run_blocks (F := Ideal) m g)
  · refine (θ_run _ _ _).mono (fun r h c => ⟨((h c).1).trans ?_, (h c).2⟩)
      (Cert.Reference8Ideal.Value.run (F := Ideal) m' g')
    rw [(hag c).1, (hag c).2]
    refine (Cert.Reference8Ideal.Read.val_main_v3_eq (F := Ideal) _ _).trans (funext fun i => ?_)
    obtain ⟨r, d, rfl⟩ : ∃ (r : Fin 8192) (d : Fin 1024), i = ix2 r d := ⟨i 0, i 1, eq_ix2 i⟩
    exact reference_apply _ _ r d

end Cert.MixDmixed

end
-- ==== Proof.MixDwo.lean ====
/- The gradient of the mixer's output weight (`mix_dwo`): the kernel's array is the reference's, at the extended
   reals. The kernel sums the 8192 rows in four quarters, in a carried scratch. -/
module

public import proofs.«01_k».proof.Defs
public import proofs.«01_k».proof.Proof.Scalar
public import proofs.«01_k».proof.Proof.Gen.Kernel9Ideal.Value
public import proofs.«01_k».proof.Proof.Gen.Reference9Ideal.Run
public import proofs.«01_k».proof.Proof.Gen.Reference9Ideal.Read
public import Idealize.ShloMosaic.Lib.Tactic
public import Idealize.ShloMosaic.Lib.Pipeline.ValueKit
public import Idealize.ShloMosaic.Lib.Pointwise

@[expose] public section

set_option maxRecDepth 16384

noncomputable section

namespace Cert.MixDwo

open Idealize.ShloMosaic Idealize.ShloMosaic.TcCoe Idealize.SL.Sem

section Kernel

open Cert.Kernel9Ideal Cert.Kernel9Ideal.Gen

theorem zero_apply (r : Fin 1024) (d : Fin 1024) : k0_pay1 (F := Ideal) (ix2 r d) = 0 := by
  pointwise [k0_pay1]

/-- What a point adds to the carried sum. -/
theorem add_apply (y : Vec Ideal S1024x1024 .f32) (x0 : Vec Ideal S2048x1024 .bf16) (x1 : Vec Ideal S2048x1024 .f32) (r : Fin 1024) (d : Fin 1024) :
    k0_pay2 (F := Ideal) y x0 x1 (ix2 r d) = y (ix2 r d) + ∑ k : Fin 2048, x0 (ix2 k r) * x1 (ix2 k d) := by
  pointwise [k0_pay2]

theorem cast_apply (y : Vec Ideal S1024x1024 .f32) (i : S1024x1024.Idx) : k0_pay3 (F := Ideal) y i = y i := by
  pointwise [k0_pay3]

variable (m : (ℓ : Loc nD τ sig) → Buf (Elt Ideal) ℓ)

abbrev mx (c : Dev nD) : S8192x1024.Idx → EReal := m ((c : Thread nD τ).loc main_arg0)
abbrev dx (c : Dev nD) : S8192x1024.Idx → EReal := m ((c : Thread nD τ).loc main_arg1)

/-- The gradient of the output weight: the products of the rows' mixed channels and cotangents summed over the rows. -/
def out (c : Dev nD) : S1024x1024.Idx → EReal := fun i => ∑ k : Fin 8192, mx m c (ix2 k (i 0)) * dx m c (ix2 k (i 1))

theorem idx : ∀ t : Fin cfg0.N, win0_0.index t = ![t.val % 4, 0] ∧ win0_1.index t = ![t.val % 4, 0] ∧ win0_2.index t = ![0, 0] := by
  decide +kernel

/-- Row `k` of the operands' rows of point `t`. -/
abbrev kk (t : Fin cfg0.N) (k : Fin 2048) : Fin 8192 := ⟨t.val % 4 * 2048 + k.val, by omega⟩

theorem block0 (c : Dev nD) (t : Fin cfg0.N) (r : Fin 1024) (k : Fin 2048) :
    (iblk m c 0 t : Vec Ideal S2048x1024 .bf16) (ix2 k r) = mx m c (ix2 (kk t k) r) := by blk_ext [iblk, V, idx t]
theorem block1 (c : Dev nD) (t : Fin cfg0.N) (k : Fin 2048) (d : Fin 1024) :
    (iblk m c 1 t : Vec Ideal S2048x1024 .f32) (ix2 k d) = dx m c (ix2 (kk t k) d) := by blk_ext [iblk, V, idx t]

theorem emb2 (t : Fin cfg0.N) (r : Fin 1024) (d : Fin 1024) : ((cfg0.win 2).blk t).view.emb (ix2 r d) = ix2 r d := by
  blk_ext [idx t]

/-- What a point adds to the carried sum, over the whole operands. -/
def part (c : Dev nD) (t : Fin cfg0.N) (i : S1024x1024.Idx) : EReal :=
  ∑ k : Fin 2048, mx m c (ix2 (kk t k) (i 0)) * dx m c (ix2 (kk t k) (i 1))

theorem step (c : Dev nD) (t : Fin cfg0.N) (y : Vec Ideal S1024x1024 .f32) (i : S1024x1024.Idx) :
    k0_pay2 (F := Ideal) y (iblk m c 0 t) (iblk m c 1 t) i = y i + part m c t i := by
  obtain ⟨r, d, rfl⟩ : ∃ (r : Fin 1024) (d : Fin 1024), i = ix2 r d := ⟨i 0, i 1, eq_ix2 i⟩
  refine (add_apply y (iblk m c 0 t) (iblk m c 1 t) r d).trans ?_
  simp only [block0, block1]
  rfl

theorem zero (i : S1024x1024.Idx) : k0_pay1 (F := Ideal) i = 0 := by
  obtain ⟨r, d, rfl⟩ : ∃ (r : Fin 1024) (d : Fin 1024), i = ix2 r d := ⟨i 0, i 1, eq_ix2 i⟩
  exact zero_apply r d

/-- The carried sum at the last point of a run: all its points' terms. -/
theorem carried (c : Dev nD) (t : Fin cfg0.N) (ht : t.val % 4 = 3) (r : Fin 1024) (d : Fin 1024) :
    (outsAt0 m c t.val t.isLt).2 (ix2 r d) = out m c (ix2 r d) := by
  have hN : cfg0.N = 4 := N_0
  rw [Pipeline.eq_sum_fin_of_reset_step_apply_of_flush (fun n h => (outsAt0 m c n h).2) 4 (fun _ => 0) (part m c)
    (fun t h i => by rw [outsAt0_A m c t h (by omega)]; frame_out; rw [step, zero])
    (fun t h i => by
      by_cases h1 : t.val % 4 = 3
      · rw [outsAt0_C m c t h h1]; frame_out; rw [step]; exact congrArg (· + part m c t i) (congrFun ((Memref.isWhole_whole cc0_scratch0).read_unread _) i)
      · rw [outsAt0_B m c t h h1]; frame_out; rw [step]; exact congrArg (· + part m c t i) (congrFun ((Memref.isWhole_whole cc0_scratch0).read_unread _) i)) t ht (ix2 r d), zero_add]
  unfold part out
  have hlt : t.val < 4 := lt_of_lt_of_eq t.isLt hN
  refine Fin.sum_mul_add_congr fun s k hl => ?_
  have hs : kk ⟨4 * (t.val / 4) + s.val, lt_of_lt_of_eq (by omega) hN.symm⟩ k = ⟨s.val * 2048 + k.val, hl⟩ :=
    Fin.ext (show (4 * (t.val / 4) + s.val) % 4 * 2048 + k.val = s.val * 2048 + k.val by omega)
  show mx m c (ix2 (kk _ k) r) * dx m c (ix2 (kk _ k) d) = _
  rw [hs]
  rfl

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 1024) (d : Fin 1024), y = ix2 r d := ⟨y 0, y 1, eq_ix2 y⟩
  have ht : t.val % 4 = 3 := (flush0_2 t).mp hf
  rw [emb2, after0_2, ← carried m c t ht r d, outsAt0_C m c t (by omega) ht]
  frame_out
  exact cast_apply _ _

end Kernel

section Reference

open Cert.Reference9Ideal Cert.Reference9Ideal.Read

theorem reference_apply (x0 : Vec Ideal S8192x1024 .bf16) (x1 : Vec Ideal S8192x1024 .f32) (r : Fin 1024) (d : Fin 1024) :
    val_main_v5 (F := Ideal) x0 x1 (ix2 r d) = ∑ k : Fin 8192, x0 (ix2 k r) * x1 (ix2 k d) := by
  pointwise [val_main_v5, val_main_v4, val_main_v3, val_main_v1]
  exact Finset.sum_congr rfl fun k _ => mul_comm _ _

end Reference

/-- Both runs end with the same array. -/
theorem value : Cert.algebraic_Kernel9Ideal_Reference9Ideal := by
  intro m g m' g' _ hag
  refine ⟨out m, ?_, ?_⟩
  · exact (θ_run _ _ _).mono (fun r h c => ⟨((h c).1).trans (final2 m c), (h c).2⟩)
      (Cert.Kernel9Ideal.Value.run_blocks (F := Ideal) m g)
  · refine (θ_run _ _ _).mono (fun r h c => ⟨((h c).1).trans ?_, (h c).2⟩)
      (Cert.Reference9Ideal.Value.run (F := Ideal) m' g')
    rw [(hag c).1, (hag c).2]
    refine (Cert.Reference9Ideal.Read.val_main_v5_eq (F := Ideal) _ _).trans (funext fun i => ?_)
    obtain ⟨r, d, rfl⟩ : ∃ (r : Fin 1024) (d : Fin 1024), i = ix2 r d := ⟨i 0, i 1, eq_ix2 i⟩
    exact reference_apply _ _ r d

end Cert.MixDwo

end
-- ==== Proof.S5Dgate.lean ====
/- The cotangent through the gate's product (`s5_dgate`): the kernel's array is the reference's, at the extended reals. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Tactic
public import Idealize.ShloMosaic.Lib.Pipeline.ValueKit
public import Idealize.ShloMosaic.Lib.Pointwise

@[expose] public section

set_option maxRecDepth 16384

noncomputable section

namespace Cert.S5Dgate

open Idealize.ShloMosaic Idealize.ShloMosaic.TcCoe Idealize.SL.Sem

section Kernel

open Cert.Kernel10Ideal Cert.Kernel10Ideal.Gen

/-- What a point stores: the block product. -/
theorem pay_apply (x0 : Vec Ideal S1024x512 .bf16) (x1 : Vec Ideal S512x512 .bf16) (r : Fin 1024) (d : Fin 512) :
    k0_pay1 (F := Ideal) x0 x1 (ix2 r d) = ∑ k : Fin 512, x0 (ix2 r k) * x1 (ix2 d k) := by
  pointwise [k0_pay1]

variable (m : (ℓ : Loc nD τ sig) → Buf (Elt Ideal) ℓ)

abbrev dq (c : Dev nD) : S8192x512.Idx → EReal := m ((c : Thread nD τ).loc main_arg0)
abbrev wg (c : Dev nD) : S512x512.Idx → EReal := m ((c : Thread nD τ).loc main_arg1)

/-- The cotangent of the gate's input: the pre-activation's cotangent times the transposed gate weight. -/
def out (c : Dev nD) : S8192x512.Idx → EReal := fun i => ∑ k : Fin 512, dq m c (ix2 (i 0) k) * wg m c (ix2 (i 1) k)

theorem idx : ∀ t : Fin cfg0.N, win0_0.index t = ![t.val, 0] ∧ win0_1.index t = ![0, 0] ∧ win0_2.index t = ![t.val, 0] := by
  decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (k : Fin 512) :
    (iblk m c 0 t : Vec Ideal S1024x512 .bf16) (ix2 r k) = dq m c (ix2 (row t r) k) := by blk_ext [iblk, V, idx t]
theorem block1 (c : Dev nD) (t : Fin cfg0.N) (d : Fin 512) (k : Fin 512) :
    (iblk m c 1 t : Vec Ideal S512x512 .bf16) (ix2 d k) = wg m c (ix2 d k) := by blk_ext [iblk, V, idx t]

theorem emb2 (t : Fin cfg0.N) (r : Fin 1024) (d : Fin 512) :
    ((cfg0.win 2).blk t).view.emb (ix2 r d) = ix2 (row t r) d := by blk_ext [idx t]

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 1024) (d : Fin 512), y = ix2 r d := ⟨y 0, y 1, eq_ix2 y⟩
  rw [emb2, after0_2]
  refine Eq.trans ?_ ((pay_apply (iblk m c 0 t) (iblk m c 1 t) r d).trans ?_)
  · frame_out; rfl
  · simp only [block0, block1]
    rfl

end Kernel

section Reference

open Cert.Reference10Ideal Cert.Reference10Ideal.Read

theorem reference_apply (x0 : Vec Ideal S8192x512 .bf16) (x1 : Vec Ideal S512x512 .bf16) (r : Fin 8192) (d : Fin 512) :
    val_main_v4 (F := Ideal) x0 x1 (ix2 r d) = ∑ k : Fin 512, x0 (ix2 r k) * x1 (ix2 d k) := by
  pointwise [val_main_v4, val_main_v3, val_main_v1]

end Reference

/-- Both runs end with the same array. -/
theorem value : Cert.algebraic_Kernel10Ideal_Reference10Ideal := by
  intro m g m' g' _ hag
  refine ⟨out m, ?_, ?_⟩
  · exact (θ_run _ _ _).mono (fun r h c => ⟨((h c).1).trans (final2 m c), (h c).2⟩)
      (Cert.Kernel10Ideal.Value.run_blocks (F := Ideal) m g)
  · refine (θ_run _ _ _).mono (fun r h c => ⟨((h c).1).trans ?_, (h c).2⟩)
      (Cert.Reference10Ideal.Value.run (F := Ideal) m' g')
    rw [(hag c).1, (hag c).2]
    refine (Cert.Reference10Ideal.Read.val_main_v4_eq (F := Ideal) _ _).trans (funext fun i => ?_)
    obtain ⟨r, d, rfl⟩ : ∃ (r : Fin 8192) (d : Fin 512), i = ix2 r d := ⟨i 0, i 1, eq_ix2 i⟩
    exact reference_apply _ _ r d

end Cert.S5Dgate

end
-- ==== Proof.S5Dwg.lean ====
/- The gradient of the gate's weight (`s5_dwg`): the kernel's array is the reference's, at the extended reals. The
   kernel sums the 8192 rows in two halves, in a carried scratch. -/
module

public import proofs.«01_k».proof.Defs
public import proofs.«01_k».proof.Proof.Scalar
public import proofs.«01_k».proof.Proof.Gen.Kernel11Ideal.Value
public import proofs.«01_k».proof.Proof.Gen.Reference11Ideal.Run
public import proofs.«01_k».proof.Proof.Gen.Reference11Ideal.Read
public import Idealize.ShloMosaic.Lib.Tactic
public import Idealize.ShloMosaic.Lib.Pipeline.ValueKit
public import Idealize.ShloMosaic.Lib.Pointwise

@[expose] public section

set_option maxRecDepth 16384

noncomputable section

namespace Cert.S5Dwg

open Idealize.ShloMosaic Idealize.ShloMosaic.TcCoe Idealize.SL.Sem

section Kernel

open Cert.Kernel11Ideal Cert.Kernel11Ideal.Gen

theorem zero_apply (r : Fin 512) (d : Fin 512) : k0_pay1 (F := Ideal) (ix2 r d) = 0 := by
  pointwise [k0_pay1]

/-- What a point adds to the carried sum. -/
theorem add_apply (y : Vec Ideal S512x512 .f32) (x0 : Vec Ideal S4096x512 .bf16) (x1 : Vec Ideal S4096x512 .bf16) (r : Fin 512) (d : Fin 512) :
    k0_pay2 (F := Ideal) y x0 x1 (ix2 r d) = y (ix2 r d) + ∑ k : Fin 4096, x0 (ix2 k r) * x1 (ix2 k d) := by
  pointwise [k0_pay2]

theorem cast_apply (y : Vec Ideal S512x512 .f32) (i : S512x512.Idx) : k0_pay3 (F := Ideal) y i = y i := by
  pointwise [k0_pay3]

variable (m : (ℓ : Loc nD τ sig) → Buf (Elt Ideal) ℓ)

abbrev yg (c : Dev nD) : S8192x512.Idx → EReal := m ((c : Thread nD τ).loc main_arg0)
abbrev dq (c : Dev nD) : S8192x512.Idx → EReal := m ((c : Thread nD τ).loc main_arg1)

/-- The gradient of the gate weight: the products of the branch's rows and the cotangents summed over the rows. -/
def out (c : Dev nD) : S512x512.Idx → EReal := fun i => ∑ k : Fin 8192, yg m c (ix2 k (i 0)) * dq m c (ix2 k (i 1))

theorem idx : ∀ t : Fin cfg0.N, win0_0.index t = ![t.val % 2, 0] ∧ win0_1.index t = ![t.val % 2, 0] ∧ win0_2.index t = ![0, 0] := by
  decide +kernel

/-- Row `k` of the operands' rows of point `t`. -/
abbrev kk (t : Fin cfg0.N) (k : Fin 4096) : Fin 8192 := ⟨t.val % 2 * 4096 + k.val, by omega⟩

theorem block0 (c : Dev nD) (t : Fin cfg0.N) (r : Fin 512) (k : Fin 4096) :
    (iblk m c 0 t : Vec Ideal S4096x512 .bf16) (ix2 k r) = yg m c (ix2 (kk t k) r) := by blk_ext [iblk, V, idx t]
theorem block1 (c : Dev nD) (t : Fin cfg0.N) (k : Fin 4096) (d : Fin 512) :
    (iblk m c 1 t : Vec Ideal S4096x512 .bf16) (ix2 k d) = dq m c (ix2 (kk t k) d) := by blk_ext [iblk, V, idx t]

theorem emb2 (t : Fin cfg0.N) (r : Fin 512) (d : Fin 512) : ((cfg0.win 2).blk t).view.emb (ix2 r d) = ix2 r d := by
  blk_ext [idx t]

/-- What a point adds to the carried sum, over the whole operands. -/
def part (c : Dev nD) (t : Fin cfg0.N) (i : S512x512.Idx) : EReal :=
  ∑ k : Fin 4096, yg m c (ix2 (kk t k) (i 0)) * dq m c (ix2 (kk t k) (i 1))

theorem step (c : Dev nD) (t : Fin cfg0.N) (y : Vec Ideal S512x512 .f32) (i : S512x512.Idx) :
    k0_pay2 (F := Ideal) y (iblk m c 0 t) (iblk m c 1 t) i = y i + part m c t i := by
  obtain ⟨r, d, rfl⟩ : ∃ (r : Fin 512) (d : Fin 512), i = ix2 r d := ⟨i 0, i 1, eq_ix2 i⟩
  refine (add_apply y (iblk m c 0 t) (iblk m c 1 t) r d).trans ?_
  simp only [block0, block1]
  rfl

theorem zero (i : S512x512.Idx) : k0_pay1 (F := Ideal) i = 0 := by
  obtain ⟨r, d, rfl⟩ : ∃ (r : Fin 512) (d : Fin 512), i = ix2 r d := ⟨i 0, i 1, eq_ix2 i⟩
  exact zero_apply r d

/-- The carried sum at the last point of a run: all its points' terms. -/
theorem carried (c : Dev nD) (t : Fin cfg0.N) (ht : t.val % 2 = 1) (r : Fin 512) (d : Fin 512) :
    (outsAt0 m c t.val t.isLt).2 (ix2 r d) = out m c (ix2 r d) := by
  have hN : cfg0.N = 2 := N_0
  rw [Pipeline.eq_sum_fin_of_reset_step_apply_of_flush (fun n h => (outsAt0 m c n h).2) 2 (fun _ => 0) (part m c)
    (fun t h i => by rw [outsAt0_A m c t h (by omega)]; frame_out; rw [step, zero])
    (fun t h i => by
      rw [outsAt0_B m c t h (by omega)]; frame_out; rw [step]; exact congrArg (· + part m c t i) (congrFun ((Memref.isWhole_whole cc0_scratch0).read_unread _) i)) t ht (ix2 r d), zero_add]
  unfold part out
  have hlt : t.val < 2 := lt_of_lt_of_eq t.isLt hN
  refine Fin.sum_mul_add_congr fun s k hl => ?_
  have hs : kk ⟨2 * (t.val / 2) + s.val, lt_of_lt_of_eq (by omega) hN.symm⟩ k = ⟨s.val * 4096 + k.val, hl⟩ :=
    Fin.ext (show (2 * (t.val / 2) + s.val) % 2 * 4096 + k.val = s.val * 4096 + k.val by omega)
  show yg m c (ix2 (kk _ k) r) * dq m c (ix2 (kk _ k) d) = _
  rw [hs]
  rfl

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 512) (d : Fin 512), y = ix2 r d := ⟨y 0, y 1, eq_ix2 y⟩
  have ht : t.val % 2 = 1 := (flush0_2 t).mp hf
  rw [emb2, after0_2, ← carried m c t ht r d, outsAt0_B m c t (by omega) ht]
  frame_out
  exact cast_apply _ _

end Kernel

section Reference

open Cert.Reference11Ideal Cert.Reference11Ideal.Read

theorem reference_apply (x0 : Vec Ideal S8192x512 .bf16) (x1 : Vec Ideal S8192x512 .bf16) (r : Fin 512) (d : Fin 512) :
    val_main_v6 (F := Ideal) x0 x1 (ix2 r d) = ∑ k : Fin 8192, x0 (ix2 k r) * x1 (ix2 k d) := by
  pointwise [val_main_v6, val_main_v5, val_main_v4, val_main_v3, val_main_v1]
  exact Finset.sum_congr rfl fun k _ => mul_comm _ _

end Reference

/-- Both runs end with the same array. -/
theorem value : Cert.algebraic_Kernel11Ideal_Reference11Ideal := by
  intro m g m' g' _ hag
  refine ⟨out m, ?_, ?_⟩
  · exact (θ_run _ _ _).mono (fun r h c => ⟨((h c).1).trans (final2 m c), (h c).2⟩)
      (Cert.Kernel11Ideal.Value.run_blocks (F := Ideal) m g)
  · refine (θ_run _ _ _).mono (fun r h c => ⟨((h c).1).trans ?_, (h c).2⟩)
      (Cert.Reference11Ideal.Value.run (F := Ideal) m' g')
    rw [(hag c).1, (hag c).2]
    refine (Cert.Reference11Ideal.Read.val_main_v6_eq (F := Ideal) _ _).trans (funext fun i => ?_)
    obtain ⟨r, d, rfl⟩ : ∃ (r : Fin 512) (d : Fin 512), i = ix2 r d := ⟨i 0, i 1, eq_ix2 i⟩
    exact reference_apply _ _ r d

end Cert.S5Dwg

end
-- ==== Proof.FfnUp.lean ====
/- The feed-forward's two input products and their gated product (`ffn_up`): the kernel's three arrays are the
   reference's, at the extended reals. -/
module

public import proofs.«01_k».proof.Defs
public import proofs.«01_k».proof.Proof.Scalar
public import proofs.«01_k».proof.Proof.Gen.Kernel12Ideal.Value
public import proofs.«01_k».proof.Proof.Gen.Reference12Ideal.Run
public import proofs.«01_k».proof.Proof.Gen.Reference12Ideal.Read
public import Idealize.ShloMosaic.Lib.Tactic
public import Idealize.ShloMosaic.Lib.Pipeline.ValueKit
public import Idealize.ShloMosaic.Lib.Pointwise

@[expose] public section

set_option maxRecDepth 16384

noncomputable section

namespace Cert.FfnUp

open Idealize.ShloMosaic Idealize.ShloMosaic.TcCoe Idealize.SL.Sem

/-- A row of activations times a row of the weight. -/
def dot (h w : Fin 1024 → EReal) : EReal := ∑ k : Fin 1024, h k * w k

/-- The gated product: the first branch through its smooth step, times the second. -/
def glu (a b : EReal) : EReal := a * Ideal.logistic a * b

section Kernel

open Cert.Kernel12Ideal Cert.Kernel12Ideal.Gen

section Payloads

variable (x0 x1 x2 : Vec Ideal S1024x1024 .bf16) (r d : Fin 1024)

theorem pay1_apply : k0_pay1 (F := Ideal) x0 x1 (ix2 r d) = dot (fun k => x0 (ix2 r k)) (fun k => x1 (ix2 d k)) := by
  pointwise [k0_pay1, dot]
theorem pay2_apply : k0_pay2 (F := Ideal) x0 x2 (ix2 r d) = dot (fun k => x0 (ix2 r k)) (fun k => x2 (ix2 d k)) := by
  pointwise [k0_pay2, dot]
theorem pay3_apply : k0_pay3 (F := Ideal) x0 x1 (ix2 r d) = dot (fun k => x0 (ix2 r k)) (fun k => x1 (ix2 d k)) := by
  pointwise [k0_pay3, pay1_apply]
theorem pay4_apply : k0_pay4 (F := Ideal) x0 x2 (ix2 r d) = dot (fun k => x0 (ix2 r k)) (fun k => x2 (ix2 d k)) := by
  pointwise [k0_pay4, pay2_apply]
theorem pay5_apply : k0_pay5 (F := Ideal) x0 x1 x2 (ix2 r d)
    = glu (dot (fun k => x0 (ix2 r k)) (fun k => x1 (ix2 d k))) (dot (fun k => x0 (ix2 r k)) (fun k => x2 (ix2 d k))) := by
  pointwise [k0_pay5, pay1_apply, pay2_apply, glu]

end Payloads

variable (m : (ℓ : Loc nD τ sig) → Buf (Elt Ideal) ℓ)

abbrev h (c : Dev nD) : S8192x1024.Idx → EReal := m ((c : Thread nD τ).loc main_arg0)
abbrev w1 (c : Dev nD) : S3072x1024.Idx → EReal := m ((c : Thread nD τ).loc main_arg1)
abbrev w3 (c : Dev nD) : S3072x1024.Idx → EReal := m ((c : Thread nD τ).loc main_arg2)

/-- The first branch. -/
def outA (c : Dev nD) : S8192x3072.Idx → EReal := fun i => dot (fun k => h m c (ix2 (i 0) k)) (fun k => w1 m c (ix2 (i 1) k))
/-- The second branch. -/
def outB (c : Dev nD) : S8192x3072.Idx → EReal := fun i => dot (fun k => h m c (ix2 (i 0) k)) (fun k => w3 m c (ix2 (i 1) k))
/-- The gated product of the two. -/
def outZ (c : Dev nD) : S8192x3072.Idx → EReal := fun i => glu (outA m c i) (outB m c i)

theorem idx : ∀ t : Fin cfg0.N, win0_0.index t = ![t.val / 3, 0] ∧ win0_1.index t = ![t.val % 3, 0] ∧ win0_2.index t = ![t.val % 3, 0]
    ∧ win0_3.index t = ![t.val / 3, t.val % 3] ∧ win0_4.index t = ![t.val / 3, t.val % 3] ∧ win0_5.index t = ![t.val / 3, t.val % 3] := by
  decide +kernel

/-- Row `r` of the row block of point `t`. -/
abbrev row (t : Fin cfg0.N) (r : Fin 1024) : Fin 8192 := ⟨t.val / 3 * 1024 + r.val, by have := t.isLt; have : cfg0.N = 24 := N_0; omega⟩
/-- Column `d` of the column block of point `t`. -/
abbrev col (t : Fin cfg0.N) (d : Fin 1024) : Fin 3072 := ⟨t.val % 3 * 1024 + d.val, by omega⟩

theorem block0 (c : Dev nD) (t : Fin cfg0.N) (r k : Fin 1024) :
    (iblk m c 0 t : Vec Ideal S1024x1024 .bf16) (ix2 r k) = h m c (ix2 (row t r) k) := by blk_ext [iblk, V, idx t]
theorem block1 (c : Dev nD) (t : Fin cfg0.N) (d k : Fin 1024) :
    (iblk m c 1 t : Vec Ideal S1024x1024 .bf16) (ix2 d k) = w1 m c (ix2 (col t d) k) := by blk_ext [iblk, V, idx t]
theorem block2 (c : Dev nD) (t : Fin cfg0.N) (d k : Fin 1024) :
    (iblk m c 2 t : Vec Ideal S1024x1024 .bf16) (ix2 d k) = w3 m c (ix2 (col t d) k) := by blk_ext [iblk, V, idx t]

theorem emb3 (t : Fin cfg0.N) (r d : Fin 1024) : ((cfg0.win 3).blk t).view.emb (ix2 r d) = ix2 (row t r) (col t d) := by
  blk_ext [idx t]
theorem emb4 (t : Fin cfg0.N) (r d : Fin 1024) : ((cfg0.win 4).blk t).view.emb (ix2 r d) = ix2 (row t r) (col t d) := by
  blk_ext [idx t]
theorem emb5 (t : Fin cfg0.N) (r d : Fin 1024) : ((cfg0.win 5).blk t).view.emb (ix2 r d) = ix2 (row t r) (col t d) := by
  blk_ext [idx t]

theorem final3 (c : Dev nD) : (dats m 0 c).arrAt 3 cfg0.N = outA m c := by
  refine (dats m 0 c).arrAt_eq_of_covers 3 _ (by decide +kernel) fun t hf y => ?_
  obtain ⟨r, d, rfl⟩ : ∃ (r : Fin 1024) (d : Fin 1024), y = ix2 r d := ⟨y 0, y 1, eq_ix2 y⟩
  rw [emb3, after0_3]
  refine Eq.trans ?_ ((pay3_apply (iblk m c 0 t) (iblk m c 1 t) r d).trans ?_)
  · frame_out; rfl
  · simp only [block0, block1]
    rfl

theorem final4 (c : Dev nD) : (dats m 0 c).arrAt 4 cfg0.N = outB m c := by
  refine (dats m 0 c).arrAt_eq_of_covers 4 _ (by decide +kernel) fun t hf y => ?_
  obtain ⟨r, d, rfl⟩ : ∃ (r : Fin 1024) (d : Fin 1024), y = ix2 r d := ⟨y 0, y 1, eq_ix2 y⟩
  rw [emb4, after0_4]
  refine Eq.trans ?_ ((pay4_apply (iblk m c 0 t) (iblk m c 2 t) r d).trans ?_)
  · frame_out; rfl
  · simp only [block0, block2]
    rfl

theorem final5 (c : Dev nD) : (dats m 0 c).arrAt 5 cfg0.N = outZ m c := by
  refine (dats m 0 c).arrAt_eq_of_covers 5 _ (by decide +kernel) fun t hf y => ?_
  obtain ⟨r, d, rfl⟩ : ∃ (r : Fin 1024) (d : Fin 1024), y = ix2 r d := ⟨y 0, y 1, eq_ix2 y⟩
  rw [emb5, after0_5]
  refine Eq.trans ?_ ((pay5_apply (iblk m c 0 t) (iblk m c 1 t) (iblk m c 2 t) r d).trans ?_)
  · frame_out; rfl
  · simp only [block0, block1, block2]
    rfl

end Kernel

section Reference

open Cert.Reference12Ideal Cert.Reference12Ideal.Read

variable (x0 : Vec Ideal S8192x1024 .bf16) (x1 x2 : Vec Ideal S3072x1024 .bf16) (r : Fin 8192) (d : Fin 3072)

theorem reference3 : val_main_v3 (F := Ideal) x0 x1 (ix2 r d) = dot (fun k => x0 (ix2 r k)) (fun k => x1 (ix2 d k)) := by
  pointwise [val_main_v3, val_main_v2, val_main_v1, val_main_v0, dot]
theorem reference7 : val_main_v7 (F := Ideal) x0 x2 (ix2 r d) = dot (fun k => x0 (ix2 r k)) (fun k => x2 (ix2 d k)) := by
  pointwise [val_main_v7, val_main_v6, val_main_v5, val_main_v4, dot]
theorem referenceA : val_main_v8 (F := Ideal) x0 x1 (ix2 r d) = dot (fun k => x0 (ix2 r k)) (fun k => x1 (ix2 d k)) := by
  pointwise [val_main_v8, reference3]
theorem referenceB : val_main_v9 (F := Ideal) x0 x2 (ix2 r d) = dot (fun k => x0 (ix2 r k)) (fun k => x2 (ix2 d k)) := by
  pointwise [val_main_v9, reference7]
theorem referenceZ : val_main_v12 (F := Ideal) x0 x1 x2 (ix2 r d)
    = glu (dot (fun k => x0 (ix2 r k)) (fun k => x1 (ix2 d k))) (dot (fun k => x0 (ix2 r k)) (fun k => x2 (ix2 d k))) := by
  have h1 : Ideal.ofBits .f32 0x3F800000#32 = 1 := Ideal.ofBits_one_f32
  have h (a : EReal) : Ideal.logistic a = Ideal.div 1 (1 + Ideal.exp (-a)) := rfl
  pointwise [val_main_v12, val_main_v11, val_main_v10, val_main_call0_v5, val_main_call0_v4, val_main_call0_cst_0,
    val_main_call0_v3, val_main_call0_v2, val_main_call0_cst, val_main_call0_v1, val_main_call0_v0, reference3, reference7, glu, h, h1]

end Reference

/-- Both runs end with the same three arrays. -/
theorem value : Cert.algebraic_Kernel12Ideal_Reference12Ideal := by
  intro m g m' g' _ hag
  refine ⟨outA m, outB m, outZ m, ?_, ?_⟩
  · exact (θ_run _ _ _).mono (fun r h c => ⟨((h c).1).trans (final3 m c), ((h c).2.1).trans (final4 m c), ((h c).2.2.1).trans (final5 m c), (h c).2.2.2⟩)
      (Cert.Kernel12Ideal.Value.run_blocks (F := Ideal) m g)
  · refine (θ_run _ _ _).mono (fun r h c => ⟨((h c).1).trans ?_, ((h c).2.1).trans ?_, ((h c).2.2.1).trans ?_, (h c).2.2.2⟩)
      (Cert.Reference12Ideal.Value.run (F := Ideal) m' g')
    · rw [(hag c).1, (hag c).2.1]
      refine (Cert.Reference12Ideal.Read.val_main_v8_eq (F := Ideal) _ _).trans (funext fun i => ?_)
      obtain ⟨r, d, rfl⟩ : ∃ (r : Fin 8192) (d : Fin 3072), i = ix2 r d := ⟨i 0, i 1, eq_ix2 i⟩
      exact referenceA _ _ r d
    · rw [(hag c).1, (hag c).2.2]
      refine (Cert.Reference12Ideal.Read.val_main_v9_eq (F := Ideal) _ _).trans (funext fun i => ?_)
      obtain ⟨r, d, rfl⟩ : ∃ (r : Fin 8192) (d : Fin 3072), i = ix2 r d := ⟨i 0, i 1, eq_ix2 i⟩
      exact referenceB _ _ r d
    · rw [(hag c).1, (hag c).2.1, (hag c).2.2]
      refine (Cert.Reference12Ideal.Read.val_main_v12_eq (F := Ideal) _ _ _).trans (funext fun i => ?_)
      obtain ⟨r, d, rfl⟩ : ∃ (r : Fin 8192) (d : Fin 3072), i = ix2 r d := ⟨i 0, i 1, eq_ix2 i⟩
      exact referenceZ _ _ _ r d

end Cert.FfnUp

end
-- ==== Proof.FfnDown.lean ====
/- The first feed-forward's output product with the next norm (`ffn1_down`): the kernel's three arrays are the
   reference's, at the extended reals. -/
module

public import proofs.«01_k».proof.Defs
public import proofs.«01_k».proof.Proof.Scalar
public import proofs.«01_k».proof.Proof.Gen.Kernel13Ideal.Value
public import proofs.«01_k».proof.Proof.Gen.Reference13Ideal.Run
public import proofs.«01_k».proof.Proof.Gen.Reference13Ideal.Read
public import Idealize.ShloMosaic.Lib.Tactic
public import Idealize.ShloMosaic.Lib.Pipeline.ValueKit
public import Idealize.ShloMosaic.Lib.Pointwise

@[expose] public section

set_option maxRecDepth 16384

noncomputable section

namespace Cert.FfnDown

open Idealize.ShloMosaic Idealize.ShloMosaic.TcCoe Idealize.SL.Sem

open Cert.Scalar (rmsInv mean)

/-- The residual stream at one place: the row's product with the weight's column, halved, added to what it carried. -/
def res (z w : Fin 3072 → EReal) (x : EReal) : EReal := (∑ k : Fin 3072, z k * w k) * Ideal.ofBits .f32 0x3F000000#32 + x

/-- A row of the residual stream divided by its root mean square and scaled by the gain. -/
def norm (x g : Fin 1024 → EReal) (d : Fin 1024) : EReal := x d * rmsInv x * g d

section Kernel

open Cert.Kernel13Ideal Cert.Kernel13Ideal.Gen

section Payloads

variable (x0 : Vec Ideal S512x3072 .bf16) (x1 : Vec Ideal S3072x1024 .bf16) (x2 : Vec Ideal S512x1024 .f32) (x3 : Vec Ideal S1x1024 .f32)
  (r : Fin 512) (d : Fin 1024)

theorem pay1_apply : k0_pay1 (F := Ideal) x0 x1 x2 (ix2 r d) = res (fun k => x0 (ix2 r k)) (fun k => x1 (ix2 k d)) (x2 (ix2 r d)) := by
  pointwise [k0_pay1, res]
theorem pay2_apply : k0_pay2 (F := Ideal) x0 x1 x2 x3 (ix2 r d)
    = norm (fun e => res (fun k => x0 (ix2 r k)) (fun k => x1 (ix2 k e)) (x2 (ix2 r e))) (fun e => x3 (ix2 0 e)) d := by
  pointwise [k0_pay2, pay1_apply, norm, rmsInv, mean]
theorem pay3_apply : k0_pay3 (F := Ideal) x0 x1 x2 x3 (ix2 r d)
    = norm (fun e => res (fun k => x0 (ix2 r k)) (fun k => x1 (ix2 k e)) (x2 (ix2 r e))) (fun e => x3 (ix2 0 e)) d := by
  pointwise [k0_pay3, pay2_apply]
theorem pay4_apply : k0_pay4 (F := Ideal) x0 x1 x2 x3 (ix2 d r)
    = norm (fun e => res (fun k => x0 (ix2 r k)) (fun k => x1 (ix2 k e)) (x2 (ix2 r e))) (fun e => x3 (ix2 0 e)) d := by
  pointwise [k0_pay4, pay2_apply]

end Payloads

variable (m : (ℓ : Loc nD τ sig) → Buf (Elt Ideal) ℓ)

abbrev z (c : Dev nD) : S8192x3072.Idx → EReal := m ((c : Thread nD τ).loc main_arg0)
abbrev w (c : Dev nD) : S3072x1024.Idx → EReal := m ((c : Thread nD τ).loc main_arg1)
abbrev x (c : Dev nD) : S8192x1024.Idx → EReal := m ((c : Thread nD τ).loc main_arg2)
abbrev g (c : Dev nD) : S1x1024.Idx → EReal := m ((c : Thread nD τ).loc main_arg3)

/-- The residual stream. -/
def outX (c : Dev nD) : S8192x1024.Idx → EReal := fun i => res (fun k => z m c (ix2 (i 0) k)) (fun k => w m c (ix2 k (i 1))) (x m c i)
/-- Its normalised rows. -/
def outH (c : Dev nD) : S8192x1024.Idx → EReal := fun i => norm (fun e => outX m c (ix2 (i 0) e)) (fun e => g m c (ix2 0 e)) (i 1)
/-- The normalised rows, transposed. -/
def outT (c : Dev nD) : S1024x8192.Idx → EReal := fun i => norm (fun e => outX m c (ix2 (i 1) e)) (fun e => g m c (ix2 0 e)) (i 0)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val] := by
  decide +kernel

/-- Row `r` of the row block of point `t`. -/
abbrev row (t : Fin cfg0.N) (r : Fin 512) : Fin 8192 := ⟨t.val * 512 + r.val, by have := t.isLt; have : cfg0.N = 16 := N_0; omega⟩

theorem block0 (c : Dev nD) (t : Fin cfg0.N) (r : Fin 512) (k : Fin 3072) :
    (iblk m c 0 t : Vec Ideal S512x3072 .bf16) (ix2 r k) = z m c (ix2 (row t r) k) := by blk_ext [iblk, V, idx t]
theorem block1 (c : Dev nD) (t : Fin cfg0.N) (k : Fin 3072) (d : Fin 1024) :
    (iblk m c 1 t : Vec Ideal S3072x1024 .bf16) (ix2 k d) = w m c (ix2 k d) := by blk_ext [iblk, V, idx t]
theorem block2 (c : Dev nD) (t : Fin cfg0.N) (r : Fin 512) (d : Fin 1024) :
    (iblk m c 2 t : Vec Ideal S512x1024 .f32) (ix2 r d) = x m c (ix2 (row t r) d) := by blk_ext [iblk, V, idx t]
theorem block3 (c : Dev nD) (t : Fin cfg0.N) (d : Fin 1024) :
    (iblk m c 3 t : Vec Ideal S1x1024 .f32) (ix2 0 d) = g m c (ix2 0 d) := by blk_ext [iblk, V, idx t]

theorem emb4 (t : Fin cfg0.N) (r : Fin 512) (d : Fin 1024) : ((cfg0.win 4).blk t).view.emb (ix2 r d) = ix2 (row t r) d := by
  blk_ext [idx t]
theorem emb5 (t : Fin cfg0.N) (r : Fin 512) (d : Fin 1024) : ((cfg0.win 5).blk t).view.emb (ix2 r d) = ix2 (row t r) d := by
  blk_ext [idx t]
theorem emb6 (t : Fin cfg0.N) (d : Fin 1024) (r : Fin 512) : ((cfg0.win 6).blk t).view.emb (ix2 d r) = ix2 d (row t r) := by
  blk_ext [idx t]

theorem final4 (c : Dev nD) : (dats m 0 c).arrAt 4 cfg0.N = outX m c := by
  refine (dats m 0 c).arrAt_eq_of_covers 4 _ (by decide +kernel) fun t hf y => ?_
  obtain ⟨r, d, rfl⟩ : ∃ (r : Fin 512) (d : Fin 1024), y = ix2 r d := ⟨y 0, y 1, eq_ix2 y⟩
  rw [emb4, after0_4]
  refine Eq.trans ?_ ((pay1_apply (iblk m c 0 t) (iblk m c 1 t) (iblk m c 2 t) r d).trans ?_)
  · frame_out; rfl
  · simp only [block0, block1, block2]
    rfl

theorem final5 (c : Dev nD) : (dats m 0 c).arrAt 5 cfg0.N = outH m c := by
  refine (dats m 0 c).arrAt_eq_of_covers 5 _ (by decide +kernel) fun t hf y => ?_
  obtain ⟨r, d, rfl⟩ : ∃ (r : Fin 512) (d : Fin 1024), y = ix2 r d := ⟨y 0, y 1, eq_ix2 y⟩
  rw [emb5, after0_5]
  refine Eq.trans ?_ ((pay3_apply (iblk m c 0 t) (iblk m c 1 t) (iblk m c 2 t) (iblk m c 3 t) r d).trans ?_)
  · frame_out; rfl
  · simp only [block0, block1, block2, block3]
    rfl

theorem final6 (c : Dev nD) : (dats m 0 c).arrAt 6 cfg0.N = outT m c := by
  refine (dats m 0 c).arrAt_eq_of_covers 6 _ (by decide +kernel) fun t hf y => ?_
  obtain ⟨d, r, rfl⟩ : ∃ (d : Fin 1024) (r : Fin 512), y = ix2 d r := ⟨y 0, y 1, eq_ix2 y⟩
  rw [emb6, after0_6]
  refine Eq.trans ?_ ((pay4_apply (iblk m c 0 t) (iblk m c 1 t) (iblk m c 2 t) (iblk m c 3 t) r d).trans ?_)
  · frame_out; rfl
  · simp only [block0, block1, block2, block3]
    rfl

end Kernel

section Reference

open Cert.Reference13Ideal Cert.Reference13Ideal.Read

variable (x0 : Vec Ideal S8192x3072 .bf16) (x1 : Vec Ideal S3072x1024 .bf16) (x2 : Vec Ideal S8192x1024 .f32) (x3 : Vec Ideal S1x1024 .f32)
  (r : Fin 8192) (d : Fin 1024)

theorem reference_dot : val_main_v2 (F := Ideal) x0 x1 (ix2 r d) = ∑ k : Fin 3072, x0 (ix2 r k) * x1 (ix2 k d) := by
  pointwise [val_main_v2, val_main_v1, val_main_v0]

theorem referenceX : val_main_v5 (F := Ideal) x0 x1 x2 (ix2 r d)
    = res (fun k => x0 (ix2 r k)) (fun k => x1 (ix2 k d)) (x2 (ix2 r d)) := by
  show x2 (ix2 r d) + Ideal.ofBits .f32 0x3F000000#32 * val_main_v2 (F := Ideal) x0 x1 (ix2 r d) = _
  rw [reference_dot, add_comm, mul_comm]
  rfl

theorem reference_norm : val_main_v17 (F := Ideal) x0 x1 x2 x3 (ix2 r d)
    = norm (fun e => res (fun k => x0 (ix2 r k)) (fun k => x1 (ix2 k e)) (x2 (ix2 r e))) (fun e => x3 (ix2 0 e)) d := by
  pointwise [val_main_v17, val_main_v16, val_main_v15, val_main_v14, val_main_v13, val_main_v12, val_main_v11, val_main_v10, val_main_v9, val_main_v8, val_main_v7, val_main_v6, val_main_cst, val_main_cst_0, val_main_cst_1, val_main_cst_2,
    referenceX, norm, rmsInv, mean]

theorem referenceH : val_main_v18 (F := Ideal) x0 x1 x2 x3 (ix2 r d)
    = norm (fun e => res (fun k => x0 (ix2 r k)) (fun k => x1 (ix2 k e)) (x2 (ix2 r e))) (fun e => x3 (ix2 0 e)) d := by
  pointwise [val_main_v18, reference_norm]
theorem referenceT : val_main_v20 (F := Ideal) x0 x1 x2 x3 (ix2 d r)
    = norm (fun e => res (fun k => x0 (ix2 r k)) (fun k => x1 (ix2 k e)) (x2 (ix2 r e))) (fun e => x3 (ix2 0 e)) d := by
  pointwise [val_main_v20, val_main_v19, reference_norm]

end Reference

/-- Both runs end with the same three arrays. -/
theorem value : Cert.algebraic_Kernel13Ideal_Reference13Ideal := by
  intro m g m' g' _ hag
  refine ⟨outX m, outH m, outT m, ?_, ?_⟩
  · exact (θ_run _ _ _).mono (fun r h c => ⟨((h c).1).trans (final4 m c), ((h c).2.1).trans (final5 m c), ((h c).2.2.1).trans (final6 m c), (h c).2.2.2⟩)
      (Cert.Kernel13Ideal.Value.run_blocks (F := Ideal) m g)
  · refine (θ_run _ _ _).mono (fun r h c => ⟨((h c).1).trans ?_, ((h c).2.1).trans ?_, ((h c).2.2.1).trans ?_, (h c).2.2.2⟩)
      (Cert.Reference13Ideal.Value.run (F := Ideal) m' g')
    · rw [(hag c).1, (hag c).2.1, (hag c).2.2.1]
      refine (Cert.Reference13Ideal.Read.val_main_v5_eq (F := Ideal) _ _ _).trans (funext fun i => ?_)
      obtain ⟨r, d, rfl⟩ : ∃ (r : Fin 8192) (d : Fin 1024), i = ix2 r d := ⟨i 0, i 1, eq_ix2 i⟩
      exact referenceX _ _ _ r d
    · rw [(hag c).1, (hag c).2.1, (hag c).2.2.1, (hag c).2.2.2]
      refine (Cert.Reference13Ideal.Read.val_main_v18_eq (F := Ideal) _ _ _ _).trans (funext fun i => ?_)
      obtain ⟨r, d, rfl⟩ : ∃ (r : Fin 8192) (d : Fin 1024), i = ix2 r d := ⟨i 0, i 1, eq_ix2 i⟩
      exact referenceH _ _ _ _ r d
    · rw [(hag c).1, (hag c).2.1, (hag c).2.2.1, (hag c).2.2.2]
      refine (Cert.Reference13Ideal.Read.val_main_v20_eq (F := Ideal) _ _ _ _).trans (funext fun i => ?_)
      obtain ⟨d, r, rfl⟩ : ∃ (d : Fin 1024) (r : Fin 8192), i = ix2 d r := ⟨i 0, i 1, eq_ix2 i⟩
      exact referenceT _ _ _ _ r d

end Cert.FfnDown

end
-- ==== Proof.MixIn.lean ====
/- The mixer's input product (`mix_in`): the kernel's array is the reference's, at the extended reals. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Tactic
public import Idealize.ShloMosaic.Lib.Pipeline.ValueKit
public import Idealize.ShloMosaic.Lib.Pointwise

@[expose] public section

set_option maxRecDepth 16384

noncomputable section

namespace Cert.MixIn

open Idealize.ShloMosaic Idealize.ShloMosaic.TcCoe Idealize.SL.Sem

section Kernel

open Cert.Kernel14Ideal Cert.Kernel14Ideal.Gen

/-- What a point stores: the block product. -/
theorem pay_apply (x0 : Vec Ideal S1024x1024 .bf16) (x1 : Vec Ideal S1024x768 .bf16) (r : Fin 1024) (d : Fin 768) :
    k0_pay1 (F := Ideal) x0 x1 (ix2 r d) = ∑ k : Fin 1024, x0 (ix2 r k) * x1 (ix2 k d) := by
  pointwise [k0_pay1]

variable (m : (ℓ : Loc nD τ sig) → Buf (Elt Ideal) ℓ)

abbrev h (c : Dev nD) : S8192x1024.Idx → EReal := m ((c : Thread nD τ).loc main_arg0)
abbrev w (c : Dev nD) : S1024x1536.Idx → EReal := m ((c : Thread nD τ).loc main_arg1)

/-- The product of the normalised rows and the input weight. -/
def out (c : Dev nD) : S8192x1536.Idx → EReal := fun i => ∑ k : Fin 1024, h m c (ix2 (i 0) k) * w m c (ix2 k (i 1))

theorem idx : ∀ t : Fin cfg0.N, win0_0.index t = ![t.val / 2, 0] ∧ win0_1.index t = ![0, t.val % 2] ∧ win0_2.index t = ![t.val / 2, t.val % 2] := by
  decide +kernel

/-- Row `r` of the row block of point `t`. -/
abbrev row (t : Fin cfg0.N) (r : Fin 1024) : Fin 8192 := ⟨t.val / 2 * 1024 + r.val, by have := t.isLt; have : cfg0.N = 16 := N_0; omega⟩

/-- Column `d` of the column block of point `t`. -/
abbrev col (t : Fin cfg0.N) (d : Fin 768) : Fin 1536 := ⟨t.val % 2 * 768 + d.val, by omega⟩

theorem block0 (c : Dev nD) (t : Fin cfg0.N) (r : Fin 1024) (k : Fin 1024) :
    (iblk m c 0 t : Vec Ideal S1024x1024 .bf16) (ix2 r k) = h m c (ix2 (row t r) k) := by blk_ext [iblk, V, idx t]
theorem block1 (c : Dev nD) (t : Fin cfg0.N) (d : Fin 768) (k : Fin 1024) :
    (iblk m c 1 t : Vec Ideal S1024x768 .bf16) (ix2 k d) = w m c (ix2 k (col t d)) := by blk_ext [iblk, V, idx t]

theorem emb2 (t : Fin cfg0.N) (r : Fin 1024) (d : Fin 768) :
    ((cfg0.win 2).blk t).view.emb (ix2 r d) = ix2 (row t r) (col t d) := by blk_ext [idx t]

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 1024) (d : Fin 768), y = ix2 r d := ⟨y 0, y 1, eq_ix2 y⟩
  rw [emb2, after0_2]
  refine Eq.trans ?_ ((pay_apply (iblk m c 0 t) (iblk m c 1 t) r d).trans ?_)
  · frame_out; rfl
  · simp only [block0, block1]
    rfl

end Kernel

section Reference

open Cert.Reference14Ideal Cert.Reference14Ideal.Read

theorem reference_apply (x0 : Vec Ideal S8192x1024 .bf16) (x1 : Vec Ideal S1024x1536 .bf16) (r : Fin 8192) (d : Fin 1536) :
    val_main_v2 (F := Ideal) x0 x1 (ix2 r d) = ∑ k : Fin 1024, x0 (ix2 r k) * x1 (ix2 k d) := by
  pointwise [val_main_v2, val_main_v1, val_main_v0]

end Reference

/-- Both runs end with the same array. -/
theorem value : Cert.algebraic_Kernel14Ideal_Reference14Ideal := by
  intro m g m' g' _ hag
  refine ⟨out m, ?_, ?_⟩
  · exact (θ_run _ _ _).mono (fun r h c => ⟨((h c).1).trans (final2 m c), (h c).2⟩)
      (Cert.Kernel14Ideal.Value.run_blocks (F := Ideal) m g)
  · refine (θ_run _ _ _).mono (fun r h c => ⟨((h c).1).trans ?_, (h c).2⟩)
      (Cert.Reference14Ideal.Value.run (F := Ideal) m' g')
    rw [(hag c).1, (hag c).2]
    refine (Cert.Reference14Ideal.Read.val_main_v2_eq (F := Ideal) _ _).trans (funext fun i => ?_)
    obtain ⟨r, d, rfl⟩ : ∃ (r : Fin 8192) (d : Fin 1536), i = ix2 r d := ⟨i 0, i 1, eq_ix2 i⟩
    exact reference_apply _ _ r d

end Cert.MixIn

end
-- ==== Proof.S5Gate.lean ====
/- The gate's product (`s5_gate`): the kernel's array is the reference's, at the extended reals. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Tactic
public import Idealize.ShloMosaic.Lib.Pipeline.ValueKit
public import Idealize.ShloMosaic.Lib.Pointwise

@[expose] public section

set_option maxRecDepth 16384

noncomputable section

namespace Cert.S5Gate

open Idealize.ShloMosaic Idealize.ShloMosaic.TcCoe Idealize.SL.Sem

section Kernel

open Cert.Kernel15Ideal Cert.Kernel15Ideal.Gen

/-- What a point stores: the block product. -/
theorem pay_apply (x0 : Vec Ideal S1024x512 .bf16) (x1 : Vec Ideal S512x512 .bf16) (r : Fin 1024) (d : Fin 512) :
    k0_pay1 (F := Ideal) x0 x1 (ix2 r d) = ∑ k : Fin 512, x0 (ix2 r k) * x1 (ix2 k d) := by
  pointwise [k0_pay1]

variable (m : (ℓ : Loc nD τ sig) → Buf (Elt Ideal) ℓ)

abbrev y (c : Dev nD) : S8192x512.Idx → EReal := m ((c : Thread nD τ).loc main_arg0)
abbrev wg (c : Dev nD) : S512x512.Idx → EReal := m ((c : Thread nD τ).loc main_arg1)

/-- The product of the branch's rows and the gate weight. -/
def out (c : Dev nD) : S8192x512.Idx → EReal := fun i => ∑ k : Fin 512, y m c (ix2 (i 0) k) * wg m c (ix2 k (i 1))

theorem idx : ∀ t : Fin cfg0.N, win0_0.index t = ![t.val, 0] ∧ win0_1.index t = ![0, 0] ∧ win0_2.index t = ![t.val, 0] := by
  decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (k : Fin 512) :
    (iblk m c 0 t : Vec Ideal S1024x512 .bf16) (ix2 r k) = y m c (ix2 (row t r) k) := by blk_ext [iblk, V, idx t]
theorem block1 (c : Dev nD) (t : Fin cfg0.N) (d : Fin 512) (k : Fin 512) :
    (iblk m c 1 t : Vec Ideal S512x512 .bf16) (ix2 k d) = wg m c (ix2 k d) := by blk_ext [iblk, V, idx t]

theorem emb2 (t : Fin cfg0.N) (r : Fin 1024) (d : Fin 512) :
    ((cfg0.win 2).blk t).view.emb (ix2 r d) = ix2 (row t r) d := by blk_ext [idx t]

/-- The result array after the run. -/
theorem final2 (c : Dev nD) : (dats m 0 c).arrAt 2 cfg0.N = out m c := by
  refine (dats m 0 c).arrAt_eq_of_covers 2 _ (by decide +kernel) fun t hf y => ?_
  obtain ⟨r, d, rfl⟩ : ∃ (r : Fin 1024) (d : Fin 512), y = ix2 r d := ⟨y 0, y 1, eq_ix2 y⟩
  rw [emb2, after0_2]
  refine Eq.trans ?_ ((pay_apply (iblk m c 0 t) (iblk m c 1 t) r d).trans ?_)
  · frame_out; rfl
  · simp only [block0, block1]
    rfl

end Kernel

section Reference

open Cert.Reference15Ideal Cert.Reference15Ideal.Read

theorem reference_apply (x0 : Vec Ideal S8192x512 .bf16) (x1 : Vec Ideal S512x512 .bf16) (r : Fin 8192) (d : Fin 512) :
    val_main_v2 (F := Ideal) x0 x1 (ix2 r d) = ∑ k : Fin 512, x0 (ix2 r k) * x1 (ix2 k d) := by
  pointwise [val_main_v2, val_main_v1, val_main_v0]

end Reference

/-- Both runs end with the same array. -/
theorem value : Cert.algebraic_Kernel15Ideal_Reference15Ideal := by
  intro m g m' g' _ hag
  refine ⟨out m, ?_, ?_⟩
  · exact (θ_run _ _ _).mono (fun r h c => ⟨((h c).1).trans (final2 m c), (h c).2⟩)
      (Cert.Kernel15Ideal.Value.run_blocks (F := Ideal) m g)
  · refine (θ_run _ _ _).mono (fun r h c => ⟨((h c).1).trans ?_, (h c).2⟩)
      (Cert.Reference15Ideal.Value.run (F := Ideal) m' g')
    rw [(hag c).1, (hag c).2]
    refine (Cert.Reference15Ideal.Read.val_main_v2_eq (F := Ideal) _ _).trans (funext fun i => ?_)
    obtain ⟨r, d, rfl⟩ : ∃ (r : Fin 8192) (d : Fin 512), i = ix2 r d := ⟨i 0, i 1, eq_ix2 i⟩
    exact reference_apply _ _ r d

end Cert.S5Gate

end
-- ==== Proof.MixOut.lean ====
/- The mixer's output product with the next norm (`mix_out`): the kernel's three arrays are the reference's, at the
   extended reals. -/
module

public import proofs.«01_k».proof.Defs
public import proofs.«01_k».proof.Proof.Scalar
public import proofs.«01_k».proof.Proof.Gen.Kernel16Ideal.Value
public import proofs.«01_k».proof.Proof.Gen.Reference16Ideal.Run
public import proofs.«01_k».proof.Proof.Gen.Reference16Ideal.Read
public import Idealize.ShloMosaic.Lib.Tactic
public import Idealize.ShloMosaic.Lib.Pipeline.ValueKit
public import Idealize.ShloMosaic.Lib.Pointwise

@[expose] public section

set_option maxRecDepth 16384

noncomputable section

namespace Cert.MixOut

open Idealize.ShloMosaic Idealize.ShloMosaic.TcCoe Idealize.SL.Sem

open Cert.Scalar (rmsInv mean)

/-- The residual stream at one place: the row's product with the weight's column added to what it carried. -/
def res (z w : Fin 1024 → EReal) (x : EReal) : EReal := (∑ k : Fin 1024, z k * w k) + x

/-- A row of the residual stream divided by its root mean square and scaled by the gain. -/
def norm (x g : Fin 1024 → EReal) (d : Fin 1024) : EReal := x d * rmsInv x * g d

section Kernel

open Cert.Kernel16Ideal Cert.Kernel16Ideal.Gen

section Payloads

variable (x0 : Vec Ideal S512x1024 .bf16) (x1 : Vec Ideal S1024x1024 .bf16) (x2 : Vec Ideal S512x1024 .f32) (x3 : Vec Ideal S1x1024 .f32)
  (r : Fin 512) (d : Fin 1024)

theorem pay1_apply : k0_pay1 (F := Ideal) x0 x1 x2 (ix2 r d) = res (fun k => x0 (ix2 r k)) (fun k => x1 (ix2 k d)) (x2 (ix2 r d)) := by
  pointwise [k0_pay1, res]
theorem pay2_apply : k0_pay2 (F := Ideal) x0 x1 x2 x3 (ix2 r d)
    = norm (fun e => res (fun k => x0 (ix2 r k)) (fun k => x1 (ix2 k e)) (x2 (ix2 r e))) (fun e => x3 (ix2 0 e)) d := by
  pointwise [k0_pay2, pay1_apply, norm, rmsInv, mean]
theorem pay3_apply : k0_pay3 (F := Ideal) x0 x1 x2 x3 (ix2 r d)
    = norm (fun e => res (fun k => x0 (ix2 r k)) (fun k => x1 (ix2 k e)) (x2 (ix2 r e))) (fun e => x3 (ix2 0 e)) d := by
  pointwise [k0_pay3, pay2_apply]
theorem pay4_apply : k0_pay4 (F := Ideal) x0 x1 x2 x3 (ix2 d r)
    = norm (fun e => res (fun k => x0 (ix2 r k)) (fun k => x1 (ix2 k e)) (x2 (ix2 r e))) (fun e => x3 (ix2 0 e)) d := by
  pointwise [k0_pay4, pay2_apply]

end Payloads

variable (m : (ℓ : Loc nD τ sig) → Buf (Elt Ideal) ℓ)

abbrev z (c : Dev nD) : S8192x1024.Idx → EReal := m ((c : Thread nD τ).loc main_arg0)
abbrev w (c : Dev nD) : S1024x1024.Idx → EReal := m ((c : Thread nD τ).loc main_arg1)
abbrev x (c : Dev nD) : S8192x1024.Idx → EReal := m ((c : Thread nD τ).loc main_arg2)
abbrev g (c : Dev nD) : S1x1024.Idx → EReal := m ((c : Thread nD τ).loc main_arg3)

/-- The residual stream. -/
def outX (c : Dev nD) : S8192x1024.Idx → EReal := fun i => res (fun k => z m c (ix2 (i 0) k)) (fun k => w m c (ix2 k (i 1))) (x m c i)
/-- Its normalised rows. -/
def outH (c : Dev nD) : S8192x1024.Idx → EReal := fun i => norm (fun e => outX m c (ix2 (i 0) e)) (fun e => g m c (ix2 0 e)) (i 1)
/-- The normalised rows, transposed. -/
def outT (c : Dev nD) : S1024x8192.Idx → EReal := fun i => norm (fun e => outX m c (ix2 (i 1) e)) (fun e => g m c (ix2 0 e)) (i 0)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val] := by
  decide +kernel

/-- Row `r` of the row block of point `t`. -/
abbrev row (t : Fin cfg0.N) (r : Fin 512) : Fin 8192 := ⟨t.val * 512 + r.val, by have := t.isLt; have : cfg0.N = 16 := N_0; omega⟩

theorem block0 (c : Dev nD) (t : Fin cfg0.N) (r : Fin 512) (k : Fin 1024) :
    (iblk m c 0 t : Vec Ideal S512x1024 .bf16) (ix2 r k) = z m c (ix2 (row t r) k) := by blk_ext [iblk, V, idx t]
theorem block1 (c : Dev nD) (t : Fin cfg0.N) (k : Fin 1024) (d : Fin 1024) :
    (iblk m c 1 t : Vec Ideal S1024x1024 .bf16) (ix2 k d) = w m c (ix2 k d) := by blk_ext [iblk, V, idx t]
theorem block2 (c : Dev nD) (t : Fin cfg0.N) (r : Fin 512) (d : Fin 1024) :
    (iblk m c 2 t : Vec Ideal S512x1024 .f32) (ix2 r d) = x m c (ix2 (row t r) d) := by blk_ext [iblk, V, idx t]
theorem block3 (c : Dev nD) (t : Fin cfg0.N) (d : Fin 1024) :
    (iblk m c 3 t : Vec Ideal S1x1024 .f32) (ix2 0 d) = g m c (ix2 0 d) := by blk_ext [iblk, V, idx t]

theorem emb4 (t : Fin cfg0.N) (r : Fin 512) (d : Fin 1024) : ((cfg0.win 4).blk t).view.emb (ix2 r d) = ix2 (row t r) d := by
  blk_ext [idx t]
theorem emb5 (t : Fin cfg0.N) (r : Fin 512) (d : Fin 1024) : ((cfg0.win 5).blk t).view.emb (ix2 r d) = ix2 (row t r) d := by
  blk_ext [idx t]
theorem emb6 (t : Fin cfg0.N) (d : Fin 1024) (r : Fin 512) : ((cfg0.win 6).blk t).view.emb (ix2 d r) = ix2 d (row t r) := by
  blk_ext [idx t]

theorem final4 (c : Dev nD) : (dats m 0 c).arrAt 4 cfg0.N = outX m c := by
  refine (dats m 0 c).arrAt_eq_of_covers 4 _ (by decide +kernel) fun t hf y => ?_
  obtain ⟨r, d, rfl⟩ : ∃ (r : Fin 512) (d : Fin 1024), y = ix2 r d := ⟨y 0, y 1, eq_ix2 y⟩
  rw [emb4, after0_4]
  refine Eq.trans ?_ ((pay1_apply (iblk m c 0 t) (iblk m c 1 t) (iblk m c 2 t) r d).trans ?_)
  · frame_out; rfl
  · simp only [block0, block1, block2]
    rfl

theorem final5 (c : Dev nD) : (dats m 0 c).arrAt 5 cfg0.N = outH m c := by
  refine (dats m 0 c).arrAt_eq_of_covers 5 _ (by decide +kernel) fun t hf y => ?_
  obtain ⟨r, d, rfl⟩ : ∃ (r : Fin 512) (d : Fin 1024), y = ix2 r d := ⟨y 0, y 1, eq_ix2 y⟩
  rw [emb5, after0_5]
  refine Eq.trans ?_ ((pay3_apply (iblk m c 0 t) (iblk m c 1 t) (iblk m c 2 t) (iblk m c 3 t) r d).trans ?_)
  · frame_out; rfl
  · simp only [block0, block1, block2, block3]
    rfl

theorem final6 (c : Dev nD) : (dats m 0 c).arrAt 6 cfg0.N = outT m c := by
  refine (dats m 0 c).arrAt_eq_of_covers 6 _ (by decide +kernel) fun t hf y => ?_
  obtain ⟨d, r, rfl⟩ : ∃ (d : Fin 1024) (r : Fin 512), y = ix2 d r := ⟨y 0, y 1, eq_ix2 y⟩
  rw [emb6, after0_6]
  refine Eq.trans ?_ ((pay4_apply (iblk m c 0 t) (iblk m c 1 t) (iblk m c 2 t) (iblk m c 3 t) r d).trans ?_)
  · frame_out; rfl
  · simp only [block0, block1, block2, block3]
    rfl

end Kernel

section Reference

open Cert.Reference16Ideal Cert.Reference16Ideal.Read

variable (x0 : Vec Ideal S8192x1024 .bf16) (x1 : Vec Ideal S1024x1024 .bf16) (x2 : Vec Ideal S8192x1024 .f32) (x3 : Vec Ideal S1x1024 .f32)
  (r : Fin 8192) (d : Fin 1024)

theorem reference_dot : val_main_v2 (F := Ideal) x0 x1 (ix2 r d) = ∑ k : Fin 1024, x0 (ix2 r k) * x1 (ix2 k d) := by
  pointwise [val_main_v2, val_main_v1, val_main_v0]

theorem referenceX : val_main_v3 (F := Ideal) x0 x1 x2 (ix2 r d)
    = res (fun k => x0 (ix2 r k)) (fun k => x1 (ix2 k d)) (x2 (ix2 r d)) := by
  show x2 (ix2 r d) + val_main_v2 (F := Ideal) x0 x1 (ix2 r d) = _
  rw [reference_dot, add_comm]
  rfl

theorem reference_norm : val_main_v15 (F := Ideal) x0 x1 x2 x3 (ix2 r d)
    = norm (fun e => res (fun k => x0 (ix2 r k)) (fun k => x1 (ix2 k e)) (x2 (ix2 r e))) (fun e => x3 (ix2 0 e)) d := by
  pointwise [val_main_v15, val_main_v14, val_main_v13, val_main_v12, val_main_v11, val_main_v10, val_main_v9, val_main_v8, val_main_v7, val_main_v6, val_main_v5, val_main_v4, val_main_cst, val_main_cst_0, val_main_cst_1,
    referenceX, norm, rmsInv, mean]

theorem referenceH : val_main_v16 (F := Ideal) x0 x1 x2 x3 (ix2 r d)
    = norm (fun e => res (fun k => x0 (ix2 r k)) (fun k => x1 (ix2 k e)) (x2 (ix2 r e))) (fun e => x3 (ix2 0 e)) d := by
  pointwise [val_main_v16, reference_norm]
theorem referenceT : val_main_v18 (F := Ideal) x0 x1 x2 x3 (ix2 d r)
    = norm (fun e => res (fun k => x0 (ix2 r k)) (fun k => x1 (ix2 k e)) (x2 (ix2 r e))) (fun e => x3 (ix2 0 e)) d := by
  pointwise [val_main_v18, val_main_v17, reference_norm]

end Reference

/-- Both runs end with the same three arrays. -/
theorem value : Cert.algebraic_Kernel16Ideal_Reference16Ideal := by
  intro m g m' g' _ hag
  refine ⟨outX m, outH m, outT m, ?_, ?_⟩
  · exact (θ_run _ _ _).mono (fun r h c => ⟨((h c).1).trans (final4 m c), ((h c).2.1).trans (final5 m c), ((h c).2.2.1).trans (final6 m c), (h c).2.2.2⟩)
      (Cert.Kernel16Ideal.Value.run_blocks (F := Ideal) m g)
  · refine (θ_run _ _ _).mono (fun r h c => ⟨((h c).1).trans ?_, ((h c).2.1).trans ?_, ((h c).2.2.1).trans ?_, (h c).2.2.2⟩)
      (Cert.Reference16Ideal.Value.run (F := Ideal) m' g')
    · rw [(hag c).1, (hag c).2.1, (hag c).2.2.1]
      refine (Cert.Reference16Ideal.Read.val_main_v3_eq (F := Ideal) _ _ _).trans (funext fun i => ?_)
      obtain ⟨r, d, rfl⟩ : ∃ (r : Fin 8192) (d : Fin 1024), i = ix2 r d := ⟨i 0, i 1, eq_ix2 i⟩
      exact referenceX _ _ _ r d
    · rw [(hag c).1, (hag c).2.1, (hag c).2.2.1, (hag c).2.2.2]
      refine (Cert.Reference16Ideal.Read.val_main_v16_eq (F := Ideal) _ _ _ _).trans (funext fun i => ?_)
      obtain ⟨r, d, rfl⟩ : ∃ (r : Fin 8192) (d : Fin 1024), i = ix2 r d := ⟨i 0, i 1, eq_ix2 i⟩
      exact referenceH _ _ _ _ r d
    · rw [(hag c).1, (hag c).2.1, (hag c).2.2.1, (hag c).2.2.2]
      refine (Cert.Reference16Ideal.Read.val_main_v18_eq (F := Ideal) _ _ _ _).trans (funext fun i => ?_)
      obtain ⟨d, r, rfl⟩ : ∃ (d : Fin 1024) (r : Fin 8192), i = ix2 d r := ⟨i 0, i 1, eq_ix2 i⟩
      exact referenceT _ _ _ _ r d

end Cert.MixOut

end
-- ==== Proof.FfnLoss.lean ====
/- The second feed-forward's output product with the loss and its gradient (`ffn2_down`): the kernel's four arrays are
   the reference's, at the extended reals, where the operands are finite. -/
module

public import proofs.«01_k».proof.Defs
public import proofs.«01_k».proof.Proof.Scalar
public import proofs.«01_k».proof.Proof.Gen.Kernel17Ideal.Value
public import proofs.«01_k».proof.Proof.Gen.Reference17Ideal.Run
public import proofs.«01_k».proof.Proof.Gen.Reference17Ideal.Read
public import Idealize.ShloMosaic.Lib.Tactic
public import Idealize.ShloMosaic.Lib.Pipeline.ValueKit
public import Idealize.ShloMosaic.Lib.Pointwise

@[expose] public section

set_option maxRecDepth 16384

noncomputable section

/-- The shape relations the finiteness predicate's operations take. -/
instance Cert.FfnLoss.preFacts : Cert.Pre_finite17.Facts where
  bitsLt_bf16_f32 := by decide
  bcast_S_S8192x3072 := by decide
  bcast_S_S3072x1024 := by decide
  bcast_S_S8192x1024 := by decide
  bcast_S_S1x1024 := by decide

namespace Cert.FfnLoss

open Idealize.ShloMosaic Idealize.ShloMosaic.TcCoe Idealize.SL.Sem

open Cert.Scalar

/-- The residual stream at one place: the row's product with the weight's column, halved, added to what it carried. -/
def res (z w : Fin 3072 → EReal) (x : EReal) : EReal := (∑ k : Fin 3072, z k * w k) * Ideal.ofBits .f32 0x3F000000#32 + x

/-- The error of a row's prediction, the normalised row, against its target. -/
def err (x g t : Fin 1024 → EReal) (d : Fin 1024) : EReal := x d * rmsInv x * g d - t d

/-- The cotangent of the prediction. -/
def dy (x g t : Fin 1024 → EReal) (d : Fin 1024) : EReal := err x g t d * Ideal.ofBits .f32 0x3A800000#32

/-- A row's squared error. -/
def sq (x g t : Fin 1024 → EReal) : EReal := ∑ e : Fin 1024, err x g t e * err x g t e

/-- A row's cotangent. -/
def back (x g t : Fin 1024 → EReal) (d : Fin 1024) : EReal := rmsBwd x (fun e => dy x g t e * g e) d

/-! ## The constants -/

theorem ofBits_two : Ideal.ofBits .f32 0x40000000#32 = ((2 : ℝ) : EReal) := by
  simp [Ideal.ofBits, Ideal.ieee, -EReal.coe_mul]; norm_num

theorem ofBits_1_1024 : Ideal.ofBits .f32 0x3A800000#32 = ((1 / 1024 : ℝ) : EReal) := by
  simp [Ideal.ofBits, Ideal.ieee, -EReal.coe_mul]; norm_num

theorem ofBits_1_2048 : Ideal.ofBits .f32 0x3A000000#32 = ((1 / 2048 : ℝ) : EReal) := by
  simp [Ideal.ofBits, Ideal.ieee, -EReal.coe_mul]; norm_num

/-- Half over the width, times twice the error. -/
theorem scale (e : EReal) :
    Ideal.div (Ideal.ofBits .f32 0x3F000000#32 * 1) (Ideal.ofBits .f32 0x44800000#32) * (Ideal.ofBits .f32 0x40000000#32 * e)
      = e * Ideal.ofBits .f32 0x3A800000#32 := by
  rw [mul_one, half, ofBits_1024, div_coe _ (by norm_num), ofBits_two, ofBits_1_1024, ← mul_assoc, ← EReal.coe_mul, mul_comm]
  norm_num

/-- Half of the sum of the rows' means is the sum times the constant. -/
theorem half_means {ι : Type} (s : Finset ι) (f : ι → EReal) :
    Ideal.ofBits .f32 0x3F000000#32 * ∑ i ∈ s, Ideal.div (f i) (Ideal.ofBits .f32 0x44800000#32)
      = (∑ i ∈ s, f i) * Ideal.ofBits .f32 0x3A000000#32 := by
  have h (i : ι) : Ideal.div (f i) (Ideal.ofBits .f32 0x44800000#32) = f i * ((1 / 1024 : ℝ) : EReal) := by
    rw [ofBits_1024, Ideal.div, if_neg (by norm_num), ← EReal.coe_inv, one_div]
  rw [Finset.sum_congr rfl fun i _ => h i, ← sum_mul_pos s _ (by norm_num), mul_comm, mul_assoc, half, ofBits_1_2048, ← EReal.coe_mul]
  norm_num

section Kernel

open Cert.Kernel17Ideal Cert.Kernel17Ideal.Gen

section Payloads

variable (x0 : Vec Ideal S512x3072 .bf16) (x1 : Vec Ideal S3072x1024 .bf16) (x2 x3 : Vec Ideal S512x1024 .f32) (x4 : Vec Ideal S1x1024 .f32)
  (r : Fin 512) (d : Fin 1024)

/-- A row of the residual stream in a block. -/
abbrev xRow (r : Fin 512) (e : Fin 1024) : EReal := res (fun k => x0 (ix2 r k)) (fun k => x1 (ix2 k e)) (x2 (ix2 r e))

theorem pay3_apply : k0_pay3 (F := Ideal) x0 x1 x2 (ix2 r d) = xRow x0 x1 x2 r d := by
  pointwise [k0_pay3, xRow, res]

theorem pay4_apply (z : Fin 1) : k0_pay4 (F := Ideal) x0 x1 x2 (ix2 r z) = rmsInv (xRow x0 x1 x2 r) := by
  pointwise [k0_pay4, pay3_apply, rmsInv, mean]

theorem pay5_apply : k0_pay5 (F := Ideal) x0 x1 x2 x3 x4 (ix2 r d)
    = err (xRow x0 x1 x2 r) (fun e => x4 (ix2 0 e)) (fun e => x3 (ix2 r e)) d := by
  pointwise [k0_pay5, pay4_apply, pay3_apply, err]

theorem pay6_apply (y z : Fin 1) : k0_pay6 (F := Ideal) x0 x1 x2 x3 x4 (ix2 y z)
    = ∑ r : Fin 512, sq (xRow x0 x1 x2 r) (fun e => x4 (ix2 0 e)) (fun e => x3 (ix2 r e)) := by
  pointwise [k0_pay6, pay5_apply, sq]

theorem pay7_apply (E : Vec Ideal S512x1024 .f32) (q : EReal) : k0_pay7 (F := Ideal) E q (ix2 r d) = E (ix2 r d) * q := by
  pointwise [k0_pay7]

theorem pay8_apply (X E : Vec Ideal S512x1024 .f32) (R : Vec Ideal S512x1 .f32) (q : EReal) :
    k0_pay8 (F := Ideal) X x4 R E q (ix2 r d)
      = R (ix2 r 0) * (E (ix2 r d) * q * x4 (ix2 0 d)) - X (ix2 r d) * (R (ix2 r 0) * R (ix2 r 0) * R (ix2 r 0))
          * mean fun e => X (ix2 r e) * (E (ix2 r e) * q * x4 (ix2 0 e)) := by
  pointwise [k0_pay8, pay7_apply, mean]

/-- What a point stores of the residual stream's cotangent. -/
theorem dx_apply : k0_pay8 (F := Ideal) (k0_pay3 x0 x1 x2) x4 (k0_pay4 x0 x1 x2) (k0_pay5 x0 x1 x2 x3 x4) (Ideal.ofBits .f32 0x3A800000#32) (ix2 r d)
    = back (xRow x0 x1 x2 r) (fun e => x4 (ix2 0 e)) (fun e => x3 (ix2 r e)) d := by
  rw [pay8_apply]
  simp only [pay3_apply, pay4_apply, pay5_apply]
  rfl

/-- The same, transposed. -/
theorem dxT_apply : k0_pay9 (F := Ideal) (k0_pay3 x0 x1 x2) x4 (k0_pay4 x0 x1 x2) (k0_pay5 x0 x1 x2 x3 x4) (Ideal.ofBits .f32 0x3A800000#32) (ix2 d r)
    = back (xRow x0 x1 x2 r) (fun e => x4 (ix2 0 e)) (fun e => x3 (ix2 r e)) d := by
  pointwise [k0_pay9, dx_apply]

/-- What a point adds to the loss. -/
theorem loss_apply (y : Vec Ideal S1x128 .f32) (l : Fin 128) : k0_pay10 (F := Ideal) (k0_pay6 x0 x1 x2 x3 x4) y (ix2 0 l)
    = y (ix2 0 l) + (∑ r : Fin 512, sq (xRow x0 x1 x2 r) (fun e => x4 (ix2 0 e)) (fun e => x3 (ix2 r e))) * Ideal.ofBits .f32 0x3A000000#32 := by
  pointwise [k0_pay10, pay6_apply]

theorem pay11_apply (X E : Vec Ideal S512x1024 .f32) (R : Vec Ideal S512x1 .f32) (q : EReal) (y : Vec Ideal S1x1024 .f32) :
    k0_pay11 (F := Ideal) X R E q y (ix2 0 d) = y (ix2 0 d) + ∑ r : Fin 512, E (ix2 r d) * q * X (ix2 r d) * R (ix2 r 0) := by
  pointwise [k0_pay11, pay7_apply]

/-- What a point adds to the gain's gradient. -/
theorem dg_apply (y : Vec Ideal S1x1024 .f32) :
    k0_pay11 (F := Ideal) (k0_pay3 x0 x1 x2) (k0_pay4 x0 x1 x2) (k0_pay5 x0 x1 x2 x3 x4) (Scalar.ofBits (F := Ideal) .f32 0x3A800000#32) y (ix2 0 d)
      = y (ix2 0 d) + ∑ r : Fin 512, dy (xRow x0 x1 x2 r) (fun e => x4 (ix2 0 e)) (fun e => x3 (ix2 r e)) d
          * xRow x0 x1 x2 r d * rmsInv (xRow x0 x1 x2 r) := by
  rw [pay11_apply]
  simp only [pay3_apply, pay4_apply, pay5_apply]
  rfl

end Payloads

/-! ## The four result arrays -/

variable (m : (ℓ : Loc nD τ sig) → Buf (Elt Ideal) ℓ)

abbrev z (c : Dev nD) : S8192x3072.Idx → EReal := m ((c : Thread nD τ).loc main_arg0)
abbrev w (c : Dev nD) : S3072x1024.Idx → EReal := m ((c : Thread nD τ).loc main_arg1)
abbrev x (c : Dev nD) : S8192x1024.Idx → EReal := m ((c : Thread nD τ).loc main_arg2)
abbrev g (c : Dev nD) : S1x1024.Idx → EReal := m ((c : Thread nD τ).loc main_arg3)
abbrev tgt (c : Dev nD) : S8192x1024.Idx → EReal := m ((c : Thread nD τ).loc main_arg4)

/-- A row of the residual stream. -/
def xs (c : Dev nD) (r : Fin 8192) (e : Fin 1024) : EReal := res (fun k => z m c (ix2 r k)) (fun k => w m c (ix2 k e)) (x m c (ix2 r e))

/-- The gain's row. -/
def gs (c : Dev nD) (e : Fin 1024) : EReal := g m c (ix2 0 e)

/-- A row of the target. -/
def ts (c : Dev nD) (r : Fin 8192) (e : Fin 1024) : EReal := tgt m c (ix2 r e)

/-- The cotangent of the residual stream. -/
def dx (c : Dev nD) : S8192x1024.Idx → EReal := fun i => back (xs m c (i 0)) (gs m c) (ts m c (i 0)) (i 1)

/-- The cotangent of the residual stream, transposed. -/
def dxT (c : Dev nD) : S1024x8192.Idx → EReal := fun i => back (xs m c (i 1)) (gs m c) (ts m c (i 1)) (i 0)

/-- The loss, over the lanes. -/
def loss (c : Dev nD) : S1x128.Idx → EReal := fun _ =>
  (∑ r : Fin 8192, sq (xs m c r) (gs m c) (ts m c r)) * Ideal.ofBits .f32 0x3A000000#32

/-- The gradient of the gain. -/
def dg (c : Dev nD) : S1x1024.Idx → EReal := fun i =>
  ∑ r : Fin 8192, dy (xs m c r) (gs m c) (ts m c r) (i 1) * xs m c r (i 1) * rmsInv (xs m c r)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, t.val]
    ∧ win0_7.index t = ![0, 0] ∧ win0_8.index t = ![0, 0] := by decide +kernel

/-- Row `r` of the row block of point `t`. -/
abbrev row (t : Fin cfg0.N) (r : Fin 512) : Fin 8192 := ⟨t.val * 512 + r.val, by have := t.isLt; have : cfg0.N = 16 := N_0; omega⟩

theorem block0 (c : Dev nD) (t : Fin cfg0.N) (r : Fin 512) (k : Fin 3072) :
    (iblk m c 0 t : Vec Ideal S512x3072 .bf16) (ix2 r k) = z m c (ix2 (row t r) k) := by blk_ext [iblk, V, idx t]
theorem block1 (c : Dev nD) (t : Fin cfg0.N) (k : Fin 3072) (d : Fin 1024) :
    (iblk m c 1 t : Vec Ideal S3072x1024 .bf16) (ix2 k d) = w m c (ix2 k d) := by blk_ext [iblk, V, idx t]
theorem block2 (c : Dev nD) (t : Fin cfg0.N) (r : Fin 512) (d : Fin 1024) :
    (iblk m c 2 t : Vec Ideal S512x1024 .f32) (ix2 r d) = x m c (ix2 (row t r) d) := by blk_ext [iblk, V, idx t]
theorem block3 (c : Dev nD) (t : Fin cfg0.N) (r : Fin 512) (d : Fin 1024) :
    (iblk m c 3 t : Vec Ideal S512x1024 .f32) (ix2 r d) = tgt m c (ix2 (row t r) d) := by blk_ext [iblk, V, idx t]
theorem block4 (c : Dev nD) (t : Fin cfg0.N) (d : Fin 1024) :
    (iblk m c 4 t : Vec Ideal S1x1024 .f32) (ix2 0 d) = g m c (ix2 0 d) := by blk_ext [iblk, V, idx t]

theorem rows_x (c : Dev nD) (t : Fin cfg0.N) (r : Fin 512) : xRow (iblk m c 0 t) (iblk m c 1 t) (iblk m c 2 t) r = xs m c (row t r) := by
  funext e
  simp only [xRow, block0, block1, block2]
  rfl
theorem rows_at (c : Dev nD) (t : Fin cfg0.N) (r : Fin 512) (d : Fin 1024) :
    xRow (iblk m c 0 t) (iblk m c 1 t) (iblk m c 2 t) r d = xs m c (row t r) d := congrFun (rows_x m c t r) d
theorem rows_g (c : Dev nD) (t : Fin cfg0.N) : (fun e : Fin 1024 => (iblk m c 4 t : Vec Ideal S1x1024 .f32) (ix2 0 e)) = gs m c :=
  funext fun e => block4 m c t e
theorem rows_t (c : Dev nD) (t : Fin cfg0.N) (r : Fin 512) :
    (fun e : Fin 1024 => (iblk m c 3 t : Vec Ideal S512x1024 .f32) (ix2 r e)) = ts m c (row t r) :=
  funext fun e => block3 m c t r e

theorem emb5 (t : Fin cfg0.N) (r : Fin 512) (d : Fin 1024) : ((cfg0.win 5).blk t).view.emb (ix2 r d) = ix2 (row t r) d := by
  blk_ext [idx t]
theorem emb6 (t : Fin cfg0.N) (d : Fin 1024) (r : Fin 512) : ((cfg0.win 6).blk t).view.emb (ix2 d r) = ix2 d (row t r) := by
  blk_ext [idx t]

/-- The first array after the run. -/
theorem final5 (c : Dev nD) : (dats m 0 c).arrAt 5 cfg0.N = dx m c := by
  refine (dats m 0 c).arrAt_eq_of_covers 5 _ (by decide +kernel) fun t hf y => ?_
  obtain ⟨r, d, rfl⟩ : ∃ (r : Fin 512) (d : Fin 1024), y = ix2 r d := ⟨y 0, y 1, eq_ix2 y⟩
  rw [emb5, after0_5]
  refine Eq.trans ?_ ((dx_apply (iblk m c 0 t) (iblk m c 1 t) (iblk m c 2 t) (iblk m c 3 t) (iblk m c 4 t) r d).trans ?_)
  · by_cases h : t.val % 16 = 0
    · rw [outsAt0_A m c t h]; frame_out; rfl
    · rw [outsAt0_B m c t h]; frame_out; rfl
  · simp only [rows_x, rows_g, rows_t]
    rfl

/-- The second array after the run. -/
theorem final6 (c : Dev nD) : (dats m 0 c).arrAt 6 cfg0.N = dxT m c := by
  refine (dats m 0 c).arrAt_eq_of_covers 6 _ (by decide +kernel) fun t hf y => ?_
  obtain ⟨d, r, rfl⟩ : ∃ (d : Fin 1024) (r : Fin 512), y = ix2 d r := ⟨y 0, y 1, eq_ix2 y⟩
  rw [emb6, after0_6]
  refine Eq.trans ?_ ((dxT_apply (iblk m c 0 t) (iblk m c 1 t) (iblk m c 2 t) (iblk m c 3 t) (iblk m c 4 t) r d).trans ?_)
  · by_cases h : t.val % 16 = 0
    · rw [outsAt0_A m c t h]; frame_out; rfl
    · rw [outsAt0_B m c t h]; frame_out; rfl
  · simp only [rows_x, rows_g, rows_t]
    rfl

/-- What a point adds to the loss, over the whole operands. -/
def lossPart (c : Dev nD) (t : Fin cfg0.N) (_ : S1x128.Idx) : EReal :=
  (∑ r : Fin 512, sq (xs m c (row t r)) (gs m c) (ts m c (row t r))) * Ideal.ofBits .f32 0x3A000000#32

theorem loss_step (c : Dev nD) (t : Fin cfg0.N) (y : Vec Ideal S1x128 .f32) (i : S1x128.Idx) :
    k0_pay10 (F := Ideal) (k0_pay6 (iblk m c 0 t) (iblk m c 1 t) (iblk m c 2 t) (iblk m c 3 t) (iblk m c 4 t)) y i = y i + lossPart m c t i := by
  obtain ⟨d, rfl⟩ : ∃ d : Fin 128, i = ix2 0 d := ⟨i 1, by rw [eq_ix2 i]; congr 1; exact Subsingleton.elim (α := Fin 1) _ _⟩
  refine (loss_apply (iblk m c 0 t) (iblk m c 1 t) (iblk m c 2 t) (iblk m c 3 t) (iblk m c 4 t) y d).trans ?_
  simp only [rows_x, rows_g, rows_t]
  rfl

theorem loss_zero (i : S1x128.Idx) : k0_pay1 (F := Ideal) i = 0 := by
  pointwise [k0_pay1]

/-- The third array after the run. -/
theorem final7 (c : Dev nD) : (dats m 0 c).arrAt 7 cfg0.N = loss m c := by
  refine (dats m 0 c).arrAt_eq_of_covers 7 _ (by decide +kernel) fun t hf y => ?_
  have hN : cfg0.N = 16 := N_0
  have e : ((cfg0.win 7).blk t).view.emb y = y := by blk_ext [idx t]
  rw [e, after0_7, Pipeline.eq_sum_fin_of_reset_step_apply_of_flush (fun n h => (outsAt0 m c n h).2.2.1) 16 (fun _ => 0) (lossPart m c)
    (fun t h i => by rw [outsAt0_A m c t h]; frame_out; rw [loss_step, loss_zero])
    (fun t h i => by rw [outsAt0_B m c t h]; frame_out; rw [loss_step]) t ((flush0_7 t).mp hf) y, zero_add]
  unfold lossPart loss
  rw [ofBits_1_2048, ← sum_mul_pos _ _ (by norm_num)]
  refine congrArg (· * _) ?_
  have hlt : t.val < 16 := lt_of_lt_of_eq t.isLt hN
  have ht : t.val / 16 = 0 := by omega
  refine Fin.sum_mul_add_congr fun s k hl => ?_
  have hr : row ⟨16 * (t.val / 16) + s.val, lt_of_lt_of_eq (by omega) hN.symm⟩ k = ⟨s.val * 512 + k.val, hl⟩ :=
    Fin.ext (show (16 * (t.val / 16) + s.val) * 512 + k.val = s.val * 512 + k.val by omega)
  rw [hr]

/-- What a point adds to the gain's gradient, over the whole operands. -/
def part (c : Dev nD) (t : Fin cfg0.N) (i : S1x1024.Idx) : EReal :=
  ∑ r : Fin 512, dy (xs m c (row t r)) (gs m c) (ts m c (row t r)) (i 1) * xs m c (row t r) (i 1) * rmsInv (xs m c (row t r))

theorem step (c : Dev nD) (t : Fin cfg0.N) (y : Vec Ideal S1x1024 .f32) (i : S1x1024.Idx) :
    k0_pay11 (F := Ideal) (k0_pay3 (iblk m c 0 t) (iblk m c 1 t) (iblk m c 2 t)) (k0_pay4 (iblk m c 0 t) (iblk m c 1 t) (iblk m c 2 t))
        (k0_pay5 (iblk m c 0 t) (iblk m c 1 t) (iblk m c 2 t) (iblk m c 3 t) (iblk m c 4 t)) (Scalar.ofBits (F := Ideal) .f32 0x3A800000#32) y i
      = y i + part m c t i := by
  obtain ⟨d, rfl⟩ : ∃ d : Fin 1024, i = ix2 0 d := ⟨i 1, by rw [eq_ix2 i]; congr 1; exact Subsingleton.elim (α := Fin 1) _ _⟩
  refine (dg_apply (iblk m c 0 t) (iblk m c 1 t) (iblk m c 2 t) (iblk m c 3 t) (iblk m c 4 t) d y).trans ?_
  simp only [rows_x, rows_at, rows_g, rows_t, part]
  rfl

theorem zero_apply (i : S1x1024.Idx) : k0_pay2 (F := Ideal) i = 0 := by
  pointwise [k0_pay2]

/-- The fourth array after the run. -/
theorem final8 (c : Dev nD) : (dats m 0 c).arrAt 8 cfg0.N = dg m c := by
  refine (dats m 0 c).arrAt_eq_of_covers 8 _ (by decide +kernel) fun t hf y => ?_
  have hN : cfg0.N = 16 := N_0
  have e : ((cfg0.win 8).blk t).view.emb y = y := by blk_ext [idx t]
  rw [e, after0_8, Pipeline.eq_sum_fin_of_reset_step_apply_of_flush (fun n h => (outsAt0 m c n h).2.2.2) 16 (fun _ => 0) (part m c)
    (fun t h i => by rw [outsAt0_A m c t h]; frame_out; rw [step, zero_apply])
    (fun t h i => by rw [outsAt0_B m c t h]; frame_out; rw [step]) t ((flush0_8 t).mp hf) y, zero_add]
  unfold part dg
  have hlt : t.val < 16 := lt_of_lt_of_eq t.isLt hN
  have ht : t.val / 16 = 0 := by omega
  refine Fin.sum_mul_add_congr fun s k hl => ?_
  have hr : row ⟨16 * (t.val / 16) + s.val, lt_of_lt_of_eq (by omega) hN.symm⟩ k = ⟨s.val * 512 + k.val, hl⟩ :=
    Fin.ext (show (16 * (t.val / 16) + s.val) * 512 + k.val = s.val * 512 + k.val by omega)
  rw [hr]

end Kernel

section Reference

open Cert.Reference17Ideal Cert.Reference17Ideal.Read

variable (x0 : Vec Ideal S8192x3072 .bf16) (x1 : Vec Ideal S3072x1024 .bf16) (x2 : Vec Ideal S8192x1024 .f32) (x3 : Vec Ideal S1x1024 .f32)
  (x4 : Vec Ideal S8192x1024 .f32) (r : Fin 8192) (d : Fin 1024)

/-- A row of the residual stream in the reference. -/
abbrev xRef (r : Fin 8192) (e : Fin 1024) : EReal := res (fun k => x0 (ix2 r k)) (fun k => x1 (ix2 k e)) (x2 (ix2 r e))

theorem reference_dot : val_main_v2 (F := Ideal) x0 x1 (ix2 r d) = ∑ k : Fin 3072, x0 (ix2 r k) * x1 (ix2 k d) := by
  pointwise [val_main_v2, val_main_v1, val_main_v0]

theorem reference_x : val_main_v5 (F := Ideal) x0 x1 x2 (ix2 r d) = xRef x0 x1 x2 r d := by
  show x2 (ix2 r d) + Ideal.ofBits .f32 0x3F000000#32 * val_main_v2 (F := Ideal) x0 x1 (ix2 r d) = _
  rw [reference_dot, add_comm, mul_comm]
  rfl

/-- The mean square with the small constant added. -/
theorem reference_ms (z : Fin 1) : val_main_v12 (F := Ideal) x0 x1 x2 (ix2 r z)
    = mean (fun e => xRef x0 x1 x2 r e * xRef x0 x1 x2 r e) + Ideal.ofBits .f32 0x358637BD#32 := by
  pointwise [val_main_v12, val_main_v11, val_main_v10, val_main_v9, val_main_v8, val_main_v7, val_main_v6, val_main_cst_0, val_main_cst_1, val_main_cst_2,
    reference_x, mean]

theorem reference_rms (z : Fin 1) : val_main_v13 (F := Ideal) x0 x1 x2 (ix2 r z) = rmsInv (xRef x0 x1 x2 r) := by
  pointwise [val_main_v13, reference_ms, rmsInv]

theorem reference_xr : val_main_v18 (F := Ideal) x0 x1 x2 (ix2 r d) = xRef x0 x1 x2 r d * rmsInv (xRef x0 x1 x2 r) := by
  pointwise [val_main_v18, val_main_v17, reference_x, reference_rms]

theorem reference_err : val_main_v21 (F := Ideal) x0 x1 x2 x3 x4 (ix2 r d)
    = err (xRef x0 x1 x2 r) (fun e => x3 (ix2 0 e)) (fun e => x4 (ix2 r e)) d := by
  pointwise [val_main_v21, val_main_v20, val_main_v19, reference_xr, err]

theorem reference_dy : val_main_v35 (F := Ideal) x0 x1 x2 x3 x4 (ix2 r d)
    = dy (xRef x0 x1 x2 r) (fun e => x3 (ix2 0 e)) (fun e => x4 (ix2 r e)) d := by
  rw [dy, ← scale, ← reference_err]
  pointwise [val_main_v35, val_main_v34, val_main_v33, val_main_v32, val_main_v31, val_main_v30, val_main_v24, val_main_v23, val_main_cst_4,
    val_main_cst_9, val_main_cst_10, val_main_cst_11, Ideal.ofBits_one_f32]

theorem reference_v : val_main_v40 (F := Ideal) x0 x1 x2 x3 x4 (ix2 r d)
    = dy (xRef x0 x1 x2 r) (fun e => x3 (ix2 0 e)) (fun e => x4 (ix2 r e)) d * x3 (ix2 0 d) := by
  pointwise [val_main_v40, val_main_v39, reference_dy]

theorem reference_xv (z : Fin 1) : val_main_v43 (F := Ideal) x0 x1 x2 x3 x4 (ix2 r z)
    = ∑ e : Fin 1024, xRef x0 x1 x2 r e * (dy (xRef x0 x1 x2 r) (fun e => x3 (ix2 0 e)) (fun e => x4 (ix2 r e)) e * x3 (ix2 0 e)) := by
  pointwise [val_main_v43, val_main_v42, val_main_v41, val_main_cst_13, reference_x, reference_v]

/-- The mean square's term of the reference's cotangent. -/
theorem reference_y : val_main_v50 (F := Ideal) x0 x1 x2 x3 x4 (ix2 r d)
    = Ideal.div (val_main_v43 (F := Ideal) x0 x1 x2 x3 x4 (ix2 r 0) * (Ideal.ofBits .f32 0xBF000000#32
        * Ideal.div (val_main_v13 (F := Ideal) x0 x1 x2 (ix2 r 0)) (val_main_v12 (F := Ideal) x0 x1 x2 (ix2 r 0)))) (Ideal.ofBits .f32 0x44800000#32) := by
  pointwise [val_main_v50, val_main_v49, val_main_v48, val_main_v47, val_main_v46, val_main_v16, val_main_v15, val_main_v14, val_main_cst_3, val_main_cst_14, val_main_cst_15]
  exact Fin.sum_univ_one _

/-- The reciprocal root of a real row is real. -/
theorem rmsInv_real {x : Fin 1024 → EReal} (hx : ∀ e, IsReal (x e)) : IsReal (rmsInv x) := by
  choose xr hxr using hx
  obtain ⟨ε, hε, he⟩ := ofBits_eps
  obtain rfl : x = fun e => (xr e : EReal) := funext hxr
  have hsum : (∑ e, (xr e : EReal) * (xr e : EReal)) = ((∑ e, xr e * xr e : ℝ) : EReal) := by push_cast; rfl
  have hq : 0 < (∑ e, xr e * xr e) / 1024 + ε :=
    add_pos_of_nonneg_of_pos (div_nonneg (Finset.sum_nonneg fun e _ => mul_self_nonneg _) (by norm_num)) hε
  refine ⟨(Real.sqrt ((∑ e, xr e * xr e) / 1024 + ε))⁻¹, ?_⟩
  rw [← rsqrt_pos hq, rmsInv, mean, he, ofBits_1024, hsum, div_coe _ (by norm_num), ← EReal.coe_add]

theorem IsReal.sub {a b : EReal} : IsReal a → IsReal b → IsReal (a - b) := by
  rintro ⟨a, rfl⟩ ⟨b, rfl⟩; exact ⟨a - b, by push_cast; rfl⟩

/-- The reference's cotangent of the residual stream. -/
theorem reference_dx (h0 : ∀ i, IsReal (x0 i)) (h1 : ∀ i, IsReal (x1 i)) (h2 : ∀ i, IsReal (x2 i)) (h3 : ∀ i, IsReal (x3 i))
    (h4 : ∀ i, IsReal (x4 i)) :
    val_main_v54 (F := Ideal) x0 x1 x2 x3 x4 (ix2 r d) = back (xRef x0 x1 x2 r) (fun e => x3 (ix2 0 e)) (fun e => x4 (ix2 r e)) d := by
  have hx (e : Fin 1024) : IsReal (xRef x0 x1 x2 r e) :=
    ((IsReal.sum _ _ fun k _ => (h0 _).mul (h1 _)).mul ⟨_, half⟩).add (h2 _)
  have hv (e : Fin 1024) : IsReal (dy (xRef x0 x1 x2 r) (fun e => x3 (ix2 0 e)) (fun e => x4 (ix2 r e)) e * x3 (ix2 0 e)) :=
    ((IsReal.sub (((hx e).mul (rmsInv_real hx)).mul (h3 _)) (h4 _)).mul ⟨_, ofBits_1_1024⟩).mul (h3 _)
  have hb := rms_bwd hx hv 0 d
  rw [zero_add, zero_add] at hb
  rw [back, hb]
  pointwise [val_main_v54, val_main_v53, val_main_v52, val_main_v51, val_main_v45, val_main_v44,
    reference_y, reference_xv, reference_v, reference_rms, reference_ms, reference_x]

/-- The same, transposed. -/
theorem reference_dxT : val_main_v56 (F := Ideal) x0 x1 x2 x3 x4 (ix2 d r) = val_main_v54 (F := Ideal) x0 x1 x2 x3 x4 (ix2 r d) := by
  pointwise [val_main_v56, val_main_v55]

/-- The reference's loss. -/
theorem reference_loss (l : Fin 128) : val_main_v57 (F := Ideal) x0 x1 x2 x3 x4 (ix2 0 l)
    = (∑ r : Fin 8192, sq (xRef x0 x1 x2 r) (fun e => x3 (ix2 0 e)) (fun e => x4 (ix2 r e))) * Ideal.ofBits .f32 0x3A000000#32 := by
  rw [← half_means]
  pointwise [val_main_v57, val_main_v29, val_main_v28, val_main_v27, val_main_v26, val_main_v25, val_main_v22, val_main_cst_5, val_main_cst_6,
    val_main_cst_7, val_main_cst_8, reference_err, sq]

/-- The reference's gradient of the gain. -/
theorem reference_dg : val_main_v38 (F := Ideal) x0 x1 x2 x3 x4 (ix2 0 d)
    = ∑ r : Fin 8192, dy (xRef x0 x1 x2 r) (fun e => x3 (ix2 0 e)) (fun e => x4 (ix2 r e)) d * xRef x0 x1 x2 r d * rmsInv (xRef x0 x1 x2 r) := by
  have h : val_main_v38 (F := Ideal) x0 x1 x2 x3 x4 (ix2 0 d)
      = ∑ r : Fin 8192, xRef x0 x1 x2 r d * rmsInv (xRef x0 x1 x2 r)
          * dy (xRef x0 x1 x2 r) (fun e => x3 (ix2 0 e)) (fun e => x4 (ix2 r e)) d := by
    pointwise [val_main_v38, val_main_v37, val_main_v36, val_main_cst_12, reference_xr, reference_dy]
  rw [h]
  exact Finset.sum_congr rfl fun r _ => by rw [mul_comm, mul_assoc]

end Reference

/-- Both runs end with the same four arrays, where the operands are finite. -/
theorem value : Cert.algebraic_Kernel17Ideal_Reference17Ideal_pre_finite17 := by
  intro m g0 m' g1 hpre hag
  have h0 (c) (i) : IsReal (z m c i) := real_of_lt (congrFun (hpre c).1 i)
  have h1 (c) (i) : IsReal (w m c i) := real_of_lt (congrFun (hpre c).2.1 i)
  have h2 (c) (i) : IsReal (x m c i) := real_of_lt (congrFun (hpre c).2.2.1 i)
  have h3 (c) (i) : IsReal (g m c i) := real_of_lt (congrFun (hpre c).2.2.2.1 i)
  have h4 (c) (i) : IsReal (tgt m c i) := real_of_lt (congrFun (hpre c).2.2.2.2 i)
  refine ⟨dx m, dxT m, loss m, dg m, ?_, ?_⟩
  · exact (θ_run _ _ _).mono (fun r h c => ⟨((h c).1).trans (final5 m c), ((h c).2.1).trans (final6 m c), ((h c).2.2.1).trans (final7 m c),
        ((h c).2.2.2.1).trans (final8 m c), (h c).2.2.2.2⟩)
      (Cert.Kernel17Ideal.Value.run_blocks (F := Ideal) m g0)
  · refine (θ_run _ _ _).mono (fun r h c => ⟨((h c).1).trans ?_, ((h c).2.1).trans ?_, ((h c).2.2.1).trans ?_, ((h c).2.2.2.1).trans ?_, (h c).2.2.2.2⟩)
      (Cert.Reference17Ideal.Value.run (F := Ideal) m' g1)
    · refine (Cert.Reference17Ideal.Read.val_main_v54_eq (F := Ideal) m' c).trans ?_
      rw [(hag c).1, (hag c).2.1, (hag c).2.2.1, (hag c).2.2.2.1, (hag c).2.2.2.2]
      refine funext fun i => ?_
      obtain ⟨r, d, rfl⟩ : ∃ (r : Fin 8192) (d : Fin 1024), i = ix2 r d := ⟨i 0, i 1, eq_ix2 i⟩
      exact reference_dx _ _ _ _ _ r d (h0 c) (h1 c) (h2 c) (h3 c) (h4 c)
    · refine (Cert.Reference17Ideal.Read.val_main_v56_eq (F := Ideal) m' c).trans ?_
      rw [(hag c).1, (hag c).2.1, (hag c).2.2.1, (hag c).2.2.2.1, (hag c).2.2.2.2]
      refine funext fun i => ?_
      obtain ⟨d, r, rfl⟩ : ∃ (d : Fin 1024) (r : Fin 8192), i = ix2 d r := ⟨i 0, i 1, eq_ix2 i⟩
      exact (reference_dxT _ _ _ _ _ r d).trans (reference_dx _ _ _ _ _ r d (h0 c) (h1 c) (h2 c) (h3 c) (h4 c))
    · rw [(hag c).1, (hag c).2.1, (hag c).2.2.1, (hag c).2.2.2.1, (hag c).2.2.2.2]
      refine (Cert.Reference17Ideal.Read.val_main_v57_eq (F := Ideal) _ _ _ _ _).trans (funext fun i => ?_)
      obtain ⟨l, rfl⟩ : ∃ l : Fin 128, i = ix2 0 l := ⟨i 1, by rw [eq_ix2 i]; congr 1; exact Subsingleton.elim (α := Fin 1) _ _⟩
      exact reference_loss _ _ _ _ _ l
    · rw [(hag c).1, (hag c).2.1, (hag c).2.2.1, (hag c).2.2.2.1, (hag c).2.2.2.2]
      refine (Cert.Reference17Ideal.Read.val_main_v38_eq (F := Ideal) _ _ _ _ _).trans (funext fun i => ?_)
      obtain ⟨d, rfl⟩ : ∃ d : Fin 1024, i = ix2 0 d := ⟨i 1, by rw [eq_ix2 i]; congr 1; exact Subsingleton.elim (α := Fin 1) _ _⟩
      exact reference_dg _ _ _ _ _ d

end Cert.FfnLoss

end
-- ==== Proof.Norm512.lean ====
/- The backward of the root-mean-square norm over rows of 512 entries, and the reals among the values of the operations
   that the elementwise calls take. -/
module

public import proofs.«01_k».proof.Proof.Scalar

@[expose] public section

set_option maxRecDepth 16384

noncomputable section

namespace Cert.Norm512

open Idealize.ShloMosaic
open Cert.Scalar (IsReal ofBits_eps neg_half div_coe rsqrt_pos sig sig_bot sig_top sig_coe)

theorem real_sub {a b : EReal} : IsReal a → IsReal b → IsReal (a - b) := by
  rintro ⟨a, rfl⟩ ⟨b, rfl⟩; exact ⟨a - b, by push_cast; rfl⟩

/-- The logistic function's values are reals. -/
theorem sig_real (x : EReal) : IsReal (sig x) := by
  induction x with
  | bot => exact ⟨0, sig_bot⟩
  | top => exact ⟨1, sig_top⟩
  | coe r => exact ⟨_, sig_coe r⟩

/-- The mean of a row of 512 entries. -/
def mean (f : Fin 512 → EReal) : EReal := Ideal.div (∑ e : Fin 512, f e) (Ideal.ofBits .f32 0x44000000#32)

/-- The reciprocal root of a row's mean square, the small constant added. -/
def rmsInv (x : Fin 512 → EReal) : EReal := Ideal.rsqrt (mean (fun e => x e * x e) + Ideal.ofBits .f32 0x358637BD#32)

/-- The cotangent of a row at one place, for the cotangent `v` of the row over its root mean square. -/
def rmsBwd (x v : Fin 512 → EReal) (d : Fin 512) : EReal :=
  rmsInv x * v d - x d * (rmsInv x * rmsInv x * rmsInv x) * mean fun e => x e * v e

/-- The word of 512 is the real 512. -/
theorem ofBits_512 : Ideal.ofBits .f32 0x44000000#32 = ((512 : ℝ) : EReal) := by
  simp [Ideal.ofBits, Ideal.ieee, -EReal.coe_mul]; norm_num

/-- The norm's backward in the order the derivative of the square and of the reciprocal root give it: the row's own
    term, then the mean square's twice. Every entry finite but the carried cotangent `z`. -/
theorem rms_bwd {x v : Fin 512 → EReal} (hx : ∀ e, IsReal (x e)) (hv : ∀ e, IsReal (v e)) (z : EReal) (d : Fin 512) :
    z + rmsBwd x v d
      = z + v d * rmsInv x
        + x d * Ideal.div ((∑ e, x e * v e) * (Ideal.ofBits .f32 0xBF000000#32
            * Ideal.div (rmsInv x) (mean (fun e => x e * x e) + Ideal.ofBits .f32 0x358637BD#32))) (Ideal.ofBits .f32 0x44000000#32)
        + Ideal.div ((∑ e, x e * v e) * (Ideal.ofBits .f32 0xBF000000#32
            * Ideal.div (rmsInv x) (mean (fun e => x e * x e) + Ideal.ofBits .f32 0x358637BD#32))) (Ideal.ofBits .f32 0x44000000#32) * x d := by
  choose xr hxr using hx
  choose vr hvr using hv
  obtain ⟨ε, hε, he⟩ := ofBits_eps
  have hsum (f g : Fin 512 → ℝ) : (∑ e, (f e : EReal) * (g e : EReal)) = ((∑ e, f e * g e : ℝ) : EReal) := by
    push_cast; rfl
  have hq : 0 < (∑ e, xr e * xr e) / 512 + ε :=
    add_pos_of_nonneg_of_pos (div_nonneg (Finset.sum_nonneg fun e _ => mul_self_nonneg _) (by norm_num)) hε
  obtain rfl : x = fun e => (xr e : EReal) := funext hxr
  obtain rfl : v = fun e => (vr e : EReal) := funext hvr
  simp only [rmsBwd, rmsInv, mean, he, neg_half, ofBits_512, hsum, div_coe _ (show (512 : ℝ) ≠ 0 by norm_num), ← EReal.coe_add]
  simp only [rsqrt_pos hq, div_coe _ hq.ne', ← EReal.coe_mul, ← EReal.coe_sub, div_coe _ (show (512 : ℝ) ≠ 0 by norm_num)]
  rw [add_assoc, add_assoc, ← EReal.coe_add, ← EReal.coe_add]
  congr 2
  generalize hs : (∑ e, xr e * xr e) / 512 + ε = s at hq
  have h1 : (Real.sqrt s)⁻¹ / s = (Real.sqrt s)⁻¹ * (Real.sqrt s)⁻¹ * (Real.sqrt s)⁻¹ := by
    have := Real.sq_sqrt hq.le
    have h0 := (Real.sqrt_pos.mpr hq).ne'
    field_simp
    nlinarith
  rw [h1]
  ring

/-- The mean of a real row is real. -/
theorem mean_real {x : Fin 512 → EReal} (hx : ∀ e, IsReal (x e)) : IsReal (mean x) := by
  obtain ⟨s, hs⟩ := IsReal.sum Finset.univ x fun e _ => hx e
  exact ⟨s / 512, by rw [mean, hs, ofBits_512, div_coe _ (by norm_num)]⟩

/-- The reciprocal root of a real row is real. -/
theorem rmsInv_real {x : Fin 512 → EReal} (hx : ∀ e, IsReal (x e)) : IsReal (rmsInv x) := by
  choose xr hxr using hx
  obtain ⟨ε, hε, he⟩ := ofBits_eps
  obtain rfl : x = fun e => (xr e : EReal) := funext hxr
  have hsum : (∑ e, (xr e : EReal) * (xr e : EReal)) = ((∑ e, xr e * xr e : ℝ) : EReal) := by push_cast; rfl
  have hq : 0 < (∑ e, xr e * xr e) / 512 + ε :=
    add_pos_of_nonneg_of_pos (div_nonneg (Finset.sum_nonneg fun e _ => mul_self_nonneg _) (by norm_num)) hε
  refine ⟨(Real.sqrt ((∑ e, xr e * xr e) / 512 + ε))⁻¹, ?_⟩
  rw [← rsqrt_pos hq, rmsInv, mean, he, ofBits_512, hsum, div_coe _ (by norm_num), ← EReal.coe_add]

end Cert.Norm512

end
-- ==== Proof.S5Post2.lean ====
/- The backward of the S5 branch's gate and norm (`s5_post2_bwd`): the kernel's four arrays are the reference's, at the
   extended reals, where the cotangent's half, the branch's rows and the gain are finite. -/
module

public import proofs.«01_k».proof.Defs
public import proofs.«01_k».proof.Proof.Norm512
public import proofs.«01_k».proof.Proof.Gen.Kernel18Ideal.Value
public import proofs.«01_k».proof.Proof.Gen.Reference18Ideal.Run
public import proofs.«01_k».proof.Proof.Gen.Reference18Ideal.Read
public import Idealize.ShloMosaic.Lib.Tactic
public import Idealize.ShloMosaic.Lib.Pipeline.ValueKit
public import Idealize.ShloMosaic.Lib.Pointwise

@[expose] public section

set_option maxRecDepth 16384

noncomputable section

/-- The shape relations the finiteness predicate's operations take. -/
instance Cert.S5Post2.preFacts : Cert.Pre_finite18.Facts where
  slices_S8192x1024_S8192x512_0_512 := by decide
  bcast_S_S8192x512 := by decide
  bitsLt_bf16_f32 := by decide
  bcast_S_S1x512 := by decide

namespace Cert.S5Post2

open Idealize.ShloMosaic Idealize.ShloMosaic.TcCoe Idealize.SL.Sem

open Cert.Scalar (IsReal real_of_lt sig)
open Cert.Norm512

/-- The gated row. -/
def gated (y q b : Fin 512 → EReal) (e : Fin 512) : EReal := y e * sig (q e + b e)

/-- The cotangent of the gated row: the norm's backward. -/
def dgated (ct y q b g : Fin 512 → EReal) (d : Fin 512) : EReal := rmsBwd (gated y q b) (fun e => ct e * g e) d

/-- The cotangent of the gate's argument. -/
def dqAt (ct y q b g : Fin 512 → EReal) (d : Fin 512) : EReal :=
  dgated ct y q b g d * y d * sig (q d + b d) * (1 - sig (q d + b d))

/-- The cotangent of the branch's row. -/
def dyAt (ct y q b g : Fin 512 → EReal) (d : Fin 512) : EReal := dgated ct y q b g d * sig (q d + b d)

/-- A row's part of the gain's gradient. -/
def dgAt (ct y q b : Fin 512 → EReal) (d : Fin 512) : EReal := ct d * gated y q b d * rmsInv (gated y q b)

theorem logistic_eq (x : EReal) : Ideal.logistic x = sig x := rfl

section Kernel

open Cert.Kernel18Ideal Cert.Kernel18Ideal.Gen

section Payloads

variable (x0 : Vec Ideal S1024x512 .f32) (x1 : Vec Ideal S1024x512 .bf16) (x2 : Vec Ideal S1024x512 .f32) (x3 x4 : Vec Ideal S1x512 .f32)
  (r : Fin 1024) (d : Fin 512)

theorem pay8_apply : k0_pay8 (F := Ideal) x1 (ix2 r d) = x1 (ix2 r d) := by
  pointwise [k0_pay8]

theorem pay9_apply : k0_pay9 (F := Ideal) x2 x3 (ix2 r d) = sig (x2 (ix2 r d) + x3 (ix2 0 d)) := by
  pointwise [k0_pay9, logistic_eq]

theorem pay10_apply : k0_pay10 (F := Ideal) x1 x2 x3 (ix2 r d)
    = gated (fun e => x1 (ix2 r e)) (fun e => x2 (ix2 r e)) (fun e => x3 (ix2 0 e)) d := by
  pointwise [k0_pay10, pay8_apply, pay9_apply, gated]

theorem pay11_apply (z : Fin 1) : k0_pay11 (F := Ideal) x1 x2 x3 (ix2 r z)
    = rmsInv (gated (fun e => x1 (ix2 r e)) (fun e => x2 (ix2 r e)) (fun e => x3 (ix2 0 e))) := by
  pointwise [k0_pay11, pay10_apply, rmsInv, mean]

theorem pay13_apply : k0_pay13 (F := Ideal) x0 x4 (ix2 r d) = x0 (ix2 r d) * x4 (ix2 0 d) := by
  pointwise [k0_pay13]

theorem pay14_apply : k0_pay14 (F := Ideal) x0 x1 x2 x3 x4 (ix2 r d)
    = rmsInv (gated (fun e => x1 (ix2 r e)) (fun e => x2 (ix2 r e)) (fun e => x3 (ix2 0 e))) * (x0 (ix2 r d) * x4 (ix2 0 d)) := by
  pointwise [k0_pay14, pay11_apply, pay13_apply]

theorem pay15_apply : k0_pay15 (F := Ideal) x1 x2 x3 (ix2 r d)
    = rmsInv (gated (fun e => x1 (ix2 r e)) (fun e => x2 (ix2 r e)) (fun e => x3 (ix2 0 e)))
      * rmsInv (gated (fun e => x1 (ix2 r e)) (fun e => x2 (ix2 r e)) (fun e => x3 (ix2 0 e)))
      * rmsInv (gated (fun e => x1 (ix2 r e)) (fun e => x2 (ix2 r e)) (fun e => x3 (ix2 0 e))) := by
  pointwise [k0_pay15, pay11_apply]

/-- The cotangent of a block's gated rows. -/
theorem pay1_apply : k0_pay1 (F := Ideal) (k0_pay10 x1 x2 x3) (k0_pay13 x0 x4) (k0_pay14 x0 x1 x2 x3 x4) (k0_pay15 x1 x2 x3) (ix2 r d)
    = dgated (fun e => x0 (ix2 r e)) (fun e => x1 (ix2 r e)) (fun e => x2 (ix2 r e)) (fun e => x3 (ix2 0 e)) (fun e => x4 (ix2 0 e)) d := by
  pointwise [k0_pay1, pay10_apply, pay13_apply, pay14_apply, pay15_apply, dgated, rmsBwd, mean]

theorem pay2_apply : k0_pay2 (F := Ideal) (k0_pay8 x1) (k0_pay9 x2 x3) (k0_pay10 x1 x2 x3) (k0_pay13 x0 x4) (k0_pay14 x0 x1 x2 x3 x4) (k0_pay15 x1 x2 x3) (ix2 r d)
    = dqAt (fun e => x0 (ix2 r e)) (fun e => x1 (ix2 r e)) (fun e => x2 (ix2 r e)) (fun e => x3 (ix2 0 e)) (fun e => x4 (ix2 0 e)) d := by
  pointwise [k0_pay2, pay1_apply, pay8_apply, pay9_apply, dqAt, Ideal.ofBits_one_f32]

/-- What a point stores of the cotangent of the gate's argument. -/
theorem dq_apply : k0_pay3 (F := Ideal) (k0_pay8 x1) (k0_pay9 x2 x3) (k0_pay10 x1 x2 x3) (k0_pay13 x0 x4) (k0_pay14 x0 x1 x2 x3 x4) (k0_pay15 x1 x2 x3) (ix2 r d)
    = dqAt (fun e => x0 (ix2 r e)) (fun e => x1 (ix2 r e)) (fun e => x2 (ix2 r e)) (fun e => x3 (ix2 0 e)) (fun e => x4 (ix2 0 e)) d := by
  pointwise [k0_pay3, pay2_apply]

/-- What a point stores of the cotangent of the branch's rows. -/
theorem dy_apply : k0_pay4 (F := Ideal) (k0_pay9 x2 x3) (k0_pay10 x1 x2 x3) (k0_pay13 x0 x4) (k0_pay14 x0 x1 x2 x3 x4) (k0_pay15 x1 x2 x3) (ix2 r d)
    = dyAt (fun e => x0 (ix2 r e)) (fun e => x1 (ix2 r e)) (fun e => x2 (ix2 r e)) (fun e => x3 (ix2 0 e)) (fun e => x4 (ix2 0 e)) d := by
  pointwise [k0_pay4, pay1_apply, pay9_apply, dyAt]

/-- What a point adds to the gain's gradient. -/
theorem dg_apply (y : Vec Ideal S1x512 .f32) : k0_pay12 (F := Ideal) x0 x1 x2 x3 y (ix2 0 d)
    = y (ix2 0 d) + ∑ r : Fin 1024, dgAt (fun e => x0 (ix2 r e)) (fun e => x1 (ix2 r e)) (fun e => x2 (ix2 r e)) (fun e => x3 (ix2 0 e)) d := by
  pointwise [k0_pay12, pay10_apply, pay11_apply, dgAt]

/-- What a point adds to the bias's gradient. -/
theorem db_apply (y : Vec Ideal S1x512 .f32) :
    k0_pay5 (F := Ideal) (k0_pay8 x1) (k0_pay9 x2 x3) (k0_pay10 x1 x2 x3) (k0_pay13 x0 x4) (k0_pay14 x0 x1 x2 x3 x4) (k0_pay15 x1 x2 x3) y (ix2 0 d)
    = y (ix2 0 d) + ∑ r : Fin 1024, dqAt (fun e => x0 (ix2 r e)) (fun e => x1 (ix2 r e)) (fun e => x2 (ix2 r e)) (fun e => x3 (ix2 0 e)) (fun e => x4 (ix2 0 e)) d := by
  pointwise [k0_pay5, pay2_apply]

end Payloads

/-! ## The four result arrays -/

variable (m : (ℓ : Loc nD τ sig) → Buf (Elt Ideal) ℓ)

abbrev a0 (c : Dev nD) : S8192x1024.Idx → EReal := m ((c : Thread nD τ).loc main_arg0)
abbrev a1 (c : Dev nD) : S8192x512.Idx → EReal := m ((c : Thread nD τ).loc main_arg1)
abbrev a2 (c : Dev nD) : S8192x512.Idx → EReal := m ((c : Thread nD τ).loc main_arg2)
abbrev a3 (c : Dev nD) : S1x512.Idx → EReal := m ((c : Thread nD τ).loc main_arg3)
abbrev a4 (c : Dev nD) : S1x512.Idx → EReal := m ((c : Thread nD τ).loc main_arg4)

/-- Column `e` of the cotangent's half for this branch. -/
abbrev col (e : Fin 512) : Fin 1024 := ⟨512 + e.val, by have := e.isLt; omega⟩

/-- The operands' rows. -/
def ct (c : Dev nD) (r : Fin 8192) (e : Fin 512) : EReal := a0 m c (ix2 r (col e))
def ys (c : Dev nD) (r : Fin 8192) (e : Fin 512) : EReal := a1 m c (ix2 r e)
def qs (c : Dev nD) (r : Fin 8192) (e : Fin 512) : EReal := a2 m c (ix2 r e)
def bs (c : Dev nD) (e : Fin 512) : EReal := a3 m c (ix2 0 e)
def gs (c : Dev nD) (e : Fin 512) : EReal := a4 m c (ix2 0 e)

def dq (c : Dev nD) : S8192x512.Idx → EReal := fun i => dqAt (ct m c (i 0)) (ys m c (i 0)) (qs m c (i 0)) (bs m c) (gs m c) (i 1)
def dy (c : Dev nD) : S8192x512.Idx → EReal := fun i => dyAt (ct m c (i 0)) (ys m c (i 0)) (qs m c (i 0)) (bs m c) (gs m c) (i 1)
def dg (c : Dev nD) : S1x512.Idx → EReal := fun i => ∑ r : Fin 8192, dgAt (ct m c r) (ys m c r) (qs m c r) (bs m c) (i 1)
def db (c : Dev nD) : S1x512.Idx → EReal := fun i => ∑ r : Fin 8192, dqAt (ct m c r) (ys m c r) (qs m c r) (bs m c) (gs m c) (i 1)

theorem idx : ∀ t : Fin cfg0.N, win0_0.index t = ![t.val, 1] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] := by decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (d : Fin 512) :
    (iblk m c 0 t : Vec Ideal S1024x512 .f32) (ix2 r d) = a0 m c (ix2 (row t r) (col d)) := by blk_ext [iblk, V, idx t]
theorem block1 (c : Dev nD) (t : Fin cfg0.N) (r : Fin 1024) (d : Fin 512) :
    (iblk m c 1 t : Vec Ideal S1024x512 .bf16) (ix2 r d) = a1 m c (ix2 (row t r) d) := by blk_ext [iblk, V, idx t]
theorem block2 (c : Dev nD) (t : Fin cfg0.N) (r : Fin 1024) (d : Fin 512) :
    (iblk m c 2 t : Vec Ideal S1024x512 .f32) (ix2 r d) = a2 m c (ix2 (row t r) d) := by blk_ext [iblk, V, idx t]
theorem block3 (c : Dev nD) (t : Fin cfg0.N) (d : Fin 512) :
    (iblk m c 3 t : Vec Ideal S1x512 .f32) (ix2 0 d) = a3 m c (ix2 0 d) := by blk_ext [iblk, V, idx t]
theorem block4 (c : Dev nD) (t : Fin cfg0.N) (d : Fin 512) :
    (iblk m c 4 t : Vec Ideal S1x512 .f32) (ix2 0 d) = a4 m c (ix2 0 d) := by blk_ext [iblk, V, idx t]

theorem rows0 (c : Dev nD) (t : Fin cfg0.N) (r : Fin 1024) : (fun e : Fin 512 => (iblk m c 0 t : Vec Ideal S1024x512 .f32) (ix2 r e)) = ct m c (row t r) :=
  funext fun e => block0 m c t r e
theorem rows1 (c : Dev nD) (t : Fin cfg0.N) (r : Fin 1024) : (fun e : Fin 512 => (iblk m c 1 t : Vec Ideal S1024x512 .bf16) (ix2 r e)) = ys m c (row t r) :=
  funext fun e => block1 m c t r e
theorem rows2 (c : Dev nD) (t : Fin cfg0.N) (r : Fin 1024) : (fun e : Fin 512 => (iblk m c 2 t : Vec Ideal S1024x512 .f32) (ix2 r e)) = qs m c (row t r) :=
  funext fun e => block2 m c t r e
theorem rows3 (c : Dev nD) (t : Fin cfg0.N) : (fun e : Fin 512 => (iblk m c 3 t : Vec Ideal S1x512 .f32) (ix2 0 e)) = bs m c :=
  funext fun e => block3 m c t e
theorem rows4 (c : Dev nD) (t : Fin cfg0.N) : (fun e : Fin 512 => (iblk m c 4 t : Vec Ideal S1x512 .f32) (ix2 0 e)) = gs m c :=
  funext fun e => block4 m c t e

theorem emb5 (t : Fin cfg0.N) (r : Fin 1024) (d : Fin 512) : ((cfg0.win 5).blk t).view.emb (ix2 r d) = ix2 (row t r) d := by
  blk_ext [idx t]
theorem emb6 (t : Fin cfg0.N) (r : Fin 1024) (d : Fin 512) : ((cfg0.win 6).blk t).view.emb (ix2 r d) = ix2 (row t r) d := by
  blk_ext [idx t]

theorem final5 (c : Dev nD) : (dats m 0 c).arrAt 5 cfg0.N = dq m c := by
  refine (dats m 0 c).arrAt_eq_of_covers 5 _ (by decide +kernel) fun t hf y => ?_
  obtain ⟨r, d, rfl⟩ : ∃ (r : Fin 1024) (d : Fin 512), y = ix2 r d := ⟨y 0, y 1, eq_ix2 y⟩
  rw [emb5, after0_5]
  refine Eq.trans ?_ ((dq_apply (iblk m c 0 t) (iblk m c 1 t) (iblk m c 2 t) (iblk m c 3 t) (iblk m c 4 t) r d).trans ?_)
  · by_cases h : t.val % 8 = 0
    · rw [outsAt0_A m c t h]; frame_out; rfl
    · rw [outsAt0_B m c t h]; frame_out; rfl
  · simp only [rows0, rows1, rows2, rows3, rows4]
    rfl

theorem final6 (c : Dev nD) : (dats m 0 c).arrAt 6 cfg0.N = dy m c := by
  refine (dats m 0 c).arrAt_eq_of_covers 6 _ (by decide +kernel) fun t hf y => ?_
  obtain ⟨r, d, rfl⟩ : ∃ (r : Fin 1024) (d : Fin 512), y = ix2 r d := ⟨y 0, y 1, eq_ix2 y⟩
  rw [emb6, after0_6]
  refine Eq.trans ?_ ((dy_apply (iblk m c 0 t) (iblk m c 1 t) (iblk m c 2 t) (iblk m c 3 t) (iblk m c 4 t) r d).trans ?_)
  · by_cases h : t.val % 8 = 0
    · rw [outsAt0_A m c t h]; frame_out; rfl
    · rw [outsAt0_B m c t h]; frame_out; rfl
  · simp only [rows0, rows1, rows2, rows3, rows4]
    rfl

/-- What a point adds to this gradient, over the whole operands. -/
def dgPart (c : Dev nD) (t : Fin cfg0.N) (i : S1x512.Idx) : EReal := ∑ r : Fin 1024, dgAt (ct m c (row t r)) (ys m c (row t r)) (qs m c (row t r)) (bs m c) (i 1)

theorem dg_step (c : Dev nD) (t : Fin cfg0.N) (y : Vec Ideal S1x512 .f32) (i : S1x512.Idx) :
    k0_pay12 (F := Ideal) (iblk m c 0 t) (iblk m c 1 t) (iblk m c 2 t) (iblk m c 3 t) y i = y i + dgPart m c t i := by
  obtain ⟨d, rfl⟩ : ∃ d : Fin 512, i = ix2 0 d := ⟨i 1, by rw [eq_ix2 i]; congr 1; exact Subsingleton.elim (α := Fin 1) _ _⟩
  refine (dg_apply (iblk m c 0 t) (iblk m c 1 t) (iblk m c 2 t) (iblk m c 3 t) d y).trans ?_
  simp only [rows0, rows1, rows2, rows3, rows4]
  rfl

theorem dg_zero (i : S1x512.Idx) : k0_pay6 (F := Ideal) i = 0 := by
  pointwise [k0_pay6]

theorem final7 (c : Dev nD) : (dats m 0 c).arrAt 7 cfg0.N = dg m c := by
  refine (dats m 0 c).arrAt_eq_of_covers 7 _ (by decide +kernel) fun t hf y => ?_
  have hN : cfg0.N = 8 := N_0
  have e : ((cfg0.win 7).blk t).view.emb y = y := by blk_ext [idx t]
  rw [e, after0_7, Pipeline.eq_sum_fin_of_reset_step_apply_of_flush (fun n h => (outsAt0 m c n h).2.2.1) 8 (fun _ => 0) (dgPart m c)
    (fun t h i => by rw [outsAt0_A m c t h]; frame_out; rw [dg_step, dg_zero])
    (fun t h i => by rw [outsAt0_B m c t h]; frame_out; rw [dg_step]) t ((flush0_7 t).mp hf) y, zero_add]
  unfold dgPart dg
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

/-- What a point adds to this gradient, over the whole operands. -/
def dbPart (c : Dev nD) (t : Fin cfg0.N) (i : S1x512.Idx) : EReal := ∑ r : Fin 1024, dqAt (ct m c (row t r)) (ys m c (row t r)) (qs m c (row t r)) (bs m c) (gs m c) (i 1)

theorem db_step (c : Dev nD) (t : Fin cfg0.N) (y : Vec Ideal S1x512 .f32) (i : S1x512.Idx) :
    k0_pay5 (F := Ideal) (k0_pay8 (iblk m c 1 t)) (k0_pay9 (iblk m c 2 t) (iblk m c 3 t)) (k0_pay10 (iblk m c 1 t) (iblk m c 2 t) (iblk m c 3 t))
      (k0_pay13 (iblk m c 0 t) (iblk m c 4 t)) (k0_pay14 (iblk m c 0 t) (iblk m c 1 t) (iblk m c 2 t) (iblk m c 3 t) (iblk m c 4 t))
      (k0_pay15 (iblk m c 1 t) (iblk m c 2 t) (iblk m c 3 t)) y i = y i + dbPart m c t i := by
  obtain ⟨d, rfl⟩ : ∃ d : Fin 512, i = ix2 0 d := ⟨i 1, by rw [eq_ix2 i]; congr 1; exact Subsingleton.elim (α := Fin 1) _ _⟩
  refine (db_apply (iblk m c 0 t) (iblk m c 1 t) (iblk m c 2 t) (iblk m c 3 t) (iblk m c 4 t) d y).trans ?_
  simp only [rows0, rows1, rows2, rows3, rows4]
  rfl

theorem db_zero (i : S1x512.Idx) : k0_pay7 (F := Ideal) i = 0 := by
  pointwise [k0_pay7]

theorem final8 (c : Dev nD) : (dats m 0 c).arrAt 8 cfg0.N = db m c := by
  refine (dats m 0 c).arrAt_eq_of_covers 8 _ (by decide +kernel) fun t hf y => ?_
  have hN : cfg0.N = 8 := N_0
  have e : ((cfg0.win 8).blk t).view.emb y = y := by blk_ext [idx t]
  rw [e, after0_8, Pipeline.eq_sum_fin_of_reset_step_apply_of_flush (fun n h => (outsAt0 m c n h).2.2.2) 8 (fun _ => 0) (dbPart m c)
    (fun t h i => by rw [outsAt0_A m c t h]; frame_out; rw [db_step, db_zero])
    (fun t h i => by rw [outsAt0_B m c t h]; frame_out; rw [db_step]) t ((flush0_8 t).mp hf) y, zero_add]
  unfold dbPart db
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

end Kernel

section Reference

open Cert.Reference18Ideal Cert.Reference18Ideal.Read

variable (x0 : Vec Ideal S8192x1024 .f32) (x1 : Vec Ideal S8192x512 .bf16) (x2 : Vec Ideal S8192x512 .f32) (x3 x4 : Vec Ideal S1x512 .f32)
  (r : Fin 8192) (d : Fin 512)

theorem reference_sig : val_main_v8 (F := Ideal) x2 x3 (ix2 r d) = sig (x2 (ix2 r d) + x3 (ix2 0 d)) := by
  pointwise [val_main_v8, val_main_v7, val_main_v6, val_main_v5, val_main_v4, val_main_v3, val_main_v2, val_main_v1, val_main_cst, val_main_cst_0,
    Ideal.ofBits_one_f32, Cert.Scalar.sig]

theorem reference_dsig : val_main_v11 (F := Ideal) x2 x3 (ix2 r d)
    = sig (x2 (ix2 r d) + x3 (ix2 0 d)) * (1 - sig (x2 (ix2 r d) + x3 (ix2 0 d))) := by
  pointwise [val_main_v11, val_main_v10, val_main_v9, val_main_cst_1, reference_sig, Ideal.ofBits_one_f32]

theorem reference_gated : val_main_v12 (F := Ideal) x1 x2 x3 (ix2 r d) = gated (fun e => x1 (ix2 r e)) (fun e => x2 (ix2 r e)) (fun e => x3 (ix2 0 e)) d := by
  pointwise [val_main_v12, val_main_v0, reference_sig, gated]

/-- The mean square with the small constant added. -/
theorem reference_ms (z : Fin 1) : val_main_v19 (F := Ideal) x1 x2 x3 (ix2 r z)
    = mean (fun e => gated (fun e => x1 (ix2 r e)) (fun e => x2 (ix2 r e)) (fun e => x3 (ix2 0 e)) e * gated (fun e => x1 (ix2 r e)) (fun e => x2 (ix2 r e)) (fun e => x3 (ix2 0 e)) e)
      + Ideal.ofBits .f32 0x358637BD#32 := by
  pointwise [val_main_v19, val_main_v18, val_main_v17, val_main_v16, val_main_v15, val_main_v14, val_main_v13, val_main_cst_2, val_main_cst_3, val_main_cst_4,
    reference_gated, mean]

theorem reference_rms (z : Fin 1) : val_main_v20 (F := Ideal) x1 x2 x3 (ix2 r z) = rmsInv (gated (fun e => x1 (ix2 r e)) (fun e => x2 (ix2 r e)) (fun e => x3 (ix2 0 e))) := by
  pointwise [val_main_v20, reference_ms, rmsInv]

theorem reference_ct : val_main_v28 (F := Ideal) x0 (ix2 r d) = x0 (ix2 r (col d)) := by
  pointwise [val_main_v28]

theorem reference_v : val_main_v33 (F := Ideal) x0 x4 (ix2 r d) = x0 (ix2 r (col d)) * x4 (ix2 0 d) := by
  pointwise [val_main_v33, val_main_v32, reference_ct]

theorem reference_xv (z : Fin 1) : val_main_v36 (F := Ideal) x0 x1 x2 x3 x4 (ix2 r z)
    = ∑ e : Fin 512, gated (fun e => x1 (ix2 r e)) (fun e => x2 (ix2 r e)) (fun e => x3 (ix2 0 e)) e * (x0 (ix2 r (col e)) * x4 (ix2 0 e)) := by
  pointwise [val_main_v36, val_main_v35, val_main_v34, val_main_cst_7, reference_gated, reference_v]

/-- The mean square's term of the reference's cotangent. -/
theorem reference_y : val_main_v43 (F := Ideal) x0 x1 x2 x3 x4 (ix2 r d)
    = Ideal.div (val_main_v36 (F := Ideal) x0 x1 x2 x3 x4 (ix2 r 0) * (Ideal.ofBits .f32 0xBF000000#32
        * Ideal.div (val_main_v20 (F := Ideal) x1 x2 x3 (ix2 r 0)) (val_main_v19 (F := Ideal) x1 x2 x3 (ix2 r 0)))) (Ideal.ofBits .f32 0x44000000#32) := by
  pointwise [val_main_v43, val_main_v42, val_main_v41, val_main_v40, val_main_v39, val_main_v23, val_main_v22, val_main_v21, val_main_cst_5, val_main_cst_8, val_main_cst_9]
  exact Fin.sum_univ_one _

/-- The reference's cotangent of the gated rows. -/
theorem reference_ds (h0 : ∀ e, IsReal (x0 (ix2 r (col e)))) (h1 : ∀ i, IsReal (x1 i)) (h4 : ∀ i, IsReal (x4 i)) :
    val_main_v47 (F := Ideal) x0 x1 x2 x3 x4 (ix2 r d) = dgated (fun e => x0 (ix2 r (col e))) (fun e => x1 (ix2 r e)) (fun e => x2 (ix2 r e)) (fun e => x3 (ix2 0 e)) (fun e => x4 (ix2 0 e)) d := by
  have hs (e : Fin 512) : IsReal (gated (fun e => x1 (ix2 r e)) (fun e => x2 (ix2 r e)) (fun e => x3 (ix2 0 e)) e) := (h1 _).mul (sig_real _)
  have hv (e : Fin 512) : IsReal (x0 (ix2 r (col e)) * x4 (ix2 0 e)) := (h0 e).mul (h4 _)
  have hb := rms_bwd hs hv 0 d
  rw [zero_add, zero_add] at hb
  rw [dgated, hb]
  pointwise [val_main_v47, val_main_v46, val_main_v45, val_main_v44, val_main_v38, val_main_v37,
    reference_y, reference_xv, reference_v, reference_rms, reference_ms, reference_gated]

theorem reference_dq0 (h0 : ∀ e, IsReal (x0 (ix2 r (col e)))) (h1 : ∀ i, IsReal (x1 i)) (h4 : ∀ i, IsReal (x4 i)) :
    val_main_v50 (F := Ideal) x0 x1 x2 x3 x4 (ix2 r d) = dqAt (fun e => x0 (ix2 r (col e))) (fun e => x1 (ix2 r e)) (fun e => x2 (ix2 r e)) (fun e => x3 (ix2 0 e)) (fun e => x4 (ix2 0 e)) d := by
  have h : val_main_v50 (F := Ideal) x0 x1 x2 x3 x4 (ix2 r d) = x1 (ix2 r d) * val_main_v47 (F := Ideal) x0 x1 x2 x3 x4 (ix2 r d) * val_main_v11 (F := Ideal) x2 x3 (ix2 r d) := by
    pointwise [val_main_v50, val_main_v48, val_main_v0]
  rw [h, reference_ds x0 x1 x2 x3 x4 r d h0 h1 h4, reference_dsig, dqAt, mul_comm (x1 _), mul_assoc (_ * _)]

theorem reference_dq (h0 : ∀ e, IsReal (x0 (ix2 r (col e)))) (h1 : ∀ i, IsReal (x1 i)) (h4 : ∀ i, IsReal (x4 i)) :
    val_main_v53 (F := Ideal) x0 x1 x2 x3 x4 (ix2 r d) = dqAt (fun e => x0 (ix2 r (col e))) (fun e => x1 (ix2 r e)) (fun e => x2 (ix2 r e)) (fun e => x3 (ix2 0 e)) (fun e => x4 (ix2 0 e)) d := by
  rw [← reference_dq0 x0 x1 x2 x3 x4 r d h0 h1 h4]
  pointwise [val_main_v53]

theorem reference_dy (h0 : ∀ e, IsReal (x0 (ix2 r (col e)))) (h1 : ∀ i, IsReal (x1 i)) (h4 : ∀ i, IsReal (x4 i)) :
    val_main_v49 (F := Ideal) x0 x1 x2 x3 x4 (ix2 r d) = dyAt (fun e => x0 (ix2 r (col e))) (fun e => x1 (ix2 r e)) (fun e => x2 (ix2 r e)) (fun e => x3 (ix2 0 e)) (fun e => x4 (ix2 0 e)) d := by
  rw [dyAt, ← reference_ds x0 x1 x2 x3 x4 r d h0 h1 h4, ← reference_sig]
  pointwise [val_main_v49]

theorem reference_db (h0 : ∀ r e, IsReal (x0 (ix2 r (col e)))) (h1 : ∀ i, IsReal (x1 i)) (h4 : ∀ i, IsReal (x4 i)) :
    val_main_v52 (F := Ideal) x0 x1 x2 x3 x4 (ix2 0 d) = ∑ r : Fin 8192, dqAt (fun e => x0 (ix2 r (col e))) (fun e => x1 (ix2 r e)) (fun e => x2 (ix2 r e)) (fun e => x3 (ix2 0 e)) (fun e => x4 (ix2 0 e)) d := by
  have h : val_main_v52 (F := Ideal) x0 x1 x2 x3 x4 (ix2 0 d) = ∑ r : Fin 8192, val_main_v50 (F := Ideal) x0 x1 x2 x3 x4 (ix2 r d) := by
    pointwise [val_main_v52, val_main_v51, val_main_cst_10]
  rw [h]
  exact Finset.sum_congr rfl fun r _ => reference_dq0 x0 x1 x2 x3 x4 r d (h0 r) h1 h4

theorem reference_dg : val_main_v31 (F := Ideal) x0 x1 x2 x3 (ix2 0 d) = ∑ r : Fin 8192, dgAt (fun e => x0 (ix2 r (col e))) (fun e => x1 (ix2 r e)) (fun e => x2 (ix2 r e)) (fun e => x3 (ix2 0 e)) d := by
  have h : val_main_v31 (F := Ideal) x0 x1 x2 x3 (ix2 0 d)
      = ∑ r : Fin 8192, gated (fun e => x1 (ix2 r e)) (fun e => x2 (ix2 r e)) (fun e => x3 (ix2 0 e)) d * rmsInv (gated (fun e => x1 (ix2 r e)) (fun e => x2 (ix2 r e)) (fun e => x3 (ix2 0 e))) * x0 (ix2 r (col d)) := by
    pointwise [val_main_v31, val_main_v30, val_main_v29, val_main_v25, val_main_v24, val_main_cst_6, reference_gated, reference_rms, reference_ct]
  rw [h]
  exact Finset.sum_congr rfl fun r _ => by rw [mul_comm, dgAt, mul_assoc]

end Reference

/-- Both runs end with the same four arrays, where the cotangent's half, the branch's rows and the gain are finite. -/
theorem value : Cert.algebraic_Kernel18Ideal_Reference18Ideal_pre_finite18 := by
  intro m g0 m' g1 hpre hag
  have h0 (c) (r : Fin 8192) (e : Fin 512) : IsReal (a0 m c (ix2 r (col e))) := by
    rw [← reference_ct (x0 := a0 m c) r e]
    exact real_of_lt (congrFun (hpre c).1 (ix2 r e))
  have h1 (c) (i) : IsReal (a1 m c i) := real_of_lt (congrFun (hpre c).2.1 i)
  have h4 (c) (i) : IsReal (a4 m c i) := real_of_lt (congrFun (hpre c).2.2 i)
  refine ⟨dq m, dy m, dg m, db m, ?_, ?_⟩
  · exact (θ_run _ _ _).mono (fun r h c => ⟨((h c).1).trans (final5 m c), ((h c).2.1).trans (final6 m c), ((h c).2.2.1).trans (final7 m c),
        ((h c).2.2.2.1).trans (final8 m c), (h c).2.2.2.2⟩)
      (Cert.Kernel18Ideal.Value.run_blocks (F := Ideal) m g0)
  · refine (θ_run _ _ _).mono (fun r h c => ⟨((h c).1).trans ?_, ((h c).2.1).trans ?_, ((h c).2.2.1).trans ?_, ((h c).2.2.2.1).trans ?_, (h c).2.2.2.2⟩)
      (Cert.Reference18Ideal.Value.run (F := Ideal) m' g1)
    · refine (Cert.Reference18Ideal.Read.val_main_v53_eq (F := Ideal) m' c).trans ?_
      rw [(hag c).1, (hag c).2.1, (hag c).2.2.1, (hag c).2.2.2.1, (hag c).2.2.2.2]
      refine funext fun i => ?_
      obtain ⟨r, d, rfl⟩ : ∃ (r : Fin 8192) (d : Fin 512), i = ix2 r d := ⟨i 0, i 1, eq_ix2 i⟩
      exact reference_dq _ _ _ _ _ r d (h0 c r) (h1 c) (h4 c)
    · refine (Cert.Reference18Ideal.Read.val_main_v49_eq (F := Ideal) m' c).trans ?_
      rw [(hag c).1, (hag c).2.1, (hag c).2.2.1, (hag c).2.2.2.1, (hag c).2.2.2.2]
      refine funext fun i => ?_
      obtain ⟨r, d, rfl⟩ : ∃ (r : Fin 8192) (d : Fin 512), i = ix2 r d := ⟨i 0, i 1, eq_ix2 i⟩
      exact reference_dy _ _ _ _ _ r d (h0 c r) (h1 c) (h4 c)
    · rw [(hag c).1, (hag c).2.1, (hag c).2.2.1, (hag c).2.2.2.1]
      refine (Cert.Reference18Ideal.Read.val_main_v31_eq (F := Ideal) _ _ _ _).trans (funext fun i => ?_)
      obtain ⟨d, rfl⟩ : ∃ d : Fin 512, i = ix2 0 d := ⟨i 1, by rw [eq_ix2 i]; congr 1; exact Subsingleton.elim (α := Fin 1) _ _⟩
      exact reference_dg _ _ _ _ d
    · refine (Cert.Reference18Ideal.Read.val_main_v52_eq (F := Ideal) m' c).trans ?_
      rw [(hag c).1, (hag c).2.1, (hag c).2.2.1, (hag c).2.2.2.1, (hag c).2.2.2.2]
      refine funext fun i => ?_
      obtain ⟨d, rfl⟩ : ∃ d : Fin 512, i = ix2 0 d := ⟨i 1, by rw [eq_ix2 i]; congr 1; exact Subsingleton.elim (α := Fin 1) _ _⟩
      exact reference_db _ _ _ _ _ d (h0 c) (h1 c) (h4 c)

end Cert.S5Post2

end
-- ==== Proof.S5Post1.lean ====
/- The backward of the S5 scan's skip and gelu (`s5_post1_bwd`): the kernel's three arrays are the reference's, at the
   extended reals, where the two cotangents are finite. The two rounded constants of gelu's cube are named as the
   rationals they stand for, 0.044715 and three times it. -/
module

public import proofs.«01_k».proof.Defs
public import proofs.«01_k».proof.Proof.Scalar
public import proofs.«01_k».proof.Proof.Gen.Kernel19Ideal.Value
public import proofs.«01_k».proof.Proof.Gen.Reference19Ideal.Run
public import proofs.«01_k».proof.Proof.Gen.Reference19Ideal.Read
public import Idealize.ShloMosaic.Lib.Tactic
public import Idealize.ShloMosaic.Lib.Pipeline.ValueKit
public import Idealize.ShloMosaic.Lib.Pointwise

@[expose] public section

set_option maxRecDepth 16384

noncomputable section

/-- The shape relation the finiteness predicate's operations take. -/
instance Cert.S5Post1.preFacts : Cert.Pre_finite19.Facts where
  bcast_S_S8192x512 := by decide

namespace Cert.S5Post1

open Idealize.ShloMosaic Idealize.ShloMosaic.TcCoe Idealize.SL.Sem

open Cert.Scalar (IsReal real_of_lt)

/-! ## Gelu's derivative -/

/-- The root of two over pi, as its float word. -/
abbrev K : EReal := Ideal.ofBits .f32 0x3F4C422A#32

/-- The cube's constant, and three times it. -/
abbrev C : EReal := ((8943 / 200000 : ℝ) : EReal)
abbrev C3 : EReal := ((26829 / 200000 : ℝ) : EReal)

abbrev half : EReal := Ideal.ofBits .f32 0x3F000000#32

/-- The hyperbolic tangent gelu takes. -/
def tAt (x : EReal) : EReal := Ideal.tanh (K * (x + C * x * x * x))

/-- Gelu's derivative, in the kernel's order. -/
def dgelu (x : EReal) : EReal := half * (1 + tAt x) + half * x * (1 - tAt x * tAt x) * K * (1 + C3 * x * x)

/-- The word `K` is a positive real. -/
theorem K_real : ∃ k : ℝ, 0 < k ∧ K = (k : EReal) := by
  refine ⟨_, ?_, by simp [Ideal.ofBits, Ideal.ieee, -EReal.coe_mul]; rfl⟩
  norm_num

theorem ofBits_three : Ideal.ofBits .f32 0x40400000#32 = ((3 : ℝ) : EReal) := by
  simp [Ideal.ofBits, Ideal.ieee, -EReal.coe_mul]; norm_num

theorem ofBits_num : Ideal.ofBits .f32 0x472EAB00#32 = ((44715 : ℝ) : EReal) := by
  simp [Ideal.ofBits, Ideal.ieee, -EReal.coe_mul]; norm_num

theorem ofBits_den : Ideal.ofBits .f32 0x49742400#32 = ((1000000 : ℝ) : EReal) := by
  simp [Ideal.ofBits, Ideal.ieee, -EReal.coe_mul]; norm_num

/-- Division by the million is a product. -/
theorem div_den (x : EReal) : Ideal.div x (Ideal.ofBits .f32 0x49742400#32) = x * ((1 / 1000000 : ℝ) : EReal) := by
  rw [ofBits_den, Ideal.div_coe (by norm_num)]

/-- The quotient of the two exact words is the cube's constant. -/
theorem num_den (x : EReal) : Ideal.div (Ideal.ofBits .f32 0x472EAB00#32 * x) (Ideal.ofBits .f32 0x49742400#32) = C * x := by
  rw [div_den, ofBits_num, mul_right_comm, ← EReal.coe_mul]
  norm_num

/-- The hyperbolic tangent as the reference takes it. -/
theorem tAt_eq (x : EReal) : Ideal.tanh (K * (x + Ideal.div (Ideal.ofBits .f32 0x472EAB00#32 * (x * x * x)) (Ideal.ofBits .f32 0x49742400#32))) = tAt x := by
  rw [num_den, tAt, mul_assoc C, mul_assoc C]

theorem tAt_top : tAt ⊤ = 1 := by
  obtain ⟨k, hk, e⟩ := K_real
  rw [tAt, EReal.coe_mul_top_of_pos (by norm_num), EReal.top_mul_top, EReal.top_mul_top, e]
  rw [show (⊤ : EReal) + ⊤ = ⊤ from rfl, EReal.coe_mul_top_of_pos hk, Ideal.tanh_top]

theorem tAt_bot : tAt ⊥ = -1 := by
  obtain ⟨k, hk, e⟩ := K_real
  rw [tAt, EReal.coe_mul_bot_of_pos (by norm_num), EReal.bot_mul_bot, EReal.top_mul_bot, e]
  rw [show (⊥ : EReal) + ⊥ = ⊥ from rfl, EReal.coe_mul_bot_of_pos hk, Ideal.tanh_bot]

theorem tAt_real (x : ℝ) : ∃ t : ℝ, tAt (x : EReal) = (t : EReal) := by
  obtain ⟨k, hk, e⟩ := K_real
  refine ⟨Real.tanh (k * (x + 8943 / 200000 * x * x * x)), ?_⟩
  rw [tAt, e, ← Ideal.tanh_coe]
  push_cast
  rfl

/-- The reference's derivative: the three terms the reverse pass adds. -/
def dgeluRef (d x : EReal) : EReal :=
  K * (half * x * d * ((1 + tAt x) * (1 - tAt x)))
    + Ideal.ofBits .f32 0x472EAB00#32 * Ideal.div (K * (half * x * d * ((1 + tAt x) * (1 - tAt x)))) (Ideal.ofBits .f32 0x49742400#32)
        * (Ideal.ofBits .f32 0x40400000#32 * (x * x))
    + half * (d * (1 + tAt x))

/-- The two orders agree for a finite cotangent, the argument whatever it is. -/
theorem dgelu_eq {d : EReal} (hd : IsReal d) (x : EReal) : dgeluRef d x = d * dgelu x := by
  obtain ⟨d, rfl⟩ := hd
  have h1 : (1 : EReal) - 1 = 0 := EReal.sub_self (by decide) (by decide)
  have h2 : (1 : EReal) + -1 = 0 := by rw [← sub_eq_add_neg, h1]
  induction x with
  | bot => simp [dgeluRef, dgelu, tAt_bot, h1, h2, div_den]
  | top => simp [dgeluRef, dgelu, tAt_top, h1, div_den, mul_left_comm]
  | coe x =>
    obtain ⟨t, ht⟩ := tAt_real x
    obtain ⟨k, _, hk⟩ := K_real
    rw [dgeluRef, dgelu, ht, div_den, ofBits_num, ofBits_three, hk, show half = _ from Cert.Scalar.half]
    norm_cast
    ring

section Kernel

open Cert.Kernel19Ideal Cert.Kernel19Ideal.Gen

theorem named_c : Named.named (F := Ideal) Cert.Kernel19Ideal.κ "gelu_c" (φ := .f32) 0x3D372713#32 = C :=
  IdealRules.named_const.ideal_named_scalar _ _ _ _ rfl

theorem named_3c : Named.named (F := Ideal) Cert.Kernel19Ideal.κ "gelu_3c" (φ := .f32) 0x3E095D4F#32 = C3 :=
  IdealRules.named_const.ideal_named_scalar _ _ _ _ rfl

section Payloads

variable (x0 x1 x2 x3 : Vec Ideal S1024x512 .f32) (x4 : Vec Ideal S1x512 .f32) (r : Fin 1024) (d : Fin 512)

/-- What a point stores of the cotangent of gelu's argument. -/
theorem dy_apply : k0_pay4 (F := Ideal) x0 x1 x2 (ix2 r d) = (x0 (ix2 r d) + x1 (ix2 r d)) * dgelu (x2 (ix2 r d)) := by
  pointwise [k0_pay4, named_c, named_3c, dgelu, tAt, Ideal.ofBits_one_f32]

/-- What a point stores of the cotangent of the scan's input. -/
theorem du_apply : k0_pay1 (F := Ideal) (k0_pay4 x0 x1 x2) x4 (ix2 r d)
    = (x0 (ix2 r d) + x1 (ix2 r d)) * dgelu (x2 (ix2 r d)) * x4 (ix2 0 d) := by
  pointwise [k0_pay1, dy_apply]

/-- What a point adds to the skip's gradient. -/
theorem dd_apply (y : Vec Ideal S1x512 .f32) : k0_pay2 (F := Ideal) (k0_pay4 x0 x1 x2) y x3 (ix2 0 d)
    = y (ix2 0 d) + ∑ r : Fin 1024, (x0 (ix2 r d) + x1 (ix2 r d)) * dgelu (x2 (ix2 r d)) * x3 (ix2 r d) := by
  pointwise [k0_pay2, dy_apply]

end Payloads

/-! ## The three result arrays -/

variable (m : (ℓ : Loc nD τ sig) → Buf (Elt Ideal) ℓ)

abbrev a0 (c : Dev nD) : S8192x512.Idx → EReal := m ((c : Thread nD τ).loc main_arg0)
abbrev a1 (c : Dev nD) : S8192x512.Idx → EReal := m ((c : Thread nD τ).loc main_arg1)
abbrev a2 (c : Dev nD) : S8192x512.Idx → EReal := m ((c : Thread nD τ).loc main_arg2)
abbrev a3 (c : Dev nD) : S8192x1536.Idx → EReal := m ((c : Thread nD τ).loc main_arg3)
abbrev a4 (c : Dev nD) : S1x512.Idx → EReal := m ((c : Thread nD τ).loc main_arg4)

/-- Column `e` of the projection's third for the scan's input. -/
abbrev col (e : Fin 512) : Fin 1536 := ⟨1024 + e.val, by have := e.isLt; omega⟩

def dyAt (c : Dev nD) (r : Fin 8192) (d : Fin 512) : EReal := (a0 m c (ix2 r d) + a1 m c (ix2 r d)) * dgelu (a2 m c (ix2 r d))

def dy (c : Dev nD) : S8192x512.Idx → EReal := fun i => dyAt m c (i 0) (i 1)
def du (c : Dev nD) : S8192x512.Idx → EReal := fun i => dyAt m c (i 0) (i 1) * a4 m c (ix2 0 (i 1))
def dd (c : Dev nD) : S1x512.Idx → EReal := fun i => ∑ r : Fin 8192, dyAt m c r (i 1) * a3 m c (ix2 r (col (i 1)))

theorem idx : ∀ t : Fin cfg0.N, win0_0.index t = ![t.val, 0] ∧ win0_1.index t = ![t.val, 0] ∧ win0_2.index t = ![t.val, 0]
    ∧ win0_3.index t = ![t.val, 2] ∧ win0_4.index t = ![0, 0] ∧ win0_5.index t = ![t.val, 0] ∧ win0_6.index t = ![t.val, 0]
    ∧ win0_7.index t = ![0, 0] := by decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (d : Fin 512) :
    (iblk m c 0 t : Vec Ideal S1024x512 .f32) (ix2 r d) = a0 m c (ix2 (row t r) d) := by blk_ext [iblk, V, idx t]
theorem block1 (c : Dev nD) (t : Fin cfg0.N) (r : Fin 1024) (d : Fin 512) :
    (iblk m c 1 t : Vec Ideal S1024x512 .f32) (ix2 r d) = a1 m c (ix2 (row t r) d) := by blk_ext [iblk, V, idx t]
theorem block2 (c : Dev nD) (t : Fin cfg0.N) (r : Fin 1024) (d : Fin 512) :
    (iblk m c 2 t : Vec Ideal S1024x512 .f32) (ix2 r d) = a2 m c (ix2 (row t r) d) := by blk_ext [iblk, V, idx t]
theorem block3 (c : Dev nD) (t : Fin cfg0.N) (r : Fin 1024) (d : Fin 512) :
    (iblk m c 3 t : Vec Ideal S1024x512 .f32) (ix2 r d) = a3 m c (ix2 (row t r) (col d)) := by blk_ext [iblk, V, idx t]
theorem block4 (c : Dev nD) (t : Fin cfg0.N) (d : Fin 512) :
    (iblk m c 4 t : Vec Ideal S1x512 .f32) (ix2 0 d) = a4 m c (ix2 0 d) := by blk_ext [iblk, V, idx t]

theorem emb5 (t : Fin cfg0.N) (r : Fin 1024) (d : Fin 512) : ((cfg0.win 5).blk t).view.emb (ix2 r d) = ix2 (row t r) d := by
  blk_ext [idx t]
theorem emb6 (t : Fin cfg0.N) (r : Fin 1024) (d : Fin 512) : ((cfg0.win 6).blk t).view.emb (ix2 r d) = ix2 (row t r) d := by
  blk_ext [idx t]

theorem final5 (c : Dev nD) : (dats m 0 c).arrAt 5 cfg0.N = dy m c := by
  refine (dats m 0 c).arrAt_eq_of_covers 5 _ (by decide +kernel) fun t hf y => ?_
  obtain ⟨r, d, rfl⟩ : ∃ (r : Fin 1024) (d : Fin 512), y = ix2 r d := ⟨y 0, y 1, eq_ix2 y⟩
  rw [emb5, after0_5]
  refine Eq.trans ?_ ((dy_apply (iblk m c 0 t) (iblk m c 1 t) (iblk m c 2 t) r d).trans ?_)
  · by_cases h : t.val % 8 = 0
    · rw [outsAt0_A m c t h]; frame_out; rfl
    · rw [outsAt0_B m c t h]; frame_out; rfl
  · simp only [block0, block1, block2, block4]
    rfl

theorem final6 (c : Dev nD) : (dats m 0 c).arrAt 6 cfg0.N = du m c := by
  refine (dats m 0 c).arrAt_eq_of_covers 6 _ (by decide +kernel) fun t hf y => ?_
  obtain ⟨r, d, rfl⟩ : ∃ (r : Fin 1024) (d : Fin 512), y = ix2 r d := ⟨y 0, y 1, eq_ix2 y⟩
  rw [emb6, after0_6]
  refine Eq.trans ?_ ((du_apply (iblk m c 0 t) (iblk m c 1 t) (iblk m c 2 t) (iblk m c 4 t) r d).trans ?_)
  · by_cases h : t.val % 8 = 0
    · rw [outsAt0_A m c t h]; frame_out; rfl
    · rw [outsAt0_B m c t h]; frame_out; rfl
  · simp only [block0, block1, block2, block4]
    rfl

/-- What a point adds to this gradient, over the whole operands. -/
def ddPart (c : Dev nD) (t : Fin cfg0.N) (i : S1x512.Idx) : EReal := ∑ r : Fin 1024, dyAt m c (row t r) (i 1) * a3 m c (ix2 (row t r) (col (i 1)))

theorem dd_step (c : Dev nD) (t : Fin cfg0.N) (y : Vec Ideal S1x512 .f32) (i : S1x512.Idx) :
    k0_pay2 (F := Ideal) (k0_pay4 (iblk m c 0 t) (iblk m c 1 t) (iblk m c 2 t)) y (iblk m c 3 t) i = y i + ddPart m c t i := by
  obtain ⟨d, rfl⟩ : ∃ d : Fin 512, i = ix2 0 d := ⟨i 1, by rw [eq_ix2 i]; congr 1; exact Subsingleton.elim (α := Fin 1) _ _⟩
  refine (dd_apply (iblk m c 0 t) (iblk m c 1 t) (iblk m c 2 t) (iblk m c 3 t) d y).trans ?_
  simp only [block0, block1, block2, block3]
  rfl

theorem dd_zero (i : S1x512.Idx) : k0_pay3 (F := Ideal) i = 0 := by
  pointwise [k0_pay3]

theorem final7 (c : Dev nD) : (dats m 0 c).arrAt 7 cfg0.N = dd m c := by
  refine (dats m 0 c).arrAt_eq_of_covers 7 _ (by decide +kernel) fun t hf y => ?_
  have hN : cfg0.N = 8 := N_0
  have e : ((cfg0.win 7).blk t).view.emb y = y := by blk_ext [idx t]
  rw [e, after0_7, Pipeline.eq_sum_fin_of_reset_step_apply_of_flush (fun n h => (outsAt0 m c n h).2.2) 8 (fun _ => 0) (ddPart m c)
    (fun t h i => by rw [outsAt0_A m c t h]; frame_out; rw [dd_step, dd_zero])
    (fun t h i => by rw [outsAt0_B m c t h]; frame_out; rw [dd_step]) t ((flush0_7 t).mp hf) y, zero_add]
  unfold ddPart dd
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

end Kernel

section Reference

open Cert.Reference19Ideal Cert.Reference19Ideal.Read

variable (x0 x1 x2 : Vec Ideal S8192x512 .f32) (x3 : Vec Ideal S8192x1536 .f32) (x4 : Vec Ideal S1x512 .f32) (r : Fin 8192) (d : Fin 512)

theorem reference_t : val_main_v14 (F := Ideal) x2 (ix2 r d) = tAt (x2 (ix2 r d)) := by
  rw [← tAt_eq]
  pointwise [val_main_v14, val_main_v13, val_main_v12, val_main_v11, val_main_v10, val_main_v9, val_main_v8, val_main_v7, val_main_v3, val_main_v2,
    val_main_cst_1, val_main_cst_2, val_main_cst_3]

/-- The cotangent of the tangent's argument, with its constant. -/
theorem reference_u : val_main_v28 (F := Ideal) x0 x1 x2 (ix2 r d)
    = K * (half * x2 (ix2 r d) * (x0 (ix2 r d) + x1 (ix2 r d)) * ((1 + tAt (x2 (ix2 r d))) * (1 - tAt (x2 (ix2 r d))))) := by
  pointwise [val_main_v28, val_main_v27, val_main_v26, val_main_v24, val_main_v23, val_main_v19, val_main_v18, val_main_v17, val_main_v16, val_main_v15,
    val_main_v1, val_main_v0, val_main_cst, val_main_cst_4, val_main_cst_5, val_main_cst_7, reference_t, Ideal.ofBits_one_f32]

theorem reference_dy (h0 : ∀ i, IsReal (x0 i)) (h1 : ∀ i, IsReal (x1 i)) : val_main_v37 (F := Ideal) x0 x1 x2 (ix2 r d)
    = (x0 (ix2 r d) + x1 (ix2 r d)) * dgelu (x2 (ix2 r d)) := by
  rw [← dgelu_eq ((h0 _).add (h1 _)), dgeluRef, ← reference_u]
  pointwise [val_main_v37, val_main_v36, val_main_v35, val_main_v34, val_main_v33, val_main_v32, val_main_v31, val_main_v30, val_main_v29,
    val_main_v25, val_main_v23, val_main_v21, val_main_v20, val_main_v6, val_main_v5, val_main_v4,
    val_main_cst_0, val_main_cst_6, val_main_cst_8, val_main_cst_9, val_main_cst_10, reference_t, Ideal.ofBits_one_f32]

theorem reference_du (h0 : ∀ i, IsReal (x0 i)) (h1 : ∀ i, IsReal (x1 i)) : val_main_v42 (F := Ideal) x0 x1 x2 x4 (ix2 r d)
    = (x0 (ix2 r d) + x1 (ix2 r d)) * dgelu (x2 (ix2 r d)) * x4 (ix2 0 d) := by
  have h : val_main_v42 (F := Ideal) x0 x1 x2 x4 (ix2 r d) = x4 (ix2 0 d) * val_main_v37 (F := Ideal) x0 x1 x2 (ix2 r d) := by
    pointwise [val_main_v42, val_main_v41]
  rw [h, reference_dy x0 x1 x2 r d h0 h1, mul_comm]

theorem reference_dd (h0 : ∀ i, IsReal (x0 i)) (h1 : ∀ i, IsReal (x1 i)) : val_main_v45 (F := Ideal) x0 x1 x2 x3 (ix2 0 d)
    = ∑ r : Fin 8192, (x0 (ix2 r d) + x1 (ix2 r d)) * dgelu (x2 (ix2 r d)) * x3 (ix2 r (col d)) := by
  have h : val_main_v45 (F := Ideal) x0 x1 x2 x3 (ix2 0 d) = ∑ r : Fin 8192, val_main_v37 (F := Ideal) x0 x1 x2 (ix2 r d) * x3 (ix2 r (col d)) := by
    pointwise [val_main_v45, val_main_v44, val_main_v43, val_main_v38, val_main_cst_11]
  rw [h]
  exact Finset.sum_congr rfl fun r _ => by rw [reference_dy x0 x1 x2 r d h0 h1]

end Reference

/-- Both runs end with the same three arrays, where the two cotangents are finite. -/
theorem value : Cert.algebraic_Kernel19Ideal_Reference19Ideal_pre_finite19 := by
  intro m g0 m' g1 hpre hag
  have h0 (c) (i) : IsReal (a0 m c i) := real_of_lt (congrFun (hpre c).1 i)
  have h1 (c) (i) : IsReal (a1 m c i) := real_of_lt (congrFun (hpre c).2 i)
  refine ⟨dy m, du m, dd m, ?_, ?_⟩
  · exact (θ_run _ _ _).mono (fun r h c => ⟨((h c).1).trans (final5 m c), ((h c).2.1).trans (final6 m c), ((h c).2.2.1).trans (final7 m c), (h c).2.2.2⟩)
      (Cert.Kernel19Ideal.Value.run_blocks (F := Ideal) m g0)
  · refine (θ_run _ _ _).mono (fun r h c => ⟨((h c).1).trans ?_, ((h c).2.1).trans ?_, ((h c).2.2.1).trans ?_, (h c).2.2.2⟩)
      (Cert.Reference19Ideal.Value.run (F := Ideal) m' g1)
    · refine (Cert.Reference19Ideal.Read.val_main_v37_eq (F := Ideal) m' c).trans ?_
      rw [(hag c).1, (hag c).2.1, (hag c).2.2.1]
      refine funext fun i => ?_
      obtain ⟨r, d, rfl⟩ : ∃ (r : Fin 8192) (d : Fin 512), i = ix2 r d := ⟨i 0, i 1, eq_ix2 i⟩
      exact reference_dy _ _ _ r d (h0 c) (h1 c)
    · refine (Cert.Reference19Ideal.Read.val_main_v42_eq (F := Ideal) m' c).trans ?_
      rw [(hag c).1, (hag c).2.1, (hag c).2.2.1, (hag c).2.2.2.2]
      refine funext fun i => ?_
      obtain ⟨r, d, rfl⟩ : ∃ (r : Fin 8192) (d : Fin 512), i = ix2 r d := ⟨i 0, i 1, eq_ix2 i⟩
      exact reference_du _ _ _ _ r d (h0 c) (h1 c)
    · refine (Cert.Reference19Ideal.Read.val_main_v45_eq (F := Ideal) m' c).trans ?_
      rw [(hag c).1, (hag c).2.1, (hag c).2.2.1, (hag c).2.2.2.1]
      refine funext fun i => ?_
      obtain ⟨d, rfl⟩ : ∃ d : Fin 512, i = ix2 0 d := ⟨i 1, by rw [eq_ix2 i]; congr 1; exact Subsingleton.elim (α := Fin 1) _ _⟩
      exact reference_dd _ _ _ _ d (h0 c) (h1 c)

end Cert.S5Post1

end
-- ==== Proof.LayerNorm512.lean ====
/- The backward of the layer normalisation over rows of 512 entries: the mean taken off, then the root-mean-square
   norm. -/
module

public import proofs.«01_k».proof.Proof.Norm512

@[expose] public section

set_option maxRecDepth 16384

noncomputable section

namespace Cert.LayerNorm512

open Idealize.ShloMosaic
open Cert.Scalar (IsReal ofBits_eps div_coe rsqrt_pos)
open Cert.Norm512

/-- A row with its mean taken off. -/
def cen (a : Fin 512 → EReal) (d : Fin 512) : EReal := a d - mean a

/-- The normalised row. -/
def hat (a : Fin 512 → EReal) (d : Fin 512) : EReal := cen a d * rmsInv (cen a)

/-- The cotangent of a row at one place, for the cotangent `v` of the normalised row. -/
def lnBwd (a v : Fin 512 → EReal) (d : Fin 512) : EReal :=
  rmsInv (cen a) * (v d - mean v - hat a d * mean fun e => v e * hat a e)

theorem cen_real {a : Fin 512 → EReal} (ha : ∀ e, IsReal (a e)) (d : Fin 512) : IsReal (cen a d) :=
  real_sub (ha d) (mean_real ha)

theorem hat_real {a : Fin 512 → EReal} (ha : ∀ e, IsReal (a e)) (d : Fin 512) : IsReal (hat a d) :=
  (cen_real ha d).mul (rmsInv_real (cen_real ha))

theorem rmsBwd_real {x v : Fin 512 → EReal} (hx : ∀ e, IsReal (x e)) (hv : ∀ e, IsReal (v e)) (d : Fin 512) : IsReal (rmsBwd x v d) :=
  real_sub ((rmsInv_real hx).mul (hv d))
    (((hx d).mul (((rmsInv_real hx).mul (rmsInv_real hx)).mul (rmsInv_real hx))).mul (mean_real fun e => (hx e).mul (hv e)))

theorem sum_coe (f : Fin 512 → ℝ) : (∑ e, (f e : EReal)) = ((∑ e, f e : ℝ) : EReal) := by
  push_cast; rfl

theorem mean_coe (f : Fin 512 → ℝ) : mean (fun e => (f e : EReal)) = (((∑ e, f e) / 512 : ℝ) : EReal) := by
  rw [mean, ofBits_512, sum_coe, div_coe _ (by norm_num)]

/-- The layer normalisation's backward in the order the derivatives of the norm and of the mean give it. -/
theorem ln_bwd {a v : Fin 512 → EReal} (ha : ∀ e, IsReal (a e)) (hv : ∀ e, IsReal (v e)) (d : Fin 512) :
    lnBwd a v d = rmsBwd (cen a) v d + Ideal.div (∑ e, -rmsBwd (cen a) v e) (Ideal.ofBits .f32 0x44000000#32) := by
  choose ar har using ha
  choose vr hvr using hv
  obtain rfl : a = fun e => (ar e : EReal) := funext har
  obtain rfl : v = fun e => (vr e : EReal) := funext hvr
  obtain ⟨ρ, hρ⟩ := rmsInv_real (cen_real fun e => ⟨ar e, rfl⟩)
  obtain ⟨x, hx⟩ : ∃ x : Fin 512 → ℝ, x = fun e => ar e - (∑ e, ar e) / 512 := ⟨_, rfl⟩
  have hc : cen (fun e => (ar e : EReal)) = fun e => (x e : EReal) := by
    funext e
    rw [cen, mean_coe, hx, ← EReal.coe_sub]
  have h0 : ∑ e, x e = 0 := by
    rw [hx, Finset.sum_sub_distrib, Finset.sum_const, Finset.card_univ, Fintype.card_fin]
    ring
  rw [hc] at hρ
  simp only [lnBwd, hat, rmsBwd, hc, hρ, ← EReal.coe_mul, mean_coe, ← EReal.coe_sub, ← EReal.coe_neg, sum_coe, ofBits_512,
    div_coe _ (show (512 : ℝ) ≠ 0 by norm_num), ← EReal.coe_add]
  congr 1
  have h1 : ∑ e, vr e * (x e * ρ) = ρ * ∑ e, x e * vr e := by
    rw [Finset.mul_sum]; exact Finset.sum_congr rfl fun e _ => by ring
  have h2 : ∑ e, -(ρ * vr e - x e * (ρ * ρ * ρ) * ((∑ e, x e * vr e) / 512)) = -(ρ * ∑ e, vr e) := by
    rw [Finset.sum_neg_distrib, Finset.sum_sub_distrib, ← Finset.mul_sum, ← Finset.sum_mul, ← Finset.sum_mul, h0]
    ring
  rw [h1, h2]
  ring

end Cert.LayerNorm512

end
-- ==== Proof.ConvRows.lean ====
/- The backward of the convolution branch's layer normalisation, silu and output norm (`conv_bwd_rows`): the kernel's
   five arrays are the reference's, at the extended reals, where the operands are finite. -/
module

public import proofs.«01_k».proof.Defs
public import proofs.«01_k».proof.Proof.LayerNorm512
public import proofs.«01_k».proof.Proof.Gen.Kernel20Ideal.Value
public import proofs.«01_k».proof.Proof.Gen.Reference20Ideal.Run
public import proofs.«01_k».proof.Proof.Gen.Reference20Ideal.Read
public import Idealize.ShloMosaic.Lib.Tactic
public import Idealize.ShloMosaic.Lib.Pipeline.ValueKit
public import Idealize.ShloMosaic.Lib.Pointwise

@[expose] public section

set_option maxRecDepth 16384

noncomputable section

/-- The shape relations the finiteness predicate's operations take. -/
instance Cert.ConvRows.preFacts : Cert.Pre_finite20.Facts where
  slices_S8192x1024_S8192x512_0_0 := by decide
  bcast_S_S8192x512 := by decide
  bcast_S_S1x512 := by decide

namespace Cert.ConvRows

open Idealize.ShloMosaic Idealize.ShloMosaic.TcCoe Idealize.SL.Sem

open Cert.Scalar (IsReal real_of_lt sig silu_grad)
open Cert.Norm512 Cert.LayerNorm512

/-- The normalised row with its gain and bias. -/
def act (a g b : Fin 512 → EReal) (e : Fin 512) : EReal := hat a e * g e + b e

/-- Its silu. -/
def slu (a g b : Fin 512 → EReal) (e : Fin 512) : EReal := act a g b e * sig (act a g b e)

/-- The cotangent of the silu's row: the output norm's backward. -/
def dslu (ct a g b o : Fin 512 → EReal) (d : Fin 512) : EReal := rmsBwd (slu a g b) (fun e => ct e * o e) d

/-- The cotangent of the layer normalisation's result, a row's part of the bias's gradient. -/
def dlbAt (ct a g b o : Fin 512 → EReal) (d : Fin 512) : EReal :=
  dslu ct a g b o d * (sig (act a g b d) * (1 + act a g b d * (1 - sig (act a g b d))))

/-- A row's part of the layer normalisation's gain's gradient. -/
def dlgAt (ct a g b o : Fin 512 → EReal) (d : Fin 512) : EReal := dlbAt ct a g b o d * hat a d

/-- A row's part of the output gain's gradient. -/
def doAt (ct a g b : Fin 512 → EReal) (d : Fin 512) : EReal := ct d * slu a g b d * rmsInv (slu a g b)

/-- The cotangent of the convolution's row, a row's part of its bias's gradient. -/
def dcAt (ct a g b o : Fin 512 → EReal) (d : Fin 512) : EReal := lnBwd a (fun e => dlbAt ct a g b o e * g e) d

theorem logistic_eq (x : EReal) : Ideal.logistic x = sig x := rfl

theorem slu_real {a g b : Fin 512 → EReal} (ha : ∀ e, IsReal (a e)) (hg : ∀ e, IsReal (g e)) (hb : ∀ e, IsReal (b e)) (d : Fin 512) :
    IsReal (slu a g b d) := (((hat_real ha d).mul (hg d)).add (hb d)).mul (sig_real _)

theorem dslu_real {ct a g b o : Fin 512 → EReal} (hc : ∀ e, IsReal (ct e)) (ha : ∀ e, IsReal (a e)) (hg : ∀ e, IsReal (g e))
    (hb : ∀ e, IsReal (b e)) (ho : ∀ e, IsReal (o e)) (d : Fin 512) : IsReal (dslu ct a g b o d) :=
  rmsBwd_real (slu_real ha hg hb) (fun e => (hc e).mul (ho e)) d

theorem dlb_real {ct a g b o : Fin 512 → EReal} (hc : ∀ e, IsReal (ct e)) (ha : ∀ e, IsReal (a e)) (hg : ∀ e, IsReal (g e))
    (hb : ∀ e, IsReal (b e)) (ho : ∀ e, IsReal (o e)) (d : Fin 512) : IsReal (dlbAt ct a g b o d) := by
  have one : IsReal (1 : EReal) := ⟨1, EReal.coe_one.symm⟩
  have hl : IsReal (act a g b d) := ((hat_real ha d).mul (hg d)).add (hb d)
  exact (dslu_real hc ha hg hb ho d).mul ((sig_real _).mul (one.add (hl.mul (real_sub one (sig_real _)))))

section Kernel

open Cert.Kernel20Ideal Cert.Kernel20Ideal.Gen

section Payloads

variable (x0 x1 : Vec Ideal S1024x512 .f32) (x2 x3 x4 : Vec Ideal S1x512 .f32) (r : Fin 1024) (d : Fin 512)

theorem pay8_apply : k0_pay8 (F := Ideal) x1 (ix2 r d) = cen (fun e => x1 (ix2 r e)) d := by
  pointwise [k0_pay8, cen, mean]

theorem pay9_apply (z : Fin 1) : k0_pay9 (F := Ideal) x1 (ix2 r z) = rmsInv (cen (fun e => x1 (ix2 r e))) := by
  pointwise [k0_pay9, pay8_apply, rmsInv, mean]

theorem pay10_apply : k0_pay10 (F := Ideal) x1 (ix2 r d) = hat (fun e => x1 (ix2 r e)) d := by
  pointwise [k0_pay10, pay8_apply, pay9_apply, hat]

theorem pay11_apply : k0_pay11 (F := Ideal) x1 x2 x3 (ix2 r d) = act (fun e => x1 (ix2 r e)) (fun e => x2 (ix2 0 e)) (fun e => x3 (ix2 0 e)) d := by
  pointwise [k0_pay11, pay10_apply, act]

theorem pay12_apply : k0_pay12 (F := Ideal) x1 x2 x3 (ix2 r d) = sig (act (fun e => x1 (ix2 r e)) (fun e => x2 (ix2 0 e)) (fun e => x3 (ix2 0 e)) d) := by
  pointwise [k0_pay12, pay11_apply, logistic_eq]

theorem pay13_apply : k0_pay13 (F := Ideal) x1 x2 x3 (ix2 r d) = slu (fun e => x1 (ix2 r e)) (fun e => x2 (ix2 0 e)) (fun e => x3 (ix2 0 e)) d := by
  pointwise [k0_pay13, pay11_apply, pay12_apply, slu]

theorem pay14_apply (z : Fin 1) : k0_pay14 (F := Ideal) x1 x2 x3 (ix2 r z) = rmsInv (slu (fun e => x1 (ix2 r e)) (fun e => x2 (ix2 0 e)) (fun e => x3 (ix2 0 e))) := by
  pointwise [k0_pay14, pay13_apply, rmsInv, mean]

/-- The cotangent of a block's normalised rows. -/
theorem pay16_apply : (k0_pay16 (F := Ideal) x0 x4 (k0_pay11 x1 x2 x3) (k0_pay12 x1 x2 x3) (k0_pay13 x1 x2 x3) (k0_pay14 x1 x2 x3)) (ix2 r d)
    = dlbAt (fun e => x0 (ix2 r e)) (fun e => x1 (ix2 r e)) (fun e => x2 (ix2 0 e)) (fun e => x3 (ix2 0 e)) (fun e => x4 (ix2 0 e)) d := by
  pointwise [k0_pay16, pay11_apply, pay12_apply, pay13_apply, pay14_apply, dlbAt, dslu, rmsBwd, mean, Ideal.ofBits_one_f32]

/-- What a point stores of the cotangent of the convolution's rows. -/
theorem dc_apply : (k0_pay2 (F := Ideal) x2 (k0_pay9 x1) (k0_pay10 x1) (k0_pay16 x0 x4 (k0_pay11 x1 x2 x3) (k0_pay12 x1 x2 x3) (k0_pay13 x1 x2 x3) (k0_pay14 x1 x2 x3))) (ix2 r d)
    = dcAt (fun e => x0 (ix2 r e)) (fun e => x1 (ix2 r e)) (fun e => x2 (ix2 0 e)) (fun e => x3 (ix2 0 e)) (fun e => x4 (ix2 0 e)) d := by
  pointwise [k0_pay2, pay9_apply, pay10_apply, pay16_apply, dcAt, lnBwd, mean]

/-- What a point adds to the output gain's gradient. -/
theorem dog_apply (y : Vec Ideal S1x512 .f32) : k0_pay15 (F := Ideal) x0 (k0_pay13 x1 x2 x3) (k0_pay14 x1 x2 x3) y (ix2 0 d)
    = y (ix2 0 d) + ∑ r : Fin 1024, doAt (fun e => x0 (ix2 r e)) (fun e => x1 (ix2 r e)) (fun e => x2 (ix2 0 e)) (fun e => x3 (ix2 0 e)) d := by
  pointwise [k0_pay15, pay13_apply, pay14_apply, doAt]

/-- What a point adds to the layer normalisation's gain's gradient. -/
theorem dlg_apply (y : Vec Ideal S1x512 .f32) :
    k0_pay17 (F := Ideal) x0 x4 (k0_pay10 x1) (k0_pay11 x1 x2 x3) (k0_pay12 x1 x2 x3) (k0_pay13 x1 x2 x3) (k0_pay14 x1 x2 x3) y (ix2 0 d)
    = y (ix2 0 d) + ∑ r : Fin 1024, dlgAt (fun e => x0 (ix2 r e)) (fun e => x1 (ix2 r e)) (fun e => x2 (ix2 0 e)) (fun e => x3 (ix2 0 e)) (fun e => x4 (ix2 0 e)) d := by
  pointwise [k0_pay17, pay10_apply, pay16_apply, dlgAt]

/-- What a point adds to the layer normalisation's bias's gradient. -/
theorem dlb_apply (y : Vec Ideal S1x512 .f32) :
    k0_pay1 (F := Ideal) (k0_pay16 x0 x4 (k0_pay11 x1 x2 x3) (k0_pay12 x1 x2 x3) (k0_pay13 x1 x2 x3) (k0_pay14 x1 x2 x3)) (k0_pay18 y) (ix2 0 d)
    = y (ix2 0 d) + ∑ r : Fin 1024, dlbAt (fun e => x0 (ix2 r e)) (fun e => x1 (ix2 r e)) (fun e => x2 (ix2 0 e)) (fun e => x3 (ix2 0 e)) (fun e => x4 (ix2 0 e)) d := by
  pointwise [k0_pay1, k0_pay18, pay16_apply]

/-- What a point adds to the convolution's bias's gradient. -/
theorem dcb_apply (y : Vec Ideal S1x512 .f32) :
    k0_pay3 (F := Ideal) x2 (k0_pay9 x1) (k0_pay10 x1) (k0_pay16 x0 x4 (k0_pay11 x1 x2 x3) (k0_pay12 x1 x2 x3) (k0_pay13 x1 x2 x3) (k0_pay14 x1 x2 x3)) y (ix2 0 d)
    = y (ix2 0 d) + ∑ r : Fin 1024, dcAt (fun e => x0 (ix2 r e)) (fun e => x1 (ix2 r e)) (fun e => x2 (ix2 0 e)) (fun e => x3 (ix2 0 e)) (fun e => x4 (ix2 0 e)) d := by
  pointwise [k0_pay3, dc_apply]

end Payloads

/-! ## The five result arrays -/

variable (m : (ℓ : Loc nD τ sig) → Buf (Elt Ideal) ℓ)

abbrev a0 (c : Dev nD) : S8192x1024.Idx → EReal := m ((c : Thread nD τ).loc main_arg0)
abbrev a1 (c : Dev nD) : S8192x512.Idx → EReal := m ((c : Thread nD τ).loc main_arg1)
abbrev a2 (c : Dev nD) : S1x512.Idx → EReal := m ((c : Thread nD τ).loc main_arg2)
abbrev a3 (c : Dev nD) : S1x512.Idx → EReal := m ((c : Thread nD τ).loc main_arg3)
abbrev a4 (c : Dev nD) : S1x512.Idx → EReal := m ((c : Thread nD τ).loc main_arg4)

/-- Column `e` of the cotangent's half for this branch. -/
abbrev col (e : Fin 512) : Fin 1024 := ⟨e.val, by have := e.isLt; omega⟩

/-- The operands' rows. -/
def ct (c : Dev nD) (r : Fin 8192) (e : Fin 512) : EReal := a0 m c (ix2 r (col e))
def cs (c : Dev nD) (r : Fin 8192) (e : Fin 512) : EReal := a1 m c (ix2 r e)
def gs (c : Dev nD) (e : Fin 512) : EReal := a2 m c (ix2 0 e)
def bs (c : Dev nD) (e : Fin 512) : EReal := a3 m c (ix2 0 e)
def os (c : Dev nD) (e : Fin 512) : EReal := a4 m c (ix2 0 e)

def dc (c : Dev nD) : S8192x512.Idx → EReal := fun i => dcAt (ct m c (i 0)) (cs m c (i 0)) (gs m c) (bs m c) (os m c) (i 1)
def dog (c : Dev nD) : S1x512.Idx → EReal := fun i => ∑ r : Fin 8192, doAt (ct m c r) (cs m c r) (gs m c) (bs m c) (i 1)
def dlg (c : Dev nD) : S1x512.Idx → EReal := fun i => ∑ r : Fin 8192, dlgAt (ct m c r) (cs m c r) (gs m c) (bs m c) (os m c) (i 1)
def dlb (c : Dev nD) : S1x512.Idx → EReal := fun i => ∑ r : Fin 8192, dlbAt (ct m c r) (cs m c r) (gs m c) (bs m c) (os m c) (i 1)
def dcb (c : Dev nD) : S1x512.Idx → EReal := fun i => ∑ r : Fin 8192, dcAt (ct m c r) (cs m c r) (gs m c) (bs m c) (os m c) (i 1)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![0, 0] := by decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (d : Fin 512) :
    (iblk m c 0 t : Vec Ideal S1024x512 .f32) (ix2 r d) = a0 m c (ix2 (row t r) (col d)) := by blk_ext [iblk, V, idx t]
theorem block1 (c : Dev nD) (t : Fin cfg0.N) (r : Fin 1024) (d : Fin 512) :
    (iblk m c 1 t : Vec Ideal S1024x512 .f32) (ix2 r d) = a1 m c (ix2 (row t r) d) := by blk_ext [iblk, V, idx t]
theorem block2 (c : Dev nD) (t : Fin cfg0.N) (d : Fin 512) :
    (iblk m c 2 t : Vec Ideal S1x512 .f32) (ix2 0 d) = a2 m c (ix2 0 d) := by blk_ext [iblk, V, idx t]
theorem block3 (c : Dev nD) (t : Fin cfg0.N) (d : Fin 512) :
    (iblk m c 3 t : Vec Ideal S1x512 .f32) (ix2 0 d) = a3 m c (ix2 0 d) := by blk_ext [iblk, V, idx t]
theorem block4 (c : Dev nD) (t : Fin cfg0.N) (d : Fin 512) :
    (iblk m c 4 t : Vec Ideal S1x512 .f32) (ix2 0 d) = a4 m c (ix2 0 d) := by blk_ext [iblk, V, idx t]

theorem rows0 (c : Dev nD) (t : Fin cfg0.N) (r : Fin 1024) : (fun e : Fin 512 => (iblk m c 0 t : Vec Ideal S1024x512 .f32) (ix2 r e)) = ct m c (row t r) :=
  funext fun e => block0 m c t r e
theorem rows1 (c : Dev nD) (t : Fin cfg0.N) (r : Fin 1024) : (fun e : Fin 512 => (iblk m c 1 t : Vec Ideal S1024x512 .f32) (ix2 r e)) = cs m c (row t r) :=
  funext fun e => block1 m c t r e
theorem rows2 (c : Dev nD) (t : Fin cfg0.N) : (fun e : Fin 512 => (iblk m c 2 t : Vec Ideal S1x512 .f32) (ix2 0 e)) = gs m c :=
  funext fun e => block2 m c t e
theorem rows3 (c : Dev nD) (t : Fin cfg0.N) : (fun e : Fin 512 => (iblk m c 3 t : Vec Ideal S1x512 .f32) (ix2 0 e)) = bs m c :=
  funext fun e => block3 m c t e
theorem rows4 (c : Dev nD) (t : Fin cfg0.N) : (fun e : Fin 512 => (iblk m c 4 t : Vec Ideal S1x512 .f32) (ix2 0 e)) = os m c :=
  funext fun e => block4 m c t e

theorem emb5 (t : Fin cfg0.N) (r : Fin 1024) (d : Fin 512) : ((cfg0.win 5).blk t).view.emb (ix2 r d) = ix2 (row t r) d := by
  blk_ext [idx t]

theorem final5 (c : Dev nD) : (dats m 0 c).arrAt 5 cfg0.N = dc m c := by
  refine (dats m 0 c).arrAt_eq_of_covers 5 _ (by decide +kernel) fun t hf y => ?_
  obtain ⟨r, d, rfl⟩ : ∃ (r : Fin 1024) (d : Fin 512), y = ix2 r d := ⟨y 0, y 1, eq_ix2 y⟩
  rw [emb5, after0_5]
  refine Eq.trans ?_ ((dc_apply (iblk m c 0 t) (iblk m c 1 t) (iblk m c 2 t) (iblk m c 3 t) (iblk m c 4 t) r d).trans ?_)
  · by_cases h : t.val % 8 = 0
    · rw [outsAt0_A m c t h]; frame_out; rfl
    · rw [outsAt0_B m c t h]; frame_out; rfl
  · simp only [rows0, rows1, rows2, rows3, rows4]
    rfl

/-- What a point adds to this gradient, over the whole operands. -/
def dogPart (c : Dev nD) (t : Fin cfg0.N) (i : S1x512.Idx) : EReal := ∑ r : Fin 1024, doAt (ct m c (row t r)) (cs m c (row t r)) (gs m c) (bs m c) (i 1)

theorem dog_step (c : Dev nD) (t : Fin cfg0.N) (y : Vec Ideal S1x512 .f32) (i : S1x512.Idx) :
    k0_pay15 (F := Ideal) (iblk m c 0 t) (k0_pay13 (iblk m c 1 t) (iblk m c 2 t) (iblk m c 3 t)) (k0_pay14 (iblk m c 1 t) (iblk m c 2 t) (iblk m c 3 t)) y i = y i + dogPart m c t i := by
  obtain ⟨d, rfl⟩ : ∃ d : Fin 512, i = ix2 0 d := ⟨i 1, by rw [eq_ix2 i]; congr 1; exact Subsingleton.elim (α := Fin 1) _ _⟩
  refine (dog_apply (iblk m c 0 t) (iblk m c 1 t) (iblk m c 2 t) (iblk m c 3 t) d y).trans ?_
  simp only [rows0, rows1, rows2, rows3, rows4]
  rfl

theorem dog_zero (i : S1x512.Idx) : k0_pay4 (F := Ideal) i = 0 := by
  pointwise [k0_pay4]

theorem final6 (c : Dev nD) : (dats m 0 c).arrAt 6 cfg0.N = dog m c := by
  refine (dats m 0 c).arrAt_eq_of_covers 6 _ (by decide +kernel) fun t hf y => ?_
  have hN : cfg0.N = 8 := N_0
  have e : ((cfg0.win 6).blk t).view.emb y = y := by blk_ext [idx t]
  rw [e, after0_6, Pipeline.eq_sum_fin_of_reset_step_apply_of_flush (fun n h => (outsAt0 m c n h).2.1) 8 (fun _ => 0) (dogPart m c)
    (fun t h i => by rw [outsAt0_A m c t h]; frame_out; rw [dog_step, dog_zero])
    (fun t h i => by rw [outsAt0_B m c t h]; frame_out; rw [dog_step]) t ((flush0_6 t).mp hf) y, zero_add]
  unfold dogPart dog
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

/-- What a point adds to this gradient, over the whole operands. -/
def dlgPart (c : Dev nD) (t : Fin cfg0.N) (i : S1x512.Idx) : EReal := ∑ r : Fin 1024, dlgAt (ct m c (row t r)) (cs m c (row t r)) (gs m c) (bs m c) (os m c) (i 1)

theorem dlg_step (c : Dev nD) (t : Fin cfg0.N) (y : Vec Ideal S1x512 .f32) (i : S1x512.Idx) :
    k0_pay17 (F := Ideal) (iblk m c 0 t) (iblk m c 4 t) (k0_pay10 (iblk m c 1 t)) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t))
      (k0_pay14 (iblk m c 1 t) (iblk m c 2 t) (iblk m c 3 t)) y i = y i + dlgPart m c t i := by
  obtain ⟨d, rfl⟩ : ∃ d : Fin 512, i = ix2 0 d := ⟨i 1, by rw [eq_ix2 i]; congr 1; exact Subsingleton.elim (α := Fin 1) _ _⟩
  refine (dlg_apply (iblk m c 0 t) (iblk m c 1 t) (iblk m c 2 t) (iblk m c 3 t) (iblk m c 4 t) d y).trans ?_
  simp only [rows0, rows1, rows2, rows3, rows4]
  rfl

theorem dlg_zero (i : S1x512.Idx) : k0_pay5 (F := Ideal) i = 0 := by
  pointwise [k0_pay5]

theorem final7 (c : Dev nD) : (dats m 0 c).arrAt 7 cfg0.N = dlg m c := by
  refine (dats m 0 c).arrAt_eq_of_covers 7 _ (by decide +kernel) fun t hf y => ?_
  have hN : cfg0.N = 8 := N_0
  have e : ((cfg0.win 7).blk t).view.emb y = y := by blk_ext [idx t]
  rw [e, after0_7, Pipeline.eq_sum_fin_of_reset_step_apply_of_flush (fun n h => (outsAt0 m c n h).2.2.1) 8 (fun _ => 0) (dlgPart m c)
    (fun t h i => by rw [outsAt0_A m c t h]; frame_out; rw [dlg_step, dlg_zero])
    (fun t h i => by rw [outsAt0_B m c t h]; frame_out; rw [dlg_step]) t ((flush0_7 t).mp hf) y, zero_add]
  unfold dlgPart dlg
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

/-- What a point adds to this gradient, over the whole operands. -/
def dlbPart (c : Dev nD) (t : Fin cfg0.N) (i : S1x512.Idx) : EReal := ∑ r : Fin 1024, dlbAt (ct m c (row t r)) (cs m c (row t r)) (gs m c) (bs m c) (os m c) (i 1)

theorem dlb_step (c : Dev nD) (t : Fin cfg0.N) (y : Vec Ideal S1x512 .f32) (i : S1x512.Idx) :
    k0_pay1 (F := Ideal) (k0_pay16 (iblk m c 0 t) (iblk m c 4 t) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t))) (k0_pay18 y) i = y i + dlbPart m c t i := by
  obtain ⟨d, rfl⟩ : ∃ d : Fin 512, i = ix2 0 d := ⟨i 1, by rw [eq_ix2 i]; congr 1; exact Subsingleton.elim (α := Fin 1) _ _⟩
  refine (dlb_apply (iblk m c 0 t) (iblk m c 1 t) (iblk m c 2 t) (iblk m c 3 t) (iblk m c 4 t) d y).trans ?_
  simp only [rows0, rows1, rows2, rows3, rows4]
  rfl

theorem dlb_zero (i : S1x512.Idx) : k0_pay6 (F := Ideal) i = 0 := by
  pointwise [k0_pay6]

theorem final8 (c : Dev nD) : (dats m 0 c).arrAt 8 cfg0.N = dlb m c := by
  refine (dats m 0 c).arrAt_eq_of_covers 8 _ (by decide +kernel) fun t hf y => ?_
  have hN : cfg0.N = 8 := N_0
  have e : ((cfg0.win 8).blk t).view.emb y = y := by blk_ext [idx t]
  rw [e, after0_8, Pipeline.eq_sum_fin_of_reset_step_apply_of_flush (fun n h => (outsAt0 m c n h).2.2.2.1) 8 (fun _ => 0) (dlbPart m c)
    (fun t h i => by rw [outsAt0_A m c t h]; frame_out; rw [dlb_step, dlb_zero])
    (fun t h i => by rw [outsAt0_B m c t h]; frame_out; rw [dlb_step]) t ((flush0_8 t).mp hf) y, zero_add]
  unfold dlbPart dlb
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

/-- What a point adds to this gradient, over the whole operands. -/
def dcbPart (c : Dev nD) (t : Fin cfg0.N) (i : S1x512.Idx) : EReal := ∑ r : Fin 1024, dcAt (ct m c (row t r)) (cs m c (row t r)) (gs m c) (bs m c) (os m c) (i 1)

theorem dcb_step (c : Dev nD) (t : Fin cfg0.N) (y : Vec Ideal S1x512 .f32) (i : S1x512.Idx) :
    k0_pay3 (F := Ideal) (iblk m c 2 t) (k0_pay9 (iblk m c 1 t)) (k0_pay10 (iblk m c 1 t))
      (k0_pay16 (iblk m c 0 t) (iblk m c 4 t) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t))) y i = y i + dcbPart m c t i := by
  obtain ⟨d, rfl⟩ : ∃ d : Fin 512, i = ix2 0 d := ⟨i 1, by rw [eq_ix2 i]; congr 1; exact Subsingleton.elim (α := Fin 1) _ _⟩
  refine (dcb_apply (iblk m c 0 t) (iblk m c 1 t) (iblk m c 2 t) (iblk m c 3 t) (iblk m c 4 t) d y).trans ?_
  simp only [rows0, rows1, rows2, rows3, rows4]
  rfl

theorem dcb_zero (i : S1x512.Idx) : k0_pay7 (F := Ideal) i = 0 := by
  pointwise [k0_pay7]

theorem final9 (c : Dev nD) : (dats m 0 c).arrAt 9 cfg0.N = dcb m c := by
  refine (dats m 0 c).arrAt_eq_of_covers 9 _ (by decide +kernel) fun t hf y => ?_
  have hN : cfg0.N = 8 := N_0
  have e : ((cfg0.win 9).blk t).view.emb y = y := by blk_ext [idx t]
  rw [e, after0_9, Pipeline.eq_sum_fin_of_reset_step_apply_of_flush (fun n h => (outsAt0 m c n h).2.2.2.2) 8 (fun _ => 0) (dcbPart m c)
    (fun t h i => by rw [outsAt0_A m c t h]; frame_out; rw [dcb_step, dcb_zero])
    (fun t h i => by rw [outsAt0_B m c t h]; frame_out; rw [dcb_step]) t ((flush0_9 t).mp hf) y, zero_add]
  unfold dcbPart dcb
  have hlt : t.val < 8 := lt_of_lt_of_eq t.isLt hN
  have ht : t.val / 8 = 0 := by omega
  refine Fin.sum_mul_add_congr fun s k hl => ?_
  have hr : row ⟨8 * (t.val / 8) + s.val, lt_of_lt_of_eq (by omega) hN.symm⟩ k = ⟨s.val * 1024 + k.val, hl⟩ :=
    Fin.ext (show (8 * (t.val / 8) + s.val) * 1024 + k.val = s.val * 1024 + k.val by omega)
  rw [hr]

end Kernel

section Reference

open Cert.Reference20Ideal Cert.Reference20Ideal.Read

variable (x0 : Vec Ideal S8192x1024 .f32) (x1 : Vec Ideal S8192x512 .f32) (x2 x3 x4 : Vec Ideal S1x512 .f32)
  (r : Fin 8192) (d : Fin 512)

theorem reference_cen : val_main_v5 (F := Ideal) x1 (ix2 r d) = cen (fun e => x1 (ix2 r e)) d := by
  pointwise [val_main_v5, val_main_v4, val_main_v3, val_main_v2, val_main_v1, val_main_v0, val_main_cst, val_main_cst_0, cen, mean]

/-- The centred row's mean square with the small constant added. -/
theorem reference_var (z : Fin 1) : val_main_v12 (F := Ideal) x1 (ix2 r z)
    = mean (fun e => cen (fun e => x1 (ix2 r e)) e * cen (fun e => x1 (ix2 r e)) e) + Ideal.ofBits .f32 0x358637BD#32 := by
  pointwise [val_main_v12, val_main_v11, val_main_v10, val_main_v9, val_main_v8, val_main_v7, val_main_v6, val_main_cst_1, val_main_cst_2, val_main_cst_3, reference_cen, mean]

theorem reference_rstd (z : Fin 1) : val_main_v13 (F := Ideal) x1 (ix2 r z) = rmsInv (cen (fun e => x1 (ix2 r e))) := by
  pointwise [val_main_v13, reference_var, rmsInv]

theorem reference_hat : val_main_v18 (F := Ideal) x1 (ix2 r d) = hat (fun e => x1 (ix2 r e)) d := by
  pointwise [val_main_v18, val_main_v17, reference_cen, reference_rstd, hat]

theorem reference_act : val_main_v22 (F := Ideal) x1 x2 x3 (ix2 r d) = act (fun e => x1 (ix2 r e)) (fun e => x2 (ix2 0 e)) (fun e => x3 (ix2 0 e)) d := by
  pointwise [val_main_v22, val_main_v21, val_main_v20, val_main_v19, reference_hat, act]

theorem reference_sig : val_main_v23_2 (F := Ideal) x1 x2 x3 (ix2 r d) = sig (act (fun e => x1 (ix2 r e)) (fun e => x2 (ix2 0 e)) (fun e => x3 (ix2 0 e)) d) := by
  pointwise [val_main_v23_2, val_main_call0_v4, val_main_call0_v3, val_main_call0_v2, val_main_call0_v1, val_main_call0_v0, val_main_call0_cst, val_main_call0_cst_0, reference_act, Ideal.ofBits_one_f32, Cert.Scalar.sig]

theorem reference_dsig : val_main_v23_1 (F := Ideal) x1 x2 x3 (ix2 r d) = sig (act (fun e => x1 (ix2 r e)) (fun e => x2 (ix2 0 e)) (fun e => x3 (ix2 0 e)) d) * (1 - sig (act (fun e => x1 (ix2 r e)) (fun e => x2 (ix2 0 e)) (fun e => x3 (ix2 0 e)) d)) := by
  pointwise [val_main_v23_1, val_main_call0_v7, val_main_call0_v6, val_main_call0_cst_1, reference_sig, Ideal.ofBits_one_f32]

theorem reference_slu : val_main_v23_0 (F := Ideal) x1 x2 x3 (ix2 r d) = slu (fun e => x1 (ix2 r e)) (fun e => x2 (ix2 0 e)) (fun e => x3 (ix2 0 e)) d := by
  pointwise [val_main_v23_0, reference_act, reference_sig, slu]

/-- The silu's mean square with the small constant added. -/
theorem reference_ms (z : Fin 1) : val_main_v30 (F := Ideal) x1 x2 x3 (ix2 r z)
    = mean (fun e => slu (fun e => x1 (ix2 r e)) (fun e => x2 (ix2 0 e)) (fun e => x3 (ix2 0 e)) e * slu (fun e => x1 (ix2 r e)) (fun e => x2 (ix2 0 e)) (fun e => x3 (ix2 0 e)) e) + Ideal.ofBits .f32 0x358637BD#32 := by
  pointwise [val_main_v30, val_main_v29, val_main_v28, val_main_v27, val_main_v26, val_main_v25, val_main_v24, val_main_cst_5, val_main_cst_6, val_main_cst_7, reference_slu, mean]

theorem reference_rms (z : Fin 1) : val_main_v31 (F := Ideal) x1 x2 x3 (ix2 r z) = rmsInv (slu (fun e => x1 (ix2 r e)) (fun e => x2 (ix2 0 e)) (fun e => x3 (ix2 0 e))) := by
  pointwise [val_main_v31, reference_ms, rmsInv]

theorem reference_ct : val_main_v39 (F := Ideal) x0 (ix2 r d) = x0 (ix2 r (col d)) := by
  pointwise [val_main_v39]

theorem reference_v : val_main_v44 (F := Ideal) x0 x4 (ix2 r d) = x0 (ix2 r (col d)) * x4 (ix2 0 d) := by
  pointwise [val_main_v44, val_main_v43, reference_ct]

theorem reference_xv (z : Fin 1) : val_main_v47 (F := Ideal) x0 x1 x2 x3 x4 (ix2 r z)
    = ∑ e : Fin 512, slu (fun e => x1 (ix2 r e)) (fun e => x2 (ix2 0 e)) (fun e => x3 (ix2 0 e)) e * (x0 (ix2 r (col e)) * x4 (ix2 0 e)) := by
  pointwise [val_main_v47, val_main_v46, val_main_v45, val_main_cst_10, reference_slu, reference_v]

/-- The mean square's term of the cotangent of the silu's row. -/
theorem reference_y : val_main_v54 (F := Ideal) x0 x1 x2 x3 x4 (ix2 r d)
    = Ideal.div (val_main_v47 (F := Ideal) x0 x1 x2 x3 x4 (ix2 r 0) * (Ideal.ofBits .f32 0xBF000000#32
        * Ideal.div (val_main_v31 (F := Ideal) x1 x2 x3 (ix2 r 0)) (val_main_v30 (F := Ideal) x1 x2 x3 (ix2 r 0)))) (Ideal.ofBits .f32 0x44000000#32) := by
  pointwise [val_main_v54, val_main_v53, val_main_v52, val_main_v51, val_main_v50, val_main_v34, val_main_v33, val_main_v32, val_main_cst_8, val_main_cst_11, val_main_cst_12]
  exact Fin.sum_univ_one _

section Finite

variable (h0 : ∀ e, IsReal (x0 (ix2 r (col e)))) (h1 : ∀ i, IsReal (x1 i)) (h2 : ∀ i, IsReal (x2 i)) (h3 : ∀ i, IsReal (x3 i)) (h4 : ∀ i, IsReal (x4 i))
include h0 h1 h2 h3 h4

/-- The reference's cotangent of the silu's rows. -/
theorem reference_ds : val_main_v58 (F := Ideal) x0 x1 x2 x3 x4 (ix2 r d) = dslu (fun e => x0 (ix2 r (col e))) (fun e => x1 (ix2 r e)) (fun e => x2 (ix2 0 e)) (fun e => x3 (ix2 0 e)) (fun e => x4 (ix2 0 e)) d := by
  have hb := rms_bwd (slu_real (fun e => h1 (ix2 r e)) (fun e => h2 (ix2 0 e)) fun e => h3 (ix2 0 e)) (fun e => (h0 e).mul (h4 (ix2 0 e))) 0 d
  rw [zero_add, zero_add] at hb
  rw [dslu, hb]
  pointwise [val_main_v58, val_main_v57, val_main_v56, val_main_v55, val_main_v49, val_main_v48, reference_y, reference_xv, reference_v, reference_rms, reference_ms, reference_slu]

/-- The reference's cotangent of the layer normalisation's rows. -/
theorem reference_dl : val_main_v59 (F := Ideal) x0 x1 x2 x3 x4 (ix2 r d) = dlbAt (fun e => x0 (ix2 r (col e))) (fun e => x1 (ix2 r e)) (fun e => x2 (ix2 0 e)) (fun e => x3 (ix2 0 e)) (fun e => x4 (ix2 0 e)) d := by
  have hd : IsReal (dslu (fun e => x0 (ix2 r (col e))) (fun e => x1 (ix2 r e)) (fun e => x2 (ix2 0 e)) (fun e => x3 (ix2 0 e)) (fun e => x4 (ix2 0 e)) d) :=
    dslu_real h0 (fun e => h1 (ix2 r e)) (fun e => h2 (ix2 0 e)) (fun e => h3 (ix2 0 e)) (fun e => h4 (ix2 0 e)) d
  have h : val_main_v59 (F := Ideal) x0 x1 x2 x3 x4 (ix2 r d) = val_main_v58 (F := Ideal) x0 x1 x2 x3 x4 (ix2 r d) * sig (act (fun e => x1 (ix2 r e)) (fun e => x2 (ix2 0 e)) (fun e => x3 (ix2 0 e)) d)
      + act (fun e => x1 (ix2 r e)) (fun e => x2 (ix2 0 e)) (fun e => x3 (ix2 0 e)) d * val_main_v58 (F := Ideal) x0 x1 x2 x3 x4 (ix2 r d) * (sig (act (fun e => x1 (ix2 r e)) (fun e => x2 (ix2 0 e)) (fun e => x3 (ix2 0 e)) d) * (1 - sig (act (fun e => x1 (ix2 r e)) (fun e => x2 (ix2 0 e)) (fun e => x3 (ix2 0 e)) d))) := by
    pointwise [val_main_v59, val_main_call1_v2, val_main_call1_v1, val_main_call1_v0, reference_act, reference_sig, reference_dsig]
  rw [h, reference_ds x0 x1 x2 x3 x4 r d h0 h1 h2 h3 h4, dlbAt, silu_grad hd]

theorem reference_w : val_main_v66 (F := Ideal) x0 x1 x2 x3 x4 (ix2 r d) = dlbAt (fun e => x0 (ix2 r (col e))) (fun e => x1 (ix2 r e)) (fun e => x2 (ix2 0 e)) (fun e => x3 (ix2 0 e)) (fun e => x4 (ix2 0 e)) d * x2 (ix2 0 d) := by
  rw [← reference_dl x0 x1 x2 x3 x4 r d h0 h1 h2 h3 h4]
  pointwise [val_main_v66, val_main_v65]

theorem reference_xw (z : Fin 1) : val_main_v69 (F := Ideal) x0 x1 x2 x3 x4 (ix2 r z)
    = ∑ e : Fin 512, cen (fun e => x1 (ix2 r e)) e * (dlbAt (fun e => x0 (ix2 r (col e))) (fun e => x1 (ix2 r e)) (fun e => x2 (ix2 0 e)) (fun e => x3 (ix2 0 e)) (fun e => x4 (ix2 0 e)) e * x2 (ix2 0 e)) := by
  have h : val_main_v69 (F := Ideal) x0 x1 x2 x3 x4 (ix2 r z) = ∑ e : Fin 512, cen (fun e => x1 (ix2 r e)) e * val_main_v66 (F := Ideal) x0 x1 x2 x3 x4 (ix2 r e) := by
    pointwise [val_main_v69, val_main_v68, val_main_v67, val_main_cst_15, reference_cen]
  rw [h]
  exact Finset.sum_congr rfl fun e _ => by rw [reference_w x0 x1 x2 x3 x4 r e h0 h1 h2 h3 h4]

omit h0 h1 h2 h3 h4 in
/-- The mean square's term of the cotangent of the centred row. -/
theorem reference_u : val_main_v76 (F := Ideal) x0 x1 x2 x3 x4 (ix2 r d)
    = Ideal.div (val_main_v69 (F := Ideal) x0 x1 x2 x3 x4 (ix2 r 0) * (Ideal.ofBits .f32 0xBF000000#32
        * Ideal.div (val_main_v13 (F := Ideal) x1 (ix2 r 0)) (val_main_v12 (F := Ideal) x1 (ix2 r 0)))) (Ideal.ofBits .f32 0x44000000#32) := by
  pointwise [val_main_v76, val_main_v75, val_main_v74, val_main_v73, val_main_v72, val_main_v16, val_main_v15, val_main_v14, val_main_cst_4, val_main_cst_16, val_main_cst_17]
  exact Fin.sum_univ_one _

/-- The reference's cotangent of the centred rows. -/
theorem reference_dx : val_main_v80 (F := Ideal) x0 x1 x2 x3 x4 (ix2 r d) = rmsBwd (cen (fun e => x1 (ix2 r e))) (fun e => dlbAt (fun e => x0 (ix2 r (col e))) (fun e => x1 (ix2 r e)) (fun e => x2 (ix2 0 e)) (fun e => x3 (ix2 0 e)) (fun e => x4 (ix2 0 e)) e * x2 (ix2 0 e)) d := by
  have hb := rms_bwd (cen_real fun e => h1 (ix2 r e)) (fun e => (dlb_real h0 (fun e => h1 (ix2 r e)) (fun e => h2 (ix2 0 e)) (fun e => h3 (ix2 0 e)) (fun e => h4 (ix2 0 e)) e).mul (h2 (ix2 0 e))) 0 d
  rw [zero_add, zero_add] at hb
  have h : val_main_v80 (F := Ideal) x0 x1 x2 x3 x4 (ix2 r d) = val_main_v66 (F := Ideal) x0 x1 x2 x3 x4 (ix2 r d) * rmsInv (cen (fun e => x1 (ix2 r e)))
      + cen (fun e => x1 (ix2 r e)) d * val_main_v76 (F := Ideal) x0 x1 x2 x3 x4 (ix2 r d) + val_main_v76 (F := Ideal) x0 x1 x2 x3 x4 (ix2 r d) * cen (fun e => x1 (ix2 r e)) d := by
    pointwise [val_main_v80, val_main_v79, val_main_v78, val_main_v77, val_main_v71, val_main_v70, reference_cen, reference_rstd]
  rw [h, hb, reference_u, reference_xw x0 x1 x2 x3 x4 r h0 h1 h2 h3 h4, reference_w x0 x1 x2 x3 x4 r d h0 h1 h2 h3 h4, reference_rstd, reference_var]

/-- The reference's cotangent of the convolution's rows. -/
theorem reference_dc : val_main_v88 (F := Ideal) x0 x1 x2 x3 x4 (ix2 r d) = dcAt (fun e => x0 (ix2 r (col e))) (fun e => x1 (ix2 r e)) (fun e => x2 (ix2 0 e)) (fun e => x3 (ix2 0 e)) (fun e => x4 (ix2 0 e)) d := by
  have h : val_main_v87 (F := Ideal) x0 x1 x2 x3 x4 (ix2 r d)
      = Ideal.div (∑ e : Fin 512, -val_main_v80 (F := Ideal) x0 x1 x2 x3 x4 (ix2 r e)) (Ideal.ofBits .f32 0x44000000#32) := by
    pointwise [val_main_v87, val_main_v86, val_main_v85, val_main_v84, val_main_v83, val_main_v82, val_main_v81, val_main_cst_18, val_main_cst_19, val_main_cst_20]
    exact Fin.sum_univ_one _
  have h' : val_main_v88 (F := Ideal) x0 x1 x2 x3 x4 (ix2 r d) = val_main_v80 (F := Ideal) x0 x1 x2 x3 x4 (ix2 r d) + val_main_v87 (F := Ideal) x0 x1 x2 x3 x4 (ix2 r d) := by
    pointwise [val_main_v88]
  rw [h', h, dcAt, ln_bwd (fun e => h1 (ix2 r e)) (fun e => (dlb_real h0 (fun e => h1 (ix2 r e)) (fun e => h2 (ix2 0 e)) (fun e => h3 (ix2 0 e)) (fun e => h4 (ix2 0 e)) e).mul (h2 (ix2 0 e))),
    reference_dx x0 x1 x2 x3 x4 r d h0 h1 h2 h3 h4]
  congr 2
  exact Finset.sum_congr rfl fun e _ => by rw [reference_dx x0 x1 x2 x3 x4 r e h0 h1 h2 h3 h4]

end Finite

theorem reference_dog : val_main_v42 (F := Ideal) x0 x1 x2 x3 (ix2 0 d) = ∑ r : Fin 8192, doAt (fun e => x0 (ix2 r (col e))) (fun e => x1 (ix2 r e)) (fun e => x2 (ix2 0 e)) (fun e => x3 (ix2 0 e)) d := by
  have h : val_main_v42 (F := Ideal) x0 x1 x2 x3 (ix2 0 d)
      = ∑ r : Fin 8192, slu (fun e => x1 (ix2 r e)) (fun e => x2 (ix2 0 e)) (fun e => x3 (ix2 0 e)) d * rmsInv (slu (fun e => x1 (ix2 r e)) (fun e => x2 (ix2 0 e)) (fun e => x3 (ix2 0 e))) * x0 (ix2 r (col d)) := by
    pointwise [val_main_v42, val_main_v41, val_main_v40, val_main_v36, val_main_v35, val_main_cst_9, reference_slu, reference_rms, reference_ct]
  rw [h]
  exact Finset.sum_congr rfl fun r _ => by rw [mul_comm, doAt, mul_assoc]

section Sums

variable (h0 : ∀ r e, IsReal (x0 (ix2 r (col e)))) (h1 : ∀ i, IsReal (x1 i)) (h2 : ∀ i, IsReal (x2 i)) (h3 : ∀ i, IsReal (x3 i)) (h4 : ∀ i, IsReal (x4 i))
include h0 h1 h2 h3 h4

theorem reference_dlg : val_main_v64 (F := Ideal) x0 x1 x2 x3 x4 (ix2 0 d) = ∑ r : Fin 8192, dlgAt (fun e => x0 (ix2 r (col e))) (fun e => x1 (ix2 r e)) (fun e => x2 (ix2 0 e)) (fun e => x3 (ix2 0 e)) (fun e => x4 (ix2 0 e)) d := by
  have h : val_main_v64 (F := Ideal) x0 x1 x2 x3 x4 (ix2 0 d) = ∑ r : Fin 8192, hat (fun e => x1 (ix2 r e)) d * val_main_v59 (F := Ideal) x0 x1 x2 x3 x4 (ix2 r d) := by
    pointwise [val_main_v64, val_main_v63, val_main_v62, val_main_cst_14, reference_hat]
  rw [h]
  exact Finset.sum_congr rfl fun r _ => by rw [reference_dl x0 x1 x2 x3 x4 r d (h0 r) h1 h2 h3 h4, mul_comm, dlgAt]

theorem reference_dlb : val_main_v61 (F := Ideal) x0 x1 x2 x3 x4 (ix2 0 d) = ∑ r : Fin 8192, dlbAt (fun e => x0 (ix2 r (col e))) (fun e => x1 (ix2 r e)) (fun e => x2 (ix2 0 e)) (fun e => x3 (ix2 0 e)) (fun e => x4 (ix2 0 e)) d := by
  have h : val_main_v61 (F := Ideal) x0 x1 x2 x3 x4 (ix2 0 d) = ∑ r : Fin 8192, val_main_v59 (F := Ideal) x0 x1 x2 x3 x4 (ix2 r d) := by
    pointwise [val_main_v61, val_main_v60, val_main_cst_13]
  rw [h]
  exact Finset.sum_congr rfl fun r _ => reference_dl x0 x1 x2 x3 x4 r d (h0 r) h1 h2 h3 h4

theorem reference_dcb : val_main_v93 (F := Ideal) x0 x1 x2 x3 x4 (ix2 0 d) = ∑ r : Fin 8192, dcAt (fun e => x0 (ix2 r (col e))) (fun e => x1 (ix2 r e)) (fun e => x2 (ix2 0 e)) (fun e => x3 (ix2 0 e)) (fun e => x4 (ix2 0 e)) d := by
  have h : val_main_v93 (F := Ideal) x0 x1 x2 x3 x4 (ix2 0 d) = ∑ r : Fin 8192, val_main_v88 (F := Ideal) x0 x1 x2 x3 x4 (ix2 r d) := by
    pointwise [val_main_v93, val_main_v92, val_main_cst_22]
  rw [h]
  exact Finset.sum_congr rfl fun r _ => reference_dc x0 x1 x2 x3 x4 r d (h0 r) h1 h2 h3 h4

end Sums

end Reference

/-- Both runs end with the same five arrays, where the operands are finite. -/
theorem value : Cert.algebraic_Kernel20Ideal_Reference20Ideal_pre_finite20 := by
  intro m g0 m' g1 hpre hag
  have h0 (c) (r : Fin 8192) (e : Fin 512) : IsReal (a0 m c (ix2 r (col e))) := by
    rw [← reference_ct (x0 := a0 m c) r e]
    exact real_of_lt (congrFun (hpre c).1 (ix2 r e))
  have h1 (c) (i) : IsReal (a1 m c i) := real_of_lt (congrFun (hpre c).2.1 i)
  have h2 (c) (i) : IsReal (a2 m c i) := real_of_lt (congrFun (hpre c).2.2.1 i)
  have h3 (c) (i) : IsReal (a3 m c i) := real_of_lt (congrFun (hpre c).2.2.2.1 i)
  have h4 (c) (i) : IsReal (a4 m c i) := real_of_lt (congrFun (hpre c).2.2.2.2 i)
  refine ⟨dc m, dog m, dlg m, dlb m, dcb m, ?_, ?_⟩
  · exact (θ_run _ _ _).mono (fun r h c => ⟨((h c).1).trans (final5 m c), ((h c).2.1).trans (final6 m c), ((h c).2.2.1).trans (final7 m c),
        ((h c).2.2.2.1).trans (final8 m c), ((h c).2.2.2.2.1).trans (final9 m c), (h c).2.2.2.2.2⟩)
      (Cert.Kernel20Ideal.Value.run_blocks (F := Ideal) m g0)
  · refine (θ_run _ _ _).mono (fun r h c => ⟨((h c).1).trans ?_, ((h c).2.1).trans ?_, ((h c).2.2.1).trans ?_, ((h c).2.2.2.1).trans ?_,
        ((h c).2.2.2.2.1).trans ?_, (h c).2.2.2.2.2⟩)
      (Cert.Reference20Ideal.Value.run (F := Ideal) m' g1)
    · refine (Cert.Reference20Ideal.Read.val_main_v88_eq (F := Ideal) _).trans ?_
      rw [StableHlo.launchContents_devRef, StableHlo.launchContents_devRef, StableHlo.launchContents_devRef, StableHlo.launchContents_devRef, StableHlo.launchContents_devRef, (hag c).1, (hag c).2.1, (hag c).2.2.1, (hag c).2.2.2.1, (hag c).2.2.2.2]
      refine funext fun i => ?_
      obtain ⟨r, d, rfl⟩ : ∃ (r : Fin 8192) (d : Fin 512), i = ix2 r d := ⟨i 0, i 1, eq_ix2 i⟩
      exact reference_dc _ _ _ _ _ r d (h0 c r) (h1 c) (h2 c) (h3 c) (h4 c)
    · refine (Cert.Reference20Ideal.Read.val_main_v42_eq (F := Ideal) _).trans ?_
      rw [StableHlo.launchContents_devRef, StableHlo.launchContents_devRef, StableHlo.launchContents_devRef, StableHlo.launchContents_devRef, (hag c).1, (hag c).2.1, (hag c).2.2.1, (hag c).2.2.2.1]
      refine funext fun i => ?_
      obtain ⟨d, rfl⟩ : ∃ d : Fin 512, i = ix2 0 d := ⟨i 1, by rw [eq_ix2 i]; congr 1; exact Subsingleton.elim (α := Fin 1) _ _⟩
      exact reference_dog _ _ _ _ d
    · refine (Cert.Reference20Ideal.Read.val_main_v64_eq (F := Ideal) _).trans ?_
      rw [StableHlo.launchContents_devRef, StableHlo.launchContents_devRef, StableHlo.launchContents_devRef, StableHlo.launchContents_devRef, StableHlo.launchContents_devRef, (hag c).1, (hag c).2.1, (hag c).2.2.1, (hag c).2.2.2.1, (hag c).2.2.2.2]
      refine funext fun i => ?_
      obtain ⟨d, rfl⟩ : ∃ d : Fin 512, i = ix2 0 d := ⟨i 1, by rw [eq_ix2 i]; congr 1; exact Subsingleton.elim (α := Fin 1) _ _⟩
      exact reference_dlg _ _ _ _ _ d (h0 c) (h1 c) (h2 c) (h3 c) (h4 c)
    · refine (Cert.Reference20Ideal.Read.val_main_v61_eq (F := Ideal) _).trans ?_
      rw [StableHlo.launchContents_devRef, StableHlo.launchContents_devRef, StableHlo.launchContents_devRef, StableHlo.launchContents_devRef, StableHlo.launchContents_devRef, (hag c).1, (hag c).2.1, (hag c).2.2.1, (hag c).2.2.2.1, (hag c).2.2.2.2]
      refine funext fun i => ?_
      obtain ⟨d, rfl⟩ : ∃ d : Fin 512, i = ix2 0 d := ⟨i 1, by rw [eq_ix2 i]; congr 1; exact Subsingleton.elim (α := Fin 1) _ _⟩
      exact reference_dlb _ _ _ _ _ d (h0 c) (h1 c) (h2 c) (h3 c) (h4 c)
    · refine (Cert.Reference20Ideal.Read.val_main_v93_eq (F := Ideal) _).trans ?_
      rw [StableHlo.launchContents_devRef, StableHlo.launchContents_devRef, StableHlo.launchContents_devRef, StableHlo.launchContents_devRef, StableHlo.launchContents_devRef, (hag c).1, (hag c).2.1, (hag c).2.2.1, (hag c).2.2.2.1, (hag c).2.2.2.2]
      refine funext fun i => ?_
      obtain ⟨d, rfl⟩ : ∃ d : Fin 512, i = ix2 0 d := ⟨i 1, by rw [eq_ix2 i]; congr 1; exact Subsingleton.elim (α := Fin 1) _ _⟩
      exact reference_dcb _ _ _ _ _ d (h0 c) (h1 c) (h2 c) (h3 c) (h4 c)

end Cert.ConvRows

end
-- ==== Proof.RmsForward.lean ====
/- The first norm (`rms_fwd`): the kernel's two arrays, the normed rows and their transpose, are the reference's, at the
   extended reals. -/
module

public import proofs.«01_k».proof.Defs
public import proofs.«01_k».proof.Proof.Scalar
public import proofs.«01_k».proof.Proof.Gen.Kernel21Ideal.Value
public import proofs.«01_k».proof.Proof.Gen.Reference21Ideal.Run
public import proofs.«01_k».proof.Proof.Gen.Reference21Ideal.Read
public import Idealize.ShloMosaic.Lib.Tactic
public import Idealize.ShloMosaic.Lib.Pipeline.ValueKit
public import Idealize.ShloMosaic.Lib.Pointwise

@[expose] public section

set_option maxRecDepth 16384

noncomputable section

namespace Cert.RmsForward

open Idealize.ShloMosaic Idealize.ShloMosaic.TcCoe Idealize.SL.Sem

open Cert.Scalar (mean rmsInv)

/-- A row's entry over the row's root mean square, times the gain. -/
def normed (x g : Fin 1024 → EReal) (d : Fin 1024) : EReal := x d * rmsInv x * g d

section Kernel

open Cert.Kernel21Ideal Cert.Kernel21Ideal.Gen

section Payloads

variable (x0 : Vec Ideal S256x1024 .f32) (x1 : Vec Ideal S1x1024 .f32) (r : Fin 256) (d : Fin 1024)

theorem pay1_apply : k0_pay1 (F := Ideal) x0 x1 (ix2 r d) = normed (fun e => x0 (ix2 r e)) (fun e => x1 (ix2 0 e)) d := by
  pointwise [k0_pay1, normed, rmsInv, mean]
theorem pay2_apply : k0_pay2 (F := Ideal) x0 x1 (ix2 r d) = normed (fun e => x0 (ix2 r e)) (fun e => x1 (ix2 0 e)) d := by
  pointwise [k0_pay2, pay1_apply]
theorem pay3_apply : k0_pay3 (F := Ideal) x0 x1 (ix2 d r) = normed (fun e => x0 (ix2 r e)) (fun e => x1 (ix2 0 e)) d := by
  pointwise [k0_pay3, pay1_apply]

end Payloads

variable (m : (ℓ : Loc nD τ sig) → Buf (Elt Ideal) ℓ)

abbrev x (c : Dev nD) : S8192x1024.Idx → EReal := m ((c : Thread nD τ).loc main_arg0)
abbrev g (c : Dev nD) : S1x1024.Idx → EReal := m ((c : Thread nD τ).loc main_arg1)

/-- The normed rows. -/
def outH (c : Dev nD) : S8192x1024.Idx → EReal := fun i => normed (fun e => x m c (ix2 (i 0) e)) (fun e => g m c (ix2 0 e)) (i 1)
/-- The normed rows, transposed. -/
def outT (c : Dev nD) : S1024x8192.Idx → EReal := fun i => normed (fun e => x m c (ix2 (i 1) e)) (fun e => g m c (ix2 0 e)) (i 0)

theorem idx : ∀ t : Fin cfg0.N, win0_0.index t = ![t.val, 0] ∧ win0_1.index t = ![0, 0] ∧ win0_2.index t = ![t.val, 0]
    ∧ win0_3.index t = ![0, t.val] := by
  decide +kernel

/-- Row `r` of the row block of point `t`. -/
abbrev row (t : Fin cfg0.N) (r : Fin 256) : Fin 8192 := ⟨t.val * 256 + r.val, by have := t.isLt; have : cfg0.N = 32 := N_0; omega⟩

theorem block0 (c : Dev nD) (t : Fin cfg0.N) (r : Fin 256) (d : Fin 1024) :
    (iblk m c 0 t : Vec Ideal S256x1024 .f32) (ix2 r d) = x m c (ix2 (row t r) d) := by blk_ext [iblk, V, idx t]
theorem block1 (c : Dev nD) (t : Fin cfg0.N) (d : Fin 1024) :
    (iblk m c 1 t : Vec Ideal S1x1024 .f32) (ix2 0 d) = g m c (ix2 0 d) := by blk_ext [iblk, V, idx t]

theorem emb2 (t : Fin cfg0.N) (r : Fin 256) (d : Fin 1024) : ((cfg0.win 2).blk t).view.emb (ix2 r d) = ix2 (row t r) d := by
  blk_ext [idx t]
theorem emb3 (t : Fin cfg0.N) (r : Fin 256) (d : Fin 1024) : ((cfg0.win 3).blk t).view.emb (ix2 d r) = ix2 d (row t r) := by
  blk_ext [idx t]

theorem final2 (c : Dev nD) : (dats m 0 c).arrAt 2 cfg0.N = outH m c := by
  refine (dats m 0 c).arrAt_eq_of_covers 2 _ (by decide +kernel) fun t hf y => ?_
  obtain ⟨r, d, rfl⟩ : ∃ (r : Fin 256) (d : Fin 1024), y = ix2 r d := ⟨y 0, y 1, eq_ix2 y⟩
  rw [emb2, after0_2]
  refine Eq.trans ?_ ((pay2_apply (iblk m c 0 t) (iblk m c 1 t) r d).trans ?_)
  · frame_out; rfl
  · simp only [block0, block1]
    rfl

theorem final3 (c : Dev nD) : (dats m 0 c).arrAt 3 cfg0.N = outT m c := by
  refine (dats m 0 c).arrAt_eq_of_covers 3 _ (by decide +kernel) fun t hf y => ?_
  obtain ⟨d, r, rfl⟩ : ∃ (d : Fin 1024) (r : Fin 256), y = ix2 d r := ⟨y 0, y 1, eq_ix2 y⟩
  rw [emb3, after0_3]
  refine Eq.trans ?_ ((pay3_apply (iblk m c 0 t) (iblk m c 1 t) r d).trans ?_)
  · frame_out; rfl
  · simp only [block0, block1]
    rfl

end Kernel

section Reference

open Cert.Reference21Ideal Cert.Reference21Ideal.Read

variable (x0 : Vec Ideal S8192x1024 .f32) (x1 : Vec Ideal S1x1024 .f32) (r : Fin 8192) (d : Fin 1024)

theorem reference_inv (z : Fin 1) : val_main_v7 (F := Ideal) x0 (ix2 r z) = rmsInv (fun e => x0 (ix2 r e)) := by
  pointwise [val_main_v7, val_main_v6, val_main_v5, val_main_v4, val_main_v3, val_main_v2, val_main_v1, val_main_v0,
    val_main_cst, val_main_cst_0, val_main_cst_1, rmsInv, mean]
theorem reference_h : val_main_v12 (F := Ideal) x0 x1 (ix2 r d) = normed (fun e => x0 (ix2 r e)) (fun e => x1 (ix2 0 e)) d := by
  pointwise [val_main_v12, val_main_v11, val_main_v10, val_main_v9, val_main_v8, reference_inv, normed]
theorem reference_t : val_main_v14 (F := Ideal) x0 x1 (ix2 d r) = normed (fun e => x0 (ix2 r e)) (fun e => x1 (ix2 0 e)) d := by
  pointwise [val_main_v14, val_main_v13, val_main_v11, val_main_v10, val_main_v9, val_main_v8, reference_inv, normed]

end Reference

/-- Both runs end with the same two arrays. -/
theorem value : Cert.algebraic_Kernel21Ideal_Reference21Ideal := by
  intro m g0 m' g1 _ hag
  refine ⟨outH m, outT m, ?_, ?_⟩
  · exact (θ_run _ _ _).mono (fun r h c => ⟨((h c).1).trans (final2 m c), ((h c).2.1).trans (final3 m c), (h c).2.2⟩)
      (Cert.Kernel21Ideal.Value.run_blocks (F := Ideal) m g0)
  · refine (θ_run _ _ _).mono (fun r h c => ⟨((h c).1).trans ?_, ((h c).2.1).trans ?_, (h c).2.2⟩)
      (Cert.Reference21Ideal.Value.run (F := Ideal) m' g1)
    · rw [(hag c).1, (hag c).2]
      refine (Cert.Reference21Ideal.Read.val_main_v12_eq (F := Ideal) _ _).trans (funext fun i => ?_)
      obtain ⟨r, d, rfl⟩ : ∃ (r : Fin 8192) (d : Fin 1024), i = ix2 r d := ⟨i 0, i 1, eq_ix2 i⟩
      exact reference_h _ _ r d
    · rw [(hag c).1, (hag c).2]
      refine (Cert.Reference21Ideal.Read.val_main_v14_eq (F := Ideal) _ _).trans (funext fun i => ?_)
      obtain ⟨d, r, rfl⟩ : ∃ (d : Fin 1024) (r : Fin 8192), i = ix2 d r := ⟨i 0, i 1, eq_ix2 i⟩
      exact reference_t _ _ r d

end Cert.RmsForward

end
-- ==== Proof.S5Post2Forward.lean ====
/- The S5 branch's gate and norm (`s5_post2`): the kernel's array is the reference's, at the extended reals. -/
module

public import proofs.«01_k».proof.Defs
public import proofs.«01_k».proof.Proof.Norm512
public import proofs.«01_k».proof.Proof.Gen.Kernel22Ideal.Value
public import proofs.«01_k».proof.Proof.Gen.Reference22Ideal.Run
public import proofs.«01_k».proof.Proof.Gen.Reference22Ideal.Read
public import Idealize.ShloMosaic.Lib.Tactic
public import Idealize.ShloMosaic.Lib.Pipeline.ValueKit
public import Idealize.ShloMosaic.Lib.Pointwise

@[expose] public section

set_option maxRecDepth 16384

noncomputable section

namespace Cert.S5Post2Forward

open Idealize.ShloMosaic Idealize.ShloMosaic.TcCoe Idealize.SL.Sem

open Cert.Scalar (sig)
open Cert.Norm512 (mean rmsInv)

/-- The gated row. -/
def gated (y q b : Fin 512 → EReal) (e : Fin 512) : EReal := y e * sig (q e + b e)
/-- The gated row over its root mean square, times the gain. -/
def normed (y q b g : Fin 512 → EReal) (d : Fin 512) : EReal := gated y q b d * rmsInv (gated y q b) * g d

theorem logistic_eq (x : EReal) : Ideal.logistic x = sig x := rfl

section Kernel

open Cert.Kernel22Ideal Cert.Kernel22Ideal.Gen

theorem pay_apply (x0 : Vec Ideal S1024x512 .bf16) (x1 : Vec Ideal S1024x512 .f32) (x2 x3 : Vec Ideal S1x512 .f32) (r : Fin 1024) (d : Fin 512) :
    k0_pay1 (F := Ideal) x0 x1 x2 x3 (ix2 r d)
      = normed (fun e => x0 (ix2 r e)) (fun e => x1 (ix2 r e)) (fun e => x2 (ix2 0 e)) (fun e => x3 (ix2 0 e)) d := by
  pointwise [k0_pay1, normed, gated, rmsInv, mean, logistic_eq]

variable (m : (ℓ : Loc nD τ sig) → Buf (Elt Ideal) ℓ)

abbrev y (c : Dev nD) : S8192x512.Idx → EReal := m ((c : Thread nD τ).loc main_arg0)
abbrev q (c : Dev nD) : S8192x512.Idx → EReal := m ((c : Thread nD τ).loc main_arg1)
abbrev b (c : Dev nD) : S1x512.Idx → EReal := m ((c : Thread nD τ).loc main_arg2)
abbrev g (c : Dev nD) : S1x512.Idx → EReal := m ((c : Thread nD τ).loc main_arg3)

/-- The gated and normed rows. -/
def out (c : Dev nD) : S8192x512.Idx → EReal := fun i =>
  normed (fun e => y m c (ix2 (i 0) e)) (fun e => q m c (ix2 (i 0) e)) (fun e => b m c (ix2 0 e)) (fun e => g m c (ix2 0 e)) (i 1)

theorem idx : ∀ t : Fin cfg0.N, win0_0.index t = ![t.val, 0] ∧ win0_1.index t = ![t.val, 0] ∧ win0_2.index t = ![0, 0]
    ∧ win0_3.index t = ![0, 0] ∧ win0_4.index t = ![t.val, 0] := by
  decide +kernel

/-- Row `r` of the row block of point `t`. -/
abbrev row (t : Fin cfg0.N) (r : Fin 1024) : Fin 8192 := ⟨t.val * 1024 + r.val, by have := t.isLt; have : cfg0.N = 8 := N_0; omega⟩

theorem block0 (c : Dev nD) (t : Fin cfg0.N) (r : Fin 1024) (d : Fin 512) :
    (iblk m c 0 t : Vec Ideal S1024x512 .bf16) (ix2 r d) = y m c (ix2 (row t r) d) := by blk_ext [iblk, V, idx t]
theorem block1 (c : Dev nD) (t : Fin cfg0.N) (r : Fin 1024) (d : Fin 512) :
    (iblk m c 1 t : Vec Ideal S1024x512 .f32) (ix2 r d) = q m c (ix2 (row t r) d) := by blk_ext [iblk, V, idx t]
theorem block2 (c : Dev nD) (t : Fin cfg0.N) (d : Fin 512) :
    (iblk m c 2 t : Vec Ideal S1x512 .f32) (ix2 0 d) = b m c (ix2 0 d) := by blk_ext [iblk, V, idx t]
theorem block3 (c : Dev nD) (t : Fin cfg0.N) (d : Fin 512) :
    (iblk m c 3 t : Vec Ideal S1x512 .f32) (ix2 0 d) = g m c (ix2 0 d) := by blk_ext [iblk, V, idx t]

theorem emb4 (t : Fin cfg0.N) (r : Fin 1024) (d : Fin 512) : ((cfg0.win 4).blk t).view.emb (ix2 r d) = ix2 (row t r) d := by
  blk_ext [idx t]

theorem final4 (c : Dev nD) : (dats m 0 c).arrAt 4 cfg0.N = out m c := by
  refine (dats m 0 c).arrAt_eq_of_covers 4 _ (by decide +kernel) fun t hf y => ?_
  obtain ⟨r, d, rfl⟩ : ∃ (r : Fin 1024) (d : Fin 512), y = ix2 r d := ⟨y 0, y 1, eq_ix2 y⟩
  rw [emb4, after0_4]
  refine Eq.trans ?_ ((pay_apply (iblk m c 0 t) (iblk m c 1 t) (iblk m c 2 t) (iblk m c 3 t) r d).trans ?_)
  · frame_out; rfl
  · simp only [block0, block1, block2, block3]
    rfl

end Kernel

section Reference

open Cert.Reference22Ideal Cert.Reference22Ideal.Read

variable (x0 : Vec Ideal S8192x512 .bf16) (x1 : Vec Ideal S8192x512 .f32) (x2 x3 : Vec Ideal S1x512 .f32) (r : Fin 8192) (d : Fin 512)

theorem reference_sig : val_main_v8 (F := Ideal) x1 x2 (ix2 r d) = sig (x1 (ix2 r d) + x2 (ix2 0 d)) := by
  pointwise [val_main_v8, val_main_v7, val_main_v6, val_main_v5, val_main_v4, val_main_v3, val_main_v2, val_main_v1,
    val_main_cst, val_main_cst_0, Cert.Scalar.sig, Ideal.ofBits_one_f32]
theorem reference_gated : val_main_v9 (F := Ideal) x0 x1 x2 (ix2 r d)
    = gated (fun e => x0 (ix2 r e)) (fun e => x1 (ix2 r e)) (fun e => x2 (ix2 0 e)) d := by
  pointwise [val_main_v9, val_main_v0, reference_sig, gated]
theorem reference_inv (z : Fin 1) : val_main_v17 (F := Ideal) x0 x1 x2 (ix2 r z)
    = rmsInv (gated (fun e => x0 (ix2 r e)) (fun e => x1 (ix2 r e)) (fun e => x2 (ix2 0 e))) := by
  pointwise [val_main_v17, val_main_v16, val_main_v15, val_main_v14, val_main_v13, val_main_v12, val_main_v11, val_main_v10,
    val_main_cst_1, val_main_cst_2, val_main_cst_3, reference_gated, rmsInv, mean]
theorem reference_out : val_main_v22 (F := Ideal) x0 x1 x2 x3 (ix2 r d)
    = normed (fun e => x0 (ix2 r e)) (fun e => x1 (ix2 r e)) (fun e => x2 (ix2 0 e)) (fun e => x3 (ix2 0 e)) d := by
  pointwise [val_main_v22, val_main_v21, val_main_v20, val_main_v19, val_main_v18, reference_inv, reference_gated, normed]

end Reference

/-- Both runs end with the same array. -/
theorem value : Cert.algebraic_Kernel22Ideal_Reference22Ideal := by
  intro m g0 m' g1 _ hag
  refine ⟨out m, ?_, ?_⟩
  · exact (θ_run _ _ _).mono (fun r h c => ⟨((h c).1).trans (final4 m c), (h c).2⟩)
      (Cert.Kernel22Ideal.Value.run_blocks (F := Ideal) m g0)
  · refine (θ_run _ _ _).mono (fun r h c => ⟨((h c).1).trans ?_, (h c).2⟩)
      (Cert.Reference22Ideal.Value.run (F := Ideal) m' g1)
    rw [(hag c).1, (hag c).2.1, (hag c).2.2.1, (hag c).2.2.2]
    refine (Cert.Reference22Ideal.Read.val_main_v22_eq (F := Ideal) _ _ _ _).trans (funext fun i => ?_)
    obtain ⟨r, d, rfl⟩ : ∃ (r : Fin 8192) (d : Fin 512), i = ix2 r d := ⟨i 0, i 1, eq_ix2 i⟩
    exact reference_out _ _ _ _ r d

end Cert.S5Post2Forward

end
-- ==== Proof.AdamW.lean ====
/- The entry-by-entry arithmetic of the optimiser's step, over the extended reals: the two moving averages of the
   gradient, and the change of the weight. The constants are the words the program holds. -/
module

public import proofs.«01_k».proof.Defs
public import Idealize.ShloMosaic.Lib.Pointwise

@[expose] public section

noncomputable section

namespace Cert.AdamW

open Idealize.ShloMosaic

/-- The new first average, of the gradient `g` and the old average `m`. -/
def newM (g m : EReal) : EReal := Ideal.ofBits .f32 0x3F666666#32 * m + Ideal.ofBits .f32 0x3DCCCCCD#32 * g
/-- The new second average, of the gradient `g` and the old average `v`. -/
def newV (g v : EReal) : EReal := Ideal.ofBits .f32 0x3F7FBE77#32 * v + Ideal.ofBits .f32 0x3A83126F#32 * (g * g)
/-- The change of the weight `w`. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
      + Ideal.ofBits .f32 0x3C23D70A#32 * w)

end Cert.AdamW

end
-- ==== Proof.AdamFfn.lean ====
/- The optimiser's step of one feed-forward weight: the kernel's four arrays are the reference's, at the extended
   reals. The gradient's two parts have a few rows more than the weight, which neither program reads. -/
module

public import proofs.«01_k».proof.Defs
public import proofs.«01_k».proof.Proof.AdamW
public import proofs.«01_k».proof.Proof.Gen.Kernel23Ideal.Value
public import proofs.«01_k».proof.Proof.Gen.Reference23Ideal.Run
public import proofs.«01_k».proof.Proof.Gen.Reference23Ideal.Read
public import Idealize.ShloMosaic.Lib.Tactic
public import Idealize.ShloMosaic.Lib.Pipeline.ValueKit
public import Idealize.ShloMosaic.Lib.Pointwise

@[expose] public section

set_option maxRecDepth 16384

noncomputable section

namespace Cert.AdamFfn

open Idealize.ShloMosaic Idealize.ShloMosaic.TcCoe Idealize.SL.Sem

open Cert.AdamW

section Kernel

open Cert.Kernel23Ideal Cert.Kernel23Ideal.Gen

section Payloads

variable (x0 x1 x2 x3 x4 : Vec Ideal S352x1024 .f32) (r : Fin 352) (d : Fin 1024)

theorem pay1_apply : k0_pay1 (F := Ideal) x0 x1 (ix2 r d) = x0 (ix2 r d) + x1 (ix2 r d) := by
  pointwise [k0_pay1]
theorem pay2_apply : k0_pay2 (F := Ideal) x0 x1 x3 (ix2 r d) = newM (x0 (ix2 r d) + x1 (ix2 r d)) (x3 (ix2 r d)) := by
  pointwise [k0_pay2, k0_pay1, newM]
theorem pay3_apply : k0_pay3 (F := Ideal) x0 x1 x4 (ix2 r d) = newV (x0 (ix2 r d) + x1 (ix2 r d)) (x4 (ix2 r d)) := by
  pointwise [k0_pay3, k0_pay1, newV]
theorem pay4_apply : k0_pay4 (F := Ideal) x0 x1 x2 x3 x4 (ix2 r d)
    = delta (x0 (ix2 r d) + x1 (ix2 r d)) (x2 (ix2 r d)) (x3 (ix2 r d)) (x4 (ix2 r d)) := by
  pointwise [k0_pay4, k0_pay3, k0_pay2, k0_pay1, newM, newV, delta]

end Payloads

variable (m : (ℓ : Loc nD τ sig) → Buf (Elt Ideal) ℓ)

abbrev mine (c : Dev nD) : S768x1024.Idx → EReal := m ((c : Thread nD τ).loc main_arg0)
abbrev other (c : Dev nD) : S768x1024.Idx → EReal := m ((c : Thread nD τ).loc main_arg1)
abbrev w (c : Dev nD) : S704x1024.Idx → EReal := m ((c : Thread nD τ).loc main_arg2)
abbrev av (c : Dev nD) : S704x1024.Idx → EReal := m ((c : Thread nD τ).loc main_arg3)
abbrev sq (c : Dev nD) : S704x1024.Idx → EReal := m ((c : Thread nD τ).loc main_arg4)

/-- The part's row which a weight's row has. -/
abbrev up (i : Fin 704) : Fin 768 := ⟨i.val, by omega⟩

/-- The gradient: the sum of its two parts. -/
def grad (c : Dev nD) : S704x1024.Idx → EReal := fun i => mine m c (ix2 (up (i 0)) (i 1)) + other m c (ix2 (up (i 0)) (i 1))
/-- The weight's change. -/
def outD (c : Dev nD) : S704x1024.Idx → EReal := fun i => delta (grad m c i) (w m c i) (av m c i) (sq m c i)
/-- The first moving average. -/
def outM (c : Dev nD) : S704x1024.Idx → EReal := fun i => newM (grad m c i) (av m c i)
/-- The second moving average. -/
def outV (c : Dev nD) : S704x1024.Idx → EReal := fun i => newV (grad m c i) (sq m c i)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] := by
  decide +kernel

/-- Row `r` of the row block of point `t`. -/
abbrev row (t : Fin cfg0.N) (r : Fin 352) : Fin 704 := ⟨t.val * 352 + r.val, by have := t.isLt; have : cfg0.N = 2 := N_0; omega⟩

theorem block0 (c : Dev nD) (t : Fin cfg0.N) (r : Fin 352) (d : Fin 1024) :
    (X0_0 m c t : Vec Ideal S352x1024 .f32) (ix2 r d) = mine m c (ix2 (up (row t r)) d) := by
  unfold X0_0 Pipeline.Window.fill
  rw [dif_pos (moved0_0 t _)]
  blk_ext [iblk, V, idx t]
theorem block1 (c : Dev nD) (t : Fin cfg0.N) (r : Fin 352) (d : Fin 1024) :
    (X0_1 m c t : Vec Ideal S352x1024 .f32) (ix2 r d) = other m c (ix2 (up (row t r)) d) := by
  unfold X0_1 Pipeline.Window.fill
  rw [dif_pos (moved0_1 t _)]
  blk_ext [iblk, V, idx t]
theorem block2 (c : Dev nD) (t : Fin cfg0.N) (r : Fin 352) (d : Fin 1024) :
    (iblk m c 2 t : Vec Ideal S352x1024 .f32) (ix2 r d) = w m c (ix2 (row t r) d) := by blk_ext [iblk, V, idx t]
theorem block3 (c : Dev nD) (t : Fin cfg0.N) (r : Fin 352) (d : Fin 1024) :
    (iblk m c 3 t : Vec Ideal S352x1024 .f32) (ix2 r d) = av m c (ix2 (row t r) d) := by blk_ext [iblk, V, idx t]
theorem block4 (c : Dev nD) (t : Fin cfg0.N) (r : Fin 352) (d : Fin 1024) :
    (iblk m c 4 t : Vec Ideal S352x1024 .f32) (ix2 r d) = sq m c (ix2 (row t r) d) := by blk_ext [iblk, V, idx t]
theorem emb5 (t : Fin cfg0.N) (r : Fin 352) (d : Fin 1024) :
    ((cfg0.win 5).blk t).view.emb (ix2 r d) = ix2 (row t r) d := by blk_ext [idx t]
theorem emb6 (t : Fin cfg0.N) (r : Fin 352) (d : Fin 1024) :
    ((cfg0.win 6).blk t).view.emb (ix2 r d) = ix2 (row t r) d := by blk_ext [idx t]
theorem emb7 (t : Fin cfg0.N) (r : Fin 352) (d : Fin 1024) :
    ((cfg0.win 7).blk t).view.emb (ix2 r d) = ix2 (row t r) d := by blk_ext [idx t]
theorem emb8 (t : Fin cfg0.N) (r : Fin 352) (d : Fin 1024) :
    ((cfg0.win 8).blk t).view.emb (ix2 r d) = ix2 (row t r) d := by blk_ext [idx t]

theorem final5 (c : Dev nD) : (dats m 0 c).arrAt 5 cfg0.N = grad m c := by
  refine (dats m 0 c).arrAt_eq_of_covers 5 _ (by decide +kernel) fun t hf y => ?_
  obtain ⟨r, d, rfl⟩ : ∃ (r : Fin 352) (d : Fin 1024), y = ix2 r d := ⟨y 0, y 1, eq_ix2 y⟩
  rw [emb5, after0_5]
  refine Eq.trans ?_ ((pay1_apply (X0_0 m c t) (X0_1 m c t) r d).trans ?_)
  · unfold outsAt0 out0_A_5; frame_out; rfl
  · simp only [block0, block1]
    rfl

theorem final6 (c : Dev nD) : (dats m 0 c).arrAt 6 cfg0.N = outD m c := by
  refine (dats m 0 c).arrAt_eq_of_covers 6 _ (by decide +kernel) fun t hf y => ?_
  obtain ⟨r, d, rfl⟩ : ∃ (r : Fin 352) (d : Fin 1024), y = ix2 r d := ⟨y 0, y 1, eq_ix2 y⟩
  rw [emb6, after0_6]
  refine Eq.trans ?_ ((pay4_apply (X0_0 m c t) (X0_1 m c t) (iblk m c 2 t) (iblk m c 3 t) (iblk m c 4 t) r d).trans ?_)
  · frame_out; rfl
  · simp only [block0, block1, block2, block3, block4]
    rfl

theorem final7 (c : Dev nD) : (dats m 0 c).arrAt 7 cfg0.N = outM m c := by
  refine (dats m 0 c).arrAt_eq_of_covers 7 _ (by decide +kernel) fun t hf y => ?_
  obtain ⟨r, d, rfl⟩ : ∃ (r : Fin 352) (d : Fin 1024), y = ix2 r d := ⟨y 0, y 1, eq_ix2 y⟩
  rw [emb7, after0_7]
  refine Eq.trans ?_ ((pay2_apply (X0_0 m c t) (X0_1 m c t) (iblk m c 3 t) r d).trans ?_)
  · frame_out; rfl
  · simp only [block0, block1, block3]
    rfl

theorem final8 (c : Dev nD) : (dats m 0 c).arrAt 8 cfg0.N = outV m c := by
  refine (dats m 0 c).arrAt_eq_of_covers 8 _ (by decide +kernel) fun t hf y => ?_
  obtain ⟨r, d, rfl⟩ : ∃ (r : Fin 352) (d : Fin 1024), y = ix2 r d := ⟨y 0, y 1, eq_ix2 y⟩
  rw [emb8, after0_8]
  refine Eq.trans ?_ ((pay3_apply (X0_0 m c t) (X0_1 m c t) (iblk m c 4 t) r d).trans ?_)
  · frame_out; rfl
  · simp only [block0, block1, block4]
    rfl

end Kernel

section Reference

open Cert.Reference23Ideal Cert.Reference23Ideal.Read

variable (x0 x1 : Vec Ideal S768x1024 .f32) (x2 x3 x4 : Vec Ideal S704x1024 .f32) (r : Fin 704) (d : Fin 1024)

theorem reference_g : val_main_v1 (F := Ideal) x0 x1 (ix2 r d) = x0 (ix2 (up r) d) + x1 (ix2 (up r) d) := by
  pointwise [val_main_v1, val_main_v0]
theorem reference_m : val_main_v6 (F := Ideal) x0 x1 x3 (ix2 r d)
    = newM (x0 (ix2 (up r) d) + x1 (ix2 (up r) d)) (x3 (ix2 r d)) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM]
theorem reference_v : val_main_v12 (F := Ideal) x0 x1 x4 (ix2 r d)
    = newV (x0 (ix2 (up r) d) + x1 (ix2 (up r) d)) (x4 (ix2 r d)) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newV]
theorem reference_d : val_main_v25 (F := Ideal) x0 x1 x2 x3 x4 (ix2 r d)
    = delta (x0 (ix2 (up r) d) + x1 (ix2 (up r) d)) (x2 (ix2 r d)) (x3 (ix2 r d)) (x4 (ix2 r d)) := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM, newV, delta]

end Reference

/-- Both runs end with the same four arrays. -/
theorem value : Cert.algebraic_Kernel23Ideal_Reference23Ideal := by
  intro m g m' g' _ hag
  refine ⟨grad m, outD m, outM m, outV m, ?_, ?_⟩
  · exact (θ_run _ _ _).mono (fun r h c => ⟨((h c).1).trans (final5 m c), ((h c).2.1).trans (final6 m c), ((h c).2.2.1).trans (final7 m c),
        ((h c).2.2.2.1).trans (final8 m c), (h c).2.2.2.2⟩)
      (Cert.Kernel23Ideal.Value.run_blocks (F := Ideal) m g)
  · refine (θ_run _ _ _).mono (fun r h c => ⟨((h c).1).trans ?_, ((h c).2.1).trans ?_, ((h c).2.2.1).trans ?_, ((h c).2.2.2.1).trans ?_, (h c).2.2.2.2⟩)
      (Cert.Reference23Ideal.Value.run (F := Ideal) m' g')
    · rw [(hag c).1, (hag c).2.1]
      refine (Cert.Reference23Ideal.Read.val_main_v1_eq (F := Ideal) _ _).trans (funext fun i => ?_)
      obtain ⟨r, d, rfl⟩ : ∃ (r : Fin 704) (d : Fin 1024), i = ix2 r d := ⟨i 0, i 1, eq_ix2 i⟩
      exact reference_g _ _ r d
    · rw [(hag c).1, (hag c).2.1, (hag c).2.2.1, (hag c).2.2.2.1, (hag c).2.2.2.2]
      refine (Cert.Reference23Ideal.Read.val_main_v25_eq (F := Ideal) _ _ _ _ _).trans (funext fun i => ?_)
      obtain ⟨r, d, rfl⟩ : ∃ (r : Fin 704) (d : Fin 1024), i = ix2 r d := ⟨i 0, i 1, eq_ix2 i⟩
      exact reference_d _ _ _ _ _ r d
    · rw [(hag c).1, (hag c).2.1, (hag c).2.2.2.1]
      refine (Cert.Reference23Ideal.Read.val_main_v6_eq (F := Ideal) _ _ _).trans (funext fun i => ?_)
      obtain ⟨r, d, rfl⟩ : ∃ (r : Fin 704) (d : Fin 1024), i = ix2 r d := ⟨i 0, i 1, eq_ix2 i⟩
      exact reference_m _ _ _ r d
    · rw [(hag c).1, (hag c).2.1, (hag c).2.2.2.2]
      refine (Cert.Reference23Ideal.Read.val_main_v12_eq (F := Ideal) _ _ _).trans (funext fun i => ?_)
      obtain ⟨r, d, rfl⟩ : ∃ (r : Fin 704) (d : Fin 1024), i = ix2 r d := ⟨i 0, i 1, eq_ix2 i⟩
      exact reference_v _ _ _ r d

end Cert.AdamFfn

end
-- ==== Proof.AdamIn.lean ====
/- The optimiser's step of the mixer's input weight: the kernel's four arrays are the reference's, at the
   extended reals. -/
module

public import proofs.«01_k».proof.Defs
public import proofs.«01_k».proof.Proof.AdamW
public import proofs.«01_k».proof.Proof.Gen.Kernel24Ideal.Value
public import proofs.«01_k».proof.Proof.Gen.Reference24Ideal.Run
public import proofs.«01_k».proof.Proof.Gen.Reference24Ideal.Read
public import Idealize.ShloMosaic.Lib.Tactic
public import Idealize.ShloMosaic.Lib.Pipeline.ValueKit
public import Idealize.ShloMosaic.Lib.Pointwise

@[expose] public section

set_option maxRecDepth 16384

noncomputable section

namespace Cert.AdamIn

open Idealize.ShloMosaic Idealize.ShloMosaic.TcCoe Idealize.SL.Sem

open Cert.AdamW

section Kernel

open Cert.Kernel24Ideal Cert.Kernel24Ideal.Gen

section Payloads

variable (x0 x1 x2 x3 x4 : Vec Ideal S1024x384 .f32) (r : Fin 1024) (d : Fin 384)

theorem pay1_apply : k0_pay1 (F := Ideal) x0 x1 (ix2 r d) = x0 (ix2 r d) + x1 (ix2 r d) := by
  pointwise [k0_pay1]
theorem pay2_apply : k0_pay2 (F := Ideal) x0 x1 x3 (ix2 r d) = newM (x0 (ix2 r d) + x1 (ix2 r d)) (x3 (ix2 r d)) := by
  pointwise [k0_pay2, k0_pay1, newM]
theorem pay3_apply : k0_pay3 (F := Ideal) x0 x1 x4 (ix2 r d) = newV (x0 (ix2 r d) + x1 (ix2 r d)) (x4 (ix2 r d)) := by
  pointwise [k0_pay3, k0_pay1, newV]
theorem pay4_apply : k0_pay4 (F := Ideal) x0 x1 x2 x3 x4 (ix2 r d)
    = delta (x0 (ix2 r d) + x1 (ix2 r d)) (x2 (ix2 r d)) (x3 (ix2 r d)) (x4 (ix2 r d)) := by
  pointwise [k0_pay4, k0_pay3, k0_pay2, k0_pay1, newM, newV, delta]

end Payloads

variable (m : (ℓ : Loc nD τ sig) → Buf (Elt Ideal) ℓ)

abbrev mine (c : Dev nD) : S1024x384.Idx → EReal := m ((c : Thread nD τ).loc main_arg0)
abbrev other (c : Dev nD) : S1024x384.Idx → EReal := m ((c : Thread nD τ).loc main_arg1)
abbrev w (c : Dev nD) : S1024x384.Idx → EReal := m ((c : Thread nD τ).loc main_arg2)
abbrev av (c : Dev nD) : S1024x384.Idx → EReal := m ((c : Thread nD τ).loc main_arg3)
abbrev sq (c : Dev nD) : S1024x384.Idx → EReal := m ((c : Thread nD τ).loc main_arg4)

/-- The gradient: the sum of its two parts. -/
def grad (c : Dev nD) : S1024x384.Idx → EReal := fun i => mine m c (ix2 (i 0) (i 1)) + other m c (ix2 (i 0) (i 1))
/-- The weight's change. -/
def outD (c : Dev nD) : S1024x384.Idx → EReal := fun i => delta (grad m c i) (w m c i) (av m c i) (sq m c i)
/-- The first moving average. -/
def outM (c : Dev nD) : S1024x384.Idx → EReal := fun i => newM (grad m c i) (av m c i)
/-- The second moving average. -/
def outV (c : Dev nD) : S1024x384.Idx → EReal := fun i => newV (grad m c i) (sq m c i)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] := by
  decide +kernel

theorem block0 (c : Dev nD) (t : Fin cfg0.N) (r : Fin 1024) (d : Fin 384) :
    (iblk m c 0 t : Vec Ideal S1024x384 .f32) (ix2 r d) = mine m c (ix2 r d) := by blk_ext [iblk, V, idx t]
theorem block1 (c : Dev nD) (t : Fin cfg0.N) (r : Fin 1024) (d : Fin 384) :
    (iblk m c 1 t : Vec Ideal S1024x384 .f32) (ix2 r d) = other m c (ix2 r d) := by blk_ext [iblk, V, idx t]
theorem block2 (c : Dev nD) (t : Fin cfg0.N) (r : Fin 1024) (d : Fin 384) :
    (iblk m c 2 t : Vec Ideal S1024x384 .f32) (ix2 r d) = w m c (ix2 r d) := by blk_ext [iblk, V, idx t]
theorem block3 (c : Dev nD) (t : Fin cfg0.N) (r : Fin 1024) (d : Fin 384) :
    (iblk m c 3 t : Vec Ideal S1024x384 .f32) (ix2 r d) = av m c (ix2 r d) := by blk_ext [iblk, V, idx t]
theorem block4 (c : Dev nD) (t : Fin cfg0.N) (r : Fin 1024) (d : Fin 384) :
    (iblk m c 4 t : Vec Ideal S1024x384 .f32) (ix2 r d) = sq m c (ix2 r d) := by blk_ext [iblk, V, idx t]
theorem emb5 (t : Fin cfg0.N) (r : Fin 1024) (d : Fin 384) :
    ((cfg0.win 5).blk t).view.emb (ix2 r d) = ix2 r d := by blk_ext [idx t]
theorem emb6 (t : Fin cfg0.N) (r : Fin 1024) (d : Fin 384) :
    ((cfg0.win 6).blk t).view.emb (ix2 r d) = ix2 r d := by blk_ext [idx t]
theorem emb7 (t : Fin cfg0.N) (r : Fin 1024) (d : Fin 384) :
    ((cfg0.win 7).blk t).view.emb (ix2 r d) = ix2 r d := by blk_ext [idx t]
theorem emb8 (t : Fin cfg0.N) (r : Fin 1024) (d : Fin 384) :
    ((cfg0.win 8).blk t).view.emb (ix2 r d) = ix2 r d := by blk_ext [idx t]

theorem final5 (c : Dev nD) : (dats m 0 c).arrAt 5 cfg0.N = grad m c := by
  refine (dats m 0 c).arrAt_eq_of_covers 5 _ (by decide +kernel) fun t hf y => ?_
  obtain ⟨r, d, rfl⟩ : ∃ (r : Fin 1024) (d : Fin 384), y = ix2 r d := ⟨y 0, y 1, eq_ix2 y⟩
  rw [emb5, after0_5]
  refine Eq.trans ?_ ((pay1_apply (iblk m c 0 t) (iblk m c 1 t) r d).trans ?_)
  · frame_out; rfl
  · simp only [block0, block1]
    rfl

theorem final6 (c : Dev nD) : (dats m 0 c).arrAt 6 cfg0.N = outD m c := by
  refine (dats m 0 c).arrAt_eq_of_covers 6 _ (by decide +kernel) fun t hf y => ?_
  obtain ⟨r, d, rfl⟩ : ∃ (r : Fin 1024) (d : Fin 384), y = ix2 r d := ⟨y 0, y 1, eq_ix2 y⟩
  rw [emb6, after0_6]
  refine Eq.trans ?_ ((pay4_apply (iblk m c 0 t) (iblk m c 1 t) (iblk m c 2 t) (iblk m c 3 t) (iblk m c 4 t) r d).trans ?_)
  · frame_out; rfl
  · simp only [block0, block1, block2, block3, block4]
    rfl

theorem final7 (c : Dev nD) : (dats m 0 c).arrAt 7 cfg0.N = outM m c := by
  refine (dats m 0 c).arrAt_eq_of_covers 7 _ (by decide +kernel) fun t hf y => ?_
  obtain ⟨r, d, rfl⟩ : ∃ (r : Fin 1024) (d : Fin 384), y = ix2 r d := ⟨y 0, y 1, eq_ix2 y⟩
  rw [emb7, after0_7]
  refine Eq.trans ?_ ((pay2_apply (iblk m c 0 t) (iblk m c 1 t) (iblk m c 3 t) r d).trans ?_)
  · frame_out; rfl
  · simp only [block0, block1, block3]
    rfl

theorem final8 (c : Dev nD) : (dats m 0 c).arrAt 8 cfg0.N = outV m c := by
  refine (dats m 0 c).arrAt_eq_of_covers 8 _ (by decide +kernel) fun t hf y => ?_
  obtain ⟨r, d, rfl⟩ : ∃ (r : Fin 1024) (d : Fin 384), y = ix2 r d := ⟨y 0, y 1, eq_ix2 y⟩
  rw [emb8, after0_8]
  refine Eq.trans ?_ ((pay3_apply (iblk m c 0 t) (iblk m c 1 t) (iblk m c 4 t) r d).trans ?_)
  · frame_out; rfl
  · simp only [block0, block1, block4]
    rfl

end Kernel

section Reference

open Cert.Reference24Ideal Cert.Reference24Ideal.Read

variable (x0 x1 : Vec Ideal S1024x384 .f32) (x2 x3 x4 : Vec Ideal S1024x384 .f32) (r : Fin 1024) (d : Fin 384)

theorem reference_g : val_main_v0 (F := Ideal) x0 x1 (ix2 r d) = x0 (ix2 r d) + x1 (ix2 r d) := by
  pointwise [val_main_v0]
theorem reference_m : val_main_v5 (F := Ideal) x0 x1 x3 (ix2 r d)
    = newM (x0 (ix2 r d) + x1 (ix2 r d)) (x3 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM]
theorem reference_v : val_main_v11 (F := Ideal) x0 x1 x4 (ix2 r d)
    = newV (x0 (ix2 r d) + x1 (ix2 r d)) (x4 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newV]
theorem reference_d : val_main_v24 (F := Ideal) x0 x1 x2 x3 x4 (ix2 r d)
    = delta (x0 (ix2 r d) + x1 (ix2 r d)) (x2 (ix2 r d)) (x3 (ix2 r d)) (x4 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM, newV, delta]

end Reference

/-- Both runs end with the same four arrays. -/
theorem value : Cert.algebraic_Kernel24Ideal_Reference24Ideal := by
  intro m g m' g' _ hag
  refine ⟨grad m, outD m, outM m, outV m, ?_, ?_⟩
  · exact (θ_run _ _ _).mono (fun r h c => ⟨((h c).1).trans (final5 m c), ((h c).2.1).trans (final6 m c), ((h c).2.2.1).trans (final7 m c),
        ((h c).2.2.2.1).trans (final8 m c), (h c).2.2.2.2⟩)
      (Cert.Kernel24Ideal.Value.run_blocks (F := Ideal) m g)
  · refine (θ_run _ _ _).mono (fun r h c => ⟨((h c).1).trans ?_, ((h c).2.1).trans ?_, ((h c).2.2.1).trans ?_, ((h c).2.2.2.1).trans ?_, (h c).2.2.2.2⟩)
      (Cert.Reference24Ideal.Value.run (F := Ideal) m' g')
    · rw [(hag c).1, (hag c).2.1]
      refine (Cert.Reference24Ideal.Read.val_main_v0_eq (F := Ideal) _ _).trans (funext fun i => ?_)
      obtain ⟨r, d, rfl⟩ : ∃ (r : Fin 1024) (d : Fin 384), i = ix2 r d := ⟨i 0, i 1, eq_ix2 i⟩
      exact reference_g _ _ r d
    · rw [(hag c).1, (hag c).2.1, (hag c).2.2.1, (hag c).2.2.2.1, (hag c).2.2.2.2]
      refine (Cert.Reference24Ideal.Read.val_main_v24_eq (F := Ideal) _ _ _ _ _).trans (funext fun i => ?_)
      obtain ⟨r, d, rfl⟩ : ∃ (r : Fin 1024) (d : Fin 384), i = ix2 r d := ⟨i 0, i 1, eq_ix2 i⟩
      exact reference_d _ _ _ _ _ r d
    · rw [(hag c).1, (hag c).2.1, (hag c).2.2.2.1]
      refine (Cert.Reference24Ideal.Read.val_main_v5_eq (F := Ideal) _ _ _).trans (funext fun i => ?_)
      obtain ⟨r, d, rfl⟩ : ∃ (r : Fin 1024) (d : Fin 384), i = ix2 r d := ⟨i 0, i 1, eq_ix2 i⟩
      exact reference_m _ _ _ r d
    · rw [(hag c).1, (hag c).2.1, (hag c).2.2.2.2]
      refine (Cert.Reference24Ideal.Read.val_main_v11_eq (F := Ideal) _ _ _).trans (funext fun i => ?_)
      obtain ⟨r, d, rfl⟩ : ∃ (r : Fin 1024) (d : Fin 384), i = ix2 r d := ⟨i 0, i 1, eq_ix2 i⟩
      exact reference_v _ _ _ r d

end Cert.AdamIn

end
-- ==== Proof.AdamGate.lean ====
/- The optimiser's step of the state space model's gate weight: the kernel's four arrays are the reference's, at the
   extended reals. -/
module

public import proofs.«01_k».proof.Defs
public import proofs.«01_k».proof.Proof.AdamW
public import proofs.«01_k».proof.Proof.Gen.Kernel25Ideal.Value
public import proofs.«01_k».proof.Proof.Gen.Reference25Ideal.Run
public import proofs.«01_k».proof.Proof.Gen.Reference25Ideal.Read
public import Idealize.ShloMosaic.Lib.Tactic
public import Idealize.ShloMosaic.Lib.Pipeline.ValueKit
public import Idealize.ShloMosaic.Lib.Pointwise

@[expose] public section

set_option maxRecDepth 16384

noncomputable section

namespace Cert.AdamGate

open Idealize.ShloMosaic Idealize.ShloMosaic.TcCoe Idealize.SL.Sem

open Cert.AdamW

section Kernel

open Cert.Kernel25Ideal Cert.Kernel25Ideal.Gen

section Payloads

variable (x0 x1 x2 x3 x4 : Vec Ideal S128x512 .f32) (r : Fin 128) (d : Fin 512)

theorem pay1_apply : k0_pay1 (F := Ideal) x0 x1 (ix2 r d) = x0 (ix2 r d) + x1 (ix2 r d) := by
  pointwise [k0_pay1]
theorem pay2_apply : k0_pay2 (F := Ideal) x0 x1 x3 (ix2 r d) = newM (x0 (ix2 r d) + x1 (ix2 r d)) (x3 (ix2 r d)) := by
  pointwise [k0_pay2, k0_pay1, newM]
theorem pay3_apply : k0_pay3 (F := Ideal) x0 x1 x4 (ix2 r d) = newV (x0 (ix2 r d) + x1 (ix2 r d)) (x4 (ix2 r d)) := by
  pointwise [k0_pay3, k0_pay1, newV]
theorem pay4_apply : k0_pay4 (F := Ideal) x0 x1 x2 x3 x4 (ix2 r d)
    = delta (x0 (ix2 r d) + x1 (ix2 r d)) (x2 (ix2 r d)) (x3 (ix2 r d)) (x4 (ix2 r d)) := by
  pointwise [k0_pay4, k0_pay3, k0_pay2, k0_pay1, newM, newV, delta]

end Payloads

variable (m : (ℓ : Loc nD τ sig) → Buf (Elt Ideal) ℓ)

abbrev mine (c : Dev nD) : S128x512.Idx → EReal := m ((c : Thread nD τ).loc main_arg0)
abbrev other (c : Dev nD) : S128x512.Idx → EReal := m ((c : Thread nD τ).loc main_arg1)
abbrev w (c : Dev nD) : S128x512.Idx → EReal := m ((c : Thread nD τ).loc main_arg2)
abbrev av (c : Dev nD) : S128x512.Idx → EReal := m ((c : Thread nD τ).loc main_arg3)
abbrev sq (c : Dev nD) : S128x512.Idx → EReal := m ((c : Thread nD τ).loc main_arg4)

/-- The gradient: the sum of its two parts. -/
def grad (c : Dev nD) : S128x512.Idx → EReal := fun i => mine m c (ix2 (i 0) (i 1)) + other m c (ix2 (i 0) (i 1))
/-- The weight's change. -/
def outD (c : Dev nD) : S128x512.Idx → EReal := fun i => delta (grad m c i) (w m c i) (av m c i) (sq m c i)
/-- The first moving average. -/
def outM (c : Dev nD) : S128x512.Idx → EReal := fun i => newM (grad m c i) (av m c i)
/-- The second moving average. -/
def outV (c : Dev nD) : S128x512.Idx → EReal := fun i => newV (grad m c i) (sq m c i)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] := by
  decide +kernel

theorem block0 (c : Dev nD) (t : Fin cfg0.N) (r : Fin 128) (d : Fin 512) :
    (iblk m c 0 t : Vec Ideal S128x512 .f32) (ix2 r d) = mine m c (ix2 r d) := by blk_ext [iblk, V, idx t]
theorem block1 (c : Dev nD) (t : Fin cfg0.N) (r : Fin 128) (d : Fin 512) :
    (iblk m c 1 t : Vec Ideal S128x512 .f32) (ix2 r d) = other m c (ix2 r d) := by blk_ext [iblk, V, idx t]
theorem block2 (c : Dev nD) (t : Fin cfg0.N) (r : Fin 128) (d : Fin 512) :
    (iblk m c 2 t : Vec Ideal S128x512 .f32) (ix2 r d) = w m c (ix2 r d) := by blk_ext [iblk, V, idx t]
theorem block3 (c : Dev nD) (t : Fin cfg0.N) (r : Fin 128) (d : Fin 512) :
    (iblk m c 3 t : Vec Ideal S128x512 .f32) (ix2 r d) = av m c (ix2 r d) := by blk_ext [iblk, V, idx t]
theorem block4 (c : Dev nD) (t : Fin cfg0.N) (r : Fin 128) (d : Fin 512) :
    (iblk m c 4 t : Vec Ideal S128x512 .f32) (ix2 r d) = sq m c (ix2 r d) := by blk_ext [iblk, V, idx t]
theorem emb5 (t : Fin cfg0.N) (r : Fin 128) (d : Fin 512) :
    ((cfg0.win 5).blk t).view.emb (ix2 r d) = ix2 r d := by blk_ext [idx t]
theorem emb6 (t : Fin cfg0.N) (r : Fin 128) (d : Fin 512) :
    ((cfg0.win 6).blk t).view.emb (ix2 r d) = ix2 r d := by blk_ext [idx t]
theorem emb7 (t : Fin cfg0.N) (r : Fin 128) (d : Fin 512) :
    ((cfg0.win 7).blk t).view.emb (ix2 r d) = ix2 r d := by blk_ext [idx t]
theorem emb8 (t : Fin cfg0.N) (r : Fin 128) (d : Fin 512) :
    ((cfg0.win 8).blk t).view.emb (ix2 r d) = ix2 r d := by blk_ext [idx t]

theorem final5 (c : Dev nD) : (dats m 0 c).arrAt 5 cfg0.N = grad m c := by
  refine (dats m 0 c).arrAt_eq_of_covers 5 _ (by decide +kernel) fun t hf y => ?_
  obtain ⟨r, d, rfl⟩ : ∃ (r : Fin 128) (d : Fin 512), y = ix2 r d := ⟨y 0, y 1, eq_ix2 y⟩
  rw [emb5, after0_5]
  refine Eq.trans ?_ ((pay1_apply (iblk m c 0 t) (iblk m c 1 t) r d).trans ?_)
  · frame_out; rfl
  · simp only [block0, block1]
    rfl

theorem final6 (c : Dev nD) : (dats m 0 c).arrAt 6 cfg0.N = outD m c := by
  refine (dats m 0 c).arrAt_eq_of_covers 6 _ (by decide +kernel) fun t hf y => ?_
  obtain ⟨r, d, rfl⟩ : ∃ (r : Fin 128) (d : Fin 512), y = ix2 r d := ⟨y 0, y 1, eq_ix2 y⟩
  rw [emb6, after0_6]
  refine Eq.trans ?_ ((pay4_apply (iblk m c 0 t) (iblk m c 1 t) (iblk m c 2 t) (iblk m c 3 t) (iblk m c 4 t) r d).trans ?_)
  · frame_out; rfl
  · simp only [block0, block1, block2, block3, block4]
    rfl

theorem final7 (c : Dev nD) : (dats m 0 c).arrAt 7 cfg0.N = outM m c := by
  refine (dats m 0 c).arrAt_eq_of_covers 7 _ (by decide +kernel) fun t hf y => ?_
  obtain ⟨r, d, rfl⟩ : ∃ (r : Fin 128) (d : Fin 512), y = ix2 r d := ⟨y 0, y 1, eq_ix2 y⟩
  rw [emb7, after0_7]
  refine Eq.trans ?_ ((pay2_apply (iblk m c 0 t) (iblk m c 1 t) (iblk m c 3 t) r d).trans ?_)
  · frame_out; rfl
  · simp only [block0, block1, block3]
    rfl

theorem final8 (c : Dev nD) : (dats m 0 c).arrAt 8 cfg0.N = outV m c := by
  refine (dats m 0 c).arrAt_eq_of_covers 8 _ (by decide +kernel) fun t hf y => ?_
  obtain ⟨r, d, rfl⟩ : ∃ (r : Fin 128) (d : Fin 512), y = ix2 r d := ⟨y 0, y 1, eq_ix2 y⟩
  rw [emb8, after0_8]
  refine Eq.trans ?_ ((pay3_apply (iblk m c 0 t) (iblk m c 1 t) (iblk m c 4 t) r d).trans ?_)
  · frame_out; rfl
  · simp only [block0, block1, block4]
    rfl

end Kernel

section Reference

open Cert.Reference25Ideal Cert.Reference25Ideal.Read

variable (x0 x1 : Vec Ideal S128x512 .f32) (x2 x3 x4 : Vec Ideal S128x512 .f32) (r : Fin 128) (d : Fin 512)

theorem reference_g : val_main_v0 (F := Ideal) x0 x1 (ix2 r d) = x0 (ix2 r d) + x1 (ix2 r d) := by
  pointwise [val_main_v0]
theorem reference_m : val_main_v5 (F := Ideal) x0 x1 x3 (ix2 r d)
    = newM (x0 (ix2 r d) + x1 (ix2 r d)) (x3 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM]
theorem reference_v : val_main_v11 (F := Ideal) x0 x1 x4 (ix2 r d)
    = newV (x0 (ix2 r d) + x1 (ix2 r d)) (x4 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newV]
theorem reference_d : val_main_v24 (F := Ideal) x0 x1 x2 x3 x4 (ix2 r d)
    = delta (x0 (ix2 r d) + x1 (ix2 r d)) (x2 (ix2 r d)) (x3 (ix2 r d)) (x4 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM, newV, delta]

end Reference

/-- Both runs end with the same four arrays. -/
theorem value : Cert.algebraic_Kernel25Ideal_Reference25Ideal := by
  intro m g m' g' _ hag
  refine ⟨grad m, outD m, outM m, outV m, ?_, ?_⟩
  · exact (θ_run _ _ _).mono (fun r h c => ⟨((h c).1).trans (final5 m c), ((h c).2.1).trans (final6 m c), ((h c).2.2.1).trans (final7 m c),
        ((h c).2.2.2.1).trans (final8 m c), (h c).2.2.2.2⟩)
      (Cert.Kernel25Ideal.Value.run_blocks (F := Ideal) m g)
  · refine (θ_run _ _ _).mono (fun r h c => ⟨((h c).1).trans ?_, ((h c).2.1).trans ?_, ((h c).2.2.1).trans ?_, ((h c).2.2.2.1).trans ?_, (h c).2.2.2.2⟩)
      (Cert.Reference25Ideal.Value.run (F := Ideal) m' g')
    · rw [(hag c).1, (hag c).2.1]
      refine (Cert.Reference25Ideal.Read.val_main_v0_eq (F := Ideal) _ _).trans (funext fun i => ?_)
      obtain ⟨r, d, rfl⟩ : ∃ (r : Fin 128) (d : Fin 512), i = ix2 r d := ⟨i 0, i 1, eq_ix2 i⟩
      exact reference_g _ _ r d
    · rw [(hag c).1, (hag c).2.1, (hag c).2.2.1, (hag c).2.2.2.1, (hag c).2.2.2.2]
      refine (Cert.Reference25Ideal.Read.val_main_v24_eq (F := Ideal) _ _ _ _ _).trans (funext fun i => ?_)
      obtain ⟨r, d, rfl⟩ : ∃ (r : Fin 128) (d : Fin 512), i = ix2 r d := ⟨i 0, i 1, eq_ix2 i⟩
      exact reference_d _ _ _ _ _ r d
    · rw [(hag c).1, (hag c).2.1, (hag c).2.2.2.1]
      refine (Cert.Reference25Ideal.Read.val_main_v5_eq (F := Ideal) _ _ _).trans (funext fun i => ?_)
      obtain ⟨r, d, rfl⟩ : ∃ (r : Fin 128) (d : Fin 512), i = ix2 r d := ⟨i 0, i 1, eq_ix2 i⟩
      exact reference_m _ _ _ r d
    · rw [(hag c).1, (hag c).2.1, (hag c).2.2.2.2]
      refine (Cert.Reference25Ideal.Read.val_main_v11_eq (F := Ideal) _ _ _).trans (funext fun i => ?_)
      obtain ⟨r, d, rfl⟩ : ∃ (r : Fin 128) (d : Fin 512), i = ix2 r d := ⟨i 0, i 1, eq_ix2 i⟩
      exact reference_v _ _ _ r d

end Cert.AdamGate

end
-- ==== Proof.AdamOut.lean ====
/- The optimiser's step of the mixer's output weight: the kernel's four arrays are the reference's, at the
   extended reals. -/
module

public import proofs.«01_k».proof.Defs
public import proofs.«01_k».proof.Proof.AdamW
public import proofs.«01_k».proof.Proof.Gen.Kernel26Ideal.Value
public import proofs.«01_k».proof.Proof.Gen.Reference26Ideal.Run
public import proofs.«01_k».proof.Proof.Gen.Reference26Ideal.Read
public import Idealize.ShloMosaic.Lib.Tactic
public import Idealize.ShloMosaic.Lib.Pipeline.ValueKit
public import Idealize.ShloMosaic.Lib.Pointwise

@[expose] public section

set_option maxRecDepth 16384

noncomputable section

namespace Cert.AdamOut

open Idealize.ShloMosaic Idealize.ShloMosaic.TcCoe Idealize.SL.Sem

open Cert.AdamW

section Kernel

open Cert.Kernel26Ideal Cert.Kernel26Ideal.Gen

section Payloads

variable (x0 x1 x2 x3 x4 : Vec Ideal S256x1024 .f32) (r : Fin 256) (d : Fin 1024)

theorem pay1_apply : k0_pay1 (F := Ideal) x0 x1 (ix2 r d) = x0 (ix2 r d) + x1 (ix2 r d) := by
  pointwise [k0_pay1]
theorem pay2_apply : k0_pay2 (F := Ideal) x0 x1 x3 (ix2 r d) = newM (x0 (ix2 r d) + x1 (ix2 r d)) (x3 (ix2 r d)) := by
  pointwise [k0_pay2, k0_pay1, newM]
theorem pay3_apply : k0_pay3 (F := Ideal) x0 x1 x4 (ix2 r d) = newV (x0 (ix2 r d) + x1 (ix2 r d)) (x4 (ix2 r d)) := by
  pointwise [k0_pay3, k0_pay1, newV]
theorem pay4_apply : k0_pay4 (F := Ideal) x0 x1 x2 x3 x4 (ix2 r d)
    = delta (x0 (ix2 r d) + x1 (ix2 r d)) (x2 (ix2 r d)) (x3 (ix2 r d)) (x4 (ix2 r d)) := by
  pointwise [k0_pay4, k0_pay3, k0_pay2, k0_pay1, newM, newV, delta]

end Payloads

variable (m : (ℓ : Loc nD τ sig) → Buf (Elt Ideal) ℓ)

abbrev mine (c : Dev nD) : S256x1024.Idx → EReal := m ((c : Thread nD τ).loc main_arg0)
abbrev other (c : Dev nD) : S256x1024.Idx → EReal := m ((c : Thread nD τ).loc main_arg1)
abbrev w (c : Dev nD) : S256x1024.Idx → EReal := m ((c : Thread nD τ).loc main_arg2)
abbrev av (c : Dev nD) : S256x1024.Idx → EReal := m ((c : Thread nD τ).loc main_arg3)
abbrev sq (c : Dev nD) : S256x1024.Idx → EReal := m ((c : Thread nD τ).loc main_arg4)

/-- The gradient: the sum of its two parts. -/
def grad (c : Dev nD) : S256x1024.Idx → EReal := fun i => mine m c (ix2 (i 0) (i 1)) + other m c (ix2 (i 0) (i 1))
/-- The weight's change. -/
def outD (c : Dev nD) : S256x1024.Idx → EReal := fun i => delta (grad m c i) (w m c i) (av m c i) (sq m c i)
/-- The first moving average. -/
def outM (c : Dev nD) : S256x1024.Idx → EReal := fun i => newM (grad m c i) (av m c i)
/-- The second moving average. -/
def outV (c : Dev nD) : S256x1024.Idx → EReal := fun i => newV (grad m c i) (sq m c i)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] := by
  decide +kernel

theorem block0 (c : Dev nD) (t : Fin cfg0.N) (r : Fin 256) (d : Fin 1024) :
    (iblk m c 0 t : Vec Ideal S256x1024 .f32) (ix2 r d) = mine m c (ix2 r d) := by blk_ext [iblk, V, idx t]
theorem block1 (c : Dev nD) (t : Fin cfg0.N) (r : Fin 256) (d : Fin 1024) :
    (iblk m c 1 t : Vec Ideal S256x1024 .f32) (ix2 r d) = other m c (ix2 r d) := by blk_ext [iblk, V, idx t]
theorem block2 (c : Dev nD) (t : Fin cfg0.N) (r : Fin 256) (d : Fin 1024) :
    (iblk m c 2 t : Vec Ideal S256x1024 .f32) (ix2 r d) = w m c (ix2 r d) := by blk_ext [iblk, V, idx t]
theorem block3 (c : Dev nD) (t : Fin cfg0.N) (r : Fin 256) (d : Fin 1024) :
    (iblk m c 3 t : Vec Ideal S256x1024 .f32) (ix2 r d) = av m c (ix2 r d) := by blk_ext [iblk, V, idx t]
theorem block4 (c : Dev nD) (t : Fin cfg0.N) (r : Fin 256) (d : Fin 1024) :
    (iblk m c 4 t : Vec Ideal S256x1024 .f32) (ix2 r d) = sq m c (ix2 r d) := by blk_ext [iblk, V, idx t]
theorem emb5 (t : Fin cfg0.N) (r : Fin 256) (d : Fin 1024) :
    ((cfg0.win 5).blk t).view.emb (ix2 r d) = ix2 r d := by blk_ext [idx t]
theorem emb6 (t : Fin cfg0.N) (r : Fin 256) (d : Fin 1024) :
    ((cfg0.win 6).blk t).view.emb (ix2 r d) = ix2 r d := by blk_ext [idx t]
theorem emb7 (t : Fin cfg0.N) (r : Fin 256) (d : Fin 1024) :
    ((cfg0.win 7).blk t).view.emb (ix2 r d) = ix2 r d := by blk_ext [idx t]
theorem emb8 (t : Fin cfg0.N) (r : Fin 256) (d : Fin 1024) :
    ((cfg0.win 8).blk t).view.emb (ix2 r d) = ix2 r d := by blk_ext [idx t]

theorem final5 (c : Dev nD) : (dats m 0 c).arrAt 5 cfg0.N = grad m c := by
  refine (dats m 0 c).arrAt_eq_of_covers 5 _ (by decide +kernel) fun t hf y => ?_
  obtain ⟨r, d, rfl⟩ : ∃ (r : Fin 256) (d : Fin 1024), y = ix2 r d := ⟨y 0, y 1, eq_ix2 y⟩
  rw [emb5, after0_5]
  refine Eq.trans ?_ ((pay1_apply (iblk m c 0 t) (iblk m c 1 t) r d).trans ?_)
  · frame_out; rfl
  · simp only [block0, block1]
    rfl

theorem final6 (c : Dev nD) : (dats m 0 c).arrAt 6 cfg0.N = outD m c := by
  refine (dats m 0 c).arrAt_eq_of_covers 6 _ (by decide +kernel) fun t hf y => ?_
  obtain ⟨r, d, rfl⟩ : ∃ (r : Fin 256) (d : Fin 1024), y = ix2 r d := ⟨y 0, y 1, eq_ix2 y⟩
  rw [emb6, after0_6]
  refine Eq.trans ?_ ((pay4_apply (iblk m c 0 t) (iblk m c 1 t) (iblk m c 2 t) (iblk m c 3 t) (iblk m c 4 t) r d).trans ?_)
  · frame_out; rfl
  · simp only [block0, block1, block2, block3, block4]
    rfl

theorem final7 (c : Dev nD) : (dats m 0 c).arrAt 7 cfg0.N = outM m c := by
  refine (dats m 0 c).arrAt_eq_of_covers 7 _ (by decide +kernel) fun t hf y => ?_
  obtain ⟨r, d, rfl⟩ : ∃ (r : Fin 256) (d : Fin 1024), y = ix2 r d := ⟨y 0, y 1, eq_ix2 y⟩
  rw [emb7, after0_7]
  refine Eq.trans ?_ ((pay2_apply (iblk m c 0 t) (iblk m c 1 t) (iblk m c 3 t) r d).trans ?_)
  · frame_out; rfl
  · simp only [block0, block1, block3]
    rfl

theorem final8 (c : Dev nD) : (dats m 0 c).arrAt 8 cfg0.N = outV m c := by
  refine (dats m 0 c).arrAt_eq_of_covers 8 _ (by decide +kernel) fun t hf y => ?_
  obtain ⟨r, d, rfl⟩ : ∃ (r : Fin 256) (d : Fin 1024), y = ix2 r d := ⟨y 0, y 1, eq_ix2 y⟩
  rw [emb8, after0_8]
  refine Eq.trans ?_ ((pay3_apply (iblk m c 0 t) (iblk m c 1 t) (iblk m c 4 t) r d).trans ?_)
  · frame_out; rfl
  · simp only [block0, block1, block4]
    rfl

end Kernel

section Reference

open Cert.Reference26Ideal Cert.Reference26Ideal.Read

variable (x0 x1 : Vec Ideal S256x1024 .f32) (x2 x3 x4 : Vec Ideal S256x1024 .f32) (r : Fin 256) (d : Fin 1024)

theorem reference_g : val_main_v0 (F := Ideal) x0 x1 (ix2 r d) = x0 (ix2 r d) + x1 (ix2 r d) := by
  pointwise [val_main_v0]
theorem reference_m : val_main_v5 (F := Ideal) x0 x1 x3 (ix2 r d)
    = newM (x0 (ix2 r d) + x1 (ix2 r d)) (x3 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM]
theorem reference_v : val_main_v11 (F := Ideal) x0 x1 x4 (ix2 r d)
    = newV (x0 (ix2 r d) + x1 (ix2 r d)) (x4 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newV]
theorem reference_d : val_main_v24 (F := Ideal) x0 x1 x2 x3 x4 (ix2 r d)
    = delta (x0 (ix2 r d) + x1 (ix2 r d)) (x2 (ix2 r d)) (x3 (ix2 r d)) (x4 (ix2 r d)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, newM, newV, delta]

end Reference

/-- Both runs end with the same four arrays. -/
theorem value : Cert.algebraic_Kernel26Ideal_Reference26Ideal := by
  intro m g m' g' _ hag
  refine ⟨grad m, outD m, outM m, outV m, ?_, ?_⟩
  · exact (θ_run _ _ _).mono (fun r h c => ⟨((h c).1).trans (final5 m c), ((h c).2.1).trans (final6 m c), ((h c).2.2.1).trans (final7 m c),
        ((h c).2.2.2.1).trans (final8 m c), (h c).2.2.2.2⟩)
      (Cert.Kernel26Ideal.Value.run_blocks (F := Ideal) m g)
  · refine (θ_run _ _ _).mono (fun r h c => ⟨((h c).1).trans ?_, ((h c).2.1).trans ?_, ((h c).2.2.1).trans ?_, ((h c).2.2.2.1).trans ?_, (h c).2.2.2.2⟩)
      (Cert.Reference26Ideal.Value.run (F := Ideal) m' g')
    · rw [(hag c).1, (hag c).2.1]
      refine (Cert.Reference26Ideal.Read.val_main_v0_eq (F := Ideal) _ _).trans (funext fun i => ?_)
      obtain ⟨r, d, rfl⟩ : ∃ (r : Fin 256) (d : Fin 1024), i = ix2 r d := ⟨i 0, i 1, eq_ix2 i⟩
      exact reference_g _ _ r d
    · rw [(hag c).1, (hag c).2.1, (hag c).2.2.1, (hag c).2.2.2.1, (hag c).2.2.2.2]
      refine (Cert.Reference26Ideal.Read.val_main_v24_eq (F := Ideal) _ _ _ _ _).trans (funext fun i => ?_)
      obtain ⟨r, d, rfl⟩ : ∃ (r : Fin 256) (d : Fin 1024), i = ix2 r d := ⟨i 0, i 1, eq_ix2 i⟩
      exact reference_d _ _ _ _ _ r d
    · rw [(hag c).1, (hag c).2.1, (hag c).2.2.2.1]
      refine (Cert.Reference26Ideal.Read.val_main_v5_eq (F := Ideal) _ _ _).trans (funext fun i => ?_)
      obtain ⟨r, d, rfl⟩ : ∃ (r : Fin 256) (d : Fin 1024), i = ix2 r d := ⟨i 0, i 1, eq_ix2 i⟩
      exact reference_m _ _ _ r d
    · rw [(hag c).1, (hag c).2.1, (hag c).2.2.2.2]
      refine (Cert.Reference26Ideal.Read.val_main_v11_eq (F := Ideal) _ _ _).trans (funext fun i => ?_)
      obtain ⟨r, d, rfl⟩ : ∃ (r : Fin 256) (d : Fin 1024), i = ix2 r d := ⟨i 0, i 1, eq_ix2 i⟩
      exact reference_v _ _ _ r d

end Cert.AdamOut

end
-- ==== Proof.SumFfn.lean ====
/- The sum of the four parts of the gradient of a feed-forward weight: the kernel's array is the
   reference's, at the extended reals. -/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Tactic
public import Idealize.ShloMosaic.Lib.Pipeline.ValueKit
public import Idealize.ShloMosaic.Lib.Pointwise

@[expose] public section

set_option maxRecDepth 16384

noncomputable section

namespace Cert.SumFfn

open Idealize.ShloMosaic Idealize.ShloMosaic.TcCoe Idealize.SL.Sem

section Kernel

open Cert.Kernel27Ideal Cert.Kernel27Ideal.Gen

theorem pay_apply (y0 y1 y2 y3 : Vec Ideal S1x256x1024 .bf16) (r : Fin 256) (d : Fin 1024) : k0_pay1 (F := Ideal) y0 y1 y2 y3 (ix2 r d)
    = y0 (ix3 0 r d) + y1 (ix3 0 r d) + y2 (ix3 0 r d) + y3 (ix3 0 r d) := by
  pointwise [k0_pay1]

variable (m : (ℓ : Loc nD τ sig) → Buf (Elt Ideal) ℓ)

abbrev x (c : Dev nD) : S4x768x1024.Idx → EReal := m ((c : Thread nD τ).loc main_arg0)

/-- The sum over the first axis. -/
def out (c : Dev nD) : S768x1024.Idx → EReal := fun i => ∑ k : Fin 4, x m c (ix3 k (i 0) (i 1))

theorem idx : ∀ t : Fin cfg0.N, win0_0.index t = ![0, t.val, 0] ∧ win0_1.index t = ![t.val, 0] := by
  decide +kernel

/-- Row `r` of the row block of point `t`. -/
abbrev row (t : Fin cfg0.N) (r : Fin 256) : Fin 768 := ⟨t.val * 256 + r.val, by have := t.isLt; have : cfg0.N = 3 := N_0; omega⟩

theorem block0 (c : Dev nD) (t : Fin cfg0.N) (k : Fin 4) (r : Fin 256) (d : Fin 1024) :
    (iblk m c 0 t : Vec Ideal S4x256x1024 .bf16) (ix3 k r d) = x m c (ix3 k (row t r) d) := by blk_ext [iblk, V, idx t]
theorem slot3 (x0 : Vec Ideal S4x256x1024 .bf16) (r : Fin 256) (d : Fin 1024) : View.ld x0 r0_0 (ix3 0 r d) = x0 (ix3 3 r d) := by
  show x0 _ = x0 _
  exact congrArg x0 (funext fun a => Fin.ext (by fin_cases a <;> simp [Rect.emb]))
theorem slot0 (x0 : Vec Ideal S4x256x1024 .bf16) (r : Fin 256) (d : Fin 1024) : View.ld x0 r0_1 (ix3 0 r d) = x0 (ix3 0 r d) := by
  show x0 _ = x0 _
  exact congrArg x0 (funext fun a => Fin.ext (by fin_cases a <;> simp [Rect.emb]))
theorem slot1 (x0 : Vec Ideal S4x256x1024 .bf16) (r : Fin 256) (d : Fin 1024) : View.ld x0 r0_2 (ix3 0 r d) = x0 (ix3 1 r d) := by
  show x0 _ = x0 _
  exact congrArg x0 (funext fun a => Fin.ext (by fin_cases a <;> simp [Rect.emb]))
theorem slot2 (x0 : Vec Ideal S4x256x1024 .bf16) (r : Fin 256) (d : Fin 1024) : View.ld x0 r0_3 (ix3 0 r d) = x0 (ix3 2 r d) := by
  show x0 _ = x0 _
  exact congrArg x0 (funext fun a => Fin.ext (by fin_cases a <;> simp [Rect.emb]))

theorem emb1 (t : Fin cfg0.N) (r : Fin 256) (d : Fin 1024) : ((cfg0.win 1).blk t).view.emb (ix2 r d) = ix2 (row t r) d := by
  blk_ext [idx t]

theorem final1 (c : Dev nD) : (dats m 0 c).arrAt 1 cfg0.N = out m c := by
  refine (dats m 0 c).arrAt_eq_of_covers 1 _ (by decide +kernel) fun t hf y => ?_
  obtain ⟨r, d, rfl⟩ : ∃ (r : Fin 256) (d : Fin 1024), y = ix2 r d := ⟨y 0, y 1, eq_ix2 y⟩
  rw [emb1, after0_1]
  refine Eq.trans ?_ ((pay_apply (View.ld (iblk m c 0 t) r0_0) (View.ld (iblk m c 0 t) r0_1) (View.ld (iblk m c 0 t) r0_2) (View.ld (iblk m c 0 t) r0_3) r d).trans ?_)
  · frame_out; rfl
  · refine Eq.trans (congrArg₂ (· + ·) (congrArg₂ (· + ·) (congrArg₂ (· + ·) ((slot3 (iblk m c 0 t) r d).trans (block0 m c t 3 r d)) ((slot0 (iblk m c 0 t) r d).trans (block0 m c t 0 r d))) ((slot1 (iblk m c 0 t) r d).trans (block0 m c t 1 r d))) ((slot2 (iblk m c 0 t) r d).trans (block0 m c t 2 r d))) ?_
    refine Eq.trans ?_ (Fin.sum_univ_four fun k : Fin 4 => x m c (ix3 k (row t r) d)).symm
    abel

end Kernel

section Reference

open Cert.Reference27Ideal Cert.Reference27Ideal.Read

theorem reference_apply (x0 : Vec Ideal S4x768x1024 .bf16) (r : Fin 768) (d : Fin 1024) :
    val_main_v1 (F := Ideal) x0 (ix2 r d) = ∑ k : Fin 4, x0 (ix3 k r d) := by
  pointwise [val_main_v1, val_main_v0, val_main_cst]

end Reference

/-- Both runs end with the same array. -/
theorem value : Cert.algebraic_Kernel27Ideal_Reference27Ideal := by
  intro m g m' g' _ hag
  refine ⟨out m, ?_, ?_⟩
  · exact (θ_run _ _ _).mono (fun r h c => ⟨((h c).1).trans (final1 m c), (h c).2⟩)
      (Cert.Kernel27Ideal.Value.run_blocks (F := Ideal) m g)
  · refine (θ_run _ _ _).mono (fun r h c => ⟨((h c).1).trans ?_, (h c).2⟩)
      (Cert.Reference27Ideal.Value.run (F := Ideal) m' g')
    rw [hag c]
    refine (Cert.Reference27Ideal.Read.val_main_v1_eq (F := Ideal) _).trans (funext fun i => ?_)
    obtain ⟨r, d, rfl⟩ : ∃ (r : Fin 768) (d : Fin 1024), i = ix2 r d := ⟨i 0, i 1, eq_ix2 i⟩
    exact reference_apply _ r d

end Cert.SumFfn

end
-- ==== Proof.SumIn.lean ====
/- The sum of the four parts of the gradient of the mixer's input weight: the kernel's array is the
   reference's, at the extended reals. -/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Tactic
public import Idealize.ShloMosaic.Lib.Pipeline.ValueKit
public import Idealize.ShloMosaic.Lib.Pointwise

@[expose] public section

set_option maxRecDepth 16384

noncomputable section

namespace Cert.SumIn

open Idealize.ShloMosaic Idealize.ShloMosaic.TcCoe Idealize.SL.Sem

section Kernel

open Cert.Kernel28Ideal Cert.Kernel28Ideal.Gen

theorem pay_apply (y0 y1 y2 y3 : Vec Ideal S1x256x384 .bf16) (r : Fin 256) (d : Fin 384) : k0_pay1 (F := Ideal) y0 y1 y2 y3 (ix2 r d)
    = y0 (ix3 0 r d) + y1 (ix3 0 r d) + y2 (ix3 0 r d) + y3 (ix3 0 r d) := by
  pointwise [k0_pay1]

variable (m : (ℓ : Loc nD τ sig) → Buf (Elt Ideal) ℓ)

abbrev x (c : Dev nD) : S4x1024x384.Idx → EReal := m ((c : Thread nD τ).loc main_arg0)

/-- The sum over the first axis. -/
def out (c : Dev nD) : S1024x384.Idx → EReal := fun i => ∑ k : Fin 4, x m c (ix3 k (i 0) (i 1))

theorem idx : ∀ t : Fin cfg0.N, win0_0.index t = ![0, t.val, 0] ∧ win0_1.index t = ![t.val, 0] := by
  decide +kernel

/-- Row `r` of the row block of point `t`. -/
abbrev row (t : Fin cfg0.N) (r : Fin 256) : Fin 1024 := ⟨t.val * 256 + r.val, by have := t.isLt; have : cfg0.N = 4 := N_0; omega⟩

theorem block0 (c : Dev nD) (t : Fin cfg0.N) (k : Fin 4) (r : Fin 256) (d : Fin 384) :
    (iblk m c 0 t : Vec Ideal S4x256x384 .bf16) (ix3 k r d) = x m c (ix3 k (row t r) d) := by blk_ext [iblk, V, idx t]
theorem slot3 (x0 : Vec Ideal S4x256x384 .bf16) (r : Fin 256) (d : Fin 384) : View.ld x0 r0_0 (ix3 0 r d) = x0 (ix3 3 r d) := by
  show x0 _ = x0 _
  exact congrArg x0 (funext fun a => Fin.ext (by fin_cases a <;> simp [Rect.emb]))
theorem slot0 (x0 : Vec Ideal S4x256x384 .bf16) (r : Fin 256) (d : Fin 384) : View.ld x0 r0_1 (ix3 0 r d) = x0 (ix3 0 r d) := by
  show x0 _ = x0 _
  exact congrArg x0 (funext fun a => Fin.ext (by fin_cases a <;> simp [Rect.emb]))
theorem slot1 (x0 : Vec Ideal S4x256x384 .bf16) (r : Fin 256) (d : Fin 384) : View.ld x0 r0_2 (ix3 0 r d) = x0 (ix3 1 r d) := by
  show x0 _ = x0 _
  exact congrArg x0 (funext fun a => Fin.ext (by fin_cases a <;> simp [Rect.emb]))
theorem slot2 (x0 : Vec Ideal S4x256x384 .bf16) (r : Fin 256) (d : Fin 384) : View.ld x0 r0_3 (ix3 0 r d) = x0 (ix3 2 r d) := by
  show x0 _ = x0 _
  exact congrArg x0 (funext fun a => Fin.ext (by fin_cases a <;> simp [Rect.emb]))

theorem emb1 (t : Fin cfg0.N) (r : Fin 256) (d : Fin 384) : ((cfg0.win 1).blk t).view.emb (ix2 r d) = ix2 (row t r) d := by
  blk_ext [idx t]

theorem final1 (c : Dev nD) : (dats m 0 c).arrAt 1 cfg0.N = out m c := by
  refine (dats m 0 c).arrAt_eq_of_covers 1 _ (by decide +kernel) fun t hf y => ?_
  obtain ⟨r, d, rfl⟩ : ∃ (r : Fin 256) (d : Fin 384), y = ix2 r d := ⟨y 0, y 1, eq_ix2 y⟩
  rw [emb1, after0_1]
  refine Eq.trans ?_ ((pay_apply (View.ld (iblk m c 0 t) r0_0) (View.ld (iblk m c 0 t) r0_1) (View.ld (iblk m c 0 t) r0_2) (View.ld (iblk m c 0 t) r0_3) r d).trans ?_)
  · frame_out; rfl
  · refine Eq.trans (congrArg₂ (· + ·) (congrArg₂ (· + ·) (congrArg₂ (· + ·) ((slot3 (iblk m c 0 t) r d).trans (block0 m c t 3 r d)) ((slot0 (iblk m c 0 t) r d).trans (block0 m c t 0 r d))) ((slot1 (iblk m c 0 t) r d).trans (block0 m c t 1 r d))) ((slot2 (iblk m c 0 t) r d).trans (block0 m c t 2 r d))) ?_
    refine Eq.trans ?_ (Fin.sum_univ_four fun k : Fin 4 => x m c (ix3 k (row t r) d)).symm
    abel

end Kernel

section Reference

open Cert.Reference28Ideal Cert.Reference28Ideal.Read

theorem reference_apply (x0 : Vec Ideal S4x1024x384 .bf16) (r : Fin 1024) (d : Fin 384) :
    val_main_v1 (F := Ideal) x0 (ix2 r d) = ∑ k : Fin 4, x0 (ix3 k r d) := by
  pointwise [val_main_v1, val_main_v0, val_main_cst]

end Reference

/-- Both runs end with the same array. -/
theorem value : Cert.algebraic_Kernel28Ideal_Reference28Ideal := by
  intro m g m' g' _ hag
  refine ⟨out m, ?_, ?_⟩
  · exact (θ_run _ _ _).mono (fun r h c => ⟨((h c).1).trans (final1 m c), (h c).2⟩)
      (Cert.Kernel28Ideal.Value.run_blocks (F := Ideal) m g)
  · refine (θ_run _ _ _).mono (fun r h c => ⟨((h c).1).trans ?_, (h c).2⟩)
      (Cert.Reference28Ideal.Value.run (F := Ideal) m' g')
    rw [hag c]
    refine (Cert.Reference28Ideal.Read.val_main_v1_eq (F := Ideal) _).trans (funext fun i => ?_)
    obtain ⟨r, d, rfl⟩ : ∃ (r : Fin 1024) (d : Fin 384), i = ix2 r d := ⟨i 0, i 1, eq_ix2 i⟩
    exact reference_apply _ r d

end Cert.SumIn

end
-- ==== Proof.SumGate.lean ====
/- The sum of the four parts of the gradient of the state space model's gate weight: the kernel's array is the
   reference's, at the extended reals. -/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Tactic
public import Idealize.ShloMosaic.Lib.Pipeline.ValueKit
public import Idealize.ShloMosaic.Lib.Pointwise

@[expose] public section

set_option maxRecDepth 16384

noncomputable section

namespace Cert.SumGate

open Idealize.ShloMosaic Idealize.ShloMosaic.TcCoe Idealize.SL.Sem

section Kernel

open Cert.Kernel29Ideal Cert.Kernel29Ideal.Gen

theorem pay_apply (y0 y1 y2 y3 : Vec Ideal S1x128x512 .bf16) (r : Fin 128) (d : Fin 512) : k0_pay1 (F := Ideal) y0 y1 y2 y3 (ix2 r d)
    = y0 (ix3 0 r d) + y1 (ix3 0 r d) + y2 (ix3 0 r d) + y3 (ix3 0 r d) := by
  pointwise [k0_pay1]

variable (m : (ℓ : Loc nD τ sig) → Buf (Elt Ideal) ℓ)

abbrev x (c : Dev nD) : S4x128x512.Idx → EReal := m ((c : Thread nD τ).loc main_arg0)

/-- The sum over the first axis. -/
def out (c : Dev nD) : S128x512.Idx → EReal := fun i => ∑ k : Fin 4, x m c (ix3 k (i 0) (i 1))

theorem idx : ∀ t : Fin cfg0.N, win0_0.index t = ![0, 0, 0] ∧ win0_1.index t = ![0, 0] := by
  decide +kernel

theorem block0 (c : Dev nD) (t : Fin cfg0.N) (k : Fin 4) (r : Fin 128) (d : Fin 512) :
    (iblk m c 0 t : Vec Ideal S4x128x512 .bf16) (ix3 k r d) = x m c (ix3 k r d) := by blk_ext [iblk, V, idx t]
theorem slot3 (x0 : Vec Ideal S4x128x512 .bf16) (r : Fin 128) (d : Fin 512) : View.ld x0 r0_0 (ix3 0 r d) = x0 (ix3 3 r d) := by
  show x0 _ = x0 _
  exact congrArg x0 (funext fun a => Fin.ext (by fin_cases a <;> simp [Rect.emb]))
theorem slot0 (x0 : Vec Ideal S4x128x512 .bf16) (r : Fin 128) (d : Fin 512) : View.ld x0 r0_1 (ix3 0 r d) = x0 (ix3 0 r d) := by
  show x0 _ = x0 _
  exact congrArg x0 (funext fun a => Fin.ext (by fin_cases a <;> simp [Rect.emb]))
theorem slot1 (x0 : Vec Ideal S4x128x512 .bf16) (r : Fin 128) (d : Fin 512) : View.ld x0 r0_2 (ix3 0 r d) = x0 (ix3 1 r d) := by
  show x0 _ = x0 _
  exact congrArg x0 (funext fun a => Fin.ext (by fin_cases a <;> simp [Rect.emb]))
theorem slot2 (x0 : Vec Ideal S4x128x512 .bf16) (r : Fin 128) (d : Fin 512) : View.ld x0 r0_3 (ix3 0 r d) = x0 (ix3 2 r d) := by
  show x0 _ = x0 _
  exact congrArg x0 (funext fun a => Fin.ext (by fin_cases a <;> simp [Rect.emb]))

theorem emb1 (t : Fin cfg0.N) (r : Fin 128) (d : Fin 512) : ((cfg0.win 1).blk t).view.emb (ix2 r d) = ix2 r d := by
  blk_ext [idx t]

theorem final1 (c : Dev nD) : (dats m 0 c).arrAt 1 cfg0.N = out m c := by
  refine (dats m 0 c).arrAt_eq_of_covers 1 _ (by decide +kernel) fun t hf y => ?_
  obtain ⟨r, d, rfl⟩ : ∃ (r : Fin 128) (d : Fin 512), y = ix2 r d := ⟨y 0, y 1, eq_ix2 y⟩
  rw [emb1, after0_1]
  refine Eq.trans ?_ ((pay_apply (View.ld (iblk m c 0 t) r0_0) (View.ld (iblk m c 0 t) r0_1) (View.ld (iblk m c 0 t) r0_2) (View.ld (iblk m c 0 t) r0_3) r d).trans ?_)
  · frame_out; rfl
  · refine Eq.trans (congrArg₂ (· + ·) (congrArg₂ (· + ·) (congrArg₂ (· + ·) ((slot3 (iblk m c 0 t) r d).trans (block0 m c t 3 r d)) ((slot0 (iblk m c 0 t) r d).trans (block0 m c t 0 r d))) ((slot1 (iblk m c 0 t) r d).trans (block0 m c t 1 r d))) ((slot2 (iblk m c 0 t) r d).trans (block0 m c t 2 r d))) ?_
    refine Eq.trans ?_ (Fin.sum_univ_four fun k : Fin 4 => x m c (ix3 k r d)).symm
    abel

end Kernel

section Reference

open Cert.Reference29Ideal Cert.Reference29Ideal.Read

theorem reference_apply (x0 : Vec Ideal S4x128x512 .bf16) (r : Fin 128) (d : Fin 512) :
    val_main_v1 (F := Ideal) x0 (ix2 r d) = ∑ k : Fin 4, x0 (ix3 k r d) := by
  pointwise [val_main_v1, val_main_v0, val_main_cst]

end Reference

/-- Both runs end with the same array. -/
theorem value : Cert.algebraic_Kernel29Ideal_Reference29Ideal := by
  intro m g m' g' _ hag
  refine ⟨out m, ?_, ?_⟩
  · exact (θ_run _ _ _).mono (fun r h c => ⟨((h c).1).trans (final1 m c), (h c).2⟩)
      (Cert.Kernel29Ideal.Value.run_blocks (F := Ideal) m g)
  · refine (θ_run _ _ _).mono (fun r h c => ⟨((h c).1).trans ?_, (h c).2⟩)
      (Cert.Reference29Ideal.Value.run (F := Ideal) m' g')
    rw [hag c]
    refine (Cert.Reference29Ideal.Read.val_main_v1_eq (F := Ideal) _).trans (funext fun i => ?_)
    obtain ⟨r, d, rfl⟩ : ∃ (r : Fin 128) (d : Fin 512), i = ix2 r d := ⟨i 0, i 1, eq_ix2 i⟩
    exact reference_apply _ r d

end Cert.SumGate

end
-- ==== Proof.SumOut.lean ====
/- The sum of the four parts of the gradient of the mixer's output weight: the kernel's array is the
   reference's, at the extended reals. -/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import Idealize.ShloMosaic.Lib.Tactic
public import Idealize.ShloMosaic.Lib.Pipeline.ValueKit
public import Idealize.ShloMosaic.Lib.Pointwise

@[expose] public section

set_option maxRecDepth 16384

noncomputable section

namespace Cert.SumOut

open Idealize.ShloMosaic Idealize.ShloMosaic.TcCoe Idealize.SL.Sem

section Kernel

open Cert.Kernel30Ideal Cert.Kernel30Ideal.Gen

theorem pay_apply (y0 y1 y2 y3 : Vec Ideal S1x256x1024 .bf16) (r : Fin 256) (d : Fin 1024) : k0_pay1 (F := Ideal) y0 y1 y2 y3 (ix2 r d)
    = y0 (ix3 0 r d) + y1 (ix3 0 r d) + y2 (ix3 0 r d) + y3 (ix3 0 r d) := by
  pointwise [k0_pay1]

variable (m : (ℓ : Loc nD τ sig) → Buf (Elt Ideal) ℓ)

abbrev x (c : Dev nD) : S4x256x1024.Idx → EReal := m ((c : Thread nD τ).loc main_arg0)

/-- The sum over the first axis. -/
def out (c : Dev nD) : S256x1024.Idx → EReal := fun i => ∑ k : Fin 4, x m c (ix3 k (i 0) (i 1))

theorem idx : ∀ t : Fin cfg0.N, win0_0.index t = ![0, 0, 0] ∧ win0_1.index t = ![0, 0] := by
  decide +kernel

theorem block0 (c : Dev nD) (t : Fin cfg0.N) (k : Fin 4) (r : Fin 256) (d : Fin 1024) :
    (iblk m c 0 t : Vec Ideal S4x256x1024 .bf16) (ix3 k r d) = x m c (ix3 k r d) := by blk_ext [iblk, V, idx t]
theorem slot3 (x0 : Vec Ideal S4x256x1024 .bf16) (r : Fin 256) (d : Fin 1024) : View.ld x0 r0_0 (ix3 0 r d) = x0 (ix3 3 r d) := by
  show x0 _ = x0 _
  exact congrArg x0 (funext fun a => Fin.ext (by fin_cases a <;> simp [Rect.emb]))
theorem slot0 (x0 : Vec Ideal S4x256x1024 .bf16) (r : Fin 256) (d : Fin 1024) : View.ld x0 r0_1 (ix3 0 r d) = x0 (ix3 0 r d) := by
  show x0 _ = x0 _
  exact congrArg x0 (funext fun a => Fin.ext (by fin_cases a <;> simp [Rect.emb]))
theorem slot1 (x0 : Vec Ideal S4x256x1024 .bf16) (r : Fin 256) (d : Fin 1024) : View.ld x0 r0_2 (ix3 0 r d) = x0 (ix3 1 r d) := by
  show x0 _ = x0 _
  exact congrArg x0 (funext fun a => Fin.ext (by fin_cases a <;> simp [Rect.emb]))
theorem slot2 (x0 : Vec Ideal S4x256x1024 .bf16) (r : Fin 256) (d : Fin 1024) : View.ld x0 r0_3 (ix3 0 r d) = x0 (ix3 2 r d) := by
  show x0 _ = x0 _
  exact congrArg x0 (funext fun a => Fin.ext (by fin_cases a <;> simp [Rect.emb]))

theorem emb1 (t : Fin cfg0.N) (r : Fin 256) (d : Fin 1024) : ((cfg0.win 1).blk t).view.emb (ix2 r d) = ix2 r d := by
  blk_ext [idx t]

theorem final1 (c : Dev nD) : (dats m 0 c).arrAt 1 cfg0.N = out m c := by
  refine (dats m 0 c).arrAt_eq_of_covers 1 _ (by decide +kernel) fun t hf y => ?_
  obtain ⟨r, d, rfl⟩ : ∃ (r : Fin 256) (d : Fin 1024), y = ix2 r d := ⟨y 0, y 1, eq_ix2 y⟩
  rw [emb1, after0_1]
  refine Eq.trans ?_ ((pay_apply (View.ld (iblk m c 0 t) r0_0) (View.ld (iblk m c 0 t) r0_1) (View.ld (iblk m c 0 t) r0_2) (View.ld (iblk m c 0 t) r0_3) r d).trans ?_)
  · frame_out; rfl
  · refine Eq.trans (congrArg₂ (· + ·) (congrArg₂ (· + ·) (congrArg₂ (· + ·) ((slot3 (iblk m c 0 t) r d).trans (block0 m c t 3 r d)) ((slot0 (iblk m c 0 t) r d).trans (block0 m c t 0 r d))) ((slot1 (iblk m c 0 t) r d).trans (block0 m c t 1 r d))) ((slot2 (iblk m c 0 t) r d).trans (block0 m c t 2 r d))) ?_
    refine Eq.trans ?_ (Fin.sum_univ_four fun k : Fin 4 => x m c (ix3 k r d)).symm
    abel

end Kernel

section Reference

open Cert.Reference30Ideal Cert.Reference30Ideal.Read

theorem reference_apply (x0 : Vec Ideal S4x256x1024 .bf16) (r : Fin 256) (d : Fin 1024) :
    val_main_v1 (F := Ideal) x0 (ix2 r d) = ∑ k : Fin 4, x0 (ix3 k r d) := by
  pointwise [val_main_v1, val_main_v0, val_main_cst]

end Reference

/-- Both runs end with the same array. -/
theorem value : Cert.algebraic_Kernel30Ideal_Reference30Ideal := by
  intro m g m' g' _ hag
  refine ⟨out m, ?_, ?_⟩
  · exact (θ_run _ _ _).mono (fun r h c => ⟨((h c).1).trans (final1 m c), (h c).2⟩)
      (Cert.Kernel30Ideal.Value.run_blocks (F := Ideal) m g)
  · refine (θ_run _ _ _).mono (fun r h c => ⟨((h c).1).trans ?_, (h c).2⟩)
      (Cert.Reference30Ideal.Value.run (F := Ideal) m' g')
    rw [hag c]
    refine (Cert.Reference30Ideal.Read.val_main_v1_eq (F := Ideal) _).trans (funext fun i => ?_)
    obtain ⟨r, d, rfl⟩ : ∃ (r : Fin 256) (d : Fin 1024), i = ix2 r d := ⟨i 0, i 1, eq_ix2 i⟩
    exact reference_apply _ r d

end Cert.SumOut

end
-- ==== Proof.SumDevices.lean ====
/- The sum over the eight devices of the packed small gradients: the kernel's array is the reference's, at the
   extended reals. -/
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import Idealize.ShloMosaic.Lib.Tactic
public import Idealize.ShloMosaic.Lib.Pipeline.ValueKit
public import Idealize.ShloMosaic.Lib.Pointwise

@[expose] public section

set_option maxRecDepth 16384

noncomputable section

namespace Cert.SumDevices

open Idealize.ShloMosaic Idealize.ShloMosaic.TcCoe Idealize.SL.Sem

section Kernel

open Cert.Kernel31Ideal Cert.Kernel31Ideal.Gen

theorem pay_apply (y0 y1 y2 y3 y4 y5 y6 y7 : Vec Ideal S1x1288x128 .f32) (r : Fin 1288) (d : Fin 128) : k0_pay1 (F := Ideal) y0 y1 y2 y3 y4 y5 y6 y7 (ix2 r d)
    = y0 (ix3 0 r d) + y1 (ix3 0 r d) + y2 (ix3 0 r d) + y3 (ix3 0 r d) + y4 (ix3 0 r d) + y5 (ix3 0 r d) + y6 (ix3 0 r d) + y7 (ix3 0 r d) := by
  pointwise [k0_pay1]

variable (m : (ℓ : Loc nD τ sig) → Buf (Elt Ideal) ℓ)

abbrev x (c : Dev nD) : S8x1288x128.Idx → EReal := m ((c : Thread nD τ).loc main_arg0)

/-- The sum over the first axis. -/
def out (c : Dev nD) : S1288x128.Idx → EReal := fun i => ∑ k : Fin 8, x m c (ix3 k (i 0) (i 1))

theorem idx : ∀ t : Fin cfg0.N, win0_0.index t = ![0, 0, 0] ∧ win0_1.index t = ![0, 0] := by
  decide +kernel

theorem block0 (c : Dev nD) (t : Fin cfg0.N) (k : Fin 8) (r : Fin 1288) (d : Fin 128) :
    (iblk m c 0 t : Vec Ideal S8x1288x128 .f32) (ix3 k r d) = x m c (ix3 k r d) := by blk_ext [iblk, V, idx t]
theorem slot0 (x0 : Vec Ideal S8x1288x128 .f32) (r : Fin 1288) (d : Fin 128) : View.ld x0 r0_0 (ix3 0 r d) = x0 (ix3 0 r d) := by
  show x0 _ = x0 _
  exact congrArg x0 (funext fun a => Fin.ext (by fin_cases a <;> simp [Rect.emb]))
theorem slot1 (x0 : Vec Ideal S8x1288x128 .f32) (r : Fin 1288) (d : Fin 128) : View.ld x0 r0_1 (ix3 0 r d) = x0 (ix3 1 r d) := by
  show x0 _ = x0 _
  exact congrArg x0 (funext fun a => Fin.ext (by fin_cases a <;> simp [Rect.emb]))
theorem slot2 (x0 : Vec Ideal S8x1288x128 .f32) (r : Fin 1288) (d : Fin 128) : View.ld x0 r0_2 (ix3 0 r d) = x0 (ix3 2 r d) := by
  show x0 _ = x0 _
  exact congrArg x0 (funext fun a => Fin.ext (by fin_cases a <;> simp [Rect.emb]))
theorem slot3 (x0 : Vec Ideal S8x1288x128 .f32) (r : Fin 1288) (d : Fin 128) : View.ld x0 r0_3 (ix3 0 r d) = x0 (ix3 3 r d) := by
  show x0 _ = x0 _
  exact congrArg x0 (funext fun a => Fin.ext (by fin_cases a <;> simp [Rect.emb]))
theorem slot4 (x0 : Vec Ideal S8x1288x128 .f32) (r : Fin 1288) (d : Fin 128) : View.ld x0 r0_4 (ix3 0 r d) = x0 (ix3 4 r d) := by
  show x0 _ = x0 _
  exact congrArg x0 (funext fun a => Fin.ext (by fin_cases a <;> simp [Rect.emb]))
theorem slot5 (x0 : Vec Ideal S8x1288x128 .f32) (r : Fin 1288) (d : Fin 128) : View.ld x0 r0_5 (ix3 0 r d) = x0 (ix3 5 r d) := by
  show x0 _ = x0 _
  exact congrArg x0 (funext fun a => Fin.ext (by fin_cases a <;> simp [Rect.emb]))
theorem slot6 (x0 : Vec Ideal S8x1288x128 .f32) (r : Fin 1288) (d : Fin 128) : View.ld x0 r0_6 (ix3 0 r d) = x0 (ix3 6 r d) := by
  show x0 _ = x0 _
  exact congrArg x0 (funext fun a => Fin.ext (by fin_cases a <;> simp [Rect.emb]))
theorem slot7 (x0 : Vec Ideal S8x1288x128 .f32) (r : Fin 1288) (d : Fin 128) : View.ld x0 r0_7 (ix3 0 r d) = x0 (ix3 7 r d) := by
  show x0 _ = x0 _
  exact congrArg x0 (funext fun a => Fin.ext (by fin_cases a <;> simp [Rect.emb]))

theorem emb1 (t : Fin cfg0.N) (r : Fin 1288) (d : Fin 128) : ((cfg0.win 1).blk t).view.emb (ix2 r d) = ix2 r d := by
  blk_ext [idx t]

theorem final1 (c : Dev nD) : (dats m 0 c).arrAt 1 cfg0.N = out m c := by
  refine (dats m 0 c).arrAt_eq_of_covers 1 _ (by decide +kernel) fun t hf y => ?_
  obtain ⟨r, d, rfl⟩ : ∃ (r : Fin 1288) (d : Fin 128), y = ix2 r d := ⟨y 0, y 1, eq_ix2 y⟩
  rw [emb1, after0_1]
  refine Eq.trans ?_ ((pay_apply (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) r d).trans ?_)
  · frame_out; rfl
  · refine Eq.trans (congrArg₂ (· + ·) (congrArg₂ (· + ·) (congrArg₂ (· + ·) (congrArg₂ (· + ·) (congrArg₂ (· + ·) (congrArg₂ (· + ·) (congrArg₂ (· + ·) ((slot0 (iblk m c 0 t) r d).trans (block0 m c t 0 r d)) ((slot1 (iblk m c 0 t) r d).trans (block0 m c t 1 r d))) ((slot2 (iblk m c 0 t) r d).trans (block0 m c t 2 r d))) ((slot3 (iblk m c 0 t) r d).trans (block0 m c t 3 r d))) ((slot4 (iblk m c 0 t) r d).trans (block0 m c t 4 r d))) ((slot5 (iblk m c 0 t) r d).trans (block0 m c t 5 r d))) ((slot6 (iblk m c 0 t) r d).trans (block0 m c t 6 r d))) ((slot7 (iblk m c 0 t) r d).trans (block0 m c t 7 r d))) ?_
    refine Eq.trans ?_ (Fin.sum_univ_eight fun k : Fin 8 => x m c (ix3 k r d)).symm
    rfl

end Kernel

section Reference

open Cert.Reference31Ideal Cert.Reference31Ideal.Read

theorem reference_apply (x0 : Vec Ideal S8x1288x128 .f32) (r : Fin 1288) (d : Fin 128) :
    val_main_v0 (F := Ideal) x0 (ix2 r d) = ∑ k : Fin 8, x0 (ix3 k r d) := by
  pointwise [val_main_v0, val_main_cst]

end Reference

/-- Both runs end with the same array. -/
theorem value : Cert.algebraic_Kernel31Ideal_Reference31Ideal := by
  intro m g m' g' _ hag
  refine ⟨out m, ?_, ?_⟩
  · exact (θ_run _ _ _).mono (fun r h c => ⟨((h c).1).trans (final1 m c), (h c).2⟩)
      (Cert.Kernel31Ideal.Value.run_blocks (F := Ideal) m g)
  · refine (θ_run _ _ _).mono (fun r h c => ⟨((h c).1).trans ?_, (h c).2⟩)
      (Cert.Reference31Ideal.Value.run (F := Ideal) m' g')
    rw [hag c]
    refine (Cert.Reference31Ideal.Read.val_main_v0_eq (F := Ideal) _).trans (funext fun i => ?_)
    obtain ⟨r, d, rfl⟩ : ∃ (r : Fin 1288) (d : Fin 128), i = ix2 r d := ⟨i 0, i 1, eq_ix2 i⟩
    exact reference_apply _ r d

end Cert.SumDevices

end
-- ==== Proof.ConvBuf.lean ====
/- Loads of the forward convolution's scratch buffers: two blocks of rows stored one over the other, and the eight
   row-shifted copies of them, read back at a row and a channel. -/
module

public import proofs.«01_k».proof.Proof.Gen.Kernel32Ideal.Value
public import proofs.«01_k».proof.Proof.Scalar
public import Idealize.ShloMosaic.Lib.Tactic
public import Idealize.ShloMosaic.Lib.Pipeline.ValueKit
public import Idealize.ShloMosaic.Lib.Pipeline.ReadBack

@[expose] public section

set_option maxRecDepth 16384

noncomputable section

namespace Cert.ConvForward

open Cert.Kernel32Ideal Cert.Kernel32Ideal.Gen Idealize.ShloMosaic Idealize.ShloMosaic.TcCoe Idealize.SL.Sem

/-- Row `n` of 32 rows followed by 256 rows. -/
def headed (p : Vec Ideal S32x512 .f32) (q : Vec Ideal S256x512 .f32) (n : ℕ) (d : Fin 512) : EReal :=
  if h : n < 32 then p (ix2 ⟨n, h⟩ d) else if h : n - 32 < 256 then q (ix2 ⟨n - 32, h⟩ d) else 0

/-- Rows `o … o + n` of `E`. -/
def rows (E : ℕ → Fin 512 → EReal) (o n : ℕ) : Vec Ideal ⟨2, ![n, 512]⟩ .f32 := fun j => E ((j 0).val + o) (j 1)

/-- The same as one slab. -/
def slab (E : ℕ → Fin 512 → EReal) (o n : ℕ) : Vec Ideal ⟨3, ![1, n, 512]⟩ .f32 := fun j => E ((j 1).val + o) (j 2)

theorem rows_apply (E : ℕ → Fin 512 → EReal) (o n : ℕ) (a : Fin n) (d : Fin 512) :
    rows E o n (ix2 a d) = E (a.val + o) d := rfl

theorem slab_apply (E : ℕ → Fin 512 → EReal) (o n : ℕ) (u : Fin 1) (a : Fin n) (d : Fin 512) :
    slab E o n (ix3 u a d) = E (a.val + o) d := rfl

theorem headed_lt (p : Vec Ideal S32x512 .f32) (q : Vec Ideal S256x512 .f32) {n : ℕ} (h : n < 32) (d : Fin 512) :
    headed p q n d = p (ix2 ⟨n, h⟩ d) := dif_pos h

theorem headed_ge (p : Vec Ideal S32x512 .f32) (q : Vec Ideal S256x512 .f32) {n : ℕ} (h : ¬ n < 32)
    (h' : n - 32 < 256) (d : Fin 512) : headed p q n d = q (ix2 ⟨n - 32, h'⟩ d) :=
  (dif_neg h).trans (dif_pos h')

variable {κ : Kind} {sp : Space}

section Two

variable {L : List (View.Piece (Elt Ideal) S288x512 .f32)} {k n : ℕ}

theorem canon_low {inb} {w : (Rect.unit (s := S288x512) ![k, 0] ![n, 512] inb).shape.Idx → Elt Ideal .f32}
    (y : S288x512.Idx) (h : (y 0).val < k ∨ k + n ≤ (y 0).val) :
    View.canon (⟨Rect.unit (s := S288x512) ![k, 0] ![n, 512] inb, w⟩ :: L) y = View.canon L y := by
  refine View.canon_cons_of_not_mem _ _ fun hm => ?_
  have h0 := (Rect.mem_set_unit (off := ![k, 0]) (size := ![n, 512]) (inb := inb) (i := y)).mp hm 0
  have h1 : k ≤ (y 0).val ∧ (y 0).val < k + n := h0
  omega

theorem canon_in {inb} {w : (Rect.unit (s := S288x512) ![k, 0] ![n, 512] inb).shape.Idx → Elt Ideal .f32}
    (y : S288x512.Idx) (h : k ≤ (y 0).val) (h' : (y 0).val - k < n) :
    View.canon (⟨Rect.unit (s := S288x512) ![k, 0] ![n, 512] inb, w⟩ :: L) y
      = w (ix2 (n0 := n) (n1 := 512) ⟨(y 0).val - k, h'⟩ (y 1)) := by
  have e : y = (Rect.unit (s := S288x512) ![k, 0] ![n, 512] inb).emb
      (ix2 (n0 := n) (n1 := 512) ⟨(y 0).val - k, h'⟩ (y 1)) := by
    funext a
    match a with
    | ⟨0, _⟩ => exact Fin.ext (show (y 0).val = k + 1 * ((y 0).val - k) by omega)
    | ⟨1, _⟩ => exact Fin.ext (show (y 1).val = 0 + 1 * (y 1).val by omega)
  conv_lhs => rw [e]
  exact View.canon_cons_emb _ _ _ _

/-- A load of rows `o … o + n` reads the stored pieces at the row it names. -/
theorem ld_of (v : View sig κ sp S288x512 .f32) {o : ℕ} {inb} (E : ℕ → Fin 512 → EReal)
    (h : ∀ y : S288x512.Idx, o ≤ (y 0).val → (y 0).val < o + n → View.canon L y = E (y 0).val (y 1)) :
    v.readCov L (Rect.unit (s := S288x512) ![o, 0] ![n, 512] inb).toLoadRect
      = rows E o n := by
  rw [View.readCov_eq_canon']
  funext j
  have hn : (j 0).val < n := (j 0).isLt
  have h0 : (((Rect.unit (s := S288x512) ![o, 0] ![n, 512] inb).toLoadRect.idx j) 0).val = (j 0).val + o :=
    show o + 1 * (j 0).val = _ by omega
  have h1 : ((Rect.unit (s := S288x512) ![o, 0] ![n, 512] inb).toLoadRect.idx j) 1 = (j 1 : Fin 512) :=
    Fin.ext (show 0 + 1 * (j 1).val = _ by omega)
  generalize (Rect.unit (s := S288x512) ![o, 0] ![n, 512] inb).toLoadRect.idx j = y at h0 h1
  refine (h y (by omega) (by omega)).trans ?_
  rw [h0, h1]
  rfl

end Two

variable {p : Vec Ideal S256x512 .f32} {q : Vec Ideal S32x512 .f32} {o n : ℕ} {i i' inb}

/-- Rows of a buffer whose head was stored last. -/
theorem ld_headed (v : View sig κ sp S288x512 .f32) :
    v.readCov [⟨Rect.unit (s := S288x512) ![0, 0] ![32, 512] i, q⟩,
        ⟨Rect.unit (s := S288x512) ![32, 0] ![256, 512] i', p⟩]
        (Rect.unit (s := S288x512) ![o, 0] ![n, 512] inb).toLoadRect
      = rows (headed q p) o n := by
  refine ld_of v (headed q p) fun y _ _ => ?_
  have hy : (y 0).val < 288 := (y 0).isLt
  by_cases h : (y 0).val < 32
  · rw [canon_in y (by omega) (by omega)]
    exact (headed_lt q p h _).symm
  · rw [canon_low y (by omega), canon_in y (by omega) (by omega)]
    exact (headed_ge q p h (by omega) _).symm

/-- Rows of such a buffer after its head. -/
theorem ld_headed_snd (v : View sig κ sp S288x512 .f32) (h : 32 ≤ o) :
    v.readCov [⟨Rect.unit (s := S288x512) ![32, 0] ![256, 512] i', p⟩]
        (Rect.unit (s := S288x512) ![o, 0] ![n, 512] inb).toLoadRect
      = rows (headed q p) o n := by
  refine ld_of v (headed q p) fun y ho _ => ?_
  have hy : (y 0).val < 288 := (y 0).isLt
  rw [canon_in y (by omega) (by omega)]
  exact (headed_ge q p (by omega) (by omega) _).symm

/-- Rows of one row-shifted copy. -/
theorem ld_copy (v : View sig κ sp S8x288x512 .f32) {r s : ℕ} {L : List (View.Piece (Elt Ideal) S8x288x512 .f32)}
    {i inb e} (E : ℕ → Fin 512 → EReal) (h : o + n ≤ 280) :
    v.readCov (⟨Rect.unit (s := S8x288x512) ![r, 0, 0] ![1, 280, 512] i,
          shapeCast (α := Ideal .f32) (s := S280x512) S1x280x512 (rows E s 280) e⟩ :: L)
        (Rect.unit (s := S8x288x512) ![r, o, 0] ![1, n, 512] inb).toLoadRect
      = slab E (o + s) n := by
  rw [View.readCov_eq_canon']
  funext j
  have hn : (j 1).val < n := (j 1).isLt
  have h0 : (j 0).val < 1 := (j 0).isLt
  have e' : (Rect.unit (s := S8x288x512) ![r, o, 0] ![1, n, 512] inb).toLoadRect.idx j
      = (Rect.unit (s := S8x288x512) ![r, 0, 0] ![1, 280, 512] i).emb
        (ix3 (n0 := 1) (n1 := 280) (n2 := 512) 0 ⟨o + (j 1).val, by omega⟩ (j 2)) := by
    funext a
    match a with
    | ⟨0, _⟩ => exact Fin.ext (show r + 1 * (j 0).val = r + 1 * 0 by omega)
    | ⟨1, _⟩ => exact Fin.ext (show o + 1 * (j 1).val = 0 + 1 * (o + (j 1).val) by omega)
    | ⟨2, _⟩ => exact Fin.ext (show 0 + 1 * (j 2).val = 0 + 1 * (j 2).val by omega)
  rw [e', View.canon_cons_emb]
  pointwise [rows_apply]
  rw [show o + (j 1).val + s = (j 1).val + (o + s) by omega]
  rfl

end Cert.ConvForward

end
-- ==== Proof.ConvMath.lean ====
/- The gated causal convolution of the forward pass, then the layer normalisation, the silu and the output norm of its rows. -/
module

public import proofs.«01_k».proof.Proof.LayerNorm512
public import Idealize.ShloMosaic.Lib.Tactic
public import Idealize.ShloMosaic.Lib.Pipeline.ValueKit

@[expose] public section

set_option maxRecDepth 16384

noncomputable section

namespace Cert.ConvForward

open Idealize.ShloMosaic

open Cert.Scalar (sig)
open Cert.Norm512 Cert.LayerNorm512

/-- A row layer normalised, with its gain and bias. -/
def act (a g b : Fin 512 → EReal) (e : Fin 512) : EReal := hat a e * g e + b e

/-- Its silu. -/
def slu (a g b : Fin 512 → EReal) (e : Fin 512) : EReal := act a g b e * sig (act a g b e)

/-- The silu's row over its root mean square, with the output gain. -/
def outRow (a g b o : Fin 512 → EReal) (d : Fin 512) : EReal := slu a g b d * rmsInv (slu a g b) * o d

theorem logistic_eq (x : EReal) : Ideal.logistic x = sig x := rfl

variable (proj : (⟨2, ![8192, 1536]⟩ : Shape).Idx → EReal) (w : (⟨3, ![1, 31, 512]⟩ : Shape).Idx → EReal)
  (b : (⟨2, ![1, 512]⟩ : Shape).Idx → EReal)

/-- The value half of a row. -/
def val (R : Fin 8192) (d : Fin 512) : EReal := proj (ix2 (n1 := 1536) R ⟨d.val, by omega⟩)

/-- The logistic function of a row's gate half. -/
def gate (R : Fin 8192) (d : Fin 512) : EReal := Ideal.logistic (proj (ix2 (n1 := 1536) R ⟨512 + d.val, by omega⟩))

/-- The convolution's input. -/
def inp (R : Fin 8192) (d : Fin 512) : EReal := val proj R d * gate proj R d

/-- The convolution's input `j` rows before row `R`, zero before the start of its sequence. -/
def before (R : Fin 8192) (j : ℕ) (d : Fin 512) : EReal :=
  if j ≤ R.val % 4096 then inp proj ⟨R.val - j, by omega⟩ d else 0

/-- A row of the causal convolution, with its bias. -/
def convAt (R : Fin 8192) (d : Fin 512) : EReal :=
  (∑ k : Fin 31, w (ix3 0 k d) * before proj R (30 - k.val) d) + b (ix2 0 d)

end Cert.ConvForward

end
-- ==== Proof.ConvPoint.lean ====
/- What one point of the forward convolution leaves: the convolution's rows with their bias, and the same rows layer
   normalised, through the silu and normed again. -/
module

public import proofs.«01_k».proof.Proof.ConvBuf
public import proofs.«01_k».proof.Proof.ConvMath

@[expose] public section

set_option maxRecDepth 16384
set_option maxHeartbeats 0

noncomputable section

namespace Cert.ConvForward

open Cert.Kernel32Ideal Cert.Kernel32Ideal.Gen Idealize.ShloMosaic Idealize.ShloMosaic.TcCoe Idealize.SL.Sem

open Cert.Scalar (sig)
open Cert.Norm512 Cert.LayerNorm512

/-- The causal convolution: row `n` from the rows of `E` its taps reach, with the bias. -/
def conv (w : Vec Ideal S32x512 .f32) (b : Vec Ideal S1x512 .f32) (E : ℕ → Fin 512 → EReal) (n : ℕ) (d : Fin 512) : EReal :=
  (∑ k : Fin 31, w (ix2 (n0 := 32) ⟨k.val, by omega⟩ d) * E (n + (k.val + 2)) d) + b (ix2 0 d)

theorem conv_eq (w : Vec Ideal S32x512 .f32) (b : Vec Ideal S1x512 .f32) (E : ℕ → Fin 512 → EReal) (n : ℕ) (d : Fin 512) :
    conv w b E n d =
    w (ix2 0 d) * E (n + 2) d + w (ix2 1 d) * E (n + 3) d + w (ix2 2 d) * E (n + 4) d + w (ix2 3 d) * E (n + 5) d
      + w (ix2 4 d) * E (n + 6) d + w (ix2 5 d) * E (n + 7) d + w (ix2 6 d) * E (n + 8) d + w (ix2 7 d) * E (n + 9)
      d + w (ix2 8 d) * E (n + 10) d + w (ix2 9 d) * E (n + 11) d + w (ix2 10 d) * E (n + 12) d + w (ix2 11 d) * E
      (n + 13) d + w (ix2 12 d) * E (n + 14) d + w (ix2 13 d) * E (n + 15) d + w (ix2 14 d) * E (n + 16) d + w (ix2
      15 d) * E (n + 17) d + w (ix2 16 d) * E (n + 18) d + w (ix2 17 d) * E (n + 19) d + w (ix2 18 d) * E (n + 20) d
      + w (ix2 19 d) * E (n + 21) d + w (ix2 20 d) * E (n + 22) d + w (ix2 21 d) * E (n + 23) d + w (ix2 22 d) * E
      (n + 24) d + w (ix2 23 d) * E (n + 25) d + w (ix2 24 d) * E (n + 26) d + w (ix2 25 d) * E (n + 27) d + w (ix2
      26 d) * E (n + 28) d + w (ix2 27 d) * E (n + 29) d + w (ix2 28 d) * E (n + 30) d + w (ix2 29 d) * E (n + 31) d
      + w (ix2 30 d) * E (n + 32) d + b (ix2 0 d) := by
  simp only [conv, Fin.sum_univ_castSucc, Finset.univ_eq_empty, Finset.sum_empty, zero_add]
  rfl

theorem pay106_apply (x : Vec Ideal S256x512 .f32) (g b o : Vec Ideal S1x512 .f32) (r : Fin 256) (d : Fin 512) :
    k0_pay106 (F := Ideal) x g b o (ix2 r d)
      = outRow (fun e => x (ix2 r e)) (fun e => g (ix2 0 e)) (fun e => b (ix2 0 e)) (fun e => o (ix2 0 e)) d := by
  pointwise [k0_pay106, outRow, slu, act, hat, cen, rmsInv, mean, logistic_eq]

variable (m : (ℓ : Loc nD τ sig) → Buf (Elt Ideal) ℓ)

/-- The convolution's input rows a point reads: those before it, then its own. -/
def ext (c : Dev nD) (t : Fin cfg0.N) : ℕ → Fin 512 → EReal :=
  headed (k0_pay2 (grid0.coords t) (iblk m c 2 t) (iblk m c 3 t)) (k0_pay1 (iblk m c 0 t) (iblk m c 1 t))

theorem point (c : Dev nD) (t : Fin cfg0.N) (r : Fin 256) (d : Fin 512) :
    (outsAt0 m c t).1 (ix2 r d) = conv (iblk m c 4 t) (iblk m c 5 t) (ext m c t) r.val d
      ∧ (outsAt0 m c t).2 (ix2 r d)
        = outRow (fun e => conv (iblk m c 4 t) (iblk m c 5 t) (ext m c t) r.val e)
            (fun e => (iblk m c 6 t : Vec Ideal S1x512 .f32) (ix2 0 e)) (fun e => (iblk m c 7 t : Vec Ideal S1x512 .f32) (ix2 0 e))
            (fun e => (iblk m c 8 t : Vec Ideal S1x512 .f32) (ix2 0 e)) d := by
  unfold outsAt0 out0_A_9 out0_A_10
  frame_open
  simp (disch := decide) only [↓ View.readCov_skip, ↓ View.readCov_cons_toLoadRect]
  frame_out
  rw [ext]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize k0_pay2 (F := Ideal) _ _ _ = q
  generalize k0_pay1 (F := Ideal) _ _ = p
  simp only [k0_pay3, k0_pay4, k0_pay5, k0_pay6, k0_pay7, k0_pay8, k0_pay9]
  simp (disch := omega) only [ld_headed, ld_headed_snd (q := q)]
  simp (disch := omega) only [ld_copy, Nat.reduceAdd]
  rw [View.readCov_eq_canon_ld]
  · generalize headed q p = E
    generalize hC : View.canon (Val := Elt Ideal) _ = C
    have hC' : C = fun y => conv x4 x5 E (y 0).val (y 1) := by
      rw [← hC]
      funext y
      canon_tiles x h
      all_goals
        open_payloads
        rw [eq_ix2 x]
        pointwise [rows_apply, slab_apply]
        rw [show y 1 = x 1 from Fin.ext h1, h0]
        try rw [Nat.add_comm _ (x 0).val]
        refine Eq.trans ?_ (conv_eq _ _ _ _ _).symm
        try simp only [Nat.add_assoc, Nat.reduceAdd]
        rfl
    rw [hC']
    clear hC
    refine ⟨rfl, ?_⟩
    refine (pay106_apply _ _ _ _ r d).trans ?_
    pointwise
  · exact View.cover_of_tiledL _ ![32, 512] (by rfl)

end Cert.ConvForward

end
-- ==== Proof.ConvKernel.lean ====
/- What the forward convolution leaves in its two result arrays: the convolution row by row, with the rows before a
   sequence's start counting as zero, and its rows after the norms. -/
module

public import proofs.«01_k».proof.Proof.ConvPoint
public import Idealize.ShloMosaic.Lib.Claim

@[expose] public section

set_option maxRecDepth 16384
set_option maxHeartbeats 0

noncomputable section

namespace Cert.ConvForward

open Cert.Kernel32Ideal Cert.Kernel32Ideal.Gen Idealize.ShloMosaic Idealize.ShloMosaic.TcCoe Idealize.SL.Sem

variable (m : (ℓ : Loc nD τ sig) → Buf (Elt Ideal) ℓ)

abbrev proj (c : Dev nD) : S8192x1536.Idx → EReal := m ((c : Thread nD τ).loc main_arg0)
abbrev wt (c : Dev nD) : S1x31x512.Idx → EReal := m ((c : Thread nD τ).loc main_arg1)
abbrev cb (c : Dev nD) : S1x512.Idx → EReal := m ((c : Thread nD τ).loc main_arg2)
abbrev lg (c : Dev nD) : S1x512.Idx → EReal := m ((c : Thread nD τ).loc main_arg3)
abbrev lb (c : Dev nD) : S1x512.Idx → EReal := m ((c : Thread nD τ).loc main_arg4)
abbrev og (c : Dev nD) : S1x512.Idx → EReal := m ((c : Thread nD τ).loc main_arg5)

/-! ## The blocks a point reads -/

theorem idx : ∀ t : Fin cfg0.N, win0_0.index t = ![t.val, 0] ∧ win0_1.index t = ![t.val, 1]
    ∧ win0_2.index t = ![t.val * 8 - 1, 0] ∧ win0_3.index t = ![t.val * 8 - 1, 1] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] := by decide +kernel

theorem lt_N (t : Fin cfg0.N) : t.val < 32 := lt_of_lt_of_eq t.isLt N_0

/-- Row `r` of the row block of point `t`. -/
abbrev row (t : Fin cfg0.N) (r : Fin 256) : Fin 8192 := ⟨t.val * 256 + r.val, by have := lt_N t; omega⟩

theorem block0 (c : Dev nD) (t : Fin cfg0.N) (r : Fin 256) (d : Fin 512) :
    (iblk m c 0 t : Vec Ideal S256x512 .f32) (ix2 r d) = val (proj m c) (row t r) d := by
  rw [val]; blk_ext [iblk, V_main_arg0, idx t]
theorem block1 (c : Dev nD) (t : Fin cfg0.N) (r : Fin 256) (d : Fin 512) :
    (iblk m c 1 t : Vec Ideal S256x512 .f32) (ix2 r d) = proj m c (ix2 (n1 := 1536) (row t r) ⟨512 + d.val, by omega⟩) := by
  blk_ext [iblk, V_main_arg0, idx t]
theorem block2 (c : Dev nD) (t : Fin cfg0.N) (h : t.val ≠ 0) (n : Fin 32) (d : Fin 512) :
    (iblk m c 2 t : Vec Ideal S32x512 .f32) (ix2 n d)
      = val (proj m c) ⟨t.val * 256 + n.val - 32, by have := lt_N t; omega⟩ d := by
  rw [val]; blk_ext [iblk, V_main_arg0, idx t]
theorem block3 (c : Dev nD) (t : Fin cfg0.N) (h : t.val ≠ 0) (n : Fin 32) (d : Fin 512) :
    (iblk m c 3 t : Vec Ideal S32x512 .f32) (ix2 n d)
      = proj m c (ix2 (n0 := 8192) (n1 := 1536) ⟨t.val * 256 + n.val - 32, by have := lt_N t; omega⟩ ⟨512 + d.val, by omega⟩) := by
  blk_ext [iblk, V_main_arg0, idx t]
theorem block4 (c : Dev nD) (t : Fin cfg0.N) (k : Fin 31) (d : Fin 512) :
    (iblk m c 4 t : Vec Ideal S32x512 .f32) (ix2 (n0 := 32) ⟨k.val, by omega⟩ d) = wt m c (ix3 0 k d) := by
  have e : (iblk m c 4 t : Vec Ideal S32x512 .f32) (ix2 (n0 := 32) ⟨k.val, by omega⟩ d)
      = V m c main_v1 (ix2 (n0 := 32) ⟨k.val, by omega⟩ d) := by
    blk_ext [iblk, idx t]
  rw [e]
  have e2 : V m c main_v1 = pad S32x512 ![0, 0] ![1, 0] ![0, 0] (shapeCast S31x512 (wt m c) shapeCasts_S1x31x512_S31x512)
      (sitofp (F := Ideal) .f32 (constantI S_ 32 0#32)) pads_S31x512_S32x512_010_000 h_S_ := by
    unfold_abbrev_sides
    simp only [List.flatten_cons, List.flatten_nil, List.append_nil, List.cons_append, List.nil_append]
    after_results
    rfl
  rw [e2]
  pointwise
theorem block5 (c : Dev nD) (t : Fin cfg0.N) (d : Fin 512) : (iblk m c 5 t : Vec Ideal S1x512 .f32) (ix2 0 d) = cb m c (ix2 0 d) := by
  blk_ext [iblk, V_main_arg2, idx t]
theorem block6 (c : Dev nD) (t : Fin cfg0.N) (d : Fin 512) : (iblk m c 6 t : Vec Ideal S1x512 .f32) (ix2 0 d) = lg m c (ix2 0 d) := by
  blk_ext [iblk, V_main_arg3, idx t]
theorem block7 (c : Dev nD) (t : Fin cfg0.N) (d : Fin 512) : (iblk m c 7 t : Vec Ideal S1x512 .f32) (ix2 0 d) = lb m c (ix2 0 d) := by
  blk_ext [iblk, V_main_arg4, idx t]
theorem block8 (c : Dev nD) (t : Fin cfg0.N) (d : Fin 512) : (iblk m c 8 t : Vec Ideal S1x512 .f32) (ix2 0 d) = og m c (ix2 0 d) := by
  blk_ext [iblk, V_main_arg5, idx t]

/-! ## What the rows of a point's buffer hold -/

/-- Whether a point starts a sequence. -/
def firstBit (i : grid0.Coords) : BitVec 1 :=
  let n : BitVec 32 := Scalar.muli (BitVec.ofNat 32 (i 0).val) 256#32
  let s : BitVec 32 := Scalar.select (Scalar.cmpi .eq 4096#32 0#32) 1#32 4096#32
  let o : BitVec 32 := Scalar.remsi n s
  Scalar.cmpi .eq
    (Scalar.select (Scalar.andi (Scalar.xori (Scalar.cmpi .slt o 0#32) (Scalar.cmpi .slt s 0#32)) (Scalar.cmpi .ne o 0#32))
      (Scalar.addi o s) o)
    0#32

theorem firstBit_eq : ∀ t : Fin cfg0.N, firstBit (grid0.coords t) = if t.val % 16 = 0 then 1#1 else 0#1 := by decide +kernel

theorem pay2_apply (i : grid0.Coords) (x y : Vec Ideal S32x512 .f32) (n : Fin 32) (d : Fin 512) :
    k0_pay2 (F := Ideal) i x y (ix2 n d) = x (ix2 n d) * Ideal.logistic (y (ix2 n d)) * Scalar.select (firstBit i) 0 1 := by
  pointwise [k0_pay2, firstBit]

theorem pay1_apply (x y : Vec Ideal S256x512 .f32) (r : Fin 256) (d : Fin 512) :
    k0_pay1 (F := Ideal) x y (ix2 r d) = x (ix2 r d) * Ideal.logistic (y (ix2 r d)) := by
  pointwise [k0_pay1]

theorem ext_eq (c : Dev nD) (t : Fin cfg0.N) (r : Fin 256) {k : ℕ} (hk : k < 31) (d : Fin 512) :
    ext m c t (r.val + (k + 2)) d = before (proj m c) (row t r) (30 - k) d := by
  have ht := lt_N t
  rw [ext, before]
  by_cases h : r.val + (k + 2) < 32
  · rw [headed_lt _ _ h, pay2_apply, firstBit_eq]
    by_cases hl : t.val % 16 = 0
    · rw [if_pos hl, if_neg (by show ¬ 30 - k ≤ (t.val * 256 + r.val) % 4096; omega)]
      exact mul_zero _
    · rw [if_neg hl, block2 m c t (by omega), block3 m c t (by omega),
        if_pos (by show 30 - k ≤ (t.val * 256 + r.val) % 4096; omega)]
      refine (mul_one _).trans ?_
      have e : (⟨t.val * 256 + (r.val + (k + 2)) - 32, by omega⟩ : Fin 8192) = ⟨(row t r).val - (30 - k), by omega⟩ :=
        Fin.ext (show t.val * 256 + (r.val + (k + 2)) - 32 = t.val * 256 + r.val - (30 - k) by omega)
      rw [inp, ← e]
      rfl
  · rw [headed_ge _ _ h (by omega), pay1_apply, block0, block1, if_pos (by show 30 - k ≤ (t.val * 256 + r.val) % 4096; omega)]
    have e : row t ⟨r.val + (k + 2) - 32, by omega⟩ = (⟨(row t r).val - (30 - k), by omega⟩ : Fin 8192) :=
      Fin.ext (show t.val * 256 + (r.val + (k + 2) - 32) = t.val * 256 + r.val - (30 - k) by omega)
    rw [inp, ← e]
    rfl

theorem conv_at (c : Dev nD) (t : Fin cfg0.N) (r : Fin 256) (d : Fin 512) :
    conv (iblk m c 4 t) (iblk m c 5 t) (ext m c t) r.val d = convAt (proj m c) (wt m c) (cb m c) (row t r) d := by
  rw [conv, convAt, block5]
  congr 1
  refine Finset.sum_congr rfl fun k _ => ?_
  rw [block4, ext_eq m c t r k.isLt]

/-! ## The two result arrays -/

/-- The convolution's rows. -/
def rowsOf (p : S8192x1536.Idx → EReal) (w : S1x31x512.Idx → EReal) (b : S1x512.Idx → EReal) : S8192x512.Idx → EReal :=
  fun i => convAt p w b (i 0) (i 1)

/-- The rows after the norms. -/
def normed (p : S8192x1536.Idx → EReal) (w : S1x31x512.Idx → EReal) (b g l o : S1x512.Idx → EReal) : S8192x512.Idx → EReal :=
  fun i => outRow (fun e => convAt p w b (i 0) e) (fun e => g (ix2 0 e)) (fun e => l (ix2 0 e)) (fun e => o (ix2 0 e)) (i 1)

theorem emb9 (t : Fin cfg0.N) (r : Fin 256) (d : Fin 512) : ((cfg0.win 9).blk t).view.emb (ix2 r d) = ix2 (row t r) d := by
  blk_ext [idx t]
theorem emb10 (t : Fin cfg0.N) (r : Fin 256) (d : Fin 512) : ((cfg0.win 10).blk t).view.emb (ix2 r d) = ix2 (row t r) d := by
  blk_ext [idx t]

/-- The convolution after the run. -/
theorem final9 (c : Dev nD) : (dats m 0 c).arrAt 9 cfg0.N = rowsOf (proj m c) (wt m c) (cb m c) := by
  refine (dats m 0 c).arrAt_eq_of_covers 9 _ (by decide +kernel) fun t hf y => ?_
  obtain ⟨r, d, rfl⟩ : ∃ (r : Fin 256) (d : Fin 512), y = ix2 r d := ⟨y 0, y 1, eq_ix2 y⟩
  rw [emb9, after0_9]
  exact (point m c t r d).1.trans (conv_at m c t r d)

/-- The rows after the norms, after the run. -/
theorem final10 (c : Dev nD) : (dats m 0 c).arrAt 10 cfg0.N = normed (proj m c) (wt m c) (cb m c) (lg m c) (lb m c) (og m c) := by
  refine (dats m 0 c).arrAt_eq_of_covers 10 _ (by decide +kernel) fun t hf y => ?_
  obtain ⟨r, d, rfl⟩ : ∃ (r : Fin 256) (d : Fin 512), y = ix2 r d := ⟨y 0, y 1, eq_ix2 y⟩
  rw [emb10, after0_10]
  refine (point m c t r d).2.trans ?_
  simp only [conv_at, block6, block7, block8]
  rfl

end Cert.ConvForward

end
-- ==== Proof.ConvRef.lean ====
/- The reference's forward convolution and the norms after it, read at an index. -/
module

public import proofs.«01_k».proof.Proof.ConvMath
public import proofs.«01_k».proof.Proof.Gen.Reference32Ideal.Run
public import proofs.«01_k».proof.Proof.Gen.Reference32Ideal.Read
public import Idealize.ShloMosaic.Lib.Pointwise

@[expose] public section

set_option maxRecDepth 16384
set_option maxHeartbeats 0

noncomputable section

namespace Cert.ConvForward

open Idealize.ShloMosaic Idealize.SL.Sem
open Cert.Reference32Ideal Cert.Reference32Ideal.Read
open Cert.Scalar (sig)
open Cert.Norm512 Cert.LayerNorm512

variable (x0 : Vec Ideal S8192x1536 .f32) (x1 : Vec Ideal S1x31x512 .f32) (x2 x3 x4 x5 : Vec Ideal S1x512 .f32)

/-- The gate as the reference writes it. -/
theorem reference_gate (R : Fin 8192) (d : Fin 512) : val_main_v7 (F := Ideal) x0 (ix2 R d) = gate x0 R d := by
  pointwise [val_main_v7, val_main_v6, val_main_v5, val_main_v4, val_main_v3, val_main_v2, val_main_v1, val_main_cst, val_main_cst_0]
  rfl

/-- The value half as the reference writes it. -/
theorem reference_val (R : Fin 8192) (d : Fin 512) : val_main_v0 (F := Ideal) x0 (ix2 R d) = val x0 R d := by
  pointwise [val_main_v0, val]

/-- The padded input. -/
theorem reference_inp (s : Fin 2) (p : Fin 4126) (d : Fin 512) :
    val_main_v11 (F := Ideal) x0 (ix3 s p d) = if 30 ≤ p.val then inp x0 ⟨s.val * 4096 + (p.val - 30), by omega⟩ d else 0 := by
  pointwise [val_main_v11, val_main_v10, val_main_v9, val_main_v8, val_main_cst_1, reference_gate, reference_val]
  by_cases h : p.val < 30
  · rw [dif_pos h, if_neg (by omega)]
  · rw [dif_neg h]
    exact (if_pos (by omega)).symm

/-- Tap `k`'s share of a row, from the padded input. -/
def share (A : Vec Ideal S2x4126x512 .f32) (k : ℕ) (s : Fin 2) (n : Fin 4096) (d : Fin 512) : EReal :=
  if h : k < 31 then x1 (ix3 (n1 := 31) 0 ⟨k, h⟩ d) * A (ix3 (n1 := 4126) s ⟨k + n.val, by omega⟩ d) else 0

theorem tap {k : ℕ} (hk : k < 31) {sl sc b1 b2 sl'} (A : Vec Ideal S2x4126x512 .f32) (s : Fin 2) (n : Fin 4096) (d : Fin 512) :
    mulf (F := Ideal) (φ := .f32) (broadcastInDim S2x4096x512 ![0, 1, 2] b1 (broadcastInDim S1x1x512 ![2] b2
          (shapeCast S512 (extractStridedSlice S1x1x512 ![0, k, 0] x1 sl) sc)))
        (extractStridedSlice S2x4096x512 ![0, k, 0] A sl') (ix3 s n d)
      = share x1 A k s n d := by
  pointwise [share]
  rw [dif_pos hk]

/-- The taps' shares, first tap first. -/
theorem reference_acc (s : Fin 2) (n : Fin 4096) (d : Fin 512) :
    val_main_v229 (F := Ideal) x0 x1 (ix3 s n d) = ∑ k ∈ Finset.range 31, share x1 (val_main_v11 (F := Ideal) x0) k s n d := by
  rw [val_main_v229_apply, val_main_v222_apply, val_main_v215_apply, val_main_v208_apply, val_main_v201_apply,
    val_main_v194_apply, val_main_v187_apply, val_main_v180_apply, val_main_v173_apply, val_main_v166_apply,
    val_main_v159_apply, val_main_v152_apply, val_main_v145_apply, val_main_v138_apply, val_main_v131_apply,
    val_main_v124_apply, val_main_v117_apply, val_main_v110_apply, val_main_v103_apply, val_main_v96_apply,
    val_main_v89_apply, val_main_v82_apply, val_main_v75_apply, val_main_v68_apply, val_main_v61_apply,
    val_main_v54_apply, val_main_v47_apply, val_main_v40_apply, val_main_v33_apply, val_main_v26_apply,
    val_main_v19_apply]
  iterate 30
    refine Eq.trans ?_ (Finset.sum_range_succ _ _).symm
    refine congrArg₂ (fun a b : EReal => a + b) ?_ (tap x1 (by decide) _ s n d)
  refine Eq.trans ?_ (Finset.sum_range_one _).symm
  refine Eq.trans (congrArg₂ (fun a b : EReal => a + b) ?_ (tap x1 (by decide) _ s n d)) (zero_add _)
  pointwise [val_main_v18, val_main_cst_2]

/-- The convolution's rows. -/
theorem reference_conv (R : Fin 8192) (d : Fin 512) : val_main_v232 (F := Ideal) x0 x1 x2 (ix2 R d) = convAt x0 x1 x2 R d := by
  pointwise [val_main_v232, val_main_v231, val_main_v230]
  rw [reference_acc, convAt, ← Fin.sum_univ_eq_sum_range (fun k => share x1 (val_main_v11 (F := Ideal) x0) k _ _ d) 31]
  congr 1
  refine Finset.sum_congr rfl fun k _ => ?_
  rw [share, dif_pos k.isLt, reference_inp, before]
  congr 1
  by_cases h : 30 - k.val ≤ R.val % 4096
  · rw [if_pos h, if_pos (by show 30 ≤ k.val + R.val % 4096; omega)]
    congr 1
    exact Fin.ext (show R.val / 4096 * 4096 + (k.val + R.val % 4096 - 30) = R.val - (30 - k.val) by omega)
  · rw [if_neg h, if_neg (by show ¬ 30 ≤ k.val + R.val % 4096; omega)]

/-- The convolution's row `R`. -/
abbrev crow (R : Fin 8192) : Fin 512 → EReal := fun e => convAt x0 x1 x2 R e

theorem reference_cen (R : Fin 8192) (d : Fin 512) : val_main_v238 (F := Ideal) x0 x1 x2 (ix2 R d) = cen (crow x0 x1 x2 R) d := by
  pointwise [val_main_v238, val_main_v237, val_main_v236, val_main_v235, val_main_v234, val_main_v233, val_main_cst_3, val_main_cst_4,
    reference_conv, cen, mean]

theorem reference_inv (R : Fin 8192) (z : Fin 1) : val_main_v246 (F := Ideal) x0 x1 x2 (ix2 R z) = rmsInv (cen (crow x0 x1 x2 R)) := by
  pointwise [val_main_v246, val_main_v245, val_main_v244, val_main_v243, val_main_v242, val_main_v241, val_main_v240, val_main_v239,
    val_main_cst_5, val_main_cst_6, val_main_cst_7, reference_cen, rmsInv, mean]

theorem reference_act (R : Fin 8192) (d : Fin 512) :
    val_main_v252 (F := Ideal) x0 x1 x2 x3 x4 (ix2 R d) = act (crow x0 x1 x2 R) (fun e => x3 (ix2 0 e)) (fun e => x4 (ix2 0 e)) d := by
  pointwise [val_main_v252, val_main_v251, val_main_v250, val_main_v249, val_main_v248, val_main_v247, reference_cen, reference_inv, act, hat]

theorem reference_slu (R : Fin 8192) (d : Fin 512) :
    val_main_v253 (F := Ideal) x0 x1 x2 x3 x4 (ix2 R d) = slu (crow x0 x1 x2 R) (fun e => x3 (ix2 0 e)) (fun e => x4 (ix2 0 e)) d := by
  pointwise [val_main_v253, val_main_call0_v5, val_main_call0_v4, val_main_call0_v3, val_main_call0_v2, val_main_call0_v1, val_main_call0_v0,
    val_main_call0_cst, val_main_call0_cst_0, reference_act, slu]
  rfl

theorem reference_srms (R : Fin 8192) (z : Fin 1) :
    val_main_v261 (F := Ideal) x0 x1 x2 x3 x4 (ix2 R z) = rmsInv (slu (crow x0 x1 x2 R) (fun e => x3 (ix2 0 e)) (fun e => x4 (ix2 0 e))) := by
  pointwise [val_main_v261, val_main_v260, val_main_v259, val_main_v258, val_main_v257, val_main_v256, val_main_v255, val_main_v254,
    val_main_cst_8, val_main_cst_9, val_main_cst_10, reference_slu, rmsInv, mean]

/-- The rows after the norms. -/
theorem reference_out (R : Fin 8192) (d : Fin 512) :
    val_main_v266 (F := Ideal) x0 x1 x2 x3 x4 x5 (ix2 R d)
      = outRow (crow x0 x1 x2 R) (fun e => x3 (ix2 0 e)) (fun e => x4 (ix2 0 e)) (fun e => x5 (ix2 0 e)) d := by
  pointwise [val_main_v266, val_main_v265, val_main_v264, val_main_v263, val_main_v262, reference_slu, reference_srms, outRow]

end Cert.ConvForward

end
-- ==== Proof.ConvForward.lean ====
/- The forward convolution: the kernel and the reference leave the same two arrays. -/
module

public import proofs.«01_k».proof.Defs
public import proofs.«01_k».proof.Proof.ConvKernel
public import proofs.«01_k».proof.Proof.ConvRef
public import proofs.«01_k».proof.Proof.Gen.Kernel32Ideal.Value

@[expose] public section

set_option maxRecDepth 16384

noncomputable section

namespace Cert.ConvForward

open Idealize.ShloMosaic Idealize.ShloMosaic.StableHlo Idealize.SL.Sem
open Cert.Reference32Ideal.Read

/-- Both runs end with the same two arrays. -/
theorem value : Cert.algebraic_Kernel32Ideal_Reference32Ideal := by
  intro m g m' g' _ hag
  refine ⟨fun c => rowsOf (proj m c) (wt m c) (cb m c),
    fun c => normed (proj m c) (wt m c) (cb m c) (lg m c) (lb m c) (og m c), ?_, ?_⟩
  · exact (θ_run _ _ _).mono (fun r h c => ⟨((h c).1).trans (final9 m c), ((h c).2.1).trans (final10 m c), (h c).2.2⟩)
      (Cert.Kernel32Ideal.Value.run_blocks (F := Ideal) m g)
  · refine (θ_run _ _ _).mono (fun r h c => ⟨((h c).1).trans ?_, ((h c).2.1).trans ?_, (h c).2.2⟩)
      (Cert.Reference32Ideal.Value.run (F := Ideal) m' g')
    · refine (val_main_v232_eq (F := Ideal) _).trans ?_
      rw [launchContents_devRef, launchContents_devRef, launchContents_devRef, (hag c).1, (hag c).2.1, (hag c).2.2.1]
      refine funext fun i => ?_
      obtain ⟨R, d, rfl⟩ : ∃ (R : Fin 8192) (d : Fin 512), i = ix2 R d := ⟨i 0, i 1, eq_ix2 i⟩
      exact reference_conv _ _ _ R d
    · refine (val_main_v266_eq (F := Ideal) _).trans ?_
      rw [launchContents_devRef, launchContents_devRef, launchContents_devRef, launchContents_devRef, launchContents_devRef,
        launchContents_devRef, (hag c).1, (hag c).2.1, (hag c).2.2.1, (hag c).2.2.2.1, (hag c).2.2.2.2.1, (hag c).2.2.2.2.2]
      refine funext fun i => ?_
      obtain ⟨R, d, rfl⟩ : ∃ (R : Fin 8192) (d : Fin 512), i = ix2 R d := ⟨i 0, i 1, eq_ix2 i⟩
      exact reference_out _ _ _ _ _ _ R d

end Cert.ConvForward

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel14.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel15.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel16.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel17.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel18.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel19.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel20.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel21.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel22.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel23.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel24.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel25.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel26.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel27.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel28.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel29.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel30.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel31.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel32.Frame
public import proofs.«01_k».proof.Proof.RefFrames
public import proofs.«01_k».proof.Proof.Taps
public import proofs.«01_k».proof.Proof.Dglu
public import proofs.«01_k».proof.Proof.Dh
public import proofs.«01_k».proof.Proof.Dw1
public import proofs.«01_k».proof.Proof.Dw2
public import proofs.«01_k».proof.Proof.MixDh
public import proofs.«01_k».proof.Proof.MixDwin
public import proofs.«01_k».proof.Proof.MixDmixed
public import proofs.«01_k».proof.Proof.MixDwo
public import proofs.«01_k».proof.Proof.S5Dgate
public import proofs.«01_k».proof.Proof.S5Dwg
public import proofs.«01_k».proof.Proof.FfnUp
public import proofs.«01_k».proof.Proof.FfnDown
public import proofs.«01_k».proof.Proof.MixIn
public import proofs.«01_k».proof.Proof.S5Gate
public import proofs.«01_k».proof.Proof.MixOut
public import proofs.«01_k».proof.Proof.FfnLoss
public import proofs.«01_k».proof.Proof.S5Post2
public import proofs.«01_k».proof.Proof.S5Post1
public import proofs.«01_k».proof.Proof.ConvRows
public import proofs.«01_k».proof.Proof.RmsForward
public import proofs.«01_k».proof.Proof.S5Post2Forward
public import proofs.«01_k».proof.Proof.AdamFfn
public import proofs.«01_k».proof.Proof.AdamIn
public import proofs.«01_k».proof.Proof.AdamGate
public import proofs.«01_k».proof.Proof.AdamOut
public import proofs.«01_k».proof.Proof.SumFfn
public import proofs.«01_k».proof.Proof.SumIn
public import proofs.«01_k».proof.Proof.SumGate
public import proofs.«01_k».proof.Proof.SumOut
public import proofs.«01_k».proof.Proof.SumDevices
public import proofs.«01_k».proof.Proof.ConvForward
public import Idealize.ShloMosaic.Adequacy
public import Idealize.ShloMosaic.Init

@[expose] public section

set_option maxRecDepth 16384

noncomputable section

namespace Cert.Proof

open Idealize.ShloMosaic Idealize.SL.Sem

/-- Every claim of the certificate: the frames are the generated runs, the values the modules imported above. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Dglu.preFacts, Cert.Dh.preFacts, Cert.MixDh.preFacts, Cert.FfnLoss.preFacts, Cert.S5Post2.preFacts, Cert.S5Post1.preFacts, Cert.ConvRows.preFacts,
    fun m g _ => Cert.Kernel.Gen.frame m g, fun m g _ => Cert.KernelIdeal.Gen.frame m g, Cert.RefFrames.frame1,
    fun m g _ => Cert.Kernel2.Gen.frame m g, fun m g _ => Cert.Kernel2Ideal.Gen.frame m g, fun m g _ => Cert.Kernel2Ideal.Gen.frame m g,
    Cert.RefFrames.frame2, fun m g _ => Cert.RefFrames.frame2 m g trivial,
    fun m g _ => Cert.Kernel3.Gen.frame m g, fun m g _ => Cert.Kernel3Ideal.Gen.frame m g, fun m g _ => Cert.Kernel3Ideal.Gen.frame m g,
    Cert.RefFrames.frame3, fun m g _ => Cert.RefFrames.frame3 m g trivial,
    fun m g _ => Cert.Kernel4.Gen.frame m g, fun m g _ => Cert.Kernel4Ideal.Gen.frame m g, Cert.RefFrames.frame4,
    fun m g _ => Cert.Kernel5.Gen.frame m g, fun m g _ => Cert.Kernel5Ideal.Gen.frame m g, Cert.RefFrames.frame5,
    fun m g _ => Cert.Kernel6.Gen.frame m g, fun m g _ => Cert.Kernel6Ideal.Gen.frame m g, fun m g _ => Cert.Kernel6Ideal.Gen.frame m g,
    Cert.RefFrames.frame6, fun m g _ => Cert.RefFrames.frame6 m g trivial,
    fun m g _ => Cert.Kernel7.Gen.frame m g, fun m g _ => Cert.Kernel7Ideal.Gen.frame m g, Cert.RefFrames.frame7,
    fun m g _ => Cert.Kernel8.Gen.frame m g, fun m g _ => Cert.Kernel8Ideal.Gen.frame m g, Cert.RefFrames.frame8,
    fun m g _ => Cert.Kernel9.Gen.frame m g, fun m g _ => Cert.Kernel9Ideal.Gen.frame m g, Cert.RefFrames.frame9,
    fun m g _ => Cert.Kernel10.Gen.frame m g, fun m g _ => Cert.Kernel10Ideal.Gen.frame m g, Cert.RefFrames.frame10,
    fun m g _ => Cert.Kernel11.Gen.frame m g, fun m g _ => Cert.Kernel11Ideal.Gen.frame m g, Cert.RefFrames.frame11,
    fun m g _ => Cert.Kernel12.Gen.frame m g, fun m g _ => Cert.Kernel12Ideal.Gen.frame m g, Cert.RefFrames.frame12,
    fun m g _ => Cert.Kernel13.Gen.frame m g, fun m g _ => Cert.Kernel13Ideal.Gen.frame m g, Cert.RefFrames.frame13,
    fun m g _ => Cert.Kernel14.Gen.frame m g, fun m g _ => Cert.Kernel14Ideal.Gen.frame m g, Cert.RefFrames.frame14,
    fun m g _ => Cert.Kernel15.Gen.frame m g, fun m g _ => Cert.Kernel15Ideal.Gen.frame m g, Cert.RefFrames.frame15,
    fun m g _ => Cert.Kernel16.Gen.frame m g, fun m g _ => Cert.Kernel16Ideal.Gen.frame m g, Cert.RefFrames.frame16,
    fun m g _ => Cert.Kernel17.Gen.frame m g, fun m g _ => Cert.Kernel17Ideal.Gen.frame m g, fun m g _ => Cert.Kernel17Ideal.Gen.frame m g,
    Cert.RefFrames.frame17, fun m g _ => Cert.RefFrames.frame17 m g trivial,
    fun m g _ => Cert.Kernel18.Gen.frame m g, fun m g _ => Cert.Kernel18Ideal.Gen.frame m g, fun m g _ => Cert.Kernel18Ideal.Gen.frame m g,
    Cert.RefFrames.frame18, fun m g _ => Cert.RefFrames.frame18 m g trivial,
    fun m g _ => Cert.Kernel19.Gen.frame m g, fun m g _ => Cert.Kernel19Ideal.Gen.frame m g, fun m g _ => Cert.Kernel19Ideal.Gen.frame m g,
    Cert.RefFrames.frame19, fun m g _ => Cert.RefFrames.frame19 m g trivial,
    fun m g _ => Cert.Kernel20.Gen.frame m g, fun m g _ => Cert.Kernel20Ideal.Gen.frame m g, fun m g _ => Cert.Kernel20Ideal.Gen.frame m g,
    Cert.RefFrames.frame20, fun m g _ => Cert.RefFrames.frame20 m g trivial,
    fun m g _ => Cert.Kernel21.Gen.frame m g, fun m g _ => Cert.Kernel21Ideal.Gen.frame m g, Cert.RefFrames.frame21,
    fun m g _ => Cert.Kernel22.Gen.frame m g, fun m g _ => Cert.Kernel22Ideal.Gen.frame m g, Cert.RefFrames.frame22,
    fun m g _ => Cert.Kernel23.Gen.frame m g, fun m g _ => Cert.Kernel23Ideal.Gen.frame m g, Cert.RefFrames.frame23,
    fun m g _ => Cert.Kernel24.Gen.frame m g, fun m g _ => Cert.Kernel24Ideal.Gen.frame m g, Cert.RefFrames.frame24,
    fun m g _ => Cert.Kernel25.Gen.frame m g, fun m g _ => Cert.Kernel25Ideal.Gen.frame m g, Cert.RefFrames.frame25,
    fun m g _ => Cert.Kernel26.Gen.frame m g, fun m g _ => Cert.Kernel26Ideal.Gen.frame m g, Cert.RefFrames.frame26,
    fun m g _ => Cert.Kernel27.Gen.frame m g, fun m g _ => Cert.Kernel27Ideal.Gen.frame m g, Cert.RefFrames.frame27,
    fun m g _ => Cert.Kernel28.Gen.frame m g, fun m g _ => Cert.Kernel28Ideal.Gen.frame m g, Cert.RefFrames.frame28,
    fun m g _ => Cert.Kernel29.Gen.frame m g, fun m g _ => Cert.Kernel29Ideal.Gen.frame m g, Cert.RefFrames.frame29,
    fun m g _ => Cert.Kernel30.Gen.frame m g, fun m g _ => Cert.Kernel30Ideal.Gen.frame m g, Cert.RefFrames.frame30,
    fun m g _ => Cert.Kernel31.Gen.frame m g, fun m g _ => Cert.Kernel31Ideal.Gen.frame m g, Cert.RefFrames.frame31,
    fun m g _ => Cert.Kernel32.Gen.frame m g, fun m g _ => Cert.Kernel32Ideal.Gen.frame m g, Cert.RefFrames.frame32,
    trivial, Cert.Taps.value, trivial, Cert.Dglu.value, trivial, Cert.Dh.value, trivial, Cert.Dw1.value, trivial, Cert.Dw2.value,
    trivial, Cert.MixDh.value, trivial, Cert.MixDwin.value, trivial, Cert.MixDmixed.value, trivial, Cert.MixDwo.value, trivial, Cert.S5Dgate.value,
    trivial, Cert.S5Dwg.value, trivial, Cert.FfnUp.value, trivial, Cert.FfnDown.value, trivial, Cert.MixIn.value, trivial, Cert.S5Gate.value,
    trivial, Cert.MixOut.value, trivial, Cert.FfnLoss.value, trivial, Cert.S5Post2.value, ⟨IdealRules.named_const.statement Cert.Kernel19Ideal.κ "gelu_c" .f32 0x3D372713#32 ((8943 / 200000 : ℝ) : EReal) rfl,
      IdealRules.named_const.statement Cert.Kernel19Ideal.κ "gelu_3c" .f32 0x3E095D4F#32 ((26829 / 200000 : ℝ) : EReal) rfl⟩, Cert.S5Post1.value, trivial, Cert.ConvRows.value,
    trivial, Cert.RmsForward.value, trivial, Cert.S5Post2Forward.value, trivial, Cert.AdamFfn.value, trivial, Cert.AdamIn.value, trivial, Cert.AdamGate.value,
    trivial, Cert.AdamOut.value, trivial, Cert.SumFfn.value, trivial, Cert.SumIn.value, trivial, Cert.SumGate.value, trivial, Cert.SumOut.value,
    trivial, Cert.SumDevices.value, trivial, Cert.ConvForward.value⟩

end Cert.Proof

end
